-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_v79) = v2 c
          ∧ r.2.mem ((c.tc : Thread Cert.ReferenceIdeal.nD Cert.ReferenceIdeal.τ).loc Cert.ReferenceIdeal.main_v81) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_v24) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v35) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v73) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v25_0)) (v1 : (c : Dev Cert.Kernel6Ideal.nD) → Buf (Elt Ideal) ((c.tc : Thread Cert.Kernel6Ideal.nD Cert.Kernel6Ideal.τ).loc Cert.Kernel6Ideal.main_v25_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v25_0) = v0 c
          ∧ r.2.mem ((c.tc : Thread Cert.Kernel6Ideal.nD Cert.Kernel6Ideal.τ).loc Cert.Kernel6Ideal.main_v25_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v66) = v0 c
          ∧ r.2.mem ((c.tc : Thread Cert.Reference6Ideal.nD Cert.Reference6Ideal.τ).loc Cert.Reference6Ideal.main_v71) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v25) = v0 c
          ∧ r.2.mem ((c.tc : Thread Cert.Reference7Ideal.nD Cert.Reference7Ideal.τ).loc Cert.Reference7Ideal.main_v26) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v33) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Kernel.lean ====
abbrev S4x64x2x8x128x128 : Shape := ⟨6, ![4, 64, 2, 8, 128, 128]⟩
abbrev S4x64x2x8x64x128 : Shape := ⟨6, ![4, 64, 2, 8, 64, 128]⟩
abbrev S4x64x2x8x192x64 : Shape := ⟨6, ![4, 64, 2, 8, 192, 64]⟩
abbrev S4x64x2x8x128 : Shape := ⟨5, ![4, 64, 2, 8, 128]⟩
abbrev S4x8x128x128 : Shape := ⟨4, ![4, 8, 128, 128]⟩
abbrev S4x4096x1024 : Shape := ⟨3, ![4, 4096, 1024]⟩
abbrev S4x1x1x8x128x128 : Shape := ⟨6, ![4, 1, 1, 8, 128, 128]⟩
abbrev S4x1x1x8x64x128 : Shape := ⟨6, ![4, 1, 1, 8, 64, 128]⟩
abbrev S4x1x1x8x192x64 : Shape := ⟨6, ![4, 1, 1, 8, 192, 64]⟩
abbrev S4x1x1x8x128 : Shape := ⟨5, ![4, 1, 1, 8, 128]⟩
abbrev S4x64x1024 : Shape := ⟨3, ![4, 64, 1024]⟩
abbrev S2x4x8x128x128 : Shape := ⟨5, ![2, 4, 8, 128, 128]⟩
abbrev S1x4x8x128x128 : Shape := ⟨5, ![1, 4, 8, 128, 128]⟩
abbrev S1x1x1x128x128 : Shape := ⟨5, ![1, 1, 1, 128, 128]⟩
abbrev S128x128 : Shape := ⟨2, ![128, 128]⟩
abbrev S1x1x1x1x128x128 : Shape := ⟨6, ![1, 1, 1, 1, 128, 128]⟩
abbrev S1x1x1x1x64x128 : Shape := ⟨6, ![1, 1, 1, 1, 64, 128]⟩
abbrev S64x128 : Shape := ⟨2, ![64, 128]⟩
abbrev S1x1x1x1x192x64 : Shape := ⟨6, ![1, 1, 1, 1, 192, 64]⟩
abbrev S192x64 : Shape := ⟨2, ![192, 64]⟩
abbrev S192x128 : Shape := ⟨2, ![192, 128]⟩
abbrev S1x64x128 : Shape := ⟨3, ![1, 64, 128]⟩
abbrev S1x1x1x1x128 : Shape := ⟨5, ![1, 1, 1, 1, 128]⟩
abbrev S1x128 : Shape := ⟨2, ![1, 128]⟩

abbrev nBuf : Space → Nat
  | .hbm => 10
  | .vmem => 25
  | .smem => 0
  | _ => 0

abbrev bufTy : (tb : Table) → Fin (tcTables nBuf tb) → BufTy
  | .hbm, ⟨0, _⟩ => ⟨S4x64x2x8x128x128, .bf16⟩
  | .hbm, ⟨1, _⟩ => ⟨S4x64x2x8x64x128, .f32⟩
  | .hbm, ⟨2, _⟩ => ⟨S4x64x2x8x192x64, .bf16⟩
  | .hbm, ⟨3, _⟩ => ⟨S4x64x2x8x128, .f32⟩
  | .hbm, ⟨4, _⟩ => ⟨S4x8x128x128, .f32⟩
  | .hbm, ⟨5, _⟩ => ⟨S4x8x128x128, .f32⟩
  | .hbm, ⟨6, _⟩ => ⟨S4x4096x1024, .bf16⟩
  | .hbm, ⟨7, _⟩ => ⟨S4x4096x1024, .bf16⟩
  | .hbm, ⟨8, _⟩ => ⟨S4x8x128x128, .f32⟩
  | .hbm, ⟨9, _⟩ => ⟨S4x8x128x128, .f32⟩
  | .local _ .vmem, ⟨0, _⟩ => ⟨S4x1x1x8x128x128, .bf16⟩
  | .local _ .vmem, ⟨1, _⟩ => ⟨S4x1x1x8x128x128, .bf16⟩
  | .local _ .vmem, ⟨2, _⟩ => ⟨S4x1x1x8x64x128, .f32⟩
  | .local _ .vmem, ⟨3, _⟩ => ⟨S4x1x1x8x64x128, .f32⟩
  | .local _ .vmem, ⟨4, _⟩ => ⟨S4x1x1x8x192x64, .bf16⟩
  | .local _ .vmem, ⟨5, _⟩ => ⟨S4x1x1x8x192x64, .bf16⟩
  | .local _ .vmem, ⟨6, _⟩ => ⟨S4x1x1x8x128, .f32⟩
  | .local _ .vmem, ⟨7, _⟩ => ⟨S4x1x1x8x128, .f32⟩
  | .local _ .vmem, ⟨8, _⟩ => ⟨S4x1x1x8x128x128, .bf16⟩
  | .local _ .vmem, ⟨9, _⟩ => ⟨S4x1x1x8x128x128, .bf16⟩
  | .local _ .vmem, ⟨10, _⟩ => ⟨S4x1x1x8x64x128, .f32⟩
  | .local _ .vmem, ⟨11, _⟩ => ⟨S4x1x1x8x64x128, .f32⟩
  | .local _ .vmem, ⟨12, _⟩ => ⟨S4x1x1x8x192x64, .bf16⟩
  | .local _ .vmem, ⟨13, _⟩ => ⟨S4x1x1x8x192x64, .bf16⟩
  | .local _ .vmem, ⟨14, _⟩ => ⟨S4x1x1x8x128, .f32⟩
  | .local _ .vmem, ⟨15, _⟩ => ⟨S4x1x1x8x128, .f32⟩
  | .local _ .vmem, ⟨16, _⟩ => ⟨S4x8x128x128, .f32⟩
  | .local _ .vmem, ⟨17, _⟩ => ⟨S4x8x128x128, .f32⟩
  | .local _ .vmem, ⟨18, _⟩ => ⟨S4x64x1024, .bf16⟩
  | .local _ .vmem, ⟨19, _⟩ => ⟨S4x64x1024, .bf16⟩
  | .local _ .vmem, ⟨20, _⟩ => ⟨S4x64x1024, .bf16⟩
  | .local _ .vmem, ⟨21, _⟩ => ⟨S4x64x1024, .bf16⟩
  | .local _ .vmem, ⟨22, _⟩ => ⟨S4x8x128x128, .f32⟩
  | .local _ .vmem, ⟨23, _⟩ => ⟨S4x8x128x128, .f32⟩
  | .local _ .vmem, ⟨24, _⟩ => ⟨S2x4x8x128x128, .f32⟩
  | _, _ => ⟨S4x64x2x8x128x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23

abbrev nD : Nat := 1
abbrev τ : Topo := Topo.v7x

variable {F : FTy → Type} [FloatOps F]

abbrev grid0 : Pipeline.Grid := ⟨2, ![1, 64], ![false, false]⟩

def k0_cond2 (i : grid0.Coords) : BitVec 1 :=
  let arg1 : BitVec 32 := BitVec.ofNat 32 (i 1).val
  let c63_i32 : BitVec 32 := 63#32
  let v1923 : BitVec 1 := Scalar.cmpi .eq arg1 c63_i32
  let v1924 : BitVec 32 := Scalar.extui v1923
  let c0_i32_2417 : BitVec 32 := 0#32
  let v1925 : BitVec 1 := Scalar.cmpi .ne v1924 c0_i32_2417
  v1925

def cc0_transform_0 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, arg1.toNat, c0_i32.toNat, c0_i32_0.toNat, c0_i32_1.toNat, c0_i32_2.toNat]

def cc0_transform_1 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, arg1.toNat, c0_i32.toNat, c0_i32_0.toNat, c0_i32_1.toNat, c0_i32_2.toNat]

def cc0_transform_2 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, arg1.toNat, c0_i32.toNat, c0_i32_0.toNat, c0_i32_1.toNat, c0_i32_2.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 6 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c1_i32 : BitVec 32 := 1#32
  let c0_i32 : BitVec 32 := 0#32
  let c0_i32_0 : BitVec 32 := 0#32
  let c0_i32_1 : BitVec 32 := 0#32
  let c0_i32_2 : BitVec 32 := 0#32
  ![arg0.toNat, v0.toNat, c1_i32.toNat, c0_i32.toNat, c0_i32_0.toNat, c0_i32_1.toNat]

def cc0_transform_5 (i : grid0.Coords) : Fin 6 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c1_i32 : BitVec 32 := 1#32
  let c0_i32 : BitVec 32 := 0#32
  let c0_i32_0 : BitVec 32 := 0#32
  let c0_i32_1 : BitVec 32 := 0#32
  let c0_i32_2 : BitVec 32 := 0#32
  ![arg0.toNat, v0.toNat, c1_i32.toNat, c0_i32.toNat, c0_i32_0.toNat, c0_i32_1.toNat]

def cc0_transform_6 (i : grid0.Coords) : Fin 6 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c1_i32 : BitVec 32 := 1#32
  let c0_i32 : BitVec 32 := 0#32
  let c0_i32_0 : BitVec 32 := 0#32
  let c0_i32_1 : BitVec 32 := 0#32
  let c0_i32_2 : BitVec 32 := 0#32
  ![arg0.toNat, v0.toNat, c1_i32.toNat, c0_i32.toNat, c0_i32_0.toNat, c0_i32_1.toNat]

def cc0_transform_7 (i : grid0.Coords) : Fin 5 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c1_i32 : BitVec 32 := 1#32
  let c0_i32 : BitVec 32 := 0#32
  let c0_i32_0 : BitVec 32 := 0#32
  let c0_i32_1 : BitVec 32 := 0#32
  ![arg0.toNat, v0.toNat, c1_i32.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  ![arg0.toNat, v0.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x1x1x8x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1x1x8x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1x1x8x192x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x1x1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x1x1x8x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x1x1x8x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x1x1x8x192x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4x1x1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S4x8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S4x8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 2 → Memref sig .tc .vmem S4x64x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S4x64x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S4x8x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, false]

abbrev stage0_13 : Fin 1 → Memref sig .tc .vmem S4x8x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, false]
-- ==== ReferenceIdeal.lean ====
abbrev S4x64x2x8x128x128 : Shape := ⟨6, ![4, 64, 2, 8, 128, 128]⟩
abbrev S4x64x2x8x64x128 : Shape := ⟨6, ![4, 64, 2, 8, 64, 128]⟩
abbrev S4x64x2x8x192x64 : Shape := ⟨6, ![4, 64, 2, 8, 192, 64]⟩
abbrev S4x64x2x8x128 : Shape := ⟨5, ![4, 64, 2, 8, 128]⟩
abbrev S4x8x128x128 : Shape := ⟨4, ![4, 8, 128, 128]⟩
abbrev S4x64x2x8x64x64 : Shape := ⟨6, ![4, 64, 2, 8, 64, 64]⟩
abbrev S4x64x2x8x128x64 : Shape := ⟨6, ![4, 64, 2, 8, 128, 64]⟩
abbrev S4x64x1x8x64x128 : Shape := ⟨6, ![4, 64, 1, 8, 64, 128]⟩
abbrev S4x64x8x64x128 : Shape := ⟨5, ![4, 64, 8, 64, 128]⟩
abbrev S1x4x64x8x64x128 : Shape := ⟨6, ![1, 4, 64, 8, 64, 128]⟩
abbrev S2x4x64x8x64x128 : Shape := ⟨6, ![2, 4, 64, 8, 64, 128]⟩
abbrev S64x2x4x8x64x128 : Shape := ⟨6, ![64, 2, 4, 8, 64, 128]⟩
abbrev S4x64x1x8x128x64 : Shape := ⟨6, ![4, 64, 1, 8, 128, 64]⟩
abbrev S4x64x8x128x64 : Shape := ⟨5, ![4, 64, 8, 128, 64]⟩
abbrev S1x4x64x8x128x64 : Shape := ⟨6, ![1, 4, 64, 8, 128, 64]⟩
abbrev S2x4x64x8x128x64 : Shape := ⟨6, ![2, 4, 64, 8, 128, 64]⟩
abbrev S64x2x4x8x128x64 : Shape := ⟨6, ![64, 2, 4, 8, 128, 64]⟩
abbrev S4x64x1x8x128 : Shape := ⟨5, ![4, 64, 1, 8, 128]⟩
abbrev S4x64x8x128 : Shape := ⟨4, ![4, 64, 8, 128]⟩
abbrev S1x4x64x8x128 : Shape := ⟨5, ![1, 4, 64, 8, 128]⟩
abbrev S2x4x64x8x128 : Shape := ⟨5, ![2, 4, 64, 8, 128]⟩
abbrev S64x2x4x8x128 : Shape := ⟨5, ![64, 2, 4, 8, 128]⟩
abbrev S4x64x1x8x64x64 : Shape := ⟨6, ![4, 64, 1, 8, 64, 64]⟩
abbrev S4x64x8x64x64 : Shape := ⟨5, ![4, 64, 8, 64, 64]⟩
abbrev S1x4x64x8x64x64 : Shape := ⟨6, ![1, 4, 64, 8, 64, 64]⟩
abbrev S2x4x64x8x64x64 : Shape := ⟨6, ![2, 4, 64, 8, 64, 64]⟩
abbrev S64x2x4x8x64x64 : Shape := ⟨6, ![64, 2, 4, 8, 64, 64]⟩
abbrev S1x4x8x128x128 : Shape := ⟨5, ![1, 4, 8, 128, 128]⟩
abbrev S2x4x8x128x128 : Shape := ⟨5, ![2, 4, 8, 128, 128]⟩
abbrev S_ : Shape := ⟨0, ![]⟩
abbrev S1x2x4x8x64x128 : Shape := ⟨6, ![1, 2, 4, 8, 64, 128]⟩
abbrev S2x4x8x64x128 : Shape := ⟨5, ![2, 4, 8, 64, 128]⟩
abbrev S1x2x4x8x128x64 : Shape := ⟨6, ![1, 2, 4, 8, 128, 64]⟩
abbrev S2x4x8x128x64 : Shape := ⟨5, ![2, 4, 8, 128, 64]⟩
abbrev S1x2x4x8x128 : Shape := ⟨5, ![1, 2, 4, 8, 128]⟩
abbrev S2x4x8x128 : Shape := ⟨4, ![2, 4, 8, 128]⟩
abbrev S1x2x4x8x64x64 : Shape := ⟨6, ![1, 2, 4, 8, 64, 64]⟩
abbrev S2x4x8x64x64 : Shape := ⟨5, ![2, 4, 8, 64, 64]⟩
abbrev S2x4x8x1x128 : Shape := ⟨5, ![2, 4, 8, 1, 128]⟩
abbrev S64x1x4x8x64x128 : Shape := ⟨6, ![64, 1, 4, 8, 64, 128]⟩
abbrev S64x4x8x64x128 : Shape := ⟨5, ![64, 4, 8, 64, 128]⟩
abbrev S4x64x64x8x128 : Shape := ⟨5, ![4, 64, 64, 8, 128]⟩
abbrev S4x4096x1024 : Shape := ⟨3, ![4, 4096, 1024]⟩

abbrev nBuf : Space → Nat
  | .hbm => 160
  | .vmem => 0
  | .smem => 0
  | _ => 0

abbrev hbmTy0_0 (i : Nat) : BufTy := match i % 128 with
  | 0 => ⟨S4x64x2x8x128x128, .bf16⟩
  | 1 => ⟨S4x64x2x8x64x128, .f32⟩
  | 2 => ⟨S4x64x2x8x192x64, .bf16⟩
  | 3 => ⟨S4x64x2x8x128, .f32⟩
  | 4 => ⟨S4x8x128x128, .f32⟩
  | 5 => ⟨S4x8x128x128, .f32⟩
  | 6 => ⟨S4x64x2x8x64x128, .bf16⟩
  | 7 => ⟨S4x64x2x8x64x128, .f32⟩
  | 8 => ⟨S4x64x2x8x64x128, .bf16⟩
  | 9 => ⟨S4x64x2x8x64x128, .f32⟩
  | 10 => ⟨S4x64x2x8x64x64, .bf16⟩
  | 11 => ⟨S4x64x2x8x64x64, .f32⟩
  | 12 => ⟨S4x64x2x8x128x64, .bf16⟩
  | 13 => ⟨S4x64x2x8x128x64, .f32⟩
  | 14 => ⟨S4x64x1x8x64x128, .f32⟩
  | 15 => ⟨S4x64x8x64x128, .f32⟩
  | 16 => ⟨S4x64x1x8x64x128, .f32⟩
  | 17 => ⟨S4x64x8x64x128, .f32⟩
  | 18 => ⟨S4x64x8x64x128, .f32⟩
  | 19 => ⟨S1x4x64x8x64x128, .f32⟩
  | 20 => ⟨S1x4x64x8x64x128, .f32⟩
  | 21 => ⟨S2x4x64x8x64x128, .f32⟩
  | 22 => ⟨S64x2x4x8x64x128, .f32⟩
  | 23 => ⟨S4x64x1x8x64x128, .f32⟩
  | 24 => ⟨S4x64x8x64x128, .f32⟩
  | 25 => ⟨S4x64x1x8x64x128, .f32⟩
  | 26 => ⟨S4x64x8x64x128, .f32⟩
  | 27 => ⟨S4x64x8x64x128, .f32⟩
  | 28 => ⟨S1x4x64x8x64x128, .f32⟩
  | 29 => ⟨S1x4x64x8x64x128, .f32⟩
  | 30 => ⟨S2x4x64x8x64x128, .f32⟩
  | 31 => ⟨S64x2x4x8x64x128, .f32⟩
  | 32 => ⟨S4x64x1x8x128x64, .f32⟩
  | 33 => ⟨S4x64x8x128x64, .f32⟩
  | 34 => ⟨S4x64x1x8x128x64, .f32⟩
  | 35 => ⟨S4x64x8x128x64, .f32⟩
  | 36 => ⟨S4x64x8x128x64, .f32⟩
  | 37 => ⟨S1x4x64x8x128x64, .f32⟩
  | 38 => ⟨S1x4x64x8x128x64, .f32⟩
  | 39 => ⟨S2x4x64x8x128x64, .f32⟩
  | 40 => ⟨S64x2x4x8x128x64, .f32⟩
  | 41 => ⟨S4x64x1x8x128, .f32⟩
  | 42 => ⟨S4x64x8x128, .f32⟩
  | 43 => ⟨S4x64x1x8x128, .f32⟩
  | 44 => ⟨S4x64x8x128, .f32⟩
  | 45 => ⟨S4x64x8x128, .f32⟩
  | 46 => ⟨S1x4x64x8x128, .f32⟩
  | 47 => ⟨S1x4x64x8x128, .f32⟩
  | 48 => ⟨S2x4x64x8x128, .f32⟩
  | 49 => ⟨S64x2x4x8x128, .f32⟩
  | 50 => ⟨S4x64x1x8x64x128, .f32⟩
  | 51 => ⟨S4x64x8x64x128, .f32⟩
  | 52 => ⟨S4x64x1x8x64x128, .f32⟩
  | 53 => ⟨S4x64x8x64x128, .f32⟩
  | 54 => ⟨S4x64x8x64x128, .f32⟩
  | 55 => ⟨S1x4x64x8x64x128, .f32⟩
  | 56 => ⟨S1x4x64x8x64x128, .f32⟩
  | 57 => ⟨S2x4x64x8x64x128, .f32⟩
  | 58 => ⟨S64x2x4x8x64x128, .f32⟩
  | 59 => ⟨S4x64x1x8x64x64, .f32⟩
  | 60 => ⟨S4x64x8x64x64, .f32⟩
  | 61 => ⟨S4x64x1x8x64x64, .f32⟩
  | 62 => ⟨S4x64x8x64x64, .f32⟩
  | 63 => ⟨S4x64x8x64x64, .f32⟩
  | 64 => ⟨S1x4x64x8x64x64, .f32⟩
  | 65 => ⟨S1x4x64x8x64x64, .f32⟩
  | 66 => ⟨S2x4x64x8x64x64, .f32⟩
  | 67 => ⟨S64x2x4x8x64x64, .f32⟩
  | 68 => ⟨S1x4x8x128x128, .f32⟩
  | 69 => ⟨S1x4x8x128x128, .f32⟩
  | 70 => ⟨S2x4x8x128x128, .f32⟩
  | 71 => ⟨S_, .f32⟩
  | 72 => ⟨S64x2x4x8x64x128, .f32⟩
  | 73 => ⟨S_, .i32⟩
  | 74 => ⟨S64x2x4x8x64x128, .f32⟩
  | 75 => ⟨S64x2x4x8x64x128, .f32⟩
  | 76 => ⟨S64x2x4x8x128x64, .f32⟩
  | 77 => ⟨S64x2x4x8x128, .f32⟩
  | 78 => ⟨S64x2x4x8x64x128, .f32⟩
  | 79 => ⟨S64x2x4x8x64x64, .f32⟩
  | 80 => ⟨S_, .i32⟩
  | 81 => ⟨S2x4x8x128x128, .f32⟩
  | 82 => ⟨S64x2x4x8x64x128, .f32⟩
  | 83 => ⟨S_, .i32⟩
  | 84 => ⟨S_, .i1⟩
  | 85 => ⟨S_, .i32⟩
  | 86 => ⟨S_, .i32⟩
  | 87 => ⟨S_, .i32⟩
  | 88 => ⟨S_, .i32⟩
  | 89 => ⟨S_, .i32⟩
  | 90 => ⟨S1x2x4x8x64x128, .f32⟩
  | 91 => ⟨S2x4x8x64x128, .f32⟩
  | 92 => ⟨S_, .i32⟩
  | 93 => ⟨S_, .i32⟩
  | 94 => ⟨S_, .i32⟩
  | 95 => ⟨S_, .i32⟩
  | 96 => ⟨S_, .i32⟩
  | 97 => ⟨S1x2x4x8x64x128, .f32⟩
  | 98 => ⟨S2x4x8x64x128, .f32⟩
  | 99 => ⟨S_, .i32⟩
  | 100 => ⟨S_, .i32⟩
  | 101 => ⟨S_, .i32⟩
  | 102 => ⟨S_, .i32⟩
  | 103 => ⟨S_, .i32⟩
  | 104 => ⟨S1x2x4x8x128x64, .f32⟩
  | 105 => ⟨S2x4x8x128x64, .f32⟩
  | 106 => ⟨S_, .i32⟩
  | 107 => ⟨S_, .i32⟩
  | 108 => ⟨S_, .i32⟩
  | 109 => ⟨S_, .i32⟩
  | 110 => ⟨S1x2x4x8x128, .f32⟩
  | 111 => ⟨S2x4x8x128, .f32⟩
  | 112 => ⟨S_, .i32⟩
  | 113 => ⟨S_, .i32⟩
  | 114 => ⟨S_, .i32⟩
  | 115 => ⟨S_, .i32⟩
  | 116 => ⟨S_, .i32⟩
  | 117 => ⟨S1x2x4x8x64x128, .f32⟩
  | 118 => ⟨S2x4x8x64x128, .f32⟩
  | 119 => ⟨S_, .i32⟩
  | 120 => ⟨S_, .i32⟩
  | 121 => ⟨S_, .i32⟩
  | 122 => ⟨S_, .i32⟩
  | 123 => ⟨S_, .i32⟩
  | 124 => ⟨S1x2x4x8x64x64, .f32⟩
  | 125 => ⟨S2x4x8x64x64, .f32⟩
  | 126 => ⟨S2x4x8x64x128, .f32⟩
  | 127 => ⟨S2x4x8x64x128, .f32⟩
  | _ => ⟨S4x64x2x8x128x128, .bf16⟩

abbrev hbmTy0_1 (i : Nat) : BufTy := match i % 128 with
  | 0 => ⟨S2x4x8x1x128, .f32⟩
  | 1 => ⟨S2x4x8x128x128, .f32⟩
  | 2 => ⟨S2x4x8x128x128, .f32⟩
  | 3 => ⟨S2x4x8x128x128, .f32⟩
  | 4 => ⟨S2x4x8x128x128, .f32⟩
  | 5 => ⟨S2x4x8x64x128, .f32⟩
  | 6 => ⟨S2x4x8x64x128, .f32⟩
  | 7 => ⟨S2x4x8x64x128, .f32⟩
  | 8 => ⟨S1x2x4x8x64x128, .f32⟩
  | 9 => ⟨S_, .i32⟩
  | 10 => ⟨S_, .i32⟩
  | 11 => ⟨S_, .i32⟩
  | 12 => ⟨S_, .i32⟩
  | 13 => ⟨S_, .i32⟩
  | 14 => ⟨S64x2x4x8x64x128, .f32⟩
  | 15 => ⟨S_, .i32⟩
  | 16 => ⟨S_, .i32⟩
  | 17 => ⟨S64x1x4x8x64x128, .f32⟩
  | 18 => ⟨S64x4x8x64x128, .f32⟩
  | 19 => ⟨S4x64x64x8x128, .f32⟩
  | 20 => ⟨S4x4096x1024, .f32⟩
  | 21 => ⟨S4x4096x1024, .bf16⟩
  | 22 => ⟨S64x1x4x8x64x128, .f32⟩
  | 23 => ⟨S64x4x8x64x128, .f32⟩
  | 24 => ⟨S64x4x8x64x128, .f32⟩
  | 25 => ⟨S4x64x64x8x128, .f32⟩
  | 26 => ⟨S4x4096x1024, .f32⟩
  | 27 => ⟨S4x4096x1024, .bf16⟩
  | 28 => ⟨S1x4x8x128x128, .f32⟩
  | 29 => ⟨S4x8x128x128, .f32⟩
  | 30 => ⟨S1x4x8x128x128, .f32⟩
  | 31 => ⟨S4x8x128x128, .f32⟩
  | _ => ⟨S4x64x2x8x128x128, .bf16⟩

abbrev hbmTy (i : Nat) : BufTy := match i / 128 with
  | 0 => hbmTy0_0 i
  | 1 => hbmTy0_1 i
  | _ => ⟨S4x64x2x8x128x128, .bf16⟩

abbrev bufTy : (tb : Table) → Fin (tcTables nBuf tb) → BufTy
  | .hbm, ⟨i, _⟩ => hbmTy i
  | _, _ => ⟨S4x64x2x8x128x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_cst : Ref sig .tc := ⟨.hbm, 71, rfl⟩
abbrev main_v65 : Ref sig .tc := ⟨.hbm, 72, rfl⟩
abbrev main_c : Ref sig .tc := ⟨.hbm, 73, rfl⟩
abbrev main_v66_0 : Ref sig .tc := ⟨.hbm, 74, rfl⟩
abbrev main_v66_1 : Ref sig .tc := ⟨.hbm, 75, rfl⟩
abbrev main_v66_2 : Ref sig .tc := ⟨.hbm, 76, rfl⟩
abbrev main_v66_3 : Ref sig .tc := ⟨.hbm, 77, rfl⟩
abbrev main_v66_4 : Ref sig .tc := ⟨.hbm, 78, rfl⟩
abbrev main_v66_5 : Ref sig .tc := ⟨.hbm, 79, rfl⟩
abbrev main_v66_6 : Ref sig .tc := ⟨.hbm, 80, rfl⟩
abbrev main_v66_7 : Ref sig .tc := ⟨.hbm, 81, rfl⟩
abbrev main_v66_8 : Ref sig .tc := ⟨.hbm, 82, rfl⟩
abbrev main_while0c_c_8 : Ref sig .tc := ⟨.hbm, 83, rfl⟩
abbrev main_while0c_v82 : Ref sig .tc := ⟨.hbm, 84, rfl⟩
abbrev main_while0b_call6_c : Ref sig .tc := ⟨.hbm, 85, rfl⟩
abbrev main_while0b_call6_c_0 : Ref sig .tc := ⟨.hbm, 86, rfl⟩
abbrev main_while0b_call6_c_1 : Ref sig .tc := ⟨.hbm, 87, rfl⟩
abbrev main_while0b_call6_c_2 : Ref sig .tc := ⟨.hbm, 88, rfl⟩
abbrev main_while0b_call6_c_3 : Ref sig .tc := ⟨.hbm, 89, rfl⟩
abbrev main_while0b_call6_v0 : Ref sig .tc := ⟨.hbm, 90, rfl⟩
abbrev main_while0b_v82 : Ref sig .tc := ⟨.hbm, 91, rfl⟩
abbrev main_while0b_call7_c : Ref sig .tc := ⟨.hbm, 92, rfl⟩
abbrev main_while0b_call7_c_0 : Ref sig .tc := ⟨.hbm, 93, rfl⟩
abbrev main_while0b_call7_c_1 : Ref sig .tc := ⟨.hbm, 94, rfl⟩
abbrev main_while0b_call7_c_2 : Ref sig .tc := ⟨.hbm, 95, rfl⟩
abbrev main_while0b_call7_c_3 : Ref sig .tc := ⟨.hbm, 96, rfl⟩
abbrev main_while0b_call7_v0 : Ref sig .tc := ⟨.hbm, 97, rfl⟩
abbrev main_while0b_v83 : Ref sig .tc := ⟨.hbm, 98, rfl⟩
abbrev main_while0b_call8_c : Ref sig .tc := ⟨.hbm, 99, rfl⟩
abbrev main_while0b_call8_c_0 : Ref sig .tc := ⟨.hbm, 100, rfl⟩
abbrev main_while0b_call8_c_1 : Ref sig .tc := ⟨.hbm, 101, rfl⟩
abbrev main_while0b_call8_c_2 : Ref sig .tc := ⟨.hbm, 102, rfl⟩
abbrev main_while0b_call8_c_3 : Ref sig .tc := ⟨.hbm, 103, rfl⟩
abbrev main_while0b_call8_v0 : Ref sig .tc := ⟨.hbm, 104, rfl⟩
abbrev main_while0b_v84 : Ref sig .tc := ⟨.hbm, 105, rfl⟩
abbrev main_while0b_call9_c : Ref sig .tc := ⟨.hbm, 106, rfl⟩
abbrev main_while0b_call9_c_0 : Ref sig .tc := ⟨.hbm, 107, rfl⟩
abbrev main_while0b_call9_c_1 : Ref sig .tc := ⟨.hbm, 108, rfl⟩
abbrev main_while0b_call9_c_2 : Ref sig .tc := ⟨.hbm, 109, rfl⟩
abbrev main_while0b_call9_v0 : Ref sig .tc := ⟨.hbm, 110, rfl⟩
abbrev main_while0b_v85 : Ref sig .tc := ⟨.hbm, 111, rfl⟩
abbrev main_while0b_call10_c : Ref sig .tc := ⟨.hbm, 112, rfl⟩
abbrev main_while0b_call10_c_0 : Ref sig .tc := ⟨.hbm, 113, rfl⟩
abbrev main_while0b_call10_c_1 : Ref sig .tc := ⟨.hbm, 114, rfl⟩
abbrev main_while0b_call10_c_2 : Ref sig .tc := ⟨.hbm, 115, rfl⟩
abbrev main_while0b_call10_c_3 : Ref sig .tc := ⟨.hbm, 116, rfl⟩
abbrev main_while0b_call10_v0 : Ref sig .tc := ⟨.hbm, 117, rfl⟩
abbrev main_while0b_v86 : Ref sig .tc := ⟨.hbm, 118, rfl⟩
abbrev main_while0b_call11_c : Ref sig .tc := ⟨.hbm, 119, rfl⟩
abbrev main_while0b_call11_c_0 : Ref sig .tc := ⟨.hbm, 120, rfl⟩
abbrev main_while0b_call11_c_1 : Ref sig .tc := ⟨.hbm, 121, rfl⟩
abbrev main_while0b_call11_c_2 : Ref sig .tc := ⟨.hbm, 122, rfl⟩
abbrev main_while0b_call11_c_3 : Ref sig .tc := ⟨.hbm, 123, rfl⟩
abbrev main_while0b_call11_v0 : Ref sig .tc := ⟨.hbm, 124, rfl⟩
abbrev main_while0b_v87 : Ref sig .tc := ⟨.hbm, 125, rfl⟩
abbrev main_while0b_v88 : Ref sig .tc := ⟨.hbm, 126, rfl⟩
abbrev main_while0b_v89 : Ref sig .tc := ⟨.hbm, 127, rfl⟩
abbrev main_while0b_v90 : Ref sig .tc := ⟨.hbm, 128, rfl⟩
abbrev main_while0b_v91 : Ref sig .tc := ⟨.hbm, 129, rfl⟩
abbrev main_while0b_v92 : Ref sig .tc := ⟨.hbm, 130, rfl⟩
abbrev main_while0b_v93 : Ref sig .tc := ⟨.hbm, 131, rfl⟩
abbrev main_while0b_v94 : Ref sig .tc := ⟨.hbm, 132, rfl⟩
abbrev main_while0b_v95 : Ref sig .tc := ⟨.hbm, 133, rfl⟩
abbrev main_while0b_v96 : Ref sig .tc := ⟨.hbm, 134, rfl⟩
abbrev main_while0b_v97 : Ref sig .tc := ⟨.hbm, 135, rfl⟩
abbrev main_while0b_call12_v0 : Ref sig .tc := ⟨.hbm, 136, rfl⟩
abbrev main_while0b_call12_c : Ref sig .tc := ⟨.hbm, 137, rfl⟩
abbrev main_while0b_call12_c_0 : Ref sig .tc := ⟨.hbm, 138, rfl⟩
abbrev main_while0b_call12_c_1 : Ref sig .tc := ⟨.hbm, 139, rfl⟩
abbrev main_while0b_call12_c_2 : Ref sig .tc := ⟨.hbm, 140, rfl⟩
abbrev main_while0b_call12_c_3 : Ref sig .tc := ⟨.hbm, 141, rfl⟩
abbrev main_while0b_v98 : Ref sig .tc := ⟨.hbm, 142, rfl⟩
abbrev main_while0b_c_8 : Ref sig .tc := ⟨.hbm, 143, rfl⟩
abbrev main_while0b_v99 : Ref sig .tc := ⟨.hbm, 144, rfl⟩
abbrev main_v67 : Ref sig .tc := ⟨.hbm, 145, rfl⟩
abbrev main_v68 : Ref sig .tc := ⟨.hbm, 146, rfl⟩
abbrev main_v69 : Ref sig .tc := ⟨.hbm, 147, rfl⟩
abbrev main_v70 : Ref sig .tc := ⟨.hbm, 148, rfl⟩
abbrev main_v71 : Ref sig .tc := ⟨.hbm, 149, rfl⟩
abbrev main_v72 : Ref sig .tc := ⟨.hbm, 150, rfl⟩
abbrev main_v73 : Ref sig .tc := ⟨.hbm, 151, rfl⟩
abbrev main_v74 : Ref sig .tc := ⟨.hbm, 152, rfl⟩
abbrev main_v75 : Ref sig .tc := ⟨.hbm, 153, rfl⟩
abbrev main_v76 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S16384x2048 : Shape := ⟨2, ![16384, 2048]⟩
abbrev S2048 : Shape := ⟨1, ![2048]⟩
abbrev S4x1x2048 : Shape := ⟨3, ![4, 1, 2048]⟩
abbrev S2048x6400 : Shape := ⟨2, ![2048, 6400]⟩
abbrev S1x2048 : Shape := ⟨2, ![1, 2048]⟩
abbrev S16384x6400 : Shape := ⟨2, ![16384, 6400]⟩
abbrev S16384x128 : Shape := ⟨2, ![16384, 128]⟩
abbrev S1024x2048 : Shape := ⟨2, ![1024, 2048]⟩
abbrev S1x1x2048 : Shape := ⟨3, ![1, 1, 2048]⟩
abbrev S2048x1280 : Shape := ⟨2, ![2048, 1280]⟩
abbrev S1024x1280 : Shape := ⟨2, ![1024, 1280]⟩
abbrev S1024x128 : Shape := ⟨2, ![1024, 128]⟩
abbrev S1024 : Shape := ⟨1, ![1024]⟩
abbrev S1024x1 : Shape := ⟨2, ![1024, 1]⟩

abbrev nBuf : Space → Nat
  | .hbm => 8
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S4x1x2048, .f32⟩
  | .hbm, ⟨3, _⟩ => ⟨S4x1x2048, .f32⟩
  | .hbm, ⟨4, _⟩ => ⟨S2048x6400, .bf16⟩
  | .hbm, ⟨5, _⟩ => ⟨S1x2048, .f32⟩
  | .hbm, ⟨6, _⟩ => ⟨S16384x6400, .bf16⟩
  | .hbm, ⟨7, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x1280, .bf16⟩
  | .local _ .vmem, ⟨8, _⟩ => ⟨S2048x1280, .bf16⟩
  | .local _ .vmem, ⟨9, _⟩ => ⟨S1024x1280, .bf16⟩
  | .local _ .vmem, ⟨10, _⟩ => ⟨S1024x1280, .bf16⟩
  | .local _ .vmem, ⟨11, _⟩ => ⟨S1024x128, .f32⟩
  | .local _ .vmem, ⟨12, _⟩ => ⟨S1024x128, .f32⟩
  | .local _ .vmem, ⟨13, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 5], ![false, false]⟩

def k0_cond2 (i : grid0.Coords) : BitVec 1 :=
  let arg1 : BitVec 32 := BitVec.ofNat 32 (i 1).val
  let c4_i32 : BitVec 32 := 4#32
  let v8 : BitVec 1 := Scalar.cmpi .eq arg1 c4_i32
  let v9 : BitVec 32 := Scalar.extui v8
  let c0_i32_6 : BitVec 32 := 0#32
  let v10 : BitVec 1 := Scalar.cmpi .ne v9 c0_i32_6
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1280 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S16384x2048 : Shape := ⟨2, ![16384, 2048]⟩
abbrev S2048 : Shape := ⟨1, ![2048]⟩
abbrev S4x1x2048 : Shape := ⟨3, ![4, 1, 2048]⟩
abbrev S2048x6400 : Shape := ⟨2, ![2048, 6400]⟩
abbrev S4x4096x2048 : Shape := ⟨3, ![4, 4096, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x6400 : Shape := ⟨3, ![4, 4096, 6400]⟩
abbrev S16384x6400 : Shape := ⟨2, ![16384, 6400]⟩
abbrev S16384x128 : Shape := ⟨2, ![16384, 128]⟩

abbrev nBuf : Space → Nat
  | .hbm => 34
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S4x1x2048, .f32⟩
  | .hbm, ⟨3, _⟩ => ⟨S4x1x2048, .f32⟩
  | .hbm, ⟨4, _⟩ => ⟨S2048x6400, .bf16⟩
  | .hbm, ⟨5, _⟩ => ⟨S4x4096x2048, .f32⟩
  | .hbm, ⟨6, _⟩ => ⟨S4x4096x2048, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x1, .f32⟩
  | .hbm, ⟨17, _⟩ => ⟨S4x4096x2048, .f32⟩
  | .hbm, ⟨18, _⟩ => ⟨S4x4096x2048, .f32⟩
  | .hbm, ⟨19, _⟩ => ⟨S1x1x2048, .f32⟩
  | .hbm, ⟨20, _⟩ => ⟨S4x4096x2048, .f32⟩
  | .hbm, ⟨21, _⟩ => ⟨S4x4096x2048, .f32⟩
  | .hbm, ⟨22, _⟩ => ⟨S_, .f32⟩
  | .hbm, ⟨23, _⟩ => ⟨S4x1x2048, .f32⟩
  | .hbm, ⟨24, _⟩ => ⟨S4x1x2048, .f32⟩
  | .hbm, ⟨25, _⟩ => ⟨S4x4096x2048, .f32⟩
  | .hbm, ⟨26, _⟩ => ⟨S4x4096x2048, .f32⟩
  | .hbm, ⟨27, _⟩ => ⟨S4x4096x2048, .f32⟩
  | .hbm, ⟨28, _⟩ => ⟨S4x4096x2048, .f32⟩
  | .hbm, ⟨29, _⟩ => ⟨S2048x6400, .f32⟩
  | .hbm, ⟨30, _⟩ => ⟨S4x4096x6400, .f32⟩
  | .hbm, ⟨31, _⟩ => ⟨S16384x6400, .f32⟩
  | .hbm, ⟨32, _⟩ => ⟨S16384x6400, .bf16⟩
  | .hbm, ⟨33, _⟩ => ⟨S16384x128, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Kernel3.lean ====
abbrev S16384x512 : Shape := ⟨2, ![16384, 512]⟩
abbrev S16384x1024 : Shape := ⟨2, ![16384, 1024]⟩
abbrev S16384x6400 : Shape := ⟨2, ![16384, 6400]⟩
abbrev S128 : Shape := ⟨1, ![128]⟩
abbrev S2048x2048 : Shape := ⟨2, ![2048, 2048]⟩
abbrev S16384x2048 : Shape := ⟨2, ![16384, 2048]⟩
abbrev S4x1x2048 : Shape := ⟨3, ![4, 1, 2048]⟩
abbrev S1x128 : Shape := ⟨2, ![1, 128]⟩
abbrev S512x512 : Shape := ⟨2, ![512, 512]⟩
abbrev S512x1024 : Shape := ⟨2, ![512, 1024]⟩
abbrev S512x2048 : Shape := ⟨2, ![512, 2048]⟩
abbrev S1x1x2048 : Shape := ⟨3, ![1, 1, 2048]⟩
abbrev S512x128 : Shape := ⟨2, ![512, 128]⟩
abbrev S512 : Shape := ⟨1, ![512]⟩
abbrev S512x1 : Shape := ⟨2, ![512, 1]⟩
abbrev S512x256 : Shape := ⟨2, ![512, 256]⟩
abbrev S256x2048 : Shape := ⟨2, ![256, 2048]⟩
abbrev S1x2048 : Shape := ⟨2, ![1, 2048]⟩

abbrev nBuf : Space → Nat
  | .hbm => 11
  | .vmem => 18
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .bf16⟩
  | .hbm, ⟨3, _⟩ => ⟨S16384x1024, .bf16⟩
  | .hbm, ⟨4, _⟩ => ⟨S16384x6400, .bf16⟩
  | .hbm, ⟨5, _⟩ => ⟨S128, .f32⟩
  | .hbm, ⟨6, _⟩ => ⟨S2048x2048, .bf16⟩
  | .hbm, ⟨7, _⟩ => ⟨S16384x2048, .f32⟩
  | .hbm, ⟨8, _⟩ => ⟨S4x1x2048, .f32⟩
  | .hbm, ⟨9, _⟩ => ⟨S1x128, .f32⟩
  | .hbm, ⟨10, _⟩ => ⟨S16384x2048, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x128, .f32⟩
  | .local _ .vmem, ⟨11, _⟩ => ⟨S2048x2048, .bf16⟩
  | .local _ .vmem, ⟨12, _⟩ => ⟨S512x2048, .f32⟩
  | .local _ .vmem, ⟨13, _⟩ => ⟨S512x2048, .f32⟩
  | .local _ .vmem, ⟨14, _⟩ => ⟨S1x1x2048, .f32⟩
  | .local _ .vmem, ⟨15, _⟩ => ⟨S1x1x2048, .f32⟩
  | .local _ .vmem, ⟨16, _⟩ => ⟨S512x2048, .f32⟩
  | .local _ .vmem, ⟨17, _⟩ => ⟨S512x2048, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference3Ideal.lean ====
abbrev S16384x512 : Shape := ⟨2, ![16384, 512]⟩
abbrev S16384x1024 : Shape := ⟨2, ![16384, 1024]⟩
abbrev S16384x6400 : Shape := ⟨2, ![16384, 6400]⟩
abbrev S128 : Shape := ⟨1, ![128]⟩
abbrev S2048x2048 : Shape := ⟨2, ![2048, 2048]⟩
abbrev S16384x2048 : Shape := ⟨2, ![16384, 2048]⟩
abbrev S4x1x2048 : Shape := ⟨3, ![4, 1, 2048]⟩
abbrev S4x4096x8x128 : Shape := ⟨4, ![4, 4096, 8, 128]⟩
abbrev S_ : Shape := ⟨0, ![]⟩
abbrev S4x4096x8 : Shape := ⟨3, ![4, 4096, 8]⟩
abbrev S4x4096x8x1 : Shape := ⟨4, ![4, 4096, 8, 1]⟩
abbrev S1x1x1x128 : Shape := ⟨4, ![1, 1, 1, 128]⟩
abbrev S4x4096x512 : Shape := ⟨3, ![4, 4096, 512]⟩
abbrev S4x4096x1024 : Shape := ⟨3, ![4, 4096, 1024]⟩
abbrev S4x4096x2048 : Shape := ⟨3, ![4, 4096, 2048]⟩

abbrev nBuf : Space → Nat
  | .hbm => 56
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .bf16⟩
  | .hbm, ⟨3, _⟩ => ⟨S16384x1024, .bf16⟩
  | .hbm, ⟨4, _⟩ => ⟨S16384x6400, .bf16⟩
  | .hbm, ⟨5, _⟩ => ⟨S128, .f32⟩
  | .hbm, ⟨6, _⟩ => ⟨S2048x2048, .bf16⟩
  | .hbm, ⟨7, _⟩ => ⟨S16384x2048, .f32⟩
  | .hbm, ⟨8, _⟩ => ⟨S4x1x2048, .f32⟩
  | .hbm, ⟨9, _⟩ => ⟨S16384x1024, .f32⟩
  | .hbm, ⟨10, _⟩ => ⟨S4x4096x8x128, .f32⟩
  | .hbm, ⟨11, _⟩ => ⟨S16384x1024, .f32⟩
  | .hbm, ⟨12, _⟩ => ⟨S4x4096x8x128, .f32⟩
  | .hbm, ⟨13, _⟩ => ⟨S4x4096x8x128, .f32⟩
  | .hbm, ⟨14, _⟩ => ⟨S4x4096x8x128, .f32⟩
  | .hbm, ⟨15, _⟩ => ⟨S_, .f32⟩
  | .hbm, ⟨16, _⟩ => ⟨S4x4096x8, .f32⟩
  | .hbm, ⟨17, _⟩ => ⟨S4x4096x8x1, .f32⟩
  | .hbm, ⟨18, _⟩ => ⟨S_, .f32⟩
  | .hbm, ⟨19, _⟩ => ⟨S4x4096x8x1, .f32⟩
  | .hbm, ⟨20, _⟩ => ⟨S4x4096x8x1, .f32⟩
  | .hbm, ⟨21, _⟩ => ⟨S_, .f32⟩
  | .hbm, ⟨22, _⟩ => ⟨S4x4096x8x1, .f32⟩
  | .hbm, ⟨23, _⟩ => ⟨S4x4096x8x1, .f32⟩
  | .hbm, ⟨24, _⟩ => ⟨S4x4096x8x1, .f32⟩
  | .hbm, ⟨25, _⟩ => ⟨S4x4096x8x128, .f32⟩
  | .hbm, ⟨26, _⟩ => ⟨S4x4096x8x128, .f32⟩
  | .hbm, ⟨27, _⟩ => ⟨S1x1x1x128, .f32⟩
  | .hbm, ⟨28, _⟩ => ⟨S4x4096x8x128, .f32⟩
  | .hbm, ⟨29, _⟩ => ⟨S4x4096x8x128, .f32⟩
  | .hbm, ⟨30, _⟩ => ⟨S16384x1024, .bf16⟩
  | .hbm, ⟨31, _⟩ => ⟨S16384x1024, .f32⟩
  | .hbm, ⟨32, _⟩ => ⟨S4x4096x8x128, .f32⟩
  | .hbm, ⟨33, _⟩ => ⟨S4x4096x8x128, .f32⟩
  | .hbm, ⟨34, _⟩ => ⟨S4x4096x8x128, .f32⟩
  | .hbm, ⟨35, _⟩ => ⟨S_, .f32⟩
  | .hbm, ⟨36, _⟩ => ⟨S4x4096x8x128, .f32⟩
  | .hbm, ⟨37, _⟩ => ⟨S4x4096x8x128, .f32⟩
  | .hbm, ⟨38, _⟩ => ⟨S_, .f32⟩
  | .hbm, ⟨39, _⟩ => ⟨S4x4096x8x128, .f32⟩
  | .hbm, ⟨40, _⟩ => ⟨S4x4096x8x128, .f32⟩
  | .hbm, ⟨41, _⟩ => ⟨S4x4096x8x128, .f32⟩
  | .hbm, ⟨42, _⟩ => ⟨S4x4096x8x128, .f32⟩
  | .hbm, ⟨43, _⟩ => ⟨S16384x512, .f32⟩
  | .hbm, ⟨44, _⟩ => ⟨S4x4096x512, .f32⟩
  | .hbm, ⟨45, _⟩ => ⟨S16384x512, .f32⟩
  | .hbm, ⟨46, _⟩ => ⟨S4x4096x512, .f32⟩
  | .hbm, ⟨47, _⟩ => ⟨S4x4096x1024, .f32⟩
  | .hbm, ⟨48, _⟩ => ⟨S4x4096x2048, .f32⟩
  | .hbm, ⟨49, _⟩ => ⟨S4x4096x2048, .f32⟩
  | .hbm, ⟨50, _⟩ => ⟨S2048x2048, .f32⟩
  | .hbm, ⟨51, _⟩ => ⟨S4x4096x2048, .f32⟩
  | .hbm, ⟨52, _⟩ => ⟨S4x4096x2048, .f32⟩
  | .hbm, ⟨53, _⟩ => ⟨S4x4096x2048, .f32⟩
  | .hbm, ⟨54, _⟩ => ⟨S4x4096x2048, .f32⟩
  | .hbm, ⟨55, _⟩ => ⟨S16384x2048, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]
-- ==== Kernel4.lean ====
abbrev S4x2048 : Shape := ⟨2, ![4, 2048]⟩
abbrev S2048 : Shape := ⟨1, ![2048]⟩
abbrev S2x2048x12288 : Shape := ⟨3, ![2, 2048, 12288]⟩
abbrev S2x12288 : Shape := ⟨2, ![2, 12288]⟩
abbrev S1x2048 : Shape := ⟨2, ![1, 2048]⟩
abbrev S_ : Shape := ⟨0, ![]⟩
abbrev S3x2048 : Shape := ⟨2, ![3, 2048]⟩
abbrev S8x2048 : Shape := ⟨2, ![8, 2048]⟩
abbrev S2x1x12288 : Shape := ⟨3, ![2, 1, 12288]⟩
abbrev S2x8x12288 : Shape := ⟨3, ![2, 8, 12288]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩

abbrev nBuf : Space → Nat
  | .hbm => 10
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S2x2048x12288, .f32⟩
  | .hbm, ⟨3, _⟩ => ⟨S2x12288, .f32⟩
  | .hbm, ⟨4, _⟩ => ⟨S1x2048, .f32⟩
  | .hbm, ⟨5, _⟩ => ⟨S_, .f32⟩
  | .hbm, ⟨6, _⟩ => ⟨S3x2048, .f32⟩
  | .hbm, ⟨7, _⟩ => ⟨S8x2048, .f32⟩
  | .hbm, ⟨8, _⟩ => ⟨S2x1x12288, .f32⟩
  | .hbm, ⟨9, _⟩ => ⟨S2x8x12288, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S4x2048 : Shape := ⟨2, ![4, 2048]⟩
abbrev S2048 : Shape := ⟨1, ![2048]⟩
abbrev S2x2048x12288 : Shape := ⟨3, ![2, 2048, 12288]⟩
abbrev S2x12288 : Shape := ⟨2, ![2, 12288]⟩
abbrev S_ : Shape := ⟨0, ![]⟩
abbrev S2x12288x4 : Shape := ⟨3, ![2, 12288, 4]⟩
abbrev S2x4x12288 : Shape := ⟨3, ![2, 4, 12288]⟩
abbrev S2x1x12288 : Shape := ⟨3, ![2, 1, 12288]⟩
abbrev S2x3x12288 : Shape := ⟨3, ![2, 3, 12288]⟩
abbrev S2x8x12288 : Shape := ⟨3, ![2, 8, 12288]⟩

abbrev nBuf : Space → Nat
  | .hbm => 33
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S2x2048x12288, .f32⟩
  | .hbm, ⟨3, _⟩ => ⟨S2x12288, .f32⟩
  | .hbm, ⟨4, _⟩ => ⟨S4x2048, .f32⟩
  | .hbm, ⟨5, _⟩ => ⟨S4x2048, .f32⟩
  | .hbm, ⟨6, _⟩ => ⟨S_, .f32⟩
  | .hbm, ⟨7, _⟩ => ⟨S4x2048, .f32⟩
  | .hbm, ⟨8, _⟩ => ⟨S4x2048, .f32⟩
  | .hbm, ⟨9, _⟩ => ⟨S_, .f32⟩
  | .hbm, ⟨10, _⟩ => ⟨S4x2048, .f32⟩
  | .hbm, ⟨11, _⟩ => ⟨S4x2048, .f32⟩
  | .hbm, ⟨12, _⟩ => ⟨S4x2048, .f32⟩
  | .hbm, ⟨13, _⟩ => ⟨S2x12288x4, .f32⟩
  | .hbm, ⟨14, _⟩ => ⟨S2x4x12288, .f32⟩
  | .hbm, ⟨15, _⟩ => ⟨S2x1x12288, .f32⟩
  | .hbm, ⟨16, _⟩ => ⟨S2x4x12288, .f32⟩
  | .hbm, ⟨17, _⟩ => ⟨S2x4x12288, .f32⟩
  | .hbm, ⟨18, _⟩ => ⟨S2048, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S_, .f32⟩
  | .hbm, ⟨24, _⟩ => ⟨S2048, .f32⟩
  | .hbm, ⟨25, _⟩ => ⟨S2048, .f32⟩
  | .hbm, ⟨26, _⟩ => ⟨S2048, .f32⟩
  | .hbm, ⟨27, _⟩ => ⟨S2x12288, .f32⟩
  | .hbm, ⟨28, _⟩ => ⟨S2x12288, .f32⟩
  | .hbm, ⟨29, _⟩ => ⟨S2x1x12288, .f32⟩
  | .hbm, ⟨30, _⟩ => ⟨S2x3x12288, .f32⟩
  | .hbm, ⟨31, _⟩ => ⟨S2x1x12288, .f32⟩
  | .hbm, ⟨32, _⟩ => ⟨S2x8x12288, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call1_v0 : Ref sig .tc := ⟨.hbm, 18, rfl⟩
abbrev main_call1_v1 : Ref sig .tc := ⟨.hbm, 19, rfl⟩
abbrev main_call1_cst : Ref sig .tc := ⟨.hbm, 20, rfl⟩
abbrev main_call1_v2 : Ref sig .tc := ⟨.hbm, 21, rfl⟩
abbrev main_call1_v3 : Ref sig .tc := ⟨.hbm, 22, rfl⟩
abbrev main_call1_cst_0 : Ref sig .tc := ⟨.hbm, 23, rfl⟩
abbrev main_call1_v4 : Ref sig .tc := ⟨.hbm, 24, rfl⟩
abbrev main_call1_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩

abbrev nD : Nat := 1
abbrev τ : Topo := Topo.v7x

variable {F : FTy → Type} [FloatOps F]
-- ==== Kernel5.lean ====
abbrev S4x4096x6400 : Shape := ⟨3, ![4, 4096, 6400]⟩
abbrev S3x3x4608 : Shape := ⟨3, ![3, 3, 4608]⟩
abbrev S4608 : Shape := ⟨1, ![4608]⟩
abbrev S1x4608 : Shape := ⟨2, ![1, 4608]⟩
abbrev S4x4096x3072 : Shape := ⟨3, ![4, 4096, 3072]⟩
abbrev S1x4096x512 : Shape := ⟨3, ![1, 4096, 512]⟩
abbrev S3x3x512 : Shape := ⟨3, ![3, 3, 512]⟩
abbrev S1x512 : Shape := ⟨2, ![1, 512]⟩
abbrev S64x512 : Shape := ⟨2, ![64, 512]⟩
abbrev S1x64x512 : Shape := ⟨3, ![1, 64, 512]⟩
abbrev S1x3x512 : Shape := ⟨3, ![1, 3, 512]⟩
abbrev S3x512 : Shape := ⟨2, ![3, 512]⟩
abbrev S1x1x512 : Shape := ⟨3, ![1, 1, 512]⟩

abbrev nBuf : Space → Nat
  | .hbm => 5
  | .vmem => 8
  | .smem => 0
  | _ => 0

abbrev bufTy : (tb : Table) → Fin (tcTables nBuf tb) → BufTy
  | .hbm, ⟨0, _⟩ => ⟨S4x4096x6400, .bf16⟩
  | .hbm, ⟨1, _⟩ => ⟨S3x3x4608, .f32⟩
  | .hbm, ⟨2, _⟩ => ⟨S4608, .f32⟩
  | .hbm, ⟨3, _⟩ => ⟨S1x4608, .f32⟩
  | .hbm, ⟨4, _⟩ => ⟨S4x4096x3072, .f32⟩
  | .local _ .vmem, ⟨0, _⟩ => ⟨S1x4096x512, .bf16⟩
  | .local _ .vmem, ⟨1, _⟩ => ⟨S1x4096x512, .bf16⟩
  | .local _ .vmem, ⟨2, _⟩ => ⟨S3x3x512, .f32⟩
  | .local _ .vmem, ⟨3, _⟩ => ⟨S3x3x512, .f32⟩
  | .local _ .vmem, ⟨4, _⟩ => ⟨S1x512, .f32⟩
  | .local _ .vmem, ⟨5, _⟩ => ⟨S1x512, .f32⟩
  | .local _ .vmem, ⟨6, _⟩ => ⟨S1x4096x512, .f32⟩
  | .local _ .vmem, ⟨7, _⟩ => ⟨S1x4096x512, .f32⟩
  | _, _ => ⟨S4x4096x6400, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 6], ![false, false]⟩

@[reducible] def k0_t1_loop : Scf.Loop 32 :=
  let c0_i32_7 : BitVec 32 := 0#32
  let c64_i32 : BitVec 32 := 64#32
  let v11 : BitVec 32 := Scalar.addi c0_i32_7 c64_i32
  let c1_i32 : BitVec 32 := 1#32
  ⟨c0_i32_7, v11, c1_i32⟩
def k0_mult1 (k0_t1 : Fin k0_t1_loop.trips) : BitVec 32 :=
  let c0_i32_7 : BitVec 32 := 0#32
  let c1_i32 : BitVec 32 := 1#32
  let arg6 : BitVec 32 := Scf.iv c0_i32_7 c1_i32 k0_t1
  let c64_i32_9 : BitVec 32 := 64#32
  let v13 : BitVec 32 := Scalar.muli arg6 c64_i32_9
  v13
def k0_mult2 (k0_t1 : Fin k0_t1_loop.trips) : BitVec 32 :=
  let c0_i32_7 : BitVec 32 := 0#32
  let c1_i32 : BitVec 32 := 1#32
  let arg6 : BitVec 32 := Scf.iv c0_i32_7 c1_i32 k0_t1
  let c1_i32_10 : BitVec 32 := 1#32
  let v15 : BitVec 32 := Scalar.addi arg6 c1_i32_10
  let c63_i32_11 : BitVec 32 := 63#32
  let v16 : BitVec 32 := Scalar.minsi v15 c63_i32_11
  let c64_i32_12 : BitVec 32 := 64#32
  let v17 : BitVec 32 := Scalar.muli v16 c64_i32_12
  v17
def k0_off1 (k0_t1 : Fin k0_t1_loop.trips) : Fin 3 → Nat :=
  let c0_13 : Index := 0#32
  let c0_i32_7 : BitVec 32 := 0#32
  let c1_i32 : BitVec 32 := 1#32
  let arg6 : BitVec 32 := Scf.iv c0_i32_7 c1_i32 k0_t1
  let c1_i32_10 : BitVec 32 := 1#32
  let v15 : BitVec 32 := Scalar.addi arg6 c1_i32_10
  let c63_i32_11 : BitVec 32 := 63#32
  let v16 : BitVec 32 := Scalar.minsi v15 c63_i32_11
  let c64_i32_12 : BitVec 32 := 64#32
  let v17 : BitVec 32 := Scalar.muli v16 c64_i32_12
  let v18 : BitVec 32 := v17
  let v19 : Index := Scalar.indexCast v18
  let c0_14 : Index := 0#32
  ![0, v19.toNat, 0]
def k0_off2 (k0_t1 : Fin k0_t1_loop.trips) : Fin 3 → Nat :=
  let c0_24 : Index := 0#32
  let c0_i32_7 : BitVec 32 := 0#32
  let c1_i32 : BitVec 32 := 1#32
  let arg6 : BitVec 32 := Scf.iv c0_i32_7 c1_i32 k0_t1
  let c64_i32_9 : BitVec 32 := 64#32
  let v13 : BitVec 32 := Scalar.muli arg6 c64_i32_9
  let v14 : BitVec 32 := v13
  let v81 : Index := Scalar.indexCast v14
  let c0_25 : Index := 0#32
  ![0, v81.toNat, 0]
def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.divsi arg1 c6_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg1 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.muli v16 c4_i32
  let v18 : BitVec 32 := Scalar.addi v17 arg0
  let c6_i32_4 : BitVec 32 := 6#32
  let c0_i32_5 : BitVec 32 := 0#32
  let v19 : BitVec 1 := Scalar.cmpi .eq c6_i32_4 c0_i32_5
  let c1_i32_6 : BitVec 32 := 1#32
  let v20 : BitVec 32 := Scalar.select v19 c1_i32_6 c6_i32_4
  let v21 : BitVec 32 := Scalar.remsi arg1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let c0_i32_11 : BitVec 32 := 0#32
  ![v18.toNat, c0_i32_10.toNat, v28.toNat]

abbrev stage0_0 : Fin 2 → Memref sig .tc .vmem S1x4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x4096x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S4x4096x6400 : Shape := ⟨3, ![4, 4096, 6400]⟩
abbrev S3x3x4608 : Shape := ⟨3, ![3, 3, 4608]⟩
abbrev S4608 : Shape := ⟨1, ![4608]⟩
abbrev S4x4096x3072 : Shape := ⟨3, ![4, 4096, 3072]⟩
abbrev S4x64x64x3072 : Shape := ⟨4, ![4, 64, 64, 3072]⟩
abbrev S3x3x3072 : Shape := ⟨3, ![3, 3, 3072]⟩
abbrev S_ : Shape := ⟨0, ![]⟩
abbrev S4x66x66x3072 : Shape := ⟨4, ![4, 66, 66, 3072]⟩
abbrev S1x1x3072 : Shape := ⟨3, ![1, 1, 3072]⟩
abbrev S3072 : Shape := ⟨1, ![3072]⟩
abbrev S1x1x1x3072 : Shape := ⟨4, ![1, 1, 1, 3072]⟩

abbrev nBuf : Space → Nat
  | .hbm => 80
  | .vmem => 0
  | .smem => 0
  | _ => 0

abbrev bufTy : (tb : Table) → Fin (tcTables nBuf tb) → BufTy
  | .hbm, ⟨0, _⟩ => ⟨S4x4096x6400, .bf16⟩
  | .hbm, ⟨1, _⟩ => ⟨S3x3x4608, .f32⟩
  | .hbm, ⟨2, _⟩ => ⟨S4608, .f32⟩
  | .hbm, ⟨3, _⟩ => ⟨S4x4096x3072, .bf16⟩
  | .hbm, ⟨4, _⟩ => ⟨S4x4096x3072, .f32⟩
  | .hbm, ⟨5, _⟩ => ⟨S4x64x64x3072, .f32⟩
  | .hbm, ⟨6, _⟩ => ⟨S3x3x3072, .f32⟩
  | .hbm, ⟨7, _⟩ => ⟨S_, .i32⟩
  | .hbm, ⟨8, _⟩ => ⟨S_, .f32⟩
  | .hbm, ⟨9, _⟩ => ⟨S4x66x66x3072, .f32⟩
  | .hbm, ⟨10, _⟩ => ⟨S_, .f32⟩
  | .hbm, ⟨11, _⟩ => ⟨S4x64x64x3072, .f32⟩
  | .hbm, ⟨12, _⟩ => ⟨S4x64x64x3072, .f32⟩
  | .hbm, ⟨13, _⟩ => ⟨S1x1x3072, .f32⟩
  | .hbm, ⟨14, _⟩ => ⟨S3072, .f32⟩
  | .hbm, ⟨15, _⟩ => ⟨S1x1x1x3072, .f32⟩
  | .hbm, ⟨16, _⟩ => ⟨S4x64x64x3072, .f32⟩
  | .hbm, ⟨17, _⟩ => ⟨S4x64x64x3072, .f32⟩
  | .hbm, ⟨18, _⟩ => ⟨S4x64x64x3072, .f32⟩
  | .hbm, ⟨19, _⟩ => ⟨S4x64x64x3072, .f32⟩
  | .hbm, ⟨20, _⟩ => ⟨S1x1x3072, .f32⟩
  | .hbm, ⟨21, _⟩ => ⟨S3072, .f32⟩
  | .hbm, ⟨22, _⟩ => ⟨S1x1x1x3072, .f32⟩
  | .hbm, ⟨23, _⟩ => ⟨S4x64x64x3072, .f32⟩
  | .hbm, ⟨24, _⟩ => ⟨S4x64x64x3072, .f32⟩
  | .hbm, ⟨25, _⟩ => ⟨S4x64x64x3072, .f32⟩
  | .hbm, ⟨26, _⟩ => ⟨S4x64x64x3072, .f32⟩
  | .hbm, ⟨27, _⟩ => ⟨S1x1x3072, .f32⟩
  | .hbm, ⟨28, _⟩ => ⟨S3072, .f32⟩
  | .hbm, ⟨29, _⟩ => ⟨S1x1x1x3072, .f32⟩
  | .hbm, ⟨30, _⟩ => ⟨S4x64x64x3072, .f32⟩
  | .hbm, ⟨31, _⟩ => ⟨S4x64x64x3072, .f32⟩
  | .hbm, ⟨32, _⟩ => ⟨S4x64x64x3072, .f32⟩
  | .hbm, ⟨33, _⟩ => ⟨S4x64x64x3072, .f32⟩
  | .hbm, ⟨34, _⟩ => ⟨S1x1x3072, .f32⟩
  | .hbm, ⟨35, _⟩ => ⟨S3072, .f32⟩
  | .hbm, ⟨36, _⟩ => ⟨S1x1x1x3072, .f32⟩
  | .hbm, ⟨37, _⟩ => ⟨S4x64x64x3072, .f32⟩
  | .hbm, ⟨38, _⟩ => ⟨S4x64x64x3072, .f32⟩
  | .hbm, ⟨39, _⟩ => ⟨S4x64x64x3072, .f32⟩
  | .hbm, ⟨40, _⟩ => ⟨S4x64x64x3072, .f32⟩
  | .hbm, ⟨41, _⟩ => ⟨S1x1x3072, .f32⟩
  | .hbm, ⟨42, _⟩ => ⟨S3072, .f32⟩
  | .hbm, ⟨43, _⟩ => ⟨S1x1x1x3072, .f32⟩
  | .hbm, ⟨44, _⟩ => ⟨S4x64x64x3072, .f32⟩
  | .hbm, ⟨45, _⟩ => ⟨S4x64x64x3072, .f32⟩
  | .hbm, ⟨46, _⟩ => ⟨S4x64x64x3072, .f32⟩
  | .hbm, ⟨47, _⟩ => ⟨S4x64x64x3072, .f32⟩
  | .hbm, ⟨48, _⟩ => ⟨S1x1x3072, .f32⟩
  | .hbm, ⟨49, _⟩ => ⟨S3072, .f32⟩
  | .hbm, ⟨50, _⟩ => ⟨S1x1x1x3072, .f32⟩
  | .hbm, ⟨51, _⟩ => ⟨S4x64x64x3072, .f32⟩
  | .hbm, ⟨52, _⟩ => ⟨S4x64x64x3072, .f32⟩
  | .hbm, ⟨53, _⟩ => ⟨S4x64x64x3072, .f32⟩
  | .hbm, ⟨54, _⟩ => ⟨S4x64x64x3072, .f32⟩
  | .hbm, ⟨55, _⟩ => ⟨S1x1x3072, .f32⟩
  | .hbm, ⟨56, _⟩ => ⟨S3072, .f32⟩
  | .hbm, ⟨57, _⟩ => ⟨S1x1x1x3072, .f32⟩
  | .hbm, ⟨58, _⟩ => ⟨S4x64x64x3072, .f32⟩
  | .hbm, ⟨59, _⟩ => ⟨S4x64x64x3072, .f32⟩
  | .hbm, ⟨60, _⟩ => ⟨S4x64x64x3072, .f32⟩
  | .hbm, ⟨61, _⟩ => ⟨S4x64x64x3072, .f32⟩
  | .hbm, ⟨62, _⟩ => ⟨S1x1x3072, .f32⟩
  | .hbm, ⟨63, _⟩ => ⟨S3072, .f32⟩
  | .hbm, ⟨64, _⟩ => ⟨S1x1x1x3072, .f32⟩
  | .hbm, ⟨65, _⟩ => ⟨S4x64x64x3072, .f32⟩
  | .hbm, ⟨66, _⟩ => ⟨S4x64x64x3072, .f32⟩
  | .hbm, ⟨67, _⟩ => ⟨S4x64x64x3072, .f32⟩
  | .hbm, ⟨68, _⟩ => ⟨S4x64x64x3072, .f32⟩
  | .hbm, ⟨69, _⟩ => ⟨S1x1x3072, .f32⟩
  | .hbm, ⟨70, _⟩ => ⟨S3072, .f32⟩
  | .hbm, ⟨71, _⟩ => ⟨S1x1x1x3072, .f32⟩
  | .hbm, ⟨72, _⟩ => ⟨S4x64x64x3072, .f32⟩
  | .hbm, ⟨73, _⟩ => ⟨S4x64x64x3072, .f32⟩
  | .hbm, ⟨74, _⟩ => ⟨S4x64x64x3072, .f32⟩
  | .hbm, ⟨75, _⟩ => ⟨S4x4096x3072, .f32⟩
  | .hbm, ⟨76, _⟩ => ⟨S3072, .f32⟩
  | .hbm, ⟨77, _⟩ => ⟨S1x1x3072, .f32⟩
  | .hbm, ⟨78, _⟩ => ⟨S4x4096x3072, .f32⟩
  | .hbm, ⟨79, _⟩ => ⟨S4x4096x3072, .f32⟩
  | _, _ => ⟨S4x4096x6400, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩

abbrev nD : Nat := 1
abbrev τ : Topo := Topo.v7x

variable {F : FTy → Type} [FloatOps F]
-- ==== Kernel6.lean ====
abbrev S33x64 : Shape := ⟨2, ![33, 64]⟩
abbrev S64 : Shape := ⟨1, ![64]⟩
abbrev S64x64 : Shape := ⟨2, ![64, 64]⟩
abbrev S64x2048 : Shape := ⟨2, ![64, 2048]⟩
abbrev S_ : Shape := ⟨0, ![]⟩
abbrev S4095 : Shape := ⟨1, ![4095]⟩
abbrev S1 : Shape := ⟨1, ![1]⟩
abbrev S4096 : Shape := ⟨1, ![4096]⟩
abbrev S4096x1 : Shape := ⟨2, ![4096, 1]⟩
abbrev S15 : Shape := ⟨1, ![15]⟩
abbrev S16 : Shape := ⟨1, ![16]⟩
abbrev S1x16 : Shape := ⟨2, ![1, 16]⟩
abbrev S4096x16 : Shape := ⟨2, ![4096, 16]⟩
abbrev S4096x33 : Shape := ⟨2, ![4096, 33]⟩
abbrev S511 : Shape := ⟨1, ![511]⟩
abbrev S512 : Shape := ⟨1, ![512]⟩
abbrev S1x512 : Shape := ⟨2, ![1, 512]⟩
abbrev S1x64 : Shape := ⟨2, ![1, 64]⟩
abbrev S4x4096x512 : Shape := ⟨3, ![4, 4096, 512]⟩
abbrev S1x1024 : Shape := ⟨2, ![1, 1024]⟩
abbrev S512x33 : Shape := ⟨2, ![512, 33]⟩
abbrev S4x512x512 : Shape := ⟨3, ![4, 512, 512]⟩
abbrev S512x64 : Shape := ⟨2, ![512, 64]⟩
abbrev S512x2048 : Shape := ⟨2, ![512, 2048]⟩
abbrev S512x1 : Shape := ⟨2, ![512, 1]⟩
abbrev S512x512 : Shape := ⟨2, ![512, 512]⟩
abbrev S512x1024 : Shape := ⟨2, ![512, 1024]⟩
abbrev S1x512x512 : Shape := ⟨3, ![1, 512, 512]⟩
abbrev S1024 : Shape := ⟨1, ![1024]⟩

abbrev nBuf : Space → Nat
  | .hbm => 102
  | .vmem => 14
  | .smem => 0
  | _ => 0

abbrev bufTy : (tb : Table) → Fin (tcTables nBuf tb) → BufTy
  | .hbm, ⟨0, _⟩ => ⟨S33x64, .f32⟩
  | .hbm, ⟨1, _⟩ => ⟨S64, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x2048, .f32⟩
  | .hbm, ⟨7, _⟩ => ⟨S64, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S4095, .f32⟩
  | .hbm, ⟨16, _⟩ => ⟨S_, .f32⟩
  | .hbm, ⟨17, _⟩ => ⟨S4095, .f32⟩
  | .hbm, ⟨18, _⟩ => ⟨S4095, .f32⟩
  | .hbm, ⟨19, _⟩ => ⟨S1, .f32⟩
  | .hbm, ⟨20, _⟩ => ⟨S_, .f32⟩
  | .hbm, ⟨21, _⟩ => ⟨S4095, .f32⟩
  | .hbm, ⟨22, _⟩ => ⟨S4095, .f32⟩
  | .hbm, ⟨23, _⟩ => ⟨S4095, .f32⟩
  | .hbm, ⟨24, _⟩ => ⟨S4095, .f32⟩
  | .hbm, ⟨25, _⟩ => ⟨S1, .f32⟩
  | .hbm, ⟨26, _⟩ => ⟨S4095, .f32⟩
  | .hbm, ⟨27, _⟩ => ⟨S4095, .f32⟩
  | .hbm, ⟨28, _⟩ => ⟨S4095, .f32⟩
  | .hbm, ⟨29, _⟩ => ⟨S1, .f32⟩
  | .hbm, ⟨30, _⟩ => ⟨S4096, .f32⟩
  | .hbm, ⟨31, _⟩ => ⟨S4096x1, .f32⟩
  | .hbm, ⟨32, _⟩ => ⟨S4096, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S_, .i32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S15, .f32⟩
  | .hbm, ⟨45, _⟩ => ⟨S_, .f32⟩
  | .hbm, ⟨46, _⟩ => ⟨S15, .f32⟩
  | .hbm, ⟨47, _⟩ => ⟨S15, .f32⟩
  | .hbm, ⟨48, _⟩ => ⟨S1, .f32⟩
  | .hbm, ⟨49, _⟩ => ⟨S_, .f32⟩
  | .hbm, ⟨50, _⟩ => ⟨S15, .f32⟩
  | .hbm, ⟨51, _⟩ => ⟨S15, .f32⟩
  | .hbm, ⟨52, _⟩ => ⟨S15, .f32⟩
  | .hbm, ⟨53, _⟩ => ⟨S15, .f32⟩
  | .hbm, ⟨54, _⟩ => ⟨S1, .f32⟩
  | .hbm, ⟨55, _⟩ => ⟨S15, .f32⟩
  | .hbm, ⟨56, _⟩ => ⟨S15, .f32⟩
  | .hbm, ⟨57, _⟩ => ⟨S15, .f32⟩
  | .hbm, ⟨58, _⟩ => ⟨S1, .f32⟩
  | .hbm, ⟨59, _⟩ => ⟨S16, .f32⟩
  | .hbm, ⟨60, _⟩ => ⟨S1x16, .f32⟩
  | .hbm, ⟨61, _⟩ => ⟨S4096x16, .f32⟩
  | .hbm, ⟨62, _⟩ => ⟨S4096x16, .f32⟩
  | .hbm, ⟨63, _⟩ => ⟨S4096x16, .f32⟩
  | .hbm, ⟨64, _⟩ => ⟨S4096x16, .f32⟩
  | .hbm, ⟨65, _⟩ => ⟨S1x16, .f32⟩
  | .hbm, ⟨66, _⟩ => ⟨S4096x16, .f32⟩
  | .hbm, ⟨67, _⟩ => ⟨S4096x16, .f32⟩
  | .hbm, ⟨68, _⟩ => ⟨S4096x16, .f32⟩
  | .hbm, ⟨69, _⟩ => ⟨S4096x16, .f32⟩
  | .hbm, ⟨70, _⟩ => ⟨S4096x16, .f32⟩
  | .hbm, ⟨71, _⟩ => ⟨S4096x33, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S511, .f32⟩
  | .hbm, ⟨80, _⟩ => ⟨S_, .f32⟩
  | .hbm, ⟨81, _⟩ => ⟨S511, .f32⟩
  | .hbm, ⟨82, _⟩ => ⟨S511, .f32⟩
  | .hbm, ⟨83, _⟩ => ⟨S1, .f32⟩
  | .hbm, ⟨84, _⟩ => ⟨S_, .f32⟩
  | .hbm, ⟨85, _⟩ => ⟨S511, .f32⟩
  | .hbm, ⟨86, _⟩ => ⟨S511, .f32⟩
  | .hbm, ⟨87, _⟩ => ⟨S511, .f32⟩
  | .hbm, ⟨88, _⟩ => ⟨S511, .f32⟩
  | .hbm, ⟨89, _⟩ => ⟨S1, .f32⟩
  | .hbm, ⟨90, _⟩ => ⟨S511, .f32⟩
  | .hbm, ⟨91, _⟩ => ⟨S511, .f32⟩
  | .hbm, ⟨92, _⟩ => ⟨S511, .f32⟩
  | .hbm, ⟨93, _⟩ => ⟨S1, .f32⟩
  | .hbm, ⟨94, _⟩ => ⟨S512, .f32⟩
  | .hbm, ⟨95, _⟩ => ⟨S1x512, .f32⟩
  | .hbm, ⟨96, _⟩ => ⟨S1x64, .f32⟩
  | .hbm, ⟨97, _⟩ => ⟨S1x64, .f32⟩
  | .hbm, ⟨98, _⟩ => ⟨S1x64, .f32⟩
  | .hbm, ⟨99, _⟩ => ⟨S1x64, .f32⟩
  | .hbm, ⟨100, _⟩ => ⟨S4x4096x512, .bf16⟩
  | .hbm, ⟨101, _⟩ => ⟨S1x1024, .f32⟩
  | .local _ .vmem, ⟨0, _⟩ => ⟨S512x33, .f32⟩
  | .local _ .vmem, ⟨1, _⟩ => ⟨S512x33, .f32⟩
  | .local _ .vmem, ⟨2, _⟩ => ⟨S33x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S64x2048, .f32⟩
  | .local _ .vmem, ⟨9, _⟩ => ⟨S1x64, .f32⟩
  | .local _ .vmem, ⟨10, _⟩ => ⟨S1x512, .f32⟩
  | .local _ .vmem, ⟨11, _⟩ => ⟨S4x512x512, .bf16⟩
  | .local _ .vmem, ⟨12, _⟩ => ⟨S4x512x512, .bf16⟩
  | .local _ .vmem, ⟨13, _⟩ => ⟨S1x1024, .f32⟩
  | _, _ => ⟨S33x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_cst : Ref sig .tc := ⟨.hbm, 13, rfl⟩
abbrev main_call0_v3 : Ref sig .tc := ⟨.hbm, 14, rfl⟩
abbrev main_call0_v4 : Ref sig .tc := ⟨.hbm, 15, rfl⟩
abbrev main_call0_cst_0 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_v15 : Ref sig .tc := ⟨.hbm, 28, rfl⟩
abbrev main_call0_v16 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_cst_1 : Ref sig .tc := ⟨.hbm, 34, rfl⟩
abbrev main_v4 : Ref sig .tc := ⟨.hbm, 35, rfl⟩
abbrev main_v5 : Ref sig .tc := ⟨.hbm, 36, rfl⟩
abbrev main_cst_2 : Ref sig .tc := ⟨.hbm, 37, rfl⟩
abbrev main_c : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_cst : Ref sig .tc := ⟨.hbm, 42, rfl⟩
abbrev main_call1_v3 : Ref sig .tc := ⟨.hbm, 43, rfl⟩
abbrev main_call1_v4 : Ref sig .tc := ⟨.hbm, 44, rfl⟩
abbrev main_call1_cst_0 : Ref sig .tc := ⟨.hbm, 45, rfl⟩
abbrev main_call1_v5 : Ref sig .tc := ⟨.hbm, 46, rfl⟩
abbrev main_call1_v6 : Ref sig .tc := ⟨.hbm, 47, rfl⟩
abbrev main_call1_v7 : Ref sig .tc := ⟨.hbm, 48, rfl⟩
abbrev main_call1_cst_1 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_v15 : Ref sig .tc := ⟨.hbm, 57, rfl⟩
abbrev main_call1_v16 : Ref sig .tc := ⟨.hbm, 58, rfl⟩
abbrev main_v6 : Ref sig .tc := ⟨.hbm, 59, rfl⟩
abbrev main_v7 : Ref sig .tc := ⟨.hbm, 60, rfl⟩
abbrev main_v8 : Ref sig .tc := ⟨.hbm, 61, rfl⟩
abbrev main_v9 : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_cst_3 : Ref sig .tc := ⟨.hbm, 72, rfl⟩
abbrev main_cst_4 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_call2_cst : Ref sig .tc := ⟨.hbm, 77, rfl⟩
abbrev main_call2_v3 : Ref sig .tc := ⟨.hbm, 78, rfl⟩
abbrev main_call2_v4 : Ref sig .tc := ⟨.hbm, 79, rfl⟩
abbrev main_call2_cst_0 : Ref sig .tc := ⟨.hbm, 80, rfl⟩
abbrev main_call2_v5 : Ref sig .tc := ⟨.hbm, 81, rfl⟩
abbrev main_call2_v6 : Ref sig .tc := ⟨.hbm, 82, rfl⟩
abbrev main_call2_v7 : Ref sig .tc := ⟨.hbm, 83, rfl⟩
abbrev main_call2_cst_1 : Ref sig .tc := ⟨.hbm, 84, rfl⟩
abbrev main_call2_v8 : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_call2_v12 : Ref sig .tc := ⟨.hbm, 89, rfl⟩
abbrev main_call2_v13 : Ref sig .tc := ⟨.hbm, 90, rfl⟩
abbrev main_call2_v14 : Ref sig .tc := ⟨.hbm, 91, rfl⟩
abbrev main_call2_v15 : Ref sig .tc := ⟨.hbm, 92, rfl⟩
abbrev main_call2_v16 : Ref sig .tc := ⟨.hbm, 93, rfl⟩
abbrev main_v19 : Ref sig .tc := ⟨.hbm, 94, rfl⟩
abbrev main_v20 : Ref sig .tc := ⟨.hbm, 95, rfl⟩
abbrev main_v21 : Ref sig .tc := ⟨.hbm, 96, rfl⟩
abbrev main_v22 : Ref sig .tc := ⟨.hbm, 97, rfl⟩
abbrev main_v23 : Ref sig .tc := ⟨.hbm, 98, rfl⟩
abbrev main_v24 : Ref sig .tc := ⟨.hbm, 99, rfl⟩
abbrev main_v25_0 : Ref sig .tc := ⟨.hbm, 100, rfl⟩
abbrev main_v25_1 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_34 : BitVec 32 := 0#32
  let v83 : BitVec 1 := Scalar.cmpi .eq arg0 c0_i32_34
  let v84 : BitVec 32 := Scalar.extui v83
  let c0_i32_35 : BitVec 32 := 0#32
  let v85 : BitVec 1 := Scalar.cmpi .ne v84 c0_i32_35
  v85

def k0_cond2 (i : grid0.Coords) : BitVec 1 :=
  let arg0 : BitVec 32 := BitVec.ofNat 32 (i 0).val
  let c0_i32_36 : BitVec 32 := 0#32
  let v86 : BitVec 1 := Scalar.cmpi .sgt arg0 c0_i32_36
  let v87 : BitVec 32 := Scalar.extui v86
  let c0_i32_37 : BitVec 32 := 0#32
  let v88 : BitVec 1 := Scalar.cmpi .ne v87 c0_i32_37
  v88

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x33 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S33x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S4x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference6Ideal.lean ====
abbrev S33x64 : Shape := ⟨2, ![33, 64]⟩
abbrev S64 : Shape := ⟨1, ![64]⟩
abbrev S64x64 : Shape := ⟨2, ![64, 64]⟩
abbrev S64x2048 : Shape := ⟨2, ![64, 2048]⟩
abbrev S_ : Shape := ⟨0, ![]⟩
abbrev S4095 : Shape := ⟨1, ![4095]⟩
abbrev S1 : Shape := ⟨1, ![1]⟩
abbrev S4096 : Shape := ⟨1, ![4096]⟩
abbrev S4096x1 : Shape := ⟨2, ![4096, 1]⟩
abbrev S15 : Shape := ⟨1, ![15]⟩
abbrev S16 : Shape := ⟨1, ![16]⟩
abbrev S1x16 : Shape := ⟨2, ![1, 16]⟩
abbrev S4096x16 : Shape := ⟨2, ![4096, 16]⟩
abbrev S4096x33 : Shape := ⟨2, ![4096, 33]⟩
abbrev S4096x64 : Shape := ⟨2, ![4096, 64]⟩
abbrev S1x64 : Shape := ⟨2, ![1, 64]⟩
abbrev S4096x2048 : Shape := ⟨2, ![4096, 2048]⟩
abbrev S4096x2x2x512 : Shape := ⟨4, ![4096, 2, 2, 512]⟩
abbrev S511 : Shape := ⟨1, ![511]⟩
abbrev S512 : Shape := ⟨1, ![512]⟩
abbrev S1x512 : Shape := ⟨2, ![1, 512]⟩
abbrev S4096x512 : Shape := ⟨2, ![4096, 512]⟩
abbrev S4096x1x1x512 : Shape := ⟨4, ![4096, 1, 1, 512]⟩
abbrev S4096x1x2x512 : Shape := ⟨4, ![4096, 1, 2, 512]⟩
abbrev S4096x2x512 : Shape := ⟨3, ![4096, 2, 512]⟩
abbrev S1x2x512 : Shape := ⟨3, ![1, 2, 512]⟩
abbrev S4095x1x2x512 : Shape := ⟨4, ![4095, 1, 2, 512]⟩
abbrev S4095x2x512 : Shape := ⟨3, ![4095, 2, 512]⟩
abbrev S4096x4x512 : Shape := ⟨3, ![4096, 4, 512]⟩
abbrev S4x4096x512 : Shape := ⟨3, ![4, 4096, 512]⟩
abbrev S2x512 : Shape := ⟨2, ![2, 512]⟩
abbrev S1x1024 : Shape := ⟨2, ![1, 1024]⟩

abbrev nBuf : Space → Nat
  | .hbm => 149
  | .vmem => 0
  | .smem => 0
  | _ => 0

abbrev hbmTy0_0 (i : Nat) : BufTy := match i % 128 with
  | 0 => ⟨S33x64, .f32⟩
  | 1 => ⟨S64, .f32⟩
  | 2 => ⟨S64x64, .f32⟩
  | 3 => ⟨S64, .f32⟩
  | 4 => ⟨S64x64, .f32⟩
  | 5 => ⟨S64, .f32⟩
  | 6 => ⟨S64x2048, .f32⟩
  | 7 => ⟨S64, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S4095, .f32⟩
  | 16 => ⟨S_, .f32⟩
  | 17 => ⟨S4095, .f32⟩
  | 18 => ⟨S4095, .f32⟩
  | 19 => ⟨S1, .f32⟩
  | 20 => ⟨S_, .f32⟩
  | 21 => ⟨S4095, .f32⟩
  | 22 => ⟨S4095, .f32⟩
  | 23 => ⟨S4095, .f32⟩
  | 24 => ⟨S4095, .f32⟩
  | 25 => ⟨S1, .f32⟩
  | 26 => ⟨S4095, .f32⟩
  | 27 => ⟨S4095, .f32⟩
  | 28 => ⟨S4095, .f32⟩
  | 29 => ⟨S1, .f32⟩
  | 30 => ⟨S4096, .f32⟩
  | 31 => ⟨S4096x1, .f32⟩
  | 32 => ⟨S4096, .f32⟩
  | 33 => ⟨S4096x1, .f32⟩
  | 34 => ⟨S_, .f32⟩
  | 35 => ⟨S4096x1, .f32⟩
  | 36 => ⟨S4096x1, .f32⟩
  | 37 => ⟨S_, .f32⟩
  | 38 => ⟨S_, .i32⟩
  | 39 => ⟨S_, .f32⟩
  | 40 => ⟨S_, .f32⟩
  | 41 => ⟨S_, .f32⟩
  | 42 => ⟨S_, .f32⟩
  | 43 => ⟨S_, .f32⟩
  | 44 => ⟨S15, .f32⟩
  | 45 => ⟨S_, .f32⟩
  | 46 => ⟨S15, .f32⟩
  | 47 => ⟨S15, .f32⟩
  | 48 => ⟨S1, .f32⟩
  | 49 => ⟨S_, .f32⟩
  | 50 => ⟨S15, .f32⟩
  | 51 => ⟨S15, .f32⟩
  | 52 => ⟨S15, .f32⟩
  | 53 => ⟨S15, .f32⟩
  | 54 => ⟨S1, .f32⟩
  | 55 => ⟨S15, .f32⟩
  | 56 => ⟨S15, .f32⟩
  | 57 => ⟨S15, .f32⟩
  | 58 => ⟨S1, .f32⟩
  | 59 => ⟨S16, .f32⟩
  | 60 => ⟨S1x16, .f32⟩
  | 61 => ⟨S4096x16, .f32⟩
  | 62 => ⟨S4096x16, .f32⟩
  | 63 => ⟨S4096x16, .f32⟩
  | 64 => ⟨S4096x16, .f32⟩
  | 65 => ⟨S1x16, .f32⟩
  | 66 => ⟨S4096x16, .f32⟩
  | 67 => ⟨S4096x16, .f32⟩
  | 68 => ⟨S4096x16, .f32⟩
  | 69 => ⟨S4096x16, .f32⟩
  | 70 => ⟨S4096x16, .f32⟩
  | 71 => ⟨S4096x33, .f32⟩
  | 72 => ⟨S4096x64, .f32⟩
  | 73 => ⟨S1x64, .f32⟩
  | 74 => ⟨S4096x64, .f32⟩
  | 75 => ⟨S4096x64, .f32⟩
  | 76 => ⟨S1x64, .f32⟩
  | 77 => ⟨S4096x64, .f32⟩
  | 78 => ⟨S4096x64, .f32⟩
  | 79 => ⟨S4096x64, .f32⟩
  | 80 => ⟨S4096x64, .f32⟩
  | 81 => ⟨S1x64, .f32⟩
  | 82 => ⟨S4096x64, .f32⟩
  | 83 => ⟨S4096x64, .f32⟩
  | 84 => ⟨S1x64, .f32⟩
  | 85 => ⟨S4096x64, .f32⟩
  | 86 => ⟨S4096x64, .f32⟩
  | 87 => ⟨S4096x64, .f32⟩
  | 88 => ⟨S4096x64, .f32⟩
  | 89 => ⟨S1x64, .f32⟩
  | 90 => ⟨S4096x64, .f32⟩
  | 91 => ⟨S4096x64, .f32⟩
  | 92 => ⟨S1x64, .f32⟩
  | 93 => ⟨S4096x64, .f32⟩
  | 94 => ⟨S4096x64, .f32⟩
  | 95 => ⟨S4096x64, .f32⟩
  | 96 => ⟨S4096x2048, .f32⟩
  | 97 => ⟨S4096x2x2x512, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S511, .f32⟩
  | 106 => ⟨S_, .f32⟩
  | 107 => ⟨S511, .f32⟩
  | 108 => ⟨S511, .f32⟩
  | 109 => ⟨S1, .f32⟩
  | 110 => ⟨S_, .f32⟩
  | 111 => ⟨S511, .f32⟩
  | 112 => ⟨S511, .f32⟩
  | 113 => ⟨S511, .f32⟩
  | 114 => ⟨S511, .f32⟩
  | 115 => ⟨S1, .f32⟩
  | 116 => ⟨S511, .f32⟩
  | 117 => ⟨S511, .f32⟩
  | 118 => ⟨S511, .f32⟩
  | 119 => ⟨S1, .f32⟩
  | 120 => ⟨S512, .f32⟩
  | 121 => ⟨S4096x1, .f32⟩
  | 122 => ⟨S512, .f32⟩
  | 123 => ⟨S1x512, .f32⟩
  | 124 => ⟨S4096x512, .f32⟩
  | 125 => ⟨S4096x512, .f32⟩
  | 126 => ⟨S4096x512, .f32⟩
  | 127 => ⟨S4096x512, .f32⟩
  | _ => ⟨S33x64, .f32⟩

abbrev hbmTy0_1 (i : Nat) : BufTy := match i % 128 with
  | 0 => ⟨S4096x1x1x512, .f32⟩
  | 1 => ⟨S4096x2x2x512, .f32⟩
  | 2 => ⟨S4096x2x2x512, .f32⟩
  | 3 => ⟨S4096x1x2x512, .f32⟩
  | 4 => ⟨S4096x2x512, .f32⟩
  | 5 => ⟨S_, .f32⟩
  | 6 => ⟨S1x2x512, .f32⟩
  | 7 => ⟨S4095x1x2x512, .f32⟩
  | 8 => ⟨S4095x2x512, .f32⟩
  | 9 => ⟨S4096x2x512, .f32⟩
  | 10 => ⟨S4096x2x512, .f32⟩
  | 11 => ⟨S4096x2x512, .f32⟩
  | 12 => ⟨S4096x4x512, .f32⟩
  | 13 => ⟨S4x4096x512, .f32⟩
  | 14 => ⟨S4x4096x512, .bf16⟩
  | 15 => ⟨S4096x2x512, .f32⟩
  | 16 => ⟨S4096x2x512, .f32⟩
  | 17 => ⟨S4096x2x512, .f32⟩
  | 18 => ⟨S_, .f32⟩
  | 19 => ⟨S2x512, .f32⟩
  | 20 => ⟨S1x1024, .f32⟩
  | _ => ⟨S33x64, .f32⟩

abbrev hbmTy (i : Nat) : BufTy := match i / 128 with
  | 0 => hbmTy0_0 i
  | 1 => hbmTy0_1 i
  | _ => ⟨S33x64, .f32⟩

abbrev bufTy : (tb : Table) → Fin (tcTables nBuf tb) → BufTy
  | .hbm, ⟨i, _⟩ => hbmTy i
  | _, _ => ⟨S33x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_cst : Ref sig .tc := ⟨.hbm, 13, rfl⟩
abbrev main_call0_v3 : Ref sig .tc := ⟨.hbm, 14, rfl⟩
abbrev main_call0_v4 : Ref sig .tc := ⟨.hbm, 15, rfl⟩
abbrev main_call0_cst_0 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_v15 : Ref sig .tc := ⟨.hbm, 28, rfl⟩
abbrev main_call0_v16 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_cst_1 : Ref sig .tc := ⟨.hbm, 34, rfl⟩
abbrev main_v4 : Ref sig .tc := ⟨.hbm, 35, rfl⟩
abbrev main_v5 : Ref sig .tc := ⟨.hbm, 36, rfl⟩
abbrev main_cst_2 : Ref sig .tc := ⟨.hbm, 37, rfl⟩
abbrev main_c : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_cst : Ref sig .tc := ⟨.hbm, 42, rfl⟩
abbrev main_call1_v3 : Ref sig .tc := ⟨.hbm, 43, rfl⟩
abbrev main_call1_v4 : Ref sig .tc := ⟨.hbm, 44, rfl⟩
abbrev main_call1_cst_0 : Ref sig .tc := ⟨.hbm, 45, rfl⟩
abbrev main_call1_v5 : Ref sig .tc := ⟨.hbm, 46, rfl⟩
abbrev main_call1_v6 : Ref sig .tc := ⟨.hbm, 47, rfl⟩
abbrev main_call1_v7 : Ref sig .tc := ⟨.hbm, 48, rfl⟩
abbrev main_call1_cst_1 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_v15 : Ref sig .tc := ⟨.hbm, 57, rfl⟩
abbrev main_call1_v16 : Ref sig .tc := ⟨.hbm, 58, rfl⟩
abbrev main_v6 : Ref sig .tc := ⟨.hbm, 59, rfl⟩
abbrev main_v7 : Ref sig .tc := ⟨.hbm, 60, rfl⟩
abbrev main_v8 : Ref sig .tc := ⟨.hbm, 61, rfl⟩
abbrev main_v9 : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_cst_3 : Ref sig .tc := ⟨.hbm, 98, rfl⟩
abbrev main_cst_4 : Ref sig .tc := ⟨.hbm, 99, rfl⟩
abbrev main_call2_v0 : Ref sig .tc := ⟨.hbm, 100, rfl⟩
abbrev main_call2_v1 : Ref sig .tc := ⟨.hbm, 101, rfl⟩
abbrev main_call2_v2 : Ref sig .tc := ⟨.hbm, 102, rfl⟩
abbrev main_call2_cst : Ref sig .tc := ⟨.hbm, 103, rfl⟩
abbrev main_call2_v3 : Ref sig .tc := ⟨.hbm, 104, rfl⟩
abbrev main_call2_v4 : Ref sig .tc := ⟨.hbm, 105, rfl⟩
abbrev main_call2_cst_0 : Ref sig .tc := ⟨.hbm, 106, rfl⟩
abbrev main_call2_v5 : Ref sig .tc := ⟨.hbm, 107, rfl⟩
abbrev main_call2_v6 : Ref sig .tc := ⟨.hbm, 108, rfl⟩
abbrev main_call2_v7 : Ref sig .tc := ⟨.hbm, 109, rfl⟩
abbrev main_call2_cst_1 : Ref sig .tc := ⟨.hbm, 110, rfl⟩
abbrev main_call2_v8 : Ref sig .tc := ⟨.hbm, 111, rfl⟩
abbrev main_call2_v9 : Ref sig .tc := ⟨.hbm, 112, rfl⟩
abbrev main_call2_v10 : Ref sig .tc := ⟨.hbm, 113, rfl⟩
abbrev main_call2_v11 : Ref sig .tc := ⟨.hbm, 114, rfl⟩
abbrev main_call2_v12 : Ref sig .tc := ⟨.hbm, 115, rfl⟩
abbrev main_call2_v13 : Ref sig .tc := ⟨.hbm, 116, rfl⟩
abbrev main_call2_v14 : Ref sig .tc := ⟨.hbm, 117, rfl⟩
abbrev main_call2_v15 : Ref sig .tc := ⟨.hbm, 118, rfl⟩
abbrev main_call2_v16 : Ref sig .tc := ⟨.hbm, 119, rfl⟩
abbrev main_v45 : Ref sig .tc := ⟨.hbm, 120, rfl⟩
abbrev main_v46 : Ref sig .tc := ⟨.hbm, 121, rfl⟩
abbrev main_v47 : Ref sig .tc := ⟨.hbm, 122, rfl⟩
abbrev main_v48 : Ref sig .tc := ⟨.hbm, 123, rfl⟩
abbrev main_v49 : Ref sig .tc := ⟨.hbm, 124, rfl⟩
abbrev main_v50 : Ref sig .tc := ⟨.hbm, 125, rfl⟩
abbrev main_v51 : Ref sig .tc := ⟨.hbm, 126, rfl⟩
abbrev main_v52 : Ref sig .tc := ⟨.hbm, 127, rfl⟩
abbrev main_v53 : Ref sig .tc := ⟨.hbm, 128, rfl⟩
abbrev main_v54 : Ref sig .tc := ⟨.hbm, 129, rfl⟩
abbrev main_v55 : Ref sig .tc := ⟨.hbm, 130, rfl⟩
abbrev main_v56 : Ref sig .tc := ⟨.hbm, 131, rfl⟩
abbrev main_v57 : Ref sig .tc := ⟨.hbm, 132, rfl⟩
abbrev main_cst_5 : Ref sig .tc := ⟨.hbm, 133, rfl⟩
abbrev main_v58 : Ref sig .tc := ⟨.hbm, 134, rfl⟩
abbrev main_v59 : Ref sig .tc := ⟨.hbm, 135, rfl⟩
abbrev main_v60 : Ref sig .tc := ⟨.hbm, 136, rfl⟩
abbrev main_v61 : Ref sig .tc := ⟨.hbm, 137, rfl⟩
abbrev main_v62 : Ref sig .tc := ⟨.hbm, 138, rfl⟩
abbrev main_v63 : Ref sig .tc := ⟨.hbm, 139, rfl⟩
abbrev main_v64 : Ref sig .tc := ⟨.hbm, 140, rfl⟩
abbrev main_v65 : Ref sig .tc := ⟨.hbm, 141, rfl⟩
abbrev main_v66 : Ref sig .tc := ⟨.hbm, 142, rfl⟩
abbrev main_v67 : Ref sig .tc := ⟨.hbm, 143, rfl⟩
abbrev main_v68 : Ref sig .tc := ⟨.hbm, 144, rfl⟩
abbrev main_v69 : Ref sig .tc := ⟨.hbm, 145, rfl⟩
abbrev main_cst_6 : Ref sig .tc := ⟨.hbm, 146, rfl⟩
abbrev main_v70 : Ref sig .tc := ⟨.hbm, 147, rfl⟩
abbrev main_v71 : Ref sig .tc := ⟨.hbm, 148, rfl⟩

abbrev nD : Nat := 1
abbrev τ : Topo := Topo.v7x

variable {F : FTy → Type} [FloatOps F]
-- ==== Kernel7.lean ====
abbrev S1024x2048 : Shape := ⟨2, ![1024, 2048]⟩
abbrev S2048 : Shape := ⟨1, ![2048]⟩
abbrev S1x1x2048 : Shape := ⟨3, ![1, 1, 2048]⟩
abbrev S2048x6400 : Shape := ⟨2, ![2048, 6400]⟩
abbrev S1x2048 : Shape := ⟨2, ![1, 2048]⟩
abbrev S1024x6400 : Shape := ⟨2, ![1024, 6400]⟩
abbrev S1024x128 : Shape := ⟨2, ![1024, 128]⟩
abbrev S2048x1280 : Shape := ⟨2, ![2048, 1280]⟩
abbrev S1024x1280 : Shape := ⟨2, ![1024, 1280]⟩
abbrev S1024 : Shape := ⟨1, ![1024]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S1x1x2048, .f32⟩
  | .hbm, ⟨3, _⟩ => ⟨S1x1x2048, .f32⟩
  | .hbm, ⟨4, _⟩ => ⟨S2048x6400, .bf16⟩
  | .hbm, ⟨5, _⟩ => ⟨S1x2048, .f32⟩
  | .hbm, ⟨6, _⟩ => ⟨S1024x6400, .bf16⟩
  | .hbm, ⟨7, _⟩ => ⟨S1024x128, .f32⟩
  | .local _ .vmem, ⟨0, _⟩ => ⟨S1024x2048, .f32⟩
  | .local _ .vmem, ⟨1, _⟩ => ⟨S1x2048, .f32⟩
  | .local _ .vmem, ⟨2, _⟩ => ⟨S1x1x2048, .f32⟩
  | .local _ .vmem, ⟨3, _⟩ => ⟨S1x1x2048, .f32⟩
  | .local _ .vmem, ⟨4, _⟩ => ⟨S2048x1280, .bf16⟩
  | .local _ .vmem, ⟨5, _⟩ => ⟨S2048x1280, .bf16⟩
  | .local _ .vmem, ⟨6, _⟩ => ⟨S1024x1280, .bf16⟩
  | .local _ .vmem, ⟨7, _⟩ => ⟨S1024x1280, .bf16⟩
  | .local _ .vmem, ⟨8, _⟩ => ⟨S1024x128, .f32⟩
  | .local _ .vmem, ⟨9, _⟩ => ⟨S1024x2048, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8

abbrev nD : Nat := 1
abbrev τ : Topo := Topo.v7x

variable {F : FTy → Type} [FloatOps F]

abbrev grid0 : Pipeline.Grid := ⟨2, ![1, 5], ![false, false]⟩

def k0_cond2 (i : grid0.Coords) : BitVec 1 :=
  let arg1 : BitVec 32 := BitVec.ofNat 32 (i 1).val
  let c4_i32 : BitVec 32 := 4#32
  let v8 : BitVec 1 := Scalar.cmpi .eq arg1 c4_i32
  let v9 : BitVec 32 := Scalar.extui v8
  let c0_i32_6 : BitVec 32 := 0#32
  let v10 : BitVec 1 := Scalar.cmpi .ne v9 c0_i32_6
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S2048x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1280 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== Reference7Ideal.lean ====
abbrev S1024x2048 : Shape := ⟨2, ![1024, 2048]⟩
abbrev S2048 : Shape := ⟨1, ![2048]⟩
abbrev S1x1x2048 : Shape := ⟨3, ![1, 1, 2048]⟩
abbrev S2048x6400 : Shape := ⟨2, ![2048, 6400]⟩
abbrev S_ : Shape := ⟨0, ![]⟩
abbrev S1024 : Shape := ⟨1, ![1024]⟩
abbrev S1024x1 : Shape := ⟨2, ![1024, 1]⟩
abbrev S1x2048 : Shape := ⟨2, ![1, 2048]⟩
abbrev S1024x6400 : Shape := ⟨2, ![1024, 6400]⟩
abbrev S1024x128 : Shape := ⟨2, ![1024, 128]⟩

abbrev nBuf : Space → Nat
  | .hbm => 36
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S1x1x2048, .f32⟩
  | .hbm, ⟨3, _⟩ => ⟨S1x1x2048, .f32⟩
  | .hbm, ⟨4, _⟩ => ⟨S2048x6400, .bf16⟩
  | .hbm, ⟨5, _⟩ => ⟨S1024x2048, .f32⟩
  | .hbm, ⟨6, _⟩ => ⟨S_, .f32⟩
  | .hbm, ⟨7, _⟩ => ⟨S1024, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S_, .f32⟩
  | .hbm, ⟨13, _⟩ => ⟨S1024x1, .f32⟩
  | .hbm, ⟨14, _⟩ => ⟨S1024x1, .f32⟩
  | .hbm, ⟨15, _⟩ => ⟨S1024x1, .f32⟩
  | .hbm, ⟨16, _⟩ => ⟨S1024x2048, .f32⟩
  | .hbm, ⟨17, _⟩ => ⟨S1024x2048, .f32⟩
  | .hbm, ⟨18, _⟩ => ⟨S1x2048, .f32⟩
  | .hbm, ⟨19, _⟩ => ⟨S1024x2048, .f32⟩
  | .hbm, ⟨20, _⟩ => ⟨S1024x2048, .f32⟩
  | .hbm, ⟨21, _⟩ => ⟨S2048, .f32⟩
  | .hbm, ⟨22, _⟩ => ⟨S_, .f32⟩
  | .hbm, ⟨23, _⟩ => ⟨S2048, .f32⟩
  | .hbm, ⟨24, _⟩ => ⟨S2048, .f32⟩
  | .hbm, ⟨25, _⟩ => ⟨S1x2048, .f32⟩
  | .hbm, ⟨26, _⟩ => ⟨S1024x2048, .f32⟩
  | .hbm, ⟨27, _⟩ => ⟨S1024x2048, .f32⟩
  | .hbm, ⟨28, _⟩ => ⟨S2048, .f32⟩
  | .hbm, ⟨29, _⟩ => ⟨S1x2048, .f32⟩
  | .hbm, ⟨30, _⟩ => ⟨S1024x2048, .f32⟩
  | .hbm, ⟨31, _⟩ => ⟨S1024x2048, .f32⟩
  | .hbm, ⟨32, _⟩ => ⟨S2048x6400, .f32⟩
  | .hbm, ⟨33, _⟩ => ⟨S1024x6400, .f32⟩
  | .hbm, ⟨34, _⟩ => ⟨S1024x6400, .bf16⟩
  | .hbm, ⟨35, _⟩ => ⟨S1024x128, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Kernel8.lean ====
abbrev S1024x512 : Shape := ⟨2, ![1024, 512]⟩
abbrev S1024x1024 : Shape := ⟨2, ![1024, 1024]⟩
abbrev S1024x6400 : Shape := ⟨2, ![1024, 6400]⟩
abbrev S128 : Shape := ⟨1, ![128]⟩
abbrev S2048x2048 : Shape := ⟨2, ![2048, 2048]⟩
abbrev S1024x2048 : Shape := ⟨2, ![1024, 2048]⟩
abbrev S1x1x2048 : Shape := ⟨3, ![1, 1, 2048]⟩
abbrev S1x128 : Shape := ⟨2, ![1, 128]⟩
abbrev S512x512 : Shape := ⟨2, ![512, 512]⟩
abbrev S512x1024 : Shape := ⟨2, ![512, 1024]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩
abbrev S512x256 : Shape := ⟨2, ![512, 256]⟩
abbrev S256x2048 : Shape := ⟨2, ![256, 2048]⟩
abbrev S1x2048 : Shape := ⟨2, ![1, 2048]⟩

abbrev nBuf : Space → Nat
  | .hbm => 11
  | .vmem => 18
  | .smem => 0
  | _ => 0

abbrev bufTy : (tb : Table) → Fin (tcTables nBuf tb) → BufTy
  | .hbm, ⟨0, _⟩ => ⟨S1024x512, .bf16⟩
  | .hbm, ⟨1, _⟩ => ⟨S1024x512, .bf16⟩
  | .hbm, ⟨2, _⟩ => ⟨S1024x1024, .bf16⟩
  | .hbm, ⟨3, _⟩ => ⟨S1024x1024, .bf16⟩
  | .hbm, ⟨4, _⟩ => ⟨S1024x6400, .bf16⟩
  | .hbm, ⟨5, _⟩ => ⟨S128, .f32⟩
  | .hbm, ⟨6, _⟩ => ⟨S2048x2048, .bf16⟩
  | .hbm, ⟨7, _⟩ => ⟨S1024x2048, .f32⟩
  | .hbm, ⟨8, _⟩ => ⟨S1x1x2048, .f32⟩
  | .hbm, ⟨9, _⟩ => ⟨S1x128, .f32⟩
  | .hbm, ⟨10, _⟩ => ⟨S1024x2048, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x128, .f32⟩
  | .local _ .vmem, ⟨11, _⟩ => ⟨S2048x2048, .bf16⟩
  | .local _ .vmem, ⟨12, _⟩ => ⟨S512x2048, .f32⟩
  | .local _ .vmem, ⟨13, _⟩ => ⟨S512x2048, .f32⟩
  | .local _ .vmem, ⟨14, _⟩ => ⟨S1x1x2048, .f32⟩
  | .local _ .vmem, ⟨15, _⟩ => ⟨S1x1x2048, .f32⟩
  | .local _ .vmem, ⟨16, _⟩ => ⟨S512x2048, .f32⟩
  | .local _ .vmem, ⟨17, _⟩ => ⟨S512x2048, .f32⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference8Ideal.lean ====
abbrev S1024x512 : Shape := ⟨2, ![1024, 512]⟩
abbrev S1024x1024 : Shape := ⟨2, ![1024, 1024]⟩
abbrev S1024x6400 : Shape := ⟨2, ![1024, 6400]⟩
abbrev S128 : Shape := ⟨1, ![128]⟩
abbrev S2048x2048 : Shape := ⟨2, ![2048, 2048]⟩
abbrev S1024x2048 : Shape := ⟨2, ![1024, 2048]⟩
abbrev S1x1x2048 : Shape := ⟨3, ![1, 1, 2048]⟩
abbrev S1024x8x128 : Shape := ⟨3, ![1024, 8, 128]⟩
abbrev S_ : Shape := ⟨0, ![]⟩
abbrev S1024x8 : Shape := ⟨2, ![1024, 8]⟩
abbrev S1024x8x1 : Shape := ⟨3, ![1024, 8, 1]⟩
abbrev S1x1x128 : Shape := ⟨3, ![1, 1, 128]⟩
abbrev S2048 : Shape := ⟨1, ![2048]⟩
abbrev S1x2048 : Shape := ⟨2, ![1, 2048]⟩

abbrev nBuf : Space → Nat
  | .hbm => 54
  | .vmem => 0
  | .smem => 0
  | _ => 0

abbrev bufTy : (tb : Table) → Fin (tcTables nBuf tb) → BufTy
  | .hbm, ⟨0, _⟩ => ⟨S1024x512, .bf16⟩
  | .hbm, ⟨1, _⟩ => ⟨S1024x512, .bf16⟩
  | .hbm, ⟨2, _⟩ => ⟨S1024x1024, .bf16⟩
  | .hbm, ⟨3, _⟩ => ⟨S1024x1024, .bf16⟩
  | .hbm, ⟨4, _⟩ => ⟨S1024x6400, .bf16⟩
  | .hbm, ⟨5, _⟩ => ⟨S128, .f32⟩
  | .hbm, ⟨6, _⟩ => ⟨S2048x2048, .bf16⟩
  | .hbm, ⟨7, _⟩ => ⟨S1024x2048, .f32⟩
  | .hbm, ⟨8, _⟩ => ⟨S1x1x2048, .f32⟩
  | .hbm, ⟨9, _⟩ => ⟨S1024x1024, .f32⟩
  | .hbm, ⟨10, _⟩ => ⟨S1024x8x128, .f32⟩
  | .hbm, ⟨11, _⟩ => ⟨S1024x1024, .f32⟩
  | .hbm, ⟨12, _⟩ => ⟨S1024x8x128, .f32⟩
  | .hbm, ⟨13, _⟩ => ⟨S1024x8x128, .f32⟩
  | .hbm, ⟨14, _⟩ => ⟨S1024x8x128, .f32⟩
  | .hbm, ⟨15, _⟩ => ⟨S_, .f32⟩
  | .hbm, ⟨16, _⟩ => ⟨S1024x8, .f32⟩
  | .hbm, ⟨17, _⟩ => ⟨S1024x8x1, .f32⟩
  | .hbm, ⟨18, _⟩ => ⟨S_, .f32⟩
  | .hbm, ⟨19, _⟩ => ⟨S1024x8x1, .f32⟩
  | .hbm, ⟨20, _⟩ => ⟨S1024x8x1, .f32⟩
  | .hbm, ⟨21, _⟩ => ⟨S_, .f32⟩
  | .hbm, ⟨22, _⟩ => ⟨S1024x8x1, .f32⟩
  | .hbm, ⟨23, _⟩ => ⟨S1024x8x1, .f32⟩
  | .hbm, ⟨24, _⟩ => ⟨S1024x8x1, .f32⟩
  | .hbm, ⟨25, _⟩ => ⟨S1024x8x128, .f32⟩
  | .hbm, ⟨26, _⟩ => ⟨S1024x8x128, .f32⟩
  | .hbm, ⟨27, _⟩ => ⟨S1x1x128, .f32⟩
  | .hbm, ⟨28, _⟩ => ⟨S1024x8x128, .f32⟩
  | .hbm, ⟨29, _⟩ => ⟨S1024x8x128, .f32⟩
  | .hbm, ⟨30, _⟩ => ⟨S1024x1024, .bf16⟩
  | .hbm, ⟨31, _⟩ => ⟨S1024x1024, .f32⟩
  | .hbm, ⟨32, _⟩ => ⟨S1024x8x128, .f32⟩
  | .hbm, ⟨33, _⟩ => ⟨S1024x8x128, .f32⟩
  | .hbm, ⟨34, _⟩ => ⟨S1024x8x128, .f32⟩
  | .hbm, ⟨35, _⟩ => ⟨S_, .f32⟩
  | .hbm, ⟨36, _⟩ => ⟨S1024x8x128, .f32⟩
  | .hbm, ⟨37, _⟩ => ⟨S1024x8x128, .f32⟩
  | .hbm, ⟨38, _⟩ => ⟨S_, .f32⟩
  | .hbm, ⟨39, _⟩ => ⟨S1024x8x128, .f32⟩
  | .hbm, ⟨40, _⟩ => ⟨S1024x8x128, .f32⟩
  | .hbm, ⟨41, _⟩ => ⟨S1024x8x128, .f32⟩
  | .hbm, ⟨42, _⟩ => ⟨S1024x8x128, .f32⟩
  | .hbm, ⟨43, _⟩ => ⟨S1024x512, .f32⟩
  | .hbm, ⟨44, _⟩ => ⟨S1024x512, .f32⟩
  | .hbm, ⟨45, _⟩ => ⟨S1024x1024, .f32⟩
  | .hbm, ⟨46, _⟩ => ⟨S1024x2048, .f32⟩
  | .hbm, ⟨47, _⟩ => ⟨S2048, .f32⟩
  | .hbm, ⟨48, _⟩ => ⟨S2048x2048, .f32⟩
  | .hbm, ⟨49, _⟩ => ⟨S1024x2048, .f32⟩
  | .hbm, ⟨50, _⟩ => ⟨S1x2048, .f32⟩
  | .hbm, ⟨51, _⟩ => ⟨S1024x2048, .f32⟩
  | .hbm, ⟨52, _⟩ => ⟨S1024x2048, .f32⟩
  | .hbm, ⟨53, _⟩ => ⟨S1024x2048, .f32⟩
  | _, _ => ⟨S1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩

abbrev nD : Nat := 1
abbrev τ : Topo := Topo.v7x

variable {F : FTy → Type} [FloatOps F]
-- ==== Proof.DeltaSpec.lean ====
/- The gated delta rule's scan as mathematics over the extended reals: one chunk's three equations, the state they
   carry from chunk to chunk, and the four results, as functions of the scan's six arguments. -/
module

public import Idealize.ShloMosaic.PureOps
public import Mathlib.Data.EReal.Operations
public import Mathlib.Algebra.BigOperators.Fin

@[expose] public section

noncomputable section

namespace Cert.DeltaSpec

/-- A matrix of extended reals. -/
abbrev Mat (m n : ℕ) : Type := Fin m → Fin n → EReal

/-- Row `o + r` of a taller matrix. -/
abbrev low {m n : ℕ} (o : ℕ) (h : o + m ≤ n) (r : Fin m) : Fin n := ⟨o + r.val, by omega⟩

/-- What one chunk adds to the state, `u - w · S`; `w` is the upper half of `wq`. -/
def vNew (wq : Mat 128 128) (u : Mat 64 128) (S : Mat 128 128) : Mat 64 128 := fun c v =>
  u c v - ∑ k : Fin 128, wq ⟨c.val, by omega⟩ k * S k v

/-- The state after one chunk, `S · exp(g) + k_tailᵀ · v_new`; `k_tailᵀ` is the lower two thirds of `ak`. -/
def sNext (wq : Mat 128 128) (u : Mat 64 128) (ak : Mat 192 64) (eg : Fin 128 → EReal) (S : Mat 128 128) : Mat 128 128 :=
  fun k v => S k v * eg v + ∑ c : Fin 64, ak (low 64 (by omega) k) c * vNew wq u S c v

/-- One chunk's output, `q · S + attn · v_new`; `q` is the lower half of `wq`, `attn` the upper third of `ak`. -/
def oChunk (wq : Mat 128 128) (u : Mat 64 128) (ak : Mat 192 64) (S : Mat 128 128) : Mat 64 128 := fun c v =>
  (∑ k : Fin 128, wq (low 64 (by omega) c) k * S k v) + ∑ e : Fin 64, ak ⟨c.val, by omega⟩ e * vNew wq u S e v

/-- The scan's arguments, by batch, chunk, direction and head. -/
structure Args where
  wq : Fin 4 → Fin 64 → Fin 2 → Fin 8 → Mat 128 128
  u : Fin 4 → Fin 64 → Fin 2 → Fin 8 → Mat 64 128
  ak : Fin 4 → Fin 64 → Fin 2 → Fin 8 → Mat 192 64
  eg : Fin 4 → Fin 64 → Fin 2 → Fin 8 → Fin 128 → EReal
  s0 : Fin 2 → Fin 4 → Fin 8 → Mat 128 128

/-- The chunk that direction `d` reads in step `j`: forwards `j`, backwards counted from the end. -/
def chunk (d : Fin 2) (j : ℕ) : Fin 64 := if d = 0 then ⟨j % 64, by omega⟩ else ⟨63 - j % 64, by omega⟩

/-- The state before step `j`. -/
def state (a : Args) (d : Fin 2) (b : Fin 4) (h : Fin 8) : ℕ → Mat 128 128
  | 0 => a.s0 d b h
  | j + 1 => sNext (a.wq b (chunk d j) d h) (a.u b (chunk d j) d h) (a.ak b (chunk d j) d h) (a.eg b (chunk d j) d h)
      (state a d b h j)

/-- The output of step `j`. -/
def out (a : Args) (d : Fin 2) (b : Fin 4) (h : Fin 8) (j : ℕ) : Mat 64 128 :=
  oChunk (a.wq b (chunk d j) d h) (a.u b (chunk d j) d h) (a.ak b (chunk d j) d h) (state a d b h j)

/-- The step in which direction `d` reads chunk `n`. -/
def stepOf (d : Fin 2) (n : Fin 64) : ℕ := if d = 0 then n.val else 63 - n.val

/-- Direction `d`'s output array at batch `b`, position `p` and column `q`: position `p` lies in chunk `p / 64`, column
    `q` in head `q / 128`. -/
def outArr (a : Args) (d : Fin 2) (b : Fin 4) (p : Fin 4096) (q : Fin 1024) : EReal :=
  out a d b ⟨q.val / 128, by omega⟩ (stepOf d ⟨p.val / 64, by omega⟩) ⟨p.val % 64, by omega⟩ ⟨q.val % 128, by omega⟩

end Cert.DeltaSpec

end
-- ==== Proof.DeltaUnit.lean ====
/- One unit of the scan kernel's body (one direction, batch and head of one chunk): the vector expressions the body
   computes for it, and what they are over the extended reals. -/
module

public import proofs.«01_k».proof.Proof.Gen.KernelIdeal.Skeleton
public import proofs.«01_k».proof.Proof.DeltaSpec
public import Idealize.ShloMosaic.Lib.Pointwise

@[expose] public section

set_option maxRecDepth 16384

noncomputable section

namespace Cert.KernelIdeal.DeltaUnit

open Cert.KernelIdeal Cert.KernelIdeal.Gen Idealize.ShloMosaic Idealize.ShloMosaic.TcCoe Idealize.SL.Sem
open Cert.DeltaSpec

variable {F : FTy → Type} [FloatOps F]

/-- `[w; q] · S`. -/
def ws (s : Vec F S1x1x1x128x128 .f32) (wq : Vec F S1x1x1x1x128x128 .bf16) : FVec F S128x128 .f32 :=
  matmul dot_S128x128_S128x128_S128x128_1_0_0_1_n_n none (shapeCast S128x128 wq shapeCasts_S1x1x1x1x128x128_S128x128)
    (truncf .bf16 (shapeCast S128x128 s shapeCasts_S1x1x1x128x128_S128x128) bitsLt_bf16_f32)
    (constant S128x128 .f32 0x00000000#32)

/-- `u - w · S`. -/
def v16 (s : Vec F S1x1x1x128x128 .f32) (wq : Vec F S1x1x1x1x128x128 .bf16) (u : Vec F S1x1x1x1x64x128 .f32) :
    FVec F S64x128 .bf16 :=
  truncf .bf16 (subf (shapeCast S64x128 u shapeCasts_S1x1x1x1x64x128_S64x128)
    (extractStridedSlice S64x128 ![0, 0] (ws s wq) slices_S128x128_o0_0_S64x128)) bitsLt_bf16_f32

/-- `[attn; k_tailᵀ] · v_new`. -/
def av (s : Vec F S1x1x1x128x128 .f32) (wq : Vec F S1x1x1x1x128x128 .bf16) (u : Vec F S1x1x1x1x64x128 .f32)
    (ak : Vec F S1x1x1x1x192x64 .bf16) : FVec F S192x128 .f32 :=
  matmul dot_S192x64_S64x128_S192x128_1_0_0_1_n_n none (shapeCast S192x64 ak shapeCasts_S1x1x1x1x192x64_S192x64)
    (v16 s wq u) (constant S192x128 .f32 0x00000000#32)

/-- The block of the output the unit stores. -/
def oPay (s : Vec F S1x1x1x128x128 .f32) (wq : Vec F S1x1x1x1x128x128 .bf16) (u : Vec F S1x1x1x1x64x128 .f32)
    (ak : Vec F S1x1x1x1x192x64 .bf16) : FVec F S1x64x128 .bf16 :=
  k0_pay281 (ws s wq) (av s wq u ak)

/-- The state the unit stores. -/
def sPay (s : Vec F S1x1x1x128x128 .f32) (wq : Vec F S1x1x1x1x128x128 .bf16) (u : Vec F S1x1x1x1x64x128 .f32)
    (ak : Vec F S1x1x1x1x192x64 .bf16) (eg : Vec F S1x1x1x1x128 .f32) : FVec F S1x1x1x128x128 .f32 :=
  k0_pay274 (shapeCast S128x128 s shapeCasts_S1x1x1x128x128_S128x128) (av s wq u ak) eg

section Ideal

variable (s : FVec Ideal S1x1x1x128x128 .f32) (wq : FVec Ideal S1x1x1x1x128x128 .bf16) (u : FVec Ideal S1x1x1x1x64x128 .f32)
  (ak : FVec Ideal S1x1x1x1x192x64 .bf16) (eg : FVec Ideal S1x1x1x1x128 .f32)

/-- A unit's loaded vectors as matrices. -/
abbrev mS : Mat 128 128 := fun k v => s (ix5 0 0 0 k v)
abbrev mWq : Mat 128 128 := fun r k => wq (ix6 0 0 0 0 r k)
abbrev mU : Mat 64 128 := fun c v => u (ix6 0 0 0 0 c v)
abbrev mAk : Mat 192 64 := fun r c => ak (ix6 0 0 0 0 r c)
abbrev mEg : Fin 128 → EReal := fun v => eg (ix5 0 0 0 0 v)

/-- `u - w · S` over the extended reals. -/
theorem v16_apply (c : Fin 64) (v : Fin 128) :
    v16 (F := Ideal) s wq u (ix2 c v) = vNew (mWq wq) (mU u) (mS s) c v := by
  pointwise [v16, ws, vNew]

/-- The stored output over the extended reals. -/
theorem oPay_apply (c : Fin 64) (v : Fin 128) :
    oPay (F := Ideal) s wq u ak (ix3 0 c v) = oChunk (mWq wq) (mU u) (mAk ak) (mS s) c v := by
  pointwise [oPay, k0_pay281, av, v16_apply, oChunk, ws]

/-- The stored state over the extended reals. -/
theorem sPay_apply (k v : Fin 128) :
    sPay (F := Ideal) s wq u ak eg (ix5 0 0 0 k v) = sNext (mWq wq) (mU u) (mAk ak) (mEg eg) (mS s) k v := by
  pointwise [sPay, k0_pay274, av, v16_apply, sNext]

end Ideal

end Cert.KernelIdeal.DeltaUnit

end
-- ==== Proof.DeltaPieces.lean ====
/- The pieces the scan kernel's body stores, in each of its three cases, as ONE piece per unit (direction, batch, head):
   every unit stores the same expressions of its own loads. -/
module

public import proofs.«01_k».proof.Proof.Gen.KernelIdeal.Frame
public import proofs.«01_k».proof.Proof.DeltaUnit

@[expose] public section

set_option maxRecDepth 16384

noncomputable section

namespace Cert.KernelIdeal.DeltaPieces

open Cert.KernelIdeal Cert.KernelIdeal.Gen Cert.KernelIdeal.DeltaUnit
open Idealize.ShloMosaic Idealize.ShloMosaic.TcCoe Idealize.ShloMosaic.Tactic Idealize.SL.Sem

variable {F : FTy → Type} [FloatOps F]

/-- The units of one direction, the last stored first. -/
def units : List (Fin 4 × Fin 8) :=
  [3, 2, 1, 0].flatMap fun b => [7, 6, 5, 4, 3, 2, 1, 0].map fun h => (b, h)

/-! The box of unit `(b, h)` in each staged block. -/

theorem inbWq (b : Fin 4) (h : Fin 8) :
    ∀ a, (![b.val, 0, 0, h.val, 0, 0] : Fin 6 → ℕ) a + S1x1x1x1x128x128.size a ≤ S4x1x1x8x128x128.size a := by
  have hb := b.isLt
  have hh := h.isLt
  intro a
  fin_cases a <;> first | (show _ ≤ _; simp; omega) | (simp)

theorem inbU (b : Fin 4) (h : Fin 8) :
    ∀ a, (![b.val, 0, 0, h.val, 0, 0] : Fin 6 → ℕ) a + S1x1x1x1x64x128.size a ≤ S4x1x1x8x64x128.size a := by
  have hb := b.isLt
  have hh := h.isLt
  intro a
  fin_cases a <;> first | (show _ ≤ _; simp; omega) | (simp)

theorem inbAk (b : Fin 4) (h : Fin 8) :
    ∀ a, (![b.val, 0, 0, h.val, 0, 0] : Fin 6 → ℕ) a + S1x1x1x1x192x64.size a ≤ S4x1x1x8x192x64.size a := by
  have hb := b.isLt
  have hh := h.isLt
  intro a
  fin_cases a <;> first | (show _ ≤ _; simp; omega) | (simp)

theorem inbEg (b : Fin 4) (h : Fin 8) :
    ∀ a, (![b.val, 0, 0, h.val, 0] : Fin 5 → ℕ) a + S1x1x1x1x128.size a ≤ S4x1x1x8x128.size a := by
  have hb := b.isLt
  have hh := h.isLt
  intro a
  fin_cases a <;> first | (show _ ≤ _; simp; omega) | (simp)

theorem inbO (b : Fin 4) (h : Fin 8) :
    ∀ a, (![b.val, 0, 128 * h.val] : Fin 3 → ℕ) a + S1x64x128.size a ≤ S4x64x1024.size a := by
  have hb := b.isLt
  have hh := h.isLt
  intro a
  fin_cases a <;> first | (show _ ≤ _; simp; omega) | (simp)

theorem inbS (d : Fin 2) (b : Fin 4) (h : Fin 8) :
    ∀ a, (![d.val, b.val, h.val, 0, 0] : Fin 5 → ℕ) a + S1x1x1x128x128.size a ≤ S2x4x8x128x128.size a := by
  have hd := d.isLt
  have hb := b.isLt
  have hh := h.isLt
  intro a
  fin_cases a <;> first | (show _ ≤ _; simp; omega) | (simp)

abbrev rWq (b : Fin 4) (h : Fin 8) : Rect S4x1x1x8x128x128 := Rect.unit ![b.val, 0, 0, h.val, 0, 0] S1x1x1x1x128x128.size (inbWq b h)
abbrev rU (b : Fin 4) (h : Fin 8) : Rect S4x1x1x8x64x128 := Rect.unit ![b.val, 0, 0, h.val, 0, 0] S1x1x1x1x64x128.size (inbU b h)
abbrev rAk (b : Fin 4) (h : Fin 8) : Rect S4x1x1x8x192x64 := Rect.unit ![b.val, 0, 0, h.val, 0, 0] S1x1x1x1x192x64.size (inbAk b h)
abbrev rEg (b : Fin 4) (h : Fin 8) : Rect S4x1x1x8x128 := Rect.unit ![b.val, 0, 0, h.val, 0] S1x1x1x1x128.size (inbEg b h)
abbrev rO (b : Fin 4) (h : Fin 8) : Rect S4x64x1024 := Rect.unit ![b.val, 0, 128 * h.val] S1x64x128.size (inbO b h)
abbrev rS (d : Fin 2) (b : Fin 4) (h : Fin 8) : Rect S2x4x8x128x128 := Rect.unit ![d.val, b.val, h.val, 0, 0] S1x1x1x128x128.size (inbS d b h)

/-- The output piece of unit `p`, from what it loads. -/
def oPiece (s : Fin 4 → Fin 8 → Vec F S1x1x1x128x128 .f32) (wq : Fin 4 → Fin 8 → Vec F S1x1x1x1x128x128 .bf16)
    (u : Fin 4 → Fin 8 → Vec F S1x1x1x1x64x128 .f32) (ak : Fin 4 → Fin 8 → Vec F S1x1x1x1x192x64 .bf16)
    (p : Fin 4 × Fin 8) : View.Piece (Elt F) S4x64x1024 .bf16 :=
  ⟨rO p.1 p.2, oPay (s p.1 p.2) (wq p.1 p.2) (u p.1 p.2) (ak p.1 p.2)⟩

/-- The state piece of unit `p` of direction `d`, from what it loads. -/
def sPiece (d : Fin 2) (s : Fin 4 → Fin 8 → Vec F S1x1x1x128x128 .f32) (wq : Fin 4 → Fin 8 → Vec F S1x1x1x1x128x128 .bf16)
    (u : Fin 4 → Fin 8 → Vec F S1x1x1x1x64x128 .f32) (ak : Fin 4 → Fin 8 → Vec F S1x1x1x1x192x64 .bf16)
    (eg : Fin 4 → Fin 8 → Vec F S1x1x1x1x128 .f32) (p : Fin 4 × Fin 8) : View.Piece (Elt F) S2x4x8x128x128 .f32 :=
  ⟨rS d p.1 p.2, sPay (s p.1 p.2) (wq p.1 p.2) (u p.1 p.2) (ak p.1 p.2) (eg p.1 p.2)⟩

/-- A unit's load through a staged block's view. -/
abbrev lWq (a : Memref sig .tc .vmem S4x1x1x8x128x128 .bf16) (ha : a.IsWhole) (x : Vec F S4x1x1x8x128x128 .bf16)
    (b : Fin 4) (h : Fin 8) : Vec F S1x1x1x1x128x128 .bf16 := View.readAt (Elt F) a.view (rWq b h).toLoadRect (ha.unread x)
abbrev lU (a : Memref sig .tc .vmem S4x1x1x8x64x128 .f32) (ha : a.IsWhole) (x : Vec F S4x1x1x8x64x128 .f32)
    (b : Fin 4) (h : Fin 8) : Vec F S1x1x1x1x64x128 .f32 := View.readAt (Elt F) a.view (rU b h).toLoadRect (ha.unread x)
abbrev lAk (a : Memref sig .tc .vmem S4x1x1x8x192x64 .bf16) (ha : a.IsWhole) (x : Vec F S4x1x1x8x192x64 .bf16)
    (b : Fin 4) (h : Fin 8) : Vec F S1x1x1x1x192x64 .bf16 := View.readAt (Elt F) a.view (rAk b h).toLoadRect (ha.unread x)
abbrev lEg (a : Memref sig .tc .vmem S4x1x1x8x128 .f32) (ha : a.IsWhole) (x : Vec F S4x1x1x8x128 .f32)
    (b : Fin 4) (h : Fin 8) : Vec F S1x1x1x1x128 .f32 := View.readAt (Elt F) a.view (rEg b h).toLoadRect (ha.unread x)
/-- A unit's load of the carried state, left by the chunk before. -/
abbrev lS (a : Memref sig .tc .vmem S2x4x8x128x128 .f32) (ha : a.IsWhole) (x : Vec F S2x4x8x128x128 .f32) (d : Fin 2)
    (b : Fin 4) (h : Fin 8) : Vec F S1x1x1x128x128 .f32 := View.readAt (Elt F) a.view (rS d b h).toLoadRect (ha.unread x)

theorem inbHalf (d : Fin 2) : ∀ a, (![d.val, 0, 0, 0, 0] : Fin 5 → ℕ) a + S1x4x8x128x128.size a ≤ S2x4x8x128x128.size a := by
  have hd := d.isLt
  intro a
  fin_cases a <;> first | (show _ ≤ _; simp; omega) | (simp)
/-- Direction `d`'s half of the carried state. -/
abbrev rHalf (d : Fin 2) : Rect S2x4x8x128x128 := Rect.unit ![d.val, 0, 0, 0, 0] S1x4x8x128x128.size (inbHalf d)

theorem inbSt : ∀ a, (![0, 0, 0, 0] : Fin 4 → ℕ) a + S4x8x128x128.size a ≤ S4x8x128x128.size a := by
  intro a
  fin_cases a <;> simp

/-- The pieces that fill the carried state from the two initial states, before the first chunk. -/
def fill (a10 a11 : Memref sig .tc .vmem S4x8x128x128 .f32) (h10 : a10.IsWhole) (h11 : a11.IsWhole)
    (x8 x9 : Vec F S4x8x128x128 .f32) : List (View.Piece (Elt F) S2x4x8x128x128 .f32) :=
  [⟨rHalf 1,
      shapeCast S1x4x8x128x128 (View.readAt (Elt F) a11.view (Rect.unit ![0, 0, 0, 0] S4x8x128x128.size inbSt).toLoadRect
        (h11.unread x9) : Vec F S4x8x128x128 .f32) shapeCasts_S4x8x128x128_S1x4x8x128x128⟩,
   ⟨rHalf 0,
      shapeCast S1x4x8x128x128 (View.readAt (Elt F) a10.view (Rect.unit ![0, 0, 0, 0] S4x8x128x128.size inbSt).toLoadRect
        (h10.unread x8) : Vec F S4x8x128x128 .f32) shapeCasts_S4x8x128x128_S1x4x8x128x128⟩]

/-- The forward output's pieces between the first and the last chunk. -/
theorem of_B (c : Dev nD) (i : grid0.Coords) (arg2 : Memref sig .tc .vmem S4x1x1x8x128x128 .bf16) (harg2 : arg2.IsWhole) (arg3 : Memref sig .tc .vmem S4x1x1x8x64x128 .f32) (harg3 : arg3.IsWhole) (arg4 : Memref sig .tc .vmem S4x1x1x8x192x64 .bf16) (harg4 : arg4.IsWhole) (arg5 : Memref sig .tc .vmem S4x1x1x8x128 .f32) (harg5 : arg5.IsWhole) (arg6 : Memref sig .tc .vmem S4x1x1x8x128x128 .bf16) (harg6 : arg6.IsWhole) (arg7 : Memref sig .tc .vmem S4x1x1x8x64x128 .f32) (harg7 : arg7.IsWhole) (arg8 : Memref sig .tc .vmem S4x1x1x8x192x64 .bf16) (harg8 : arg8.IsWhole) (arg9 : Memref sig .tc .vmem S4x1x1x8x128 .f32) (harg9 : arg9.IsWhole) (arg10 : Memref sig .tc .vmem S4x8x128x128 .f32) (harg10 : arg10.IsWhole) (arg11 : Memref sig .tc .vmem S4x8x128x128 .f32) (harg11 : arg11.IsWhole) (arg12 : Memref sig .tc .vmem S4x64x1024 .bf16) (harg12 : arg12.IsWhole) (arg13 : Memref sig .tc .vmem S4x64x1024 .bf16) (harg13 : arg13.IsWhole) (arg14 : Memref sig .tc .vmem S4x8x128x128 .f32) (harg14 : arg14.IsWhole) (arg15 : Memref sig .tc .vmem S4x8x128x128 .f32) (harg15 : arg15.IsWhole) (arg16 : Memref sig .tc .vmem S2x4x8x128x128 .f32) (harg16 : arg16.IsWhole) (hc0 : ¬cond0_0 i) (hc1 : ¬cond0_1 i)
    (x0 : Vec F S4x1x1x8x128x128 .bf16) (x1 : Vec F S4x1x1x8x64x128 .f32) (x2 : Vec F S4x1x1x8x192x64 .bf16) (x3 : Vec F S4x1x1x8x128 .f32) (x4 : Vec F S4x1x1x8x128x128 .bf16) (x5 : Vec F S4x1x1x8x64x128 .f32) (x6 : Vec F S4x1x1x8x192x64 .bf16) (x7 : Vec F S4x1x1x8x128 .f32) (x8 : Vec F S4x8x128x128 .f32) (x9 : Vec F S4x8x128x128 .f32) (xs0 : Vec F S2x4x8x128x128 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0).1 = units.map (oPiece (lS arg16 harg16 xs0 0) (lWq arg2 harg2 x0) (lU arg3 harg3 x1) (lAk arg4 harg4 x2)) := by
  sl_kernel_rfl

/-- The backward output's pieces between the first and the last chunk. -/
theorem ob_B (c : Dev nD) (i : grid0.Coords) (arg2 : Memref sig .tc .vmem S4x1x1x8x128x128 .bf16) (harg2 : arg2.IsWhole) (arg3 : Memref sig .tc .vmem S4x1x1x8x64x128 .f32) (harg3 : arg3.IsWhole) (arg4 : Memref sig .tc .vmem S4x1x1x8x192x64 .bf16) (harg4 : arg4.IsWhole) (arg5 : Memref sig .tc .vmem S4x1x1x8x128 .f32) (harg5 : arg5.IsWhole) (arg6 : Memref sig .tc .vmem S4x1x1x8x128x128 .bf16) (harg6 : arg6.IsWhole) (arg7 : Memref sig .tc .vmem S4x1x1x8x64x128 .f32) (harg7 : arg7.IsWhole) (arg8 : Memref sig .tc .vmem S4x1x1x8x192x64 .bf16) (harg8 : arg8.IsWhole) (arg9 : Memref sig .tc .vmem S4x1x1x8x128 .f32) (harg9 : arg9.IsWhole) (arg10 : Memref sig .tc .vmem S4x8x128x128 .f32) (harg10 : arg10.IsWhole) (arg11 : Memref sig .tc .vmem S4x8x128x128 .f32) (harg11 : arg11.IsWhole) (arg12 : Memref sig .tc .vmem S4x64x1024 .bf16) (harg12 : arg12.IsWhole) (arg13 : Memref sig .tc .vmem S4x64x1024 .bf16) (harg13 : arg13.IsWhole) (arg14 : Memref sig .tc .vmem S4x8x128x128 .f32) (harg14 : arg14.IsWhole) (arg15 : Memref sig .tc .vmem S4x8x128x128 .f32) (harg15 : arg15.IsWhole) (arg16 : Memref sig .tc .vmem S2x4x8x128x128 .f32) (harg16 : arg16.IsWhole) (hc0 : ¬cond0_0 i) (hc1 : ¬cond0_1 i)
    (x0 : Vec F S4x1x1x8x128x128 .bf16) (x1 : Vec F S4x1x1x8x64x128 .f32) (x2 : Vec F S4x1x1x8x192x64 .bf16) (x3 : Vec F S4x1x1x8x128 .f32) (x4 : Vec F S4x1x1x8x128x128 .bf16) (x5 : Vec F S4x1x1x8x64x128 .f32) (x6 : Vec F S4x1x1x8x192x64 .bf16) (x7 : Vec F S4x1x1x8x128 .f32) (x8 : Vec F S4x8x128x128 .f32) (x9 : Vec F S4x8x128x128 .f32) (xs0 : Vec F S2x4x8x128x128 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0).2.1 = units.map (oPiece (lS arg16 harg16 xs0 1) (lWq arg6 harg6 x4) (lU arg7 harg7 x5) (lAk arg8 harg8 x6)) := by
  sl_kernel_rfl

/-- The carried state's pieces between the first and the last chunk. -/
theorem st_B (c : Dev nD) (i : grid0.Coords) (arg2 : Memref sig .tc .vmem S4x1x1x8x128x128 .bf16) (harg2 : arg2.IsWhole) (arg3 : Memref sig .tc .vmem S4x1x1x8x64x128 .f32) (harg3 : arg3.IsWhole) (arg4 : Memref sig .tc .vmem S4x1x1x8x192x64 .bf16) (harg4 : arg4.IsWhole) (arg5 : Memref sig .tc .vmem S4x1x1x8x128 .f32) (harg5 : arg5.IsWhole) (arg6 : Memref sig .tc .vmem S4x1x1x8x128x128 .bf16) (harg6 : arg6.IsWhole) (arg7 : Memref sig .tc .vmem S4x1x1x8x64x128 .f32) (harg7 : arg7.IsWhole) (arg8 : Memref sig .tc .vmem S4x1x1x8x192x64 .bf16) (harg8 : arg8.IsWhole) (arg9 : Memref sig .tc .vmem S4x1x1x8x128 .f32) (harg9 : arg9.IsWhole) (arg10 : Memref sig .tc .vmem S4x8x128x128 .f32) (harg10 : arg10.IsWhole) (arg11 : Memref sig .tc .vmem S4x8x128x128 .f32) (harg11 : arg11.IsWhole) (arg12 : Memref sig .tc .vmem S4x64x1024 .bf16) (harg12 : arg12.IsWhole) (arg13 : Memref sig .tc .vmem S4x64x1024 .bf16) (harg13 : arg13.IsWhole) (arg14 : Memref sig .tc .vmem S4x8x128x128 .f32) (harg14 : arg14.IsWhole) (arg15 : Memref sig .tc .vmem S4x8x128x128 .f32) (harg15 : arg15.IsWhole) (arg16 : Memref sig .tc .vmem S2x4x8x128x128 .f32) (harg16 : arg16.IsWhole) (hc0 : ¬cond0_0 i) (hc1 : ¬cond0_1 i)
    (x0 : Vec F S4x1x1x8x128x128 .bf16) (x1 : Vec F S4x1x1x8x64x128 .f32) (x2 : Vec F S4x1x1x8x192x64 .bf16) (x3 : Vec F S4x1x1x8x128 .f32) (x4 : Vec F S4x1x1x8x128x128 .bf16) (x5 : Vec F S4x1x1x8x64x128 .f32) (x6 : Vec F S4x1x1x8x192x64 .bf16) (x7 : Vec F S4x1x1x8x128 .f32) (x8 : Vec F S4x8x128x128 .f32) (x9 : Vec F S4x8x128x128 .f32) (xs0 : Vec F S2x4x8x128x128 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0).2.2.2.2.1 = units.map (sPiece 1 (lS arg16 harg16 xs0 1) (lWq arg6 harg6 x4) (lU arg7 harg7 x5) (lAk arg8 harg8 x6) (lEg arg9 harg9 x7)) ++ units.map (sPiece 0 (lS arg16 harg16 xs0 0) (lWq arg2 harg2 x0) (lU arg3 harg3 x1) (lAk arg4 harg4 x2) (lEg arg5 harg5 x3)) := by
  sl_kernel_rfl

/-- The forward output's pieces at the first chunk. -/
theorem of_A (c : Dev nD) (i : grid0.Coords) (arg2 : Memref sig .tc .vmem S4x1x1x8x128x128 .bf16) (harg2 : arg2.IsWhole) (arg3 : Memref sig .tc .vmem S4x1x1x8x64x128 .f32) (harg3 : arg3.IsWhole) (arg4 : Memref sig .tc .vmem S4x1x1x8x192x64 .bf16) (harg4 : arg4.IsWhole) (arg5 : Memref sig .tc .vmem S4x1x1x8x128 .f32) (harg5 : arg5.IsWhole) (arg6 : Memref sig .tc .vmem S4x1x1x8x128x128 .bf16) (harg6 : arg6.IsWhole) (arg7 : Memref sig .tc .vmem S4x1x1x8x64x128 .f32) (harg7 : arg7.IsWhole) (arg8 : Memref sig .tc .vmem S4x1x1x8x192x64 .bf16) (harg8 : arg8.IsWhole) (arg9 : Memref sig .tc .vmem S4x1x1x8x128 .f32) (harg9 : arg9.IsWhole) (arg10 : Memref sig .tc .vmem S4x8x128x128 .f32) (harg10 : arg10.IsWhole) (arg11 : Memref sig .tc .vmem S4x8x128x128 .f32) (harg11 : arg11.IsWhole) (arg12 : Memref sig .tc .vmem S4x64x1024 .bf16) (harg12 : arg12.IsWhole) (arg13 : Memref sig .tc .vmem S4x64x1024 .bf16) (harg13 : arg13.IsWhole) (arg14 : Memref sig .tc .vmem S4x8x128x128 .f32) (harg14 : arg14.IsWhole) (arg15 : Memref sig .tc .vmem S4x8x128x128 .f32) (harg15 : arg15.IsWhole) (arg16 : Memref sig .tc .vmem S2x4x8x128x128 .f32) (harg16 : arg16.IsWhole) (hc0 : cond0_0 i) (hc1 : ¬cond0_1 i)
    (x0 : Vec F S4x1x1x8x128x128 .bf16) (x1 : Vec F S4x1x1x8x64x128 .f32) (x2 : Vec F S4x1x1x8x192x64 .bf16) (x3 : Vec F S4x1x1x8x128 .f32) (x4 : Vec F S4x1x1x8x128x128 .bf16) (x5 : Vec F S4x1x1x8x64x128 .f32) (x6 : Vec F S4x1x1x8x192x64 .bf16) (x7 : Vec F S4x1x1x8x128 .f32) (x8 : Vec F S4x8x128x128 .f32) (x9 : Vec F S4x8x128x128 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9).1 = units.map (oPiece (fun b h => arg16.view.readCov (fill arg10 arg11 harg10 harg11 x8 x9) (rS 0 b h).toLoadRect) (lWq arg2 harg2 x0) (lU arg3 harg3 x1) (lAk arg4 harg4 x2)) := by
  sl_kernel_rfl

/-- The backward output's pieces at the first chunk. -/
theorem ob_A (c : Dev nD) (i : grid0.Coords) (arg2 : Memref sig .tc .vmem S4x1x1x8x128x128 .bf16) (harg2 : arg2.IsWhole) (arg3 : Memref sig .tc .vmem S4x1x1x8x64x128 .f32) (harg3 : arg3.IsWhole) (arg4 : Memref sig .tc .vmem S4x1x1x8x192x64 .bf16) (harg4 : arg4.IsWhole) (arg5 : Memref sig .tc .vmem S4x1x1x8x128 .f32) (harg5 : arg5.IsWhole) (arg6 : Memref sig .tc .vmem S4x1x1x8x128x128 .bf16) (harg6 : arg6.IsWhole) (arg7 : Memref sig .tc .vmem S4x1x1x8x64x128 .f32) (harg7 : arg7.IsWhole) (arg8 : Memref sig .tc .vmem S4x1x1x8x192x64 .bf16) (harg8 : arg8.IsWhole) (arg9 : Memref sig .tc .vmem S4x1x1x8x128 .f32) (harg9 : arg9.IsWhole) (arg10 : Memref sig .tc .vmem S4x8x128x128 .f32) (harg10 : arg10.IsWhole) (arg11 : Memref sig .tc .vmem S4x8x128x128 .f32) (harg11 : arg11.IsWhole) (arg12 : Memref sig .tc .vmem S4x64x1024 .bf16) (harg12 : arg12.IsWhole) (arg13 : Memref sig .tc .vmem S4x64x1024 .bf16) (harg13 : arg13.IsWhole) (arg14 : Memref sig .tc .vmem S4x8x128x128 .f32) (harg14 : arg14.IsWhole) (arg15 : Memref sig .tc .vmem S4x8x128x128 .f32) (harg15 : arg15.IsWhole) (arg16 : Memref sig .tc .vmem S2x4x8x128x128 .f32) (harg16 : arg16.IsWhole) (hc0 : cond0_0 i) (hc1 : ¬cond0_1 i)
    (x0 : Vec F S4x1x1x8x128x128 .bf16) (x1 : Vec F S4x1x1x8x64x128 .f32) (x2 : Vec F S4x1x1x8x192x64 .bf16) (x3 : Vec F S4x1x1x8x128 .f32) (x4 : Vec F S4x1x1x8x128x128 .bf16) (x5 : Vec F S4x1x1x8x64x128 .f32) (x6 : Vec F S4x1x1x8x192x64 .bf16) (x7 : Vec F S4x1x1x8x128 .f32) (x8 : Vec F S4x8x128x128 .f32) (x9 : Vec F S4x8x128x128 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9).2.1 = units.map (oPiece (fun b h => arg16.view.readCov (fill arg10 arg11 harg10 harg11 x8 x9) (rS 1 b h).toLoadRect) (lWq arg6 harg6 x4) (lU arg7 harg7 x5) (lAk arg8 harg8 x6)) := by
  sl_kernel_rfl

/-- The carried state's pieces at the first chunk. -/
theorem st_A (c : Dev nD) (i : grid0.Coords) (arg2 : Memref sig .tc .vmem S4x1x1x8x128x128 .bf16) (harg2 : arg2.IsWhole) (arg3 : Memref sig .tc .vmem S4x1x1x8x64x128 .f32) (harg3 : arg3.IsWhole) (arg4 : Memref sig .tc .vmem S4x1x1x8x192x64 .bf16) (harg4 : arg4.IsWhole) (arg5 : Memref sig .tc .vmem S4x1x1x8x128 .f32) (harg5 : arg5.IsWhole) (arg6 : Memref sig .tc .vmem S4x1x1x8x128x128 .bf16) (harg6 : arg6.IsWhole) (arg7 : Memref sig .tc .vmem S4x1x1x8x64x128 .f32) (harg7 : arg7.IsWhole) (arg8 : Memref sig .tc .vmem S4x1x1x8x192x64 .bf16) (harg8 : arg8.IsWhole) (arg9 : Memref sig .tc .vmem S4x1x1x8x128 .f32) (harg9 : arg9.IsWhole) (arg10 : Memref sig .tc .vmem S4x8x128x128 .f32) (harg10 : arg10.IsWhole) (arg11 : Memref sig .tc .vmem S4x8x128x128 .f32) (harg11 : arg11.IsWhole) (arg12 : Memref sig .tc .vmem S4x64x1024 .bf16) (harg12 : arg12.IsWhole) (arg13 : Memref sig .tc .vmem S4x64x1024 .bf16) (harg13 : arg13.IsWhole) (arg14 : Memref sig .tc .vmem S4x8x128x128 .f32) (harg14 : arg14.IsWhole) (arg15 : Memref sig .tc .vmem S4x8x128x128 .f32) (harg15 : arg15.IsWhole) (arg16 : Memref sig .tc .vmem S2x4x8x128x128 .f32) (harg16 : arg16.IsWhole) (hc0 : cond0_0 i) (hc1 : ¬cond0_1 i)
    (x0 : Vec F S4x1x1x8x128x128 .bf16) (x1 : Vec F S4x1x1x8x64x128 .f32) (x2 : Vec F S4x1x1x8x192x64 .bf16) (x3 : Vec F S4x1x1x8x128 .f32) (x4 : Vec F S4x1x1x8x128x128 .bf16) (x5 : Vec F S4x1x1x8x64x128 .f32) (x6 : Vec F S4x1x1x8x192x64 .bf16) (x7 : Vec F S4x1x1x8x128 .f32) (x8 : Vec F S4x8x128x128 .f32) (x9 : Vec F S4x8x128x128 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9).2.2.2.2.1 = units.map (sPiece 1 (fun b h => arg16.view.readCov (fill arg10 arg11 harg10 harg11 x8 x9) (rS 1 b h).toLoadRect) (lWq arg6 harg6 x4) (lU arg7 harg7 x5) (lAk arg8 harg8 x6) (lEg arg9 harg9 x7)) ++ units.map (sPiece 0 (fun b h => arg16.view.readCov (fill arg10 arg11 harg10 harg11 x8 x9) (rS 0 b h).toLoadRect) (lWq arg2 harg2 x0) (lU arg3 harg3 x1) (lAk arg4 harg4 x2) (lEg arg5 harg5 x3)) ++ fill arg10 arg11 harg10 harg11 x8 x9 := by
  sl_kernel_rfl

/-- The forward output's pieces at the last chunk. -/
theorem of_C (c : Dev nD) (i : grid0.Coords) (arg2 : Memref sig .tc .vmem S4x1x1x8x128x128 .bf16) (harg2 : arg2.IsWhole) (arg3 : Memref sig .tc .vmem S4x1x1x8x64x128 .f32) (harg3 : arg3.IsWhole) (arg4 : Memref sig .tc .vmem S4x1x1x8x192x64 .bf16) (harg4 : arg4.IsWhole) (arg5 : Memref sig .tc .vmem S4x1x1x8x128 .f32) (harg5 : arg5.IsWhole) (arg6 : Memref sig .tc .vmem S4x1x1x8x128x128 .bf16) (harg6 : arg6.IsWhole) (arg7 : Memref sig .tc .vmem S4x1x1x8x64x128 .f32) (harg7 : arg7.IsWhole) (arg8 : Memref sig .tc .vmem S4x1x1x8x192x64 .bf16) (harg8 : arg8.IsWhole) (arg9 : Memref sig .tc .vmem S4x1x1x8x128 .f32) (harg9 : arg9.IsWhole) (arg10 : Memref sig .tc .vmem S4x8x128x128 .f32) (harg10 : arg10.IsWhole) (arg11 : Memref sig .tc .vmem S4x8x128x128 .f32) (harg11 : arg11.IsWhole) (arg12 : Memref sig .tc .vmem S4x64x1024 .bf16) (harg12 : arg12.IsWhole) (arg13 : Memref sig .tc .vmem S4x64x1024 .bf16) (harg13 : arg13.IsWhole) (arg14 : Memref sig .tc .vmem S4x8x128x128 .f32) (harg14 : arg14.IsWhole) (arg15 : Memref sig .tc .vmem S4x8x128x128 .f32) (harg15 : arg15.IsWhole) (arg16 : Memref sig .tc .vmem S2x4x8x128x128 .f32) (harg16 : arg16.IsWhole) (hc0 : ¬cond0_0 i) (hc1 : cond0_1 i)
    (x0 : Vec F S4x1x1x8x128x128 .bf16) (x1 : Vec F S4x1x1x8x64x128 .f32) (x2 : Vec F S4x1x1x8x192x64 .bf16) (x3 : Vec F S4x1x1x8x128 .f32) (x4 : Vec F S4x1x1x8x128x128 .bf16) (x5 : Vec F S4x1x1x8x64x128 .f32) (x6 : Vec F S4x1x1x8x192x64 .bf16) (x7 : Vec F S4x1x1x8x128 .f32) (x8 : Vec F S4x8x128x128 .f32) (x9 : Vec F S4x8x128x128 .f32) (xs0 : Vec F S2x4x8x128x128 .f32) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0).1 = units.map (oPiece (lS arg16 harg16 xs0 0) (lWq arg2 harg2 x0) (lU arg3 harg3 x1) (lAk arg4 harg4 x2)) := by
  sl_kernel_rfl

/-- The backward output's pieces at the last chunk. -/
theorem ob_C (c : Dev nD) (i : grid0.Coords) (arg2 : Memref sig .tc .vmem S4x1x1x8x128x128 .bf16) (harg2 : arg2.IsWhole) (arg3 : Memref sig .tc .vmem S4x1x1x8x64x128 .f32) (harg3 : arg3.IsWhole) (arg4 : Memref sig .tc .vmem S4x1x1x8x192x64 .bf16) (harg4 : arg4.IsWhole) (arg5 : Memref sig .tc .vmem S4x1x1x8x128 .f32) (harg5 : arg5.IsWhole) (arg6 : Memref sig .tc .vmem S4x1x1x8x128x128 .bf16) (harg6 : arg6.IsWhole) (arg7 : Memref sig .tc .vmem S4x1x1x8x64x128 .f32) (harg7 : arg7.IsWhole) (arg8 : Memref sig .tc .vmem S4x1x1x8x192x64 .bf16) (harg8 : arg8.IsWhole) (arg9 : Memref sig .tc .vmem S4x1x1x8x128 .f32) (harg9 : arg9.IsWhole) (arg10 : Memref sig .tc .vmem S4x8x128x128 .f32) (harg10 : arg10.IsWhole) (arg11 : Memref sig .tc .vmem S4x8x128x128 .f32) (harg11 : arg11.IsWhole) (arg12 : Memref sig .tc .vmem S4x64x1024 .bf16) (harg12 : arg12.IsWhole) (arg13 : Memref sig .tc .vmem S4x64x1024 .bf16) (harg13 : arg13.IsWhole) (arg14 : Memref sig .tc .vmem S4x8x128x128 .f32) (harg14 : arg14.IsWhole) (arg15 : Memref sig .tc .vmem S4x8x128x128 .f32) (harg15 : arg15.IsWhole) (arg16 : Memref sig .tc .vmem S2x4x8x128x128 .f32) (harg16 : arg16.IsWhole) (hc0 : ¬cond0_0 i) (hc1 : cond0_1 i)
    (x0 : Vec F S4x1x1x8x128x128 .bf16) (x1 : Vec F S4x1x1x8x64x128 .f32) (x2 : Vec F S4x1x1x8x192x64 .bf16) (x3 : Vec F S4x1x1x8x128 .f32) (x4 : Vec F S4x1x1x8x128x128 .bf16) (x5 : Vec F S4x1x1x8x64x128 .f32) (x6 : Vec F S4x1x1x8x192x64 .bf16) (x7 : Vec F S4x1x1x8x128 .f32) (x8 : Vec F S4x8x128x128 .f32) (x9 : Vec F S4x8x128x128 .f32) (xs0 : Vec F S2x4x8x128x128 .f32) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0).2.1 = units.map (oPiece (lS arg16 harg16 xs0 1) (lWq arg6 harg6 x4) (lU arg7 harg7 x5) (lAk arg8 harg8 x6)) := by
  sl_kernel_rfl

/-- The carried state's pieces at the last chunk. -/
theorem st_C (c : Dev nD) (i : grid0.Coords) (arg2 : Memref sig .tc .vmem S4x1x1x8x128x128 .bf16) (harg2 : arg2.IsWhole) (arg3 : Memref sig .tc .vmem S4x1x1x8x64x128 .f32) (harg3 : arg3.IsWhole) (arg4 : Memref sig .tc .vmem S4x1x1x8x192x64 .bf16) (harg4 : arg4.IsWhole) (arg5 : Memref sig .tc .vmem S4x1x1x8x128 .f32) (harg5 : arg5.IsWhole) (arg6 : Memref sig .tc .vmem S4x1x1x8x128x128 .bf16) (harg6 : arg6.IsWhole) (arg7 : Memref sig .tc .vmem S4x1x1x8x64x128 .f32) (harg7 : arg7.IsWhole) (arg8 : Memref sig .tc .vmem S4x1x1x8x192x64 .bf16) (harg8 : arg8.IsWhole) (arg9 : Memref sig .tc .vmem S4x1x1x8x128 .f32) (harg9 : arg9.IsWhole) (arg10 : Memref sig .tc .vmem S4x8x128x128 .f32) (harg10 : arg10.IsWhole) (arg11 : Memref sig .tc .vmem S4x8x128x128 .f32) (harg11 : arg11.IsWhole) (arg12 : Memref sig .tc .vmem S4x64x1024 .bf16) (harg12 : arg12.IsWhole) (arg13 : Memref sig .tc .vmem S4x64x1024 .bf16) (harg13 : arg13.IsWhole) (arg14 : Memref sig .tc .vmem S4x8x128x128 .f32) (harg14 : arg14.IsWhole) (arg15 : Memref sig .tc .vmem S4x8x128x128 .f32) (harg15 : arg15.IsWhole) (arg16 : Memref sig .tc .vmem S2x4x8x128x128 .f32) (harg16 : arg16.IsWhole) (hc0 : ¬cond0_0 i) (hc1 : cond0_1 i)
    (x0 : Vec F S4x1x1x8x128x128 .bf16) (x1 : Vec F S4x1x1x8x64x128 .f32) (x2 : Vec F S4x1x1x8x192x64 .bf16) (x3 : Vec F S4x1x1x8x128 .f32) (x4 : Vec F S4x1x1x8x128x128 .bf16) (x5 : Vec F S4x1x1x8x64x128 .f32) (x6 : Vec F S4x1x1x8x192x64 .bf16) (x7 : Vec F S4x1x1x8x128 .f32) (x8 : Vec F S4x8x128x128 .f32) (x9 : Vec F S4x8x128x128 .f32) (xs0 : Vec F S2x4x8x128x128 .f32) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0).2.2.2.2.1 = units.map (sPiece 1 (lS arg16 harg16 xs0 1) (lWq arg6 harg6 x4) (lU arg7 harg7 x5) (lAk arg8 harg8 x6) (lEg arg9 harg9 x7)) ++ units.map (sPiece 0 (lS arg16 harg16 xs0 0) (lWq arg2 harg2 x0) (lU arg3 harg3 x1) (lAk arg4 harg4 x2) (lEg arg5 harg5 x3)) := by
  sl_kernel_rfl

/-- The forward final state's one piece, at the last chunk: that half of the carried state, read back. -/
theorem sf_C (c : Dev nD) (i : grid0.Coords) (arg2 : Memref sig .tc .vmem S4x1x1x8x128x128 .bf16) (harg2 : arg2.IsWhole) (arg3 : Memref sig .tc .vmem S4x1x1x8x64x128 .f32) (harg3 : arg3.IsWhole) (arg4 : Memref sig .tc .vmem S4x1x1x8x192x64 .bf16) (harg4 : arg4.IsWhole) (arg5 : Memref sig .tc .vmem S4x1x1x8x128 .f32) (harg5 : arg5.IsWhole) (arg6 : Memref sig .tc .vmem S4x1x1x8x128x128 .bf16) (harg6 : arg6.IsWhole) (arg7 : Memref sig .tc .vmem S4x1x1x8x64x128 .f32) (harg7 : arg7.IsWhole) (arg8 : Memref sig .tc .vmem S4x1x1x8x192x64 .bf16) (harg8 : arg8.IsWhole) (arg9 : Memref sig .tc .vmem S4x1x1x8x128 .f32) (harg9 : arg9.IsWhole) (arg10 : Memref sig .tc .vmem S4x8x128x128 .f32) (harg10 : arg10.IsWhole) (arg11 : Memref sig .tc .vmem S4x8x128x128 .f32) (harg11 : arg11.IsWhole) (arg12 : Memref sig .tc .vmem S4x64x1024 .bf16) (harg12 : arg12.IsWhole) (arg13 : Memref sig .tc .vmem S4x64x1024 .bf16) (harg13 : arg13.IsWhole) (arg14 : Memref sig .tc .vmem S4x8x128x128 .f32) (harg14 : arg14.IsWhole) (arg15 : Memref sig .tc .vmem S4x8x128x128 .f32) (harg15 : arg15.IsWhole) (arg16 : Memref sig .tc .vmem S2x4x8x128x128 .f32) (harg16 : arg16.IsWhole) (hc0 : ¬cond0_0 i) (hc1 : cond0_1 i)
    (x0 : Vec F S4x1x1x8x128x128 .bf16) (x1 : Vec F S4x1x1x8x64x128 .f32) (x2 : Vec F S4x1x1x8x192x64 .bf16) (x3 : Vec F S4x1x1x8x128 .f32) (x4 : Vec F S4x1x1x8x128x128 .bf16) (x5 : Vec F S4x1x1x8x64x128 .f32) (x6 : Vec F S4x1x1x8x192x64 .bf16) (x7 : Vec F S4x1x1x8x128 .f32) (x8 : Vec F S4x8x128x128 .f32) (x9 : Vec F S4x8x128x128 .f32) (xs0 : Vec F S2x4x8x128x128 .f32) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0).2.2.1 = [⟨Rect.unit ![0, 0, 0, 0] S4x8x128x128.size inbSt,
      shapeCast S4x8x128x128 (arg16.view.readCov (units.map (sPiece 1 (lS arg16 harg16 xs0 1) (lWq arg6 harg6 x4) (lU arg7 harg7 x5) (lAk arg8 harg8 x6) (lEg arg9 harg9 x7)) ++ units.map (sPiece 0 (lS arg16 harg16 xs0 0) (lWq arg2 harg2 x0) (lU arg3 harg3 x1) (lAk arg4 harg4 x2) (lEg arg5 harg5 x3)))
        (rHalf 0).toLoadRect : Vec F S1x4x8x128x128 .f32)
        shapeCasts_S1x4x8x128x128_S4x8x128x128⟩] := by
  sl_kernel_rfl

/-- The backward final state's one piece, at the last chunk: that half of the carried state, read back. -/
theorem sb_C (c : Dev nD) (i : grid0.Coords) (arg2 : Memref sig .tc .vmem S4x1x1x8x128x128 .bf16) (harg2 : arg2.IsWhole) (arg3 : Memref sig .tc .vmem S4x1x1x8x64x128 .f32) (harg3 : arg3.IsWhole) (arg4 : Memref sig .tc .vmem S4x1x1x8x192x64 .bf16) (harg4 : arg4.IsWhole) (arg5 : Memref sig .tc .vmem S4x1x1x8x128 .f32) (harg5 : arg5.IsWhole) (arg6 : Memref sig .tc .vmem S4x1x1x8x128x128 .bf16) (harg6 : arg6.IsWhole) (arg7 : Memref sig .tc .vmem S4x1x1x8x64x128 .f32) (harg7 : arg7.IsWhole) (arg8 : Memref sig .tc .vmem S4x1x1x8x192x64 .bf16) (harg8 : arg8.IsWhole) (arg9 : Memref sig .tc .vmem S4x1x1x8x128 .f32) (harg9 : arg9.IsWhole) (arg10 : Memref sig .tc .vmem S4x8x128x128 .f32) (harg10 : arg10.IsWhole) (arg11 : Memref sig .tc .vmem S4x8x128x128 .f32) (harg11 : arg11.IsWhole) (arg12 : Memref sig .tc .vmem S4x64x1024 .bf16) (harg12 : arg12.IsWhole) (arg13 : Memref sig .tc .vmem S4x64x1024 .bf16) (harg13 : arg13.IsWhole) (arg14 : Memref sig .tc .vmem S4x8x128x128 .f32) (harg14 : arg14.IsWhole) (arg15 : Memref sig .tc .vmem S4x8x128x128 .f32) (harg15 : arg15.IsWhole) (arg16 : Memref sig .tc .vmem S2x4x8x128x128 .f32) (harg16 : arg16.IsWhole) (hc0 : ¬cond0_0 i) (hc1 : cond0_1 i)
    (x0 : Vec F S4x1x1x8x128x128 .bf16) (x1 : Vec F S4x1x1x8x64x128 .f32) (x2 : Vec F S4x1x1x8x192x64 .bf16) (x3 : Vec F S4x1x1x8x128 .f32) (x4 : Vec F S4x1x1x8x128x128 .bf16) (x5 : Vec F S4x1x1x8x64x128 .f32) (x6 : Vec F S4x1x1x8x192x64 .bf16) (x7 : Vec F S4x1x1x8x128 .f32) (x8 : Vec F S4x8x128x128 .f32) (x9 : Vec F S4x8x128x128 .f32) (xs0 : Vec F S2x4x8x128x128 .f32) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0).2.2.2.1 = [⟨Rect.unit ![0, 0, 0, 0] S4x8x128x128.size inbSt,
      shapeCast S4x8x128x128 (arg16.view.readCov (units.map (sPiece 1 (lS arg16 harg16 xs0 1) (lWq arg6 harg6 x4) (lU arg7 harg7 x5) (lAk arg8 harg8 x6) (lEg arg9 harg9 x7)) ++ units.map (sPiece 0 (lS arg16 harg16 xs0 0) (lWq arg2 harg2 x0) (lU arg3 harg3 x1) (lAk arg4 harg4 x2) (lEg arg5 harg5 x3)))
        (rHalf 1).toLoadRect : Vec F S1x4x8x128x128 .f32)
        shapeCasts_S1x4x8x128x128_S4x8x128x128⟩] := by
  sl_kernel_rfl

end Cert.KernelIdeal.DeltaPieces

end
-- ==== Proof.DeltaBlock.lean ====
/- What one grid point of the scan kernel leaves in its output blocks and in the carried state, over the extended reals:
   for every unit the chunk's equations, of the point's input blocks and the state it finds. -/
module

public import proofs.«01_k».proof.Proof.DeltaPieces

@[expose] public section

set_option maxRecDepth 16384

noncomputable section

namespace Cert.KernelIdeal.DeltaBlock

open Cert.KernelIdeal Cert.KernelIdeal.Gen Cert.KernelIdeal.DeltaUnit Cert.KernelIdeal.DeltaPieces Cert.DeltaSpec
open Idealize.ShloMosaic Idealize.ShloMosaic.TcCoe Idealize.ShloMosaic.Tactic Idealize.SL.Sem

/-- Unit `(b, h)`'s matrices in the staged blocks. -/
abbrev bWq (x : FVec Ideal S4x1x1x8x128x128 .bf16) (b : Fin 4) (h : Fin 8) : Mat 128 128 := fun r k => x (ix6 b 0 0 h r k)
abbrev bU (x : FVec Ideal S4x1x1x8x64x128 .f32) (b : Fin 4) (h : Fin 8) : Mat 64 128 := fun c v => x (ix6 b 0 0 h c v)
abbrev bAk (x : FVec Ideal S4x1x1x8x192x64 .bf16) (b : Fin 4) (h : Fin 8) : Mat 192 64 := fun r c => x (ix6 b 0 0 h r c)
abbrev bEg (x : FVec Ideal S4x1x1x8x128 .f32) (b : Fin 4) (h : Fin 8) : Fin 128 → EReal := fun v => x (ix5 b 0 0 h v)

/-- The output block: column `q` belongs to head `q / 128`. -/
def blkO (S : Fin 4 → Fin 8 → Mat 128 128) (x0 : FVec Ideal S4x1x1x8x128x128 .bf16) (x1 : FVec Ideal S4x1x1x8x64x128 .f32)
    (x2 : FVec Ideal S4x1x1x8x192x64 .bf16) (b : Fin 4) (c : Fin 64) (q : Fin 1024) : EReal :=
  oChunk (bWq x0 b ⟨q.val / 128, by omega⟩) (bU x1 b ⟨q.val / 128, by omega⟩) (bAk x2 b ⟨q.val / 128, by omega⟩)
    (S b ⟨q.val / 128, by omega⟩) c ⟨q.val % 128, by omega⟩

/-- One direction's next state. -/
def blkS (S : Fin 4 → Fin 8 → Mat 128 128) (x0 : FVec Ideal S4x1x1x8x128x128 .bf16) (x1 : FVec Ideal S4x1x1x8x64x128 .f32)
    (x2 : FVec Ideal S4x1x1x8x192x64 .bf16) (x3 : FVec Ideal S4x1x1x8x128 .f32) (b : Fin 4) (h : Fin 8) : Mat 128 128 :=
  sNext (bWq x0 b h) (bU x1 b h) (bAk x2 b h) (bEg x3 b h) (S b h)

section Loads

variable (b : Fin 4) (h : Fin 8)

theorem lWq_eq (a : Memref sig .tc .vmem S4x1x1x8x128x128 .bf16) (ha : a.IsWhole) (x : FVec Ideal S4x1x1x8x128x128 .bf16) :
    mWq (lWq (F := Ideal) a ha x b h) = bWq x b h := by
  funext r k
  show View.ld (a.view.read (Elt Ideal) (ha.unread x)) (rWq b h) (ix6 0 0 0 0 r k) = _
  rw [ha.read_unread]
  pointwise

theorem lU_eq (a : Memref sig .tc .vmem S4x1x1x8x64x128 .f32) (ha : a.IsWhole) (x : FVec Ideal S4x1x1x8x64x128 .f32) :
    mU (lU (F := Ideal) a ha x b h) = bU x b h := by
  funext r k
  show View.ld (a.view.read (Elt Ideal) (ha.unread x)) (rU b h) (ix6 0 0 0 0 r k) = _
  rw [ha.read_unread]
  pointwise

theorem lAk_eq (a : Memref sig .tc .vmem S4x1x1x8x192x64 .bf16) (ha : a.IsWhole) (x : FVec Ideal S4x1x1x8x192x64 .bf16) :
    mAk (lAk (F := Ideal) a ha x b h) = bAk x b h := by
  funext r k
  show View.ld (a.view.read (Elt Ideal) (ha.unread x)) (rAk b h) (ix6 0 0 0 0 r k) = _
  rw [ha.read_unread]
  pointwise

theorem lEg_eq (a : Memref sig .tc .vmem S4x1x1x8x128 .f32) (ha : a.IsWhole) (x : FVec Ideal S4x1x1x8x128 .f32) :
    mEg (lEg (F := Ideal) a ha x b h) = bEg x b h := by
  funext k
  show View.ld (a.view.read (Elt Ideal) (ha.unread x)) (rEg b h) (ix5 0 0 0 0 k) = _
  rw [ha.read_unread]
  pointwise

theorem lS_eq (a : Memref sig .tc .vmem S2x4x8x128x128 .f32) (ha : a.IsWhole) (x : FVec Ideal S2x4x8x128x128 .f32) (d : Fin 2) :
    mS (lS (F := Ideal) a ha x d b h) = fun k v => x (ix5 d b h k v) := by
  funext k v
  show View.ld (a.view.read (Elt Ideal) (ha.unread x)) (rS d b h) (ix5 0 0 0 k v) = _
  rw [ha.read_unread]
  pointwise

end Loads

/-! ## Pieces, one for each unit, read back -/

theorem mem_units : ∀ p : Fin 4 × Fin 8, p ∈ units := by decide

/-- Writes made before a covering list of writes do not show. -/
theorem canon_append {Val : EltTy → Type} [∀ e, Nonempty (Val e)] {s : Shape} {e : EltTy} (M : List (View.Piece Val s e)) (y : s.Idx) :
    ∀ L : List (View.Piece Val s e), (∃ p ∈ L, y ∈ p.1.set) → View.canon (L ++ M) y = View.canon L y
  | [], hy => by obtain ⟨p, hp, _⟩ := hy; simp at hp
  | p :: L, hy => by
    rw [List.cons_append]
    by_cases hm : y ∈ p.1.set
    · obtain ⟨x, rfl⟩ := p.1.exists_idx_of_mem hm
      rw [show p.1.idx x = p.1.emb x from rfl, View.canon_cons_emb, View.canon_cons_emb]
    · rw [View.canon_cons_of_not_mem _ _ hm, View.canon_cons_of_not_mem _ _ hm]
      refine canon_append M y L ?_
      obtain ⟨q, hq, hyq⟩ := hy
      rcases List.mem_cons.mp hq with rfl | hq'
      · exact absurd hyq hm
      · exact ⟨q, hq', hyq⟩

/-- Where a unit's piece of the carried state lies. -/
theorem emb_rS (d : Fin 2) (b : Fin 4) (h : Fin 8) (x : S1x1x1x128x128.Idx) :
    (rS d b h).emb x = (ix5 d b h (x 3) (x 4) : S2x4x8x128x128.Idx) := by
  idx_vars x
  funext a
  apply Fin.ext
  match a with
  | ⟨0, _⟩ => show d.val + 1 * x0.val = d.val; omega
  | ⟨1, _⟩ => show b.val + 1 * x1.val = b.val; omega
  | ⟨2, _⟩ => show h.val + 1 * x2.val = h.val; omega
  | ⟨3, _⟩ => show 0 + 1 * x3.val = x3.val; omega
  | ⟨4, _⟩ => show 0 + 1 * x4.val = x4.val; omega

/-- Where a direction's half of the carried state lies. -/
theorem emb_rHalf (d : Fin 2) (x : S1x4x8x128x128.Idx) :
    (rHalf d).emb x = (ix5 d (x 1) (x 2) (x 3) (x 4) : S2x4x8x128x128.Idx) := by
  idx_vars x
  funext a
  apply Fin.ext
  match a with
  | ⟨0, _⟩ => show d.val + 1 * x0.val = d.val; omega
  | ⟨1, _⟩ => show 0 + 1 * x1.val = x1.val; omega
  | ⟨2, _⟩ => show 0 + 1 * x2.val = x2.val; omega
  | ⟨3, _⟩ => show 0 + 1 * x3.val = x3.val; omega
  | ⟨4, _⟩ => show 0 + 1 * x4.val = x4.val; omega

section Canon

variable (s : Fin 4 → Fin 8 → FVec Ideal S1x1x1x128x128 .f32) (wq : Fin 4 → Fin 8 → FVec Ideal S1x1x1x1x128x128 .bf16)
  (u : Fin 4 → Fin 8 → FVec Ideal S1x1x1x1x64x128 .f32) (ak : Fin 4 → Fin 8 → FVec Ideal S1x1x1x1x192x64 .bf16)
  (eg : Fin 4 → Fin 8 → FVec Ideal S1x1x1x1x128 .f32)

/-- The output block that one direction's pieces leave. -/
theorem canon_o (b : Fin 4) (c : Fin 64) (q : Fin 1024) :
    View.canon (Val := Elt Ideal) (s := S4x64x1024) (e := .bf16) (units.map (oPiece (F := Ideal) s wq u ak)) (ix3 b c q)
      = oChunk (mWq (wq b ⟨q.val / 128, by omega⟩)) (mU (u b ⟨q.val / 128, by omega⟩)) (mAk (ak b ⟨q.val / 128, by omega⟩))
          (mS (s b ⟨q.val / 128, by omega⟩)) c ⟨q.val % 128, by omega⟩ := by
  let g : Fin 4 → Fin 64 → Fin 1024 → EReal := fun b c q =>
    oChunk (mWq (wq b ⟨q.val / 128, by omega⟩)) (mU (u b ⟨q.val / 128, by omega⟩)) (mAk (ak b ⟨q.val / 128, by omega⟩))
      (mS (s b ⟨q.val / 128, by omega⟩)) c ⟨q.val % 128, by omega⟩
  refine View.canon_apply_of_pieces (Val := Elt Ideal) (S := S4x64x1024) (e := .bf16)
    (fun y : S4x64x1024.Idx => g (y 0) (y 1) (y 2)) _ ?_ _ ?_
  · intro p hp
    obtain ⟨⟨b', h'⟩, -, rfl⟩ := List.mem_map.mp hp
    intro (x : S1x64x128.Idx)
    idx_vars x
    obtain rfl : x0 = 0 := Subsingleton.elim _ _
    have e : (rO b' h').emb (ix3 0 x1 x2 : S1x64x128.Idx)
        = (ix3 b' x1 ⟨128 * h'.val + x2.val, by omega⟩ : S4x64x1024.Idx) := by
      funext a
      apply Fin.ext
      match a with
      | ⟨0, _⟩ => show b'.val + 1 * 0 = b'.val; omega
      | ⟨1, _⟩ => show 0 + 1 * x1.val = x1.val; omega
      | ⟨2, _⟩ => show 128 * h'.val + 1 * x2.val = 128 * h'.val + x2.val; omega
    refine Eq.trans ?_ (congrArg (fun y : S4x64x1024.Idx => g (y 0) (y 1) (y 2)) e).symm
    refine (oPay_apply (s b' h') (wq b' h') (u b' h') (ak b' h') x1 x2).trans ?_
    have q1 : (128 * h'.val + x2.val) / 128 = h'.val := by omega
    have q2 : (128 * h'.val + x2.val) % 128 = x2.val := by omega
    show _ = g b' x1 ⟨128 * h'.val + x2.val, by omega⟩
    simp only [g, q1, q2, Fin.eta]
  · have hq := q.isLt
    refine ⟨_, List.mem_map.mpr ⟨(b, ⟨q.val / 128, by omega⟩), mem_units _, rfl⟩, ?_⟩
    show (ix3 b c q : S4x64x1024.Idx) ∈ (rO b ⟨q.val / 128, by omega⟩).set
    refine Rect.mem_set_unit.mpr fun a => ?_
    match a with
    | ⟨0, _⟩ => show b.val ≤ b.val ∧ b.val < b.val + 1; omega
    | ⟨1, _⟩ => show 0 ≤ c.val ∧ c.val < 0 + 64; omega
    | ⟨2, _⟩ => show 128 * (q.val / 128) ≤ q.val ∧ q.val < 128 * (q.val / 128) + 128; omega

/-- Every element of the carried state lies in some unit's piece. -/
theorem cover_s (s' : Fin 4 → Fin 8 → FVec Ideal S1x1x1x128x128 .f32) (wq' : Fin 4 → Fin 8 → FVec Ideal S1x1x1x1x128x128 .bf16)
    (u' : Fin 4 → Fin 8 → FVec Ideal S1x1x1x1x64x128 .f32) (ak' : Fin 4 → Fin 8 → FVec Ideal S1x1x1x1x192x64 .bf16)
    (eg' : Fin 4 → Fin 8 → FVec Ideal S1x1x1x1x128 .f32) (d : Fin 2) (b : Fin 4) (h : Fin 8) (k v : Fin 128) :
    ∃ p ∈ units.map (sPiece (F := Ideal) 1 s' wq' u' ak' eg') ++ units.map (sPiece (F := Ideal) 0 s wq u ak eg),
      (ix5 d b h k v : S2x4x8x128x128.Idx) ∈ p.1.set := by
  have hin : (ix5 d b h k v : S2x4x8x128x128.Idx) ∈ (rS d b h).set := by
    refine Rect.mem_set_unit.mpr fun a => ?_
    match a with
    | ⟨0, _⟩ => show d.val ≤ d.val ∧ d.val < d.val + 1; omega
    | ⟨1, _⟩ => show b.val ≤ b.val ∧ b.val < b.val + 1; omega
    | ⟨2, _⟩ => show h.val ≤ h.val ∧ h.val < h.val + 1; omega
    | ⟨3, _⟩ => show 0 ≤ k.val ∧ k.val < 0 + 128; omega
    | ⟨4, _⟩ => show 0 ≤ v.val ∧ v.val < 0 + 128; omega
  fin_cases d
  · exact ⟨_, List.mem_append_right _ (List.mem_map.mpr ⟨(b, h), mem_units _, rfl⟩), hin⟩
  · exact ⟨_, List.mem_append_left _ (List.mem_map.mpr ⟨(b, h), mem_units _, rfl⟩), hin⟩

/-- The carried state that both directions' pieces leave. -/
theorem canon_s (s' : Fin 4 → Fin 8 → FVec Ideal S1x1x1x128x128 .f32) (wq' : Fin 4 → Fin 8 → FVec Ideal S1x1x1x1x128x128 .bf16)
    (u' : Fin 4 → Fin 8 → FVec Ideal S1x1x1x1x64x128 .f32) (ak' : Fin 4 → Fin 8 → FVec Ideal S1x1x1x1x192x64 .bf16)
    (eg' : Fin 4 → Fin 8 → FVec Ideal S1x1x1x1x128 .f32) (d : Fin 2) (b : Fin 4) (h : Fin 8) (k v : Fin 128) :
    View.canon (Val := Elt Ideal) (s := S2x4x8x128x128) (e := .f32) (units.map (sPiece (F := Ideal) 1 s' wq' u' ak' eg')
        ++ units.map (sPiece (F := Ideal) 0 s wq u ak eg)) (ix5 d b h k v)
      = if d = 0 then sNext (mWq (wq b h)) (mU (u b h)) (mAk (ak b h)) (mEg (eg b h)) (mS (s b h)) k v
        else sNext (mWq (wq' b h)) (mU (u' b h)) (mAk (ak' b h)) (mEg (eg' b h)) (mS (s' b h)) k v := by
  let g : Fin 2 → Fin 4 → Fin 8 → Fin 128 → Fin 128 → EReal := fun d b h k v =>
    if d = 0 then sNext (mWq (wq b h)) (mU (u b h)) (mAk (ak b h)) (mEg (eg b h)) (mS (s b h)) k v
    else sNext (mWq (wq' b h)) (mU (u' b h)) (mAk (ak' b h)) (mEg (eg' b h)) (mS (s' b h)) k v
  refine View.canon_apply_of_pieces (Val := Elt Ideal) (S := S2x4x8x128x128) (e := .f32)
    (fun y : S2x4x8x128x128.Idx => g (y 0) (y 1) (y 2) (y 3) (y 4)) _ ?_ _ (cover_s s wq u ak eg s' wq' u' ak' eg' d b h k v)
  intro p hp
  rcases List.mem_append.mp hp with hp | hp
  all_goals
    obtain ⟨⟨b', h'⟩, -, rfl⟩ := List.mem_map.mp hp
    intro (x : S1x1x1x128x128.Idx)
    refine Eq.trans ?_ (congrArg (fun y : S2x4x8x128x128.Idx => g (y 0) (y 1) (y 2) (y 3) (y 4)) (emb_rS _ b' h' x)).symm
    idx_vars x
    obtain rfl : x0 = 0 := Subsingleton.elim _ _
    obtain rfl : x1 = 0 := Subsingleton.elim _ _
    obtain rfl : x2 = 0 := Subsingleton.elim _ _
    exact sPay_apply _ _ _ _ _ x3 x4

end Canon

/-- The carried state as the two initial states fill it. -/
theorem canon_fill (a10 a11 : Memref sig .tc .vmem S4x8x128x128 .f32) (h10 : a10.IsWhole) (h11 : a11.IsWhole)
    (x8 x9 : FVec Ideal S4x8x128x128 .f32) (d : Fin 2) (b : Fin 4) (h : Fin 8) (k v : Fin 128) :
    View.canon (Val := Elt Ideal) (s := S2x4x8x128x128) (e := .f32) (fill (F := Ideal) a10 a11 h10 h11 x8 x9) (ix5 d b h k v)
      = if d = 0 then x8 (ix4 b h k v) else x9 (ix4 b h k v) := by
  have ld8 : View.ld (a10.view.read (Elt Ideal) (h10.unread x8)) (Rect.unit ![0, 0, 0, 0] S4x8x128x128.size inbSt) = x8 := by
    rw [h10.read_unread]; exact View.ld_unit_zero (S := S4x8x128x128) (by funext a; fin_cases a <;> rfl) _ _
  have ld9 : View.ld (a11.view.read (Elt Ideal) (h11.unread x9)) (Rect.unit ![0, 0, 0, 0] S4x8x128x128.size inbSt) = x9 := by
    rw [h11.read_unread]; exact View.ld_unit_zero (S := S4x8x128x128) (by funext a; fin_cases a <;> rfl) _ _
  let g : Fin 2 → Fin 4 → Fin 8 → Fin 128 → Fin 128 → EReal := fun d b h k v =>
    if d = 0 then x8 (ix4 b h k v) else x9 (ix4 b h k v)
  refine View.canon_apply_of_pieces (Val := Elt Ideal) (S := S2x4x8x128x128) (e := .f32)
    (fun y : S2x4x8x128x128.Idx => g (y 0) (y 1) (y 2) (y 3) (y 4)) _ ?_ _ ?_
  · intro p hp
    rcases List.mem_cons.mp hp with rfl | hp
    · intro (x : S1x4x8x128x128.Idx)
      refine Eq.trans ?_ (congrArg (fun y : S2x4x8x128x128.Idx => g (y 0) (y 1) (y 2) (y 3) (y 4)) (emb_rHalf 1 x)).symm
      show shapeCast S1x4x8x128x128 (View.ld (a11.view.read (Elt Ideal) (h11.unread x9)) (Rect.unit ![0, 0, 0, 0] S4x8x128x128.size inbSt) : FVec Ideal S4x8x128x128 .f32) shapeCasts_S4x8x128x128_S1x4x8x128x128 x = _
      rw [ld9]
      idx_vars x
      pointwise
      rfl
    · obtain rfl := List.mem_singleton.mp hp
      intro (x : S1x4x8x128x128.Idx)
      refine Eq.trans ?_ (congrArg (fun y : S2x4x8x128x128.Idx => g (y 0) (y 1) (y 2) (y 3) (y 4)) (emb_rHalf 0 x)).symm
      show shapeCast S1x4x8x128x128 (View.ld (a10.view.read (Elt Ideal) (h10.unread x8)) (Rect.unit ![0, 0, 0, 0] S4x8x128x128.size inbSt) : FVec Ideal S4x8x128x128 .f32) shapeCasts_S4x8x128x128_S1x4x8x128x128 x = _
      rw [ld8]
      idx_vars x
      pointwise
      rfl
  · have hin : (ix5 d b h k v : S2x4x8x128x128.Idx) ∈ (rHalf d).set := by
      refine Rect.mem_set_unit.mpr fun a => ?_
      match a with
      | ⟨0, _⟩ => show d.val ≤ d.val ∧ d.val < d.val + 1; omega
      | ⟨1, _⟩ => show 0 ≤ b.val ∧ b.val < 0 + 4; omega
      | ⟨2, _⟩ => show 0 ≤ h.val ∧ h.val < 0 + 8; omega
      | ⟨3, _⟩ => show 0 ≤ k.val ∧ k.val < 0 + 128; omega
      | ⟨4, _⟩ => show 0 ≤ v.val ∧ v.val < 0 + 128; omega
    fin_cases d
    · exact ⟨_, List.mem_cons_of_mem _ (List.mem_singleton_self _), hin⟩
    · exact ⟨_, List.mem_cons_self, hin⟩

end Cert.KernelIdeal.DeltaBlock

end
-- ==== Proof.DeltaPoint.lean ====
/- What one grid point of the scan kernel leaves, in each of its three cases: the two output blocks and the carried state are
   the chunk's equations of the point's input blocks and the state before it. -/
module

public import proofs.«01_k».proof.Proof.DeltaBlock

@[expose] public section

set_option maxRecDepth 16384

noncomputable section

namespace Cert.KernelIdeal.DeltaPoint

open Cert.KernelIdeal Cert.KernelIdeal.Gen Cert.KernelIdeal.DeltaUnit Cert.KernelIdeal.DeltaPieces Cert.KernelIdeal.DeltaBlock Cert.DeltaSpec
open Idealize.ShloMosaic Idealize.ShloMosaic.TcCoe Idealize.ShloMosaic.Tactic Idealize.SL.Sem

/-- Direction `d`'s state in the carried array, and the one that the two initial states make. -/
abbrev carried (xs : FVec Ideal S2x4x8x128x128 .f32) (d : Fin 2) (b : Fin 4) (h : Fin 8) : Mat 128 128 := fun k v => xs (ix5 d b h k v)
abbrev initial (x8 x9 : FVec Ideal S4x8x128x128 .f32) (d : Fin 2) (b : Fin 4) (h : Fin 8) : Mat 128 128 := fun k v =>
  if d = 0 then x8 (ix4 b h k v) else x9 (ix4 b h k v)

/-- The carried array after a chunk, from both directions' states before it. -/
def nextS (S : Fin 2 → Fin 4 → Fin 8 → Mat 128 128) (x0 : FVec Ideal S4x1x1x8x128x128 .bf16) (x1 : FVec Ideal S4x1x1x8x64x128 .f32)
    (x2 : FVec Ideal S4x1x1x8x192x64 .bf16) (x3 : FVec Ideal S4x1x1x8x128 .f32) (x4 : FVec Ideal S4x1x1x8x128x128 .bf16)
    (x5 : FVec Ideal S4x1x1x8x64x128 .f32) (x6 : FVec Ideal S4x1x1x8x192x64 .bf16) (x7 : FVec Ideal S4x1x1x8x128 .f32)
    (d : Fin 2) (b : Fin 4) (h : Fin 8) : Mat 128 128 :=
  if d = 0 then blkS (S 0) x0 x1 x2 x3 b h else blkS (S 1) x4 x5 x6 x7 b h

/-- A unit's load of the state that the initial states fill. -/
theorem fill_load (a16 : Memref sig .tc .vmem S2x4x8x128x128 .f32) (a10 a11 : Memref sig .tc .vmem S4x8x128x128 .f32)
    (h10 : a10.IsWhole) (h11 : a11.IsWhole) (x8 x9 : FVec Ideal S4x8x128x128 .f32) (d : Fin 2) (b : Fin 4) (h : Fin 8) :
    mS (a16.view.readCov (fill (F := Ideal) a10 a11 h10 h11 x8 x9) (rS d b h).toLoadRect) = initial x8 x9 d b h := by
  funext k v
  rw [View.readCov_eq_canon']
  show View.canon (Val := Elt Ideal) (s := S2x4x8x128x128) (e := .f32) (fill (F := Ideal) a10 a11 h10 h11 x8 x9)
    ((rS d b h).emb (ix5 0 0 0 k v : S1x1x1x128x128.Idx)) = _
  rw [emb_rS]
  exact canon_fill a10 a11 h10 h11 x8 x9 d b h k v

/-- One direction's output pieces, whatever its units' states are loaded from. -/
theorem o_of (s : Fin 4 → Fin 8 → FVec Ideal S1x1x1x128x128 .f32) (S : Fin 4 → Fin 8 → Mat 128 128) (hS : ∀ b h, mS (s b h) = S b h)
    (a0 : Memref sig .tc .vmem S4x1x1x8x128x128 .bf16) (h0 : a0.IsWhole) (a1 : Memref sig .tc .vmem S4x1x1x8x64x128 .f32) (h1 : a1.IsWhole)
    (a2 : Memref sig .tc .vmem S4x1x1x8x192x64 .bf16) (h2 : a2.IsWhole) (x0 : FVec Ideal S4x1x1x8x128x128 .bf16)
    (x1 : FVec Ideal S4x1x1x8x64x128 .f32) (x2 : FVec Ideal S4x1x1x8x192x64 .bf16) (b : Fin 4) (r : Fin 64) (q : Fin 1024) :
    View.canon (Val := Elt Ideal) (s := S4x64x1024) (e := .bf16) (units.map (oPiece (F := Ideal) s (lWq a0 h0 x0) (lU a1 h1 x1) (lAk a2 h2 x2)))
      (ix3 b r q) = blkO S x0 x1 x2 b r q := by
  rw [canon_o, lWq_eq, lU_eq, lAk_eq, hS]
  rfl

/-- Both directions' state pieces, whatever the units' states are loaded from. -/
theorem s_of (s s' : Fin 4 → Fin 8 → FVec Ideal S1x1x1x128x128 .f32) (S : Fin 2 → Fin 4 → Fin 8 → Mat 128 128)
    (hS : ∀ b h, mS (s b h) = S 0 b h) (hS' : ∀ b h, mS (s' b h) = S 1 b h)
    (a0 : Memref sig .tc .vmem S4x1x1x8x128x128 .bf16) (h0 : a0.IsWhole) (a1 : Memref sig .tc .vmem S4x1x1x8x64x128 .f32) (h1 : a1.IsWhole)
    (a2 : Memref sig .tc .vmem S4x1x1x8x192x64 .bf16) (h2 : a2.IsWhole) (a3 : Memref sig .tc .vmem S4x1x1x8x128 .f32) (h3 : a3.IsWhole)
    (a4 : Memref sig .tc .vmem S4x1x1x8x128x128 .bf16) (h4 : a4.IsWhole) (a5 : Memref sig .tc .vmem S4x1x1x8x64x128 .f32) (h5 : a5.IsWhole)
    (a6 : Memref sig .tc .vmem S4x1x1x8x192x64 .bf16) (h6 : a6.IsWhole) (a7 : Memref sig .tc .vmem S4x1x1x8x128 .f32) (h7 : a7.IsWhole)
    (x0 : FVec Ideal S4x1x1x8x128x128 .bf16) (x1 : FVec Ideal S4x1x1x8x64x128 .f32)
    (x2 : FVec Ideal S4x1x1x8x192x64 .bf16) (x3 : FVec Ideal S4x1x1x8x128 .f32) (x4 : FVec Ideal S4x1x1x8x128x128 .bf16)
    (x5 : FVec Ideal S4x1x1x8x64x128 .f32) (x6 : FVec Ideal S4x1x1x8x192x64 .bf16) (x7 : FVec Ideal S4x1x1x8x128 .f32)
    (d : Fin 2) (b : Fin 4) (h : Fin 8) (k v : Fin 128) :
    View.canon (Val := Elt Ideal) (s := S2x4x8x128x128) (e := .f32)
      (units.map (sPiece (F := Ideal) 1 s' (lWq a4 h4 x4) (lU a5 h5 x5) (lAk a6 h6 x6) (lEg a7 h7 x7))
        ++ units.map (sPiece (F := Ideal) 0 s (lWq a0 h0 x0) (lU a1 h1 x1) (lAk a2 h2 x2) (lEg a3 h3 x3))) (ix5 d b h k v)
      = nextS S x0 x1 x2 x3 x4 x5 x6 x7 d b h k v := by
  rw [canon_s, lWq_eq, lU_eq, lAk_eq, lEg_eq, lWq_eq, lU_eq, lAk_eq, lEg_eq, hS, hS']
  unfold nextS
  split <;> rfl

/-- A final state's one piece holds the whole block. -/
theorem canon_st (p : FVec Ideal S4x8x128x128 .f32) (b : Fin 4) (h : Fin 8) (k v : Fin 128) :
    View.canon (Val := Elt Ideal) (s := S4x8x128x128) (e := .f32) [⟨Rect.unit ![0, 0, 0, 0] S4x8x128x128.size inbSt, p⟩] (ix4 b h k v)
      = p (ix4 b h k v) := by
  refine View.canon_apply_of_pieces (Val := Elt Ideal) (S := S4x8x128x128) (e := .f32) p _ ?_ _ ?_
  · intro q hq
    obtain rfl := List.mem_singleton.mp hq
    intro (x : S4x8x128x128.Idx)
    refine congrArg p ?_
    funext a
    apply Fin.ext
    match a with
    | ⟨0, _⟩ => show (x 0).val = 0 + 1 * (x 0).val; omega
    | ⟨1, _⟩ => show (x 1).val = 0 + 1 * (x 1).val; omega
    | ⟨2, _⟩ => show (x 2).val = 0 + 1 * (x 2).val; omega
    | ⟨3, _⟩ => show (x 3).val = 0 + 1 * (x 3).val; omega
  · refine ⟨_, List.mem_singleton_self _, ?_⟩
    show (ix4 b h k v : S4x8x128x128.Idx) ∈ (Rect.unit ![0, 0, 0, 0] S4x8x128x128.size inbSt).set
    refine Rect.mem_set_unit.mpr fun a => ?_
    match a with
    | ⟨0, _⟩ => show 0 ≤ b.val ∧ b.val < 0 + 4; omega
    | ⟨1, _⟩ => show 0 ≤ h.val ∧ h.val < 0 + 8; omega
    | ⟨2, _⟩ => show 0 ≤ k.val ∧ k.val < 0 + 128; omega
    | ⟨3, _⟩ => show 0 ≤ v.val ∧ v.val < 0 + 128; omega

/-- A direction's half of the carried array, as a block of its own. -/
theorem half_st (L : List (View.Piece (Elt Ideal) S2x4x8x128x128 .f32)) (d : Fin 2) (b : Fin 4) (h : Fin 8) (k v : Fin 128) :
    shapeCast S4x8x128x128 ((fun j => View.canon (Val := Elt Ideal) (s := S2x4x8x128x128) (e := .f32) L ((rHalf d).toLoadRect.idx j)) :
      FVec Ideal S1x4x8x128x128 .f32) shapeCasts_S1x4x8x128x128_S4x8x128x128 (ix4 b h k v)
      = View.canon (Val := Elt Ideal) (s := S2x4x8x128x128) (e := .f32) L (ix5 d b h k v) := by
  refine Eq.trans (b := View.canon (Val := Elt Ideal) (s := S2x4x8x128x128) (e := .f32) L ((rHalf d).emb (ix5 0 b h k v : S1x4x8x128x128.Idx))) ?_ ?_
  · pointwise
    rw [emb_rHalf]
    rfl
  · rw [emb_rHalf]
    rfl

section Cases

variable (c : Dev nD) (i : grid0.Coords) (arg2 : Memref sig .tc .vmem S4x1x1x8x128x128 .bf16) (harg2 : arg2.IsWhole) (arg3 : Memref sig .tc .vmem S4x1x1x8x64x128 .f32) (harg3 : arg3.IsWhole) (arg4 : Memref sig .tc .vmem S4x1x1x8x192x64 .bf16) (harg4 : arg4.IsWhole) (arg5 : Memref sig .tc .vmem S4x1x1x8x128 .f32) (harg5 : arg5.IsWhole) (arg6 : Memref sig .tc .vmem S4x1x1x8x128x128 .bf16) (harg6 : arg6.IsWhole) (arg7 : Memref sig .tc .vmem S4x1x1x8x64x128 .f32) (harg7 : arg7.IsWhole) (arg8 : Memref sig .tc .vmem S4x1x1x8x192x64 .bf16) (harg8 : arg8.IsWhole) (arg9 : Memref sig .tc .vmem S4x1x1x8x128 .f32) (harg9 : arg9.IsWhole) (arg10 : Memref sig .tc .vmem S4x8x128x128 .f32) (harg10 : arg10.IsWhole) (arg11 : Memref sig .tc .vmem S4x8x128x128 .f32) (harg11 : arg11.IsWhole) (arg12 : Memref sig .tc .vmem S4x64x1024 .bf16) (harg12 : arg12.IsWhole) (arg13 : Memref sig .tc .vmem S4x64x1024 .bf16) (harg13 : arg13.IsWhole) (arg14 : Memref sig .tc .vmem S4x8x128x128 .f32) (harg14 : arg14.IsWhole) (arg15 : Memref sig .tc .vmem S4x8x128x128 .f32) (harg15 : arg15.IsWhole) (arg16 : Memref sig .tc .vmem S2x4x8x128x128 .f32) (harg16 : arg16.IsWhole)
  (x0 : Vec Ideal S4x1x1x8x128x128 .bf16) (x1 : Vec Ideal S4x1x1x8x64x128 .f32) (x2 : Vec Ideal S4x1x1x8x192x64 .bf16) (x3 : Vec Ideal S4x1x1x8x128 .f32) (x4 : Vec Ideal S4x1x1x8x128x128 .bf16) (x5 : Vec Ideal S4x1x1x8x64x128 .f32) (x6 : Vec Ideal S4x1x1x8x192x64 .bf16) (x7 : Vec Ideal S4x1x1x8x128 .f32) (x8 : Vec Ideal S4x8x128x128 .f32) (x9 : Vec Ideal S4x8x128x128 .f32)

/-- The forward output block at the first chunk. -/
theorem out_A_10 (hc0 : cond0_0 i) (hc1 : ¬cond0_1 i) (b : Fin 4) (r : Fin 64) (q : Fin 1024) :
    out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 (ix3 b r q) = blkO (initial x8 x9 0) x0 x1 x2 b r q := by
  unfold out0_A_10
  rw [View.read_writes_junk_eq_canon, of_A]
  exact o_of _ _ (fun b h => fill_load _ _ _ _ _ _ _ _ b h) _ _ _ _ _ _ _ _ _ b r q

/-- The backward output block at the first chunk. -/
theorem out_A_11 (hc0 : cond0_0 i) (hc1 : ¬cond0_1 i) (b : Fin 4) (r : Fin 64) (q : Fin 1024) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 (ix3 b r q) = blkO (initial x8 x9 1) x4 x5 x6 b r q := by
  unfold out0_A_11
  rw [View.read_writes_junk_eq_canon, ob_A]
  exact o_of _ _ (fun b h => fill_load _ _ _ _ _ _ _ _ b h) _ _ _ _ _ _ _ _ _ b r q

/-- The carried state after the first chunk. -/
theorem sout_A (hc0 : cond0_0 i) (hc1 : ¬cond0_1 i) (d : Fin 2) (b : Fin 4) (h : Fin 8) (k v : Fin 128) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 (ix5 d b h k v) = nextS (initial x8 x9) x0 x1 x2 x3 x4 x5 x6 x7 d b h k v := by
  unfold sout0_A_0
  rw [View.read_writes_junk_eq_canon, st_A]
  rw [canon_append _ _ _ (cover_s _ _ _ _ _ _ _ _ _ _ d b h k v)]
  exact s_of _ _ (initial x8 x9) (fun b h => fill_load _ _ _ _ _ _ _ _ b h) (fun b h => fill_load _ _ _ _ _ _ _ _ b h) _ _ _ _ _ _ _ _ _ _ _ _ _ _ _ _ _ _ _ _ _ _ _ _ d b h k v

/-- The forward output block at a chunk between the first and the last. -/
theorem out_B_10 (hc0 : ¬cond0_0 i) (hc1 : ¬cond0_1 i) (xs0 : Vec Ideal S2x4x8x128x128 .f32) (b : Fin 4) (r : Fin 64) (q : Fin 1024) :
    out0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 (ix3 b r q) = blkO (carried xs0 0) x0 x1 x2 b r q := by
  unfold out0_B_10
  rw [View.read_writes_junk_eq_canon, of_B]
  exact o_of _ _ (fun b h => lS_eq b h _ _ _ _) _ _ _ _ _ _ _ _ _ b r q

/-- The backward output block at a chunk between the first and the last. -/
theorem out_B_11 (hc0 : ¬cond0_0 i) (hc1 : ¬cond0_1 i) (xs0 : Vec Ideal S2x4x8x128x128 .f32) (b : Fin 4) (r : Fin 64) (q : Fin 1024) :
    out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 (ix3 b r q) = blkO (carried xs0 1) x4 x5 x6 b r q := by
  unfold out0_B_11
  rw [View.read_writes_junk_eq_canon, ob_B]
  exact o_of _ _ (fun b h => lS_eq b h _ _ _ _) _ _ _ _ _ _ _ _ _ b r q

/-- The carried state after a chunk between the first and the last. -/
theorem sout_B (hc0 : ¬cond0_0 i) (hc1 : ¬cond0_1 i) (xs0 : Vec Ideal S2x4x8x128x128 .f32) (d : Fin 2) (b : Fin 4) (h : Fin 8) (k v : Fin 128) :
    sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 (ix5 d b h k v) = nextS (carried xs0) x0 x1 x2 x3 x4 x5 x6 x7 d b h k v := by
  unfold sout0_B_0
  rw [View.read_writes_junk_eq_canon, st_B]
  exact s_of _ _ (carried xs0) (fun b h => lS_eq b h _ _ _ _) (fun b h => lS_eq b h _ _ _ _) _ _ _ _ _ _ _ _ _ _ _ _ _ _ _ _ _ _ _ _ _ _ _ _ d b h k v

/-- The forward output block at the last chunk. -/
theorem out_C_10 (hc0 : ¬cond0_0 i) (hc1 : cond0_1 i) (xs0 : Vec Ideal S2x4x8x128x128 .f32) (b : Fin 4) (r : Fin 64) (q : Fin 1024) :
    out0_C_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 (ix3 b r q) = blkO (carried xs0 0) x0 x1 x2 b r q := by
  unfold out0_C_10
  rw [View.read_writes_junk_eq_canon, of_C]
  exact o_of _ _ (fun b h => lS_eq b h _ _ _ _) _ _ _ _ _ _ _ _ _ b r q

/-- The backward output block at the last chunk. -/
theorem out_C_11 (hc0 : ¬cond0_0 i) (hc1 : cond0_1 i) (xs0 : Vec Ideal S2x4x8x128x128 .f32) (b : Fin 4) (r : Fin 64) (q : Fin 1024) :
    out0_C_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 (ix3 b r q) = blkO (carried xs0 1) x4 x5 x6 b r q := by
  unfold out0_C_11
  rw [View.read_writes_junk_eq_canon, ob_C]
  exact o_of _ _ (fun b h => lS_eq b h _ _ _ _) _ _ _ _ _ _ _ _ _ b r q

/-- The carried state after the last chunk. -/
theorem sout_C (hc0 : ¬cond0_0 i) (hc1 : cond0_1 i) (xs0 : Vec Ideal S2x4x8x128x128 .f32) (d : Fin 2) (b : Fin 4) (h : Fin 8) (k v : Fin 128) :
    sout0_C_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 (ix5 d b h k v) = nextS (carried xs0) x0 x1 x2 x3 x4 x5 x6 x7 d b h k v := by
  unfold sout0_C_0
  rw [View.read_writes_junk_eq_canon, st_C]
  exact s_of _ _ (carried xs0) (fun b h => lS_eq b h _ _ _ _) (fun b h => lS_eq b h _ _ _ _) _ _ _ _ _ _ _ _ _ _ _ _ _ _ _ _ _ _ _ _ _ _ _ _ d b h k v

/-- The forward final state, stored at the last chunk. -/
theorem out_C_12 (hc0 : ¬cond0_0 i) (hc1 : cond0_1 i) (xs0 : Vec Ideal S2x4x8x128x128 .f32) (b : Fin 4) (h : Fin 8) (k v : Fin 128) :
    out0_C_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 (ix4 b h k v) = nextS (carried xs0) x0 x1 x2 x3 x4 x5 x6 x7 0 b h k v := by
  unfold out0_C_12
  rw [View.read_writes_junk_eq_canon, sf_C]
  refine (canon_st _ b h k v).trans ?_
  rw [View.readCov_eq_canon']
  refine (half_st _ 0 b h k v).trans ?_
  exact s_of _ _ (carried xs0) (fun b h => lS_eq b h _ _ _ _) (fun b h => lS_eq b h _ _ _ _) _ _ _ _ _ _ _ _ _ _ _ _ _ _ _ _ _ _ _ _ _ _ _ _ 0 b h k v

/-- The backward final state, stored at the last chunk. -/
theorem out_C_13 (hc0 : ¬cond0_0 i) (hc1 : cond0_1 i) (xs0 : Vec Ideal S2x4x8x128x128 .f32) (b : Fin 4) (h : Fin 8) (k v : Fin 128) :
    out0_C_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 (ix4 b h k v) = nextS (carried xs0) x0 x1 x2 x3 x4 x5 x6 x7 1 b h k v := by
  unfold out0_C_13
  rw [View.read_writes_junk_eq_canon, sb_C]
  refine (canon_st _ b h k v).trans ?_
  rw [View.readCov_eq_canon']
  refine (half_st _ 1 b h k v).trans ?_
  exact s_of _ _ (carried xs0) (fun b h => lS_eq b h _ _ _ _) (fun b h => lS_eq b h _ _ _ _) _ _ _ _ _ _ _ _ _ _ _ _ _ _ _ _ _ _ _ _ _ _ _ _ 1 b h k v

end Cases

end Cert.KernelIdeal.DeltaPoint

end
-- ==== Proof.DeltaRun.lean ====
/- The scan kernel's run: by induction over the grid the carried array holds the state before the next chunk, so each point's
   output blocks are that chunk's outputs, and the four arrays end as the scan's outputs and final states. -/
module

public import proofs.«01_k».proof.Proof.Gen.KernelIdeal.Value
public import proofs.«01_k».proof.Proof.DeltaPoint

@[expose] public section

set_option maxRecDepth 16384

noncomputable section

namespace Cert.KernelIdeal.DeltaRun

open Cert.KernelIdeal Cert.KernelIdeal.Gen Cert.KernelIdeal.DeltaUnit Cert.KernelIdeal.DeltaBlock Cert.KernelIdeal.DeltaPoint Cert.DeltaSpec
open Idealize.ShloMosaic Idealize.ShloMosaic.TcCoe Idealize.ShloMosaic.Tactic Idealize.SL.Sem
open Idealize.ShloMosaic.Pipeline (Dat)

/-- The scan's arguments, from the six argument arrays. -/
def argsOf (wq : FVec Ideal S4x64x2x8x128x128 .bf16) (u : FVec Ideal S4x64x2x8x64x128 .f32) (ak : FVec Ideal S4x64x2x8x192x64 .bf16)
    (eg : FVec Ideal S4x64x2x8x128 .f32) (sf sb : FVec Ideal S4x8x128x128 .f32) : Args where
  wq b n d h r k := wq (ix6 b n d h r k)
  u b n d h r k := u (ix6 b n d h r k)
  ak b n d h r k := ak (ix6 b n d h r k)
  eg b n d h v := eg (ix5 b n d h v)
  s0 d b h k v := if d = 0 then sf (ix4 b h k v) else sb (ix4 b h k v)

variable (m : (ℓ : Loc nD τ sig) → Buf (Elt Ideal) ℓ) (c : Dev nD)

/-- The scan's arguments as the launch finds them. -/
abbrev ka : Args := argsOf (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))

/-! ## The staged blocks -/

theorem index_0 : ∀ t : Fin grid0.N, win0_0.index t = ![0, (chunk 0 t.val).val, 0, 0, 0, 0] := by decide +kernel
theorem blk_0 (t : Fin cfg0.N) (b : Fin 4) (h : Fin 8) : bWq (iblk m c 0 t) b h = (ka m c).wq b (chunk 0 t.val) 0 h := by
  funext r k
  show (iblk m c 0 t) _ = V m c main_arg0 _
  unfold iblk
  rw [View.read_apply]
  show V m c main_arg0 _ = _
  congr 1
  have hi := index_0 t
  funext a
  apply Fin.ext
  match a with
  | ⟨0, _⟩ => show win0_0.index t 0 * 4 + 1 * b.val = b.val; rw [show win0_0.index t 0 = 0 from congrFun hi 0]; omega
  | ⟨1, _⟩ => show win0_0.index t 1 * 1 + 1 * 0 = (chunk 0 t.val).val; rw [show win0_0.index t 1 = (chunk 0 t.val).val from congrFun hi 1]; omega
  | ⟨2, _⟩ => show win0_0.index t 2 * 1 + 1 * 0 = 0; rw [show win0_0.index t 2 = 0 from congrFun hi 2]
  | ⟨3, _⟩ => show win0_0.index t 3 * 8 + 1 * h.val = h.val; rw [show win0_0.index t 3 = 0 from congrFun hi 3]; omega
  | ⟨4, _⟩ => show win0_0.index t 4 * 128 + 1 * r.val = r.val; rw [show win0_0.index t 4 = 0 from congrFun hi 4]; omega
  | ⟨5, _⟩ => show win0_0.index t 5 * 128 + 1 * k.val = k.val; rw [show win0_0.index t 5 = 0 from congrFun hi 5]; omega

theorem index_1 : ∀ t : Fin grid0.N, win0_1.index t = ![0, (chunk 0 t.val).val, 0, 0, 0, 0] := by decide +kernel
theorem blk_1 (t : Fin cfg0.N) (b : Fin 4) (h : Fin 8) : bU (iblk m c 1 t) b h = (ka m c).u b (chunk 0 t.val) 0 h := by
  funext r k
  show (iblk m c 1 t) _ = V m c main_arg1 _
  unfold iblk
  rw [View.read_apply]
  show V m c main_arg1 _ = _
  congr 1
  have hi := index_1 t
  funext a
  apply Fin.ext
  match a with
  | ⟨0, _⟩ => show win0_1.index t 0 * 4 + 1 * b.val = b.val; rw [show win0_1.index t 0 = 0 from congrFun hi 0]; omega
  | ⟨1, _⟩ => show win0_1.index t 1 * 1 + 1 * 0 = (chunk 0 t.val).val; rw [show win0_1.index t 1 = (chunk 0 t.val).val from congrFun hi 1]; omega
  | ⟨2, _⟩ => show win0_1.index t 2 * 1 + 1 * 0 = 0; rw [show win0_1.index t 2 = 0 from congrFun hi 2]
  | ⟨3, _⟩ => show win0_1.index t 3 * 8 + 1 * h.val = h.val; rw [show win0_1.index t 3 = 0 from congrFun hi 3]; omega
  | ⟨4, _⟩ => show win0_1.index t 4 * 64 + 1 * r.val = r.val; rw [show win0_1.index t 4 = 0 from congrFun hi 4]; omega
  | ⟨5, _⟩ => show win0_1.index t 5 * 128 + 1 * k.val = k.val; rw [show win0_1.index t 5 = 0 from congrFun hi 5]; omega

theorem index_2 : ∀ t : Fin grid0.N, win0_2.index t = ![0, (chunk 0 t.val).val, 0, 0, 0, 0] := by decide +kernel
theorem blk_2 (t : Fin cfg0.N) (b : Fin 4) (h : Fin 8) : bAk (iblk m c 2 t) b h = (ka m c).ak b (chunk 0 t.val) 0 h := by
  funext r k
  show (iblk m c 2 t) _ = V m c main_arg2 _
  unfold iblk
  rw [View.read_apply]
  show V m c main_arg2 _ = _
  congr 1
  have hi := index_2 t
  funext a
  apply Fin.ext
  match a with
  | ⟨0, _⟩ => show win0_2.index t 0 * 4 + 1 * b.val = b.val; rw [show win0_2.index t 0 = 0 from congrFun hi 0]; omega
  | ⟨1, _⟩ => show win0_2.index t 1 * 1 + 1 * 0 = (chunk 0 t.val).val; rw [show win0_2.index t 1 = (chunk 0 t.val).val from congrFun hi 1]; omega
  | ⟨2, _⟩ => show win0_2.index t 2 * 1 + 1 * 0 = 0; rw [show win0_2.index t 2 = 0 from congrFun hi 2]
  | ⟨3, _⟩ => show win0_2.index t 3 * 8 + 1 * h.val = h.val; rw [show win0_2.index t 3 = 0 from congrFun hi 3]; omega
  | ⟨4, _⟩ => show win0_2.index t 4 * 192 + 1 * r.val = r.val; rw [show win0_2.index t 4 = 0 from congrFun hi 4]; omega
  | ⟨5, _⟩ => show win0_2.index t 5 * 64 + 1 * k.val = k.val; rw [show win0_2.index t 5 = 0 from congrFun hi 5]; omega

theorem index_3 : ∀ t : Fin grid0.N, win0_3.index t = ![0, (chunk 0 t.val).val, 0, 0, 0] := by decide +kernel
theorem blk_3 (t : Fin cfg0.N) (b : Fin 4) (h : Fin 8) : bEg (iblk m c 3 t) b h = (ka m c).eg b (chunk 0 t.val) 0 h := by
  funext r
  show (iblk m c 3 t) _ = V m c main_arg3 _
  unfold iblk
  rw [View.read_apply]
  show V m c main_arg3 _ = _
  congr 1
  have hi := index_3 t
  funext a
  apply Fin.ext
  match a with
  | ⟨0, _⟩ => show win0_3.index t 0 * 4 + 1 * b.val = b.val; rw [show win0_3.index t 0 = 0 from congrFun hi 0]; omega
  | ⟨1, _⟩ => show win0_3.index t 1 * 1 + 1 * 0 = (chunk 0 t.val).val; rw [show win0_3.index t 1 = (chunk 0 t.val).val from congrFun hi 1]; omega
  | ⟨2, _⟩ => show win0_3.index t 2 * 1 + 1 * 0 = 0; rw [show win0_3.index t 2 = 0 from congrFun hi 2]
  | ⟨3, _⟩ => show win0_3.index t 3 * 8 + 1 * h.val = h.val; rw [show win0_3.index t 3 = 0 from congrFun hi 3]; omega
  | ⟨4, _⟩ => show win0_3.index t 4 * 128 + 1 * r.val = r.val; rw [show win0_3.index t 4 = 0 from congrFun hi 4]; omega

theorem index_4 : ∀ t : Fin grid0.N, win0_4.index t = ![0, (chunk 1 t.val).val, 1, 0, 0, 0] := by decide +kernel
theorem blk_4 (t : Fin cfg0.N) (b : Fin 4) (h : Fin 8) : bWq (iblk m c 4 t) b h = (ka m c).wq b (chunk 1 t.val) 1 h := by
  funext r k
  show (iblk m c 4 t) _ = V m c main_arg0 _
  unfold iblk
  rw [View.read_apply]
  show V m c main_arg0 _ = _
  congr 1
  have hi := index_4 t
  funext a
  apply Fin.ext
  match a with
  | ⟨0, _⟩ => show win0_4.index t 0 * 4 + 1 * b.val = b.val; rw [show win0_4.index t 0 = 0 from congrFun hi 0]; omega
  | ⟨1, _⟩ => show win0_4.index t 1 * 1 + 1 * 0 = (chunk 1 t.val).val; rw [show win0_4.index t 1 = (chunk 1 t.val).val from congrFun hi 1]; omega
  | ⟨2, _⟩ => show win0_4.index t 2 * 1 + 1 * 0 = 1; rw [show win0_4.index t 2 = 1 from congrFun hi 2]
  | ⟨3, _⟩ => show win0_4.index t 3 * 8 + 1 * h.val = h.val; rw [show win0_4.index t 3 = 0 from congrFun hi 3]; omega
  | ⟨4, _⟩ => show win0_4.index t 4 * 128 + 1 * r.val = r.val; rw [show win0_4.index t 4 = 0 from congrFun hi 4]; omega
  | ⟨5, _⟩ => show win0_4.index t 5 * 128 + 1 * k.val = k.val; rw [show win0_4.index t 5 = 0 from congrFun hi 5]; omega

theorem index_5 : ∀ t : Fin grid0.N, win0_5.index t = ![0, (chunk 1 t.val).val, 1, 0, 0, 0] := by decide +kernel
theorem blk_5 (t : Fin cfg0.N) (b : Fin 4) (h : Fin 8) : bU (iblk m c 5 t) b h = (ka m c).u b (chunk 1 t.val) 1 h := by
  funext r k
  show (iblk m c 5 t) _ = V m c main_arg1 _
  unfold iblk
  rw [View.read_apply]
  show V m c main_arg1 _ = _
  congr 1
  have hi := index_5 t
  funext a
  apply Fin.ext
  match a with
  | ⟨0, _⟩ => show win0_5.index t 0 * 4 + 1 * b.val = b.val; rw [show win0_5.index t 0 = 0 from congrFun hi 0]; omega
  | ⟨1, _⟩ => show win0_5.index t 1 * 1 + 1 * 0 = (chunk 1 t.val).val; rw [show win0_5.index t 1 = (chunk 1 t.val).val from congrFun hi 1]; omega
  | ⟨2, _⟩ => show win0_5.index t 2 * 1 + 1 * 0 = 1; rw [show win0_5.index t 2 = 1 from congrFun hi 2]
  | ⟨3, _⟩ => show win0_5.index t 3 * 8 + 1 * h.val = h.val; rw [show win0_5.index t 3 = 0 from congrFun hi 3]; omega
  | ⟨4, _⟩ => show win0_5.index t 4 * 64 + 1 * r.val = r.val; rw [show win0_5.index t 4 = 0 from congrFun hi 4]; omega
  | ⟨5, _⟩ => show win0_5.index t 5 * 128 + 1 * k.val = k.val; rw [show win0_5.index t 5 = 0 from congrFun hi 5]; omega

theorem index_6 : ∀ t : Fin grid0.N, win0_6.index t = ![0, (chunk 1 t.val).val, 1, 0, 0, 0] := by decide +kernel
theorem blk_6 (t : Fin cfg0.N) (b : Fin 4) (h : Fin 8) : bAk (iblk m c 6 t) b h = (ka m c).ak b (chunk 1 t.val) 1 h := by
  funext r k
  show (iblk m c 6 t) _ = V m c main_arg2 _
  unfold iblk
  rw [View.read_apply]
  show V m c main_arg2 _ = _
  congr 1
  have hi := index_6 t
  funext a
  apply Fin.ext
  match a with
  | ⟨0, _⟩ => show win0_6.index t 0 * 4 + 1 * b.val = b.val; rw [show win0_6.index t 0 = 0 from congrFun hi 0]; omega
  | ⟨1, _⟩ => show win0_6.index t 1 * 1 + 1 * 0 = (chunk 1 t.val).val; rw [show win0_6.index t 1 = (chunk 1 t.val).val from congrFun hi 1]; omega
  | ⟨2, _⟩ => show win0_6.index t 2 * 1 + 1 * 0 = 1; rw [show win0_6.index t 2 = 1 from congrFun hi 2]
  | ⟨3, _⟩ => show win0_6.index t 3 * 8 + 1 * h.val = h.val; rw [show win0_6.index t 3 = 0 from congrFun hi 3]; omega
  | ⟨4, _⟩ => show win0_6.index t 4 * 192 + 1 * r.val = r.val; rw [show win0_6.index t 4 = 0 from congrFun hi 4]; omega
  | ⟨5, _⟩ => show win0_6.index t 5 * 64 + 1 * k.val = k.val; rw [show win0_6.index t 5 = 0 from congrFun hi 5]; omega

theorem index_7 : ∀ t : Fin grid0.N, win0_7.index t = ![0, (chunk 1 t.val).val, 1, 0, 0] := by decide +kernel
theorem blk_7 (t : Fin cfg0.N) (b : Fin 4) (h : Fin 8) : bEg (iblk m c 7 t) b h = (ka m c).eg b (chunk 1 t.val) 1 h := by
  funext r
  show (iblk m c 7 t) _ = V m c main_arg3 _
  unfold iblk
  rw [View.read_apply]
  show V m c main_arg3 _ = _
  congr 1
  have hi := index_7 t
  funext a
  apply Fin.ext
  match a with
  | ⟨0, _⟩ => show win0_7.index t 0 * 4 + 1 * b.val = b.val; rw [show win0_7.index t 0 = 0 from congrFun hi 0]; omega
  | ⟨1, _⟩ => show win0_7.index t 1 * 1 + 1 * 0 = (chunk 1 t.val).val; rw [show win0_7.index t 1 = (chunk 1 t.val).val from congrFun hi 1]; omega
  | ⟨2, _⟩ => show win0_7.index t 2 * 1 + 1 * 0 = 1; rw [show win0_7.index t 2 = 1 from congrFun hi 2]
  | ⟨3, _⟩ => show win0_7.index t 3 * 8 + 1 * h.val = h.val; rw [show win0_7.index t 3 = 0 from congrFun hi 3]; omega
  | ⟨4, _⟩ => show win0_7.index t 4 * 128 + 1 * r.val = r.val; rw [show win0_7.index t 4 = 0 from congrFun hi 4]; omega

theorem index_8 : ∀ t : Fin grid0.N, win0_8.index t = ![0, 0, 0, 0] := by decide +kernel
theorem blk_8 (t : Fin cfg0.N) (b : Fin 4) (h : Fin 8) (k v : Fin 128) :
    (iblk m c 8 t : FVec Ideal S4x8x128x128 .f32) (ix4 b h k v) = (m ((c : Thread nD τ).loc main_arg4) : FVec Ideal S4x8x128x128 .f32) (ix4 b h k v) := by
  unfold iblk
  rw [View.read_apply]
  show V m c main_arg4 _ = V m c main_arg4 _
  congr 1
  have hi := index_8 t
  funext a
  apply Fin.ext
  match a with
  | ⟨0, _⟩ => show win0_8.index t 0 * 4 + 1 * b.val = b.val; rw [show win0_8.index t 0 = 0 from congrFun hi 0]; omega
  | ⟨1, _⟩ => show win0_8.index t 1 * 8 + 1 * h.val = h.val; rw [show win0_8.index t 1 = 0 from congrFun hi 1]; omega
  | ⟨2, _⟩ => show win0_8.index t 2 * 128 + 1 * k.val = k.val; rw [show win0_8.index t 2 = 0 from congrFun hi 2]; omega
  | ⟨3, _⟩ => show win0_8.index t 3 * 128 + 1 * v.val = v.val; rw [show win0_8.index t 3 = 0 from congrFun hi 3]; omega

theorem index_9 : ∀ t : Fin grid0.N, win0_9.index t = ![0, 0, 0, 0] := by decide +kernel
theorem blk_9 (t : Fin cfg0.N) (b : Fin 4) (h : Fin 8) (k v : Fin 128) :
    (iblk m c 9 t : FVec Ideal S4x8x128x128 .f32) (ix4 b h k v) = (m ((c : Thread nD τ).loc main_arg5) : FVec Ideal S4x8x128x128 .f32) (ix4 b h k v) := by
  unfold iblk
  rw [View.read_apply]
  show V m c main_arg5 _ = V m c main_arg5 _
  congr 1
  have hi := index_9 t
  funext a
  apply Fin.ext
  match a with
  | ⟨0, _⟩ => show win0_9.index t 0 * 4 + 1 * b.val = b.val; rw [show win0_9.index t 0 = 0 from congrFun hi 0]; omega
  | ⟨1, _⟩ => show win0_9.index t 1 * 8 + 1 * h.val = h.val; rw [show win0_9.index t 1 = 0 from congrFun hi 1]; omega
  | ⟨2, _⟩ => show win0_9.index t 2 * 128 + 1 * k.val = k.val; rw [show win0_9.index t 2 = 0 from congrFun hi 2]; omega
  | ⟨3, _⟩ => show win0_9.index t 3 * 128 + 1 * v.val = v.val; rw [show win0_9.index t 3 = 0 from congrFun hi 3]; omega

/-- Before the first chunk the state is the initial one. -/
theorem initial_eq (t : Fin cfg0.N) : initial (iblk m c 8 t) (iblk m c 9 t) = fun d b h => state (ka m c) d b h 0 := by
  funext d b h k v
  show (if d = 0 then (iblk m c 8 t : FVec Ideal S4x8x128x128 .f32) (ix4 b h k v) else (iblk m c 9 t : FVec Ideal S4x8x128x128 .f32) (ix4 b h k v)) = _
  rw [blk_8, blk_9]
  rfl

/-- One point takes the states to the next. -/
theorem nextS_eq (t : Fin cfg0.N) : nextS (fun d b h => state (ka m c) d b h t.val) (iblk m c 0 t) (iblk m c 1 t) (iblk m c 2 t) (iblk m c 3 t)
      (iblk m c 4 t) (iblk m c 5 t) (iblk m c 6 t) (iblk m c 7 t) = fun d b h => state (ka m c) d b h (t.val + 1) := by
  funext d b h
  unfold nextS blkS
  rw [blk_0, blk_1, blk_2, blk_3, blk_4, blk_5, blk_6, blk_7]
  match d with
  | ⟨0, _⟩ => rfl
  | ⟨1, _⟩ => rfl

/-- One point's output blocks. -/
theorem blkO_0 (t : Fin cfg0.N) (b : Fin 4) (r : Fin 64) (q : Fin 1024) :
    blkO (fun b h => state (ka m c) 0 b h t.val) (iblk m c 0 t) (iblk m c 1 t) (iblk m c 2 t) b r q
      = out (ka m c) 0 b ⟨q.val / 128, by omega⟩ t.val r ⟨q.val % 128, by omega⟩ := by
  unfold blkO
  rw [blk_0, blk_1, blk_2]
  rfl
theorem blkO_1 (t : Fin cfg0.N) (b : Fin 4) (r : Fin 64) (q : Fin 1024) :
    blkO (fun b h => state (ka m c) 1 b h t.val) (iblk m c 4 t) (iblk m c 5 t) (iblk m c 6 t) b r q
      = out (ka m c) 1 b ⟨q.val / 128, by omega⟩ t.val r ⟨q.val % 128, by omega⟩ := by
  unfold blkO
  rw [blk_4, blk_5, blk_6]
  rfl

/-! ## The induction -/

/-- What a point leaves, given the states before it. -/
structure Left (t : Fin cfg0.N) : Prop where
  o_f : ∀ (b : Fin 4) (r : Fin 64) (q : Fin 1024), ((outsAt0 m c t.val t.isLt).1 : FVec Ideal S4x64x1024 .bf16) (ix3 b r q)
    = out (ka m c) 0 b ⟨q.val / 128, by omega⟩ t.val r ⟨q.val % 128, by omega⟩
  o_b : ∀ (b : Fin 4) (r : Fin 64) (q : Fin 1024), ((outsAt0 m c t.val t.isLt).2.1 : FVec Ideal S4x64x1024 .bf16) (ix3 b r q)
    = out (ka m c) 1 b ⟨q.val / 128, by omega⟩ t.val r ⟨q.val % 128, by omega⟩
  st : carried (outsAt0 m c t.val t.isLt).2.2.2.2 = fun d b h => state (ka m c) d b h (t.val + 1)

theorem left_A (t : Fin cfg0.N) (h0 : t.val % 64 = 0) (h1 : ¬t.val % 64 = 63) : Left m c t := by
  have hN : t.val < 64 := lt_of_lt_of_eq t.isLt N_0
  have hi := initial_eq m c t
  rw [show (0 : ℕ) = t.val by omega] at hi
  refine ⟨fun b r q => ?_, fun b r q => ?_, ?_⟩
  · rw [outsAt0_A m c t h0 h1]
    dsimp only
    rw [out_A_10]
    rw [hi]; exact blkO_0 m c t b r q
  · rw [outsAt0_A m c t h0 h1]
    dsimp only
    rw [out_A_11]
    rw [hi]; exact blkO_1 m c t b r q
  · rw [← nextS_eq, outsAt0_A m c t h0 h1]
    funext d b h k v
    unfold carried
    dsimp only
    rw [sout_A]
    rw [hi]

theorem left_B (t : Fin cfg0.N) (h0 : ¬t.val % 64 = 0) (h1 : ¬t.val % 64 = 63)
    (hp : carried (outsAt0 m c (t.val - 1) (Nat.lt_of_le_of_lt (Nat.sub_le _ _) t.isLt)).2.2.2.2 = fun d b h => state (ka m c) d b h t.val) : Left m c t := by
  refine ⟨fun b r q => ?_, fun b r q => ?_, ?_⟩
  · rw [outsAt0_B m c t h0 h1]
    dsimp only
    rw [out_B_10]
    rw [hp]; exact blkO_0 m c t b r q
  · rw [outsAt0_B m c t h0 h1]
    dsimp only
    rw [out_B_11]
    rw [hp]; exact blkO_1 m c t b r q
  · rw [← nextS_eq, outsAt0_B m c t h0 h1]
    funext d b h k v
    unfold carried
    dsimp only
    rw [sout_B]
    rw [hp]

theorem left_C (t : Fin cfg0.N) (h0 : ¬t.val % 64 = 0) (h1 : t.val % 64 = 63)
    (hp : carried (outsAt0 m c (t.val - 1) (Nat.lt_of_le_of_lt (Nat.sub_le _ _) t.isLt)).2.2.2.2 = fun d b h => state (ka m c) d b h t.val) : Left m c t := by
  refine ⟨fun b r q => ?_, fun b r q => ?_, ?_⟩
  · rw [outsAt0_C m c t h0 h1]
    dsimp only
    rw [out_C_10]
    rw [hp]; exact blkO_0 m c t b r q
  · rw [outsAt0_C m c t h0 h1]
    dsimp only
    rw [out_C_11]
    rw [hp]; exact blkO_1 m c t b r q
  · rw [← nextS_eq, outsAt0_C m c t h0 h1]
    funext d b h k v
    unfold carried
    dsimp only
    rw [sout_C]
    rw [hp]

/-- Every point leaves its chunk's outputs and the states after it. -/
theorem left (n : ℕ) (hn : n < cfg0.N) : Left m c ⟨n, hn⟩ := by
  have hN : n < 64 := lt_of_lt_of_eq hn N_0
  induction n with
  | zero => exact left_A m c _ rfl (by show ¬(0 % 64 = 63); omega)
  | succ n ih =>
    have hp := (ih (Nat.lt_of_succ_lt hn) (by omega)).st
    by_cases h1 : (n + 1) % 64 = 63
    · exact left_C m c ⟨n + 1, hn⟩ (by show ¬((n + 1) % 64 = 0); omega) h1 hp
    · exact left_B m c ⟨n + 1, hn⟩ (by show ¬((n + 1) % 64 = 0); omega) h1 hp

/-- The last point stores direction 0's final state. -/
theorem last_12 (t : Fin cfg0.N) (h1 : t.val % 64 = 63) (b : Fin 4) (h : Fin 8) (k v : Fin 128) :
    ((outsAt0 m c t.val t.isLt).2.2.1 : FVec Ideal S4x8x128x128 .f32) (ix4 b h k v) = state (ka m c) 0 b h 64 k v := by
  have hN : t.val < 64 := lt_of_lt_of_eq t.isLt N_0
  have h0 : ¬t.val % 64 = 0 := by omega
  have hp := (left m c (t.val - 1) (Nat.lt_of_le_of_lt (Nat.sub_le _ _) t.isLt)).st
  dsimp only at hp
  rw [show t.val - 1 + 1 = t.val by omega] at hp
  rw [outsAt0_C m c t h0 h1]
  dsimp only
  rw [out_C_12]
  rw [hp, nextS_eq, show t.val + 1 = 64 by omega]

/-- The last point stores direction 1's final state. -/
theorem last_13 (t : Fin cfg0.N) (h1 : t.val % 64 = 63) (b : Fin 4) (h : Fin 8) (k v : Fin 128) :
    ((outsAt0 m c t.val t.isLt).2.2.2.1 : FVec Ideal S4x8x128x128 .f32) (ix4 b h k v) = state (ka m c) 1 b h 64 k v := by
  have hN : t.val < 64 := lt_of_lt_of_eq t.isLt N_0
  have h0 : ¬t.val % 64 = 0 := by omega
  have hp := (left m c (t.val - 1) (Nat.lt_of_le_of_lt (Nat.sub_le _ _) t.isLt)).st
  dsimp only at hp
  rw [show t.val - 1 + 1 = t.val by omega] at hp
  rw [outsAt0_C m c t h0 h1]
  dsimp only
  rw [out_C_13]
  rw [hp, nextS_eq, show t.val + 1 = 64 by omega]

/-! ## The arrays -/

theorem index_10 : ∀ t : Fin grid0.N, win0_10.index t = ![0, (chunk 0 t.val).val, 0] := by decide +kernel

/-- Where block `t` of direction 0's output lies. -/
theorem emb_10 (t : Fin cfg0.N) (y : S4x64x1024.Idx) : ((cfg0.win 10).blk t).view.emb y
    = (ix3 (y 0) ⟨64 * (chunk 0 t.val).val + (y 1).val, by have := (y 1).isLt; have := (chunk 0 t.val).isLt; show _ < 4096; dsimp at *; omega⟩ (y 2) : S4x4096x1024.Idx) := by
  have hi := index_10 t
  funext a
  apply Fin.ext
  match a with
  | ⟨0, _⟩ => show win0_10.index t 0 * 4 + 1 * (y 0).val = (y 0).val; rw [show win0_10.index t 0 = 0 from congrFun hi 0]; omega
  | ⟨1, _⟩ => show win0_10.index t 1 * 64 + 1 * (y 1).val = 64 * (chunk 0 t.val).val + (y 1).val; rw [show win0_10.index t 1 = (chunk 0 t.val).val from congrFun hi 1]; omega
  | ⟨2, _⟩ => show win0_10.index t 2 * 1024 + 1 * (y 2).val = (y 2).val; rw [show win0_10.index t 2 = 0 from congrFun hi 2]; omega

/-- Direction 0's output array. -/
theorem arr_10 : (dats m 0 c).arrAt 10 cfg0.N = fun y : S4x4096x1024.Idx => outArr (ka m c) 0 (y 0) (y 1) (y 2) := by
  refine (dats m 0 c).arrAt_eq_of_cover 10 _ (fun t _ => ?_) (fun i => ?_)
  · have hN : t.val < 64 := lt_of_lt_of_eq t.isLt N_0
    rw [Value.flushed10]
    funext (y : S4x64x1024.Idx)
    rw [View.read_apply]
    refine Eq.trans ?_ (congrArg (fun y : S4x4096x1024.Idx => outArr (ka m c) 0 (y 0) (y 1) (y 2)) (emb_10 t y)).symm
    idx_vars y
    refine ((left m c t.val t.isLt).o_f y0 y1 y2).trans ?_
    have hc := (chunk 0 t.val).isLt
    have e1 : (64 * (chunk 0 t.val).val + y1.val) / 64 = (chunk 0 t.val).val := by omega
    have e2 : (64 * (chunk 0 t.val).val + y1.val) % 64 = y1.val := by omega
    have e3 : stepOf 0 (chunk 0 t.val) = t.val := by show t.val % 64 = t.val; omega
    show _ = out (ka m c) 0 y0 ⟨y2.val / 128, _⟩ (stepOf 0 ⟨(64 * (chunk 0 t.val).val + y1.val) / 64, _⟩) ⟨(64 * (chunk 0 t.val).val + y1.val) % 64, _⟩ ⟨y2.val % 128, _⟩
    simp only [e1, e2, e3, Fin.eta]
  · let p : Fin 4096 := i 1
    have hp := p.isLt
    let t : Fin cfg0.N := ⟨stepOf 0 ⟨p.val / 64, by omega⟩, by rw [show cfg0.N = 64 from N_0]; show p.val / 64 < 64; omega⟩
    refine ⟨t, flush0_10 t, ?_⟩
    have e : ((cfg0.win 10).blk t).view.emb (ix3 (i 0) ⟨p.val % 64, by omega⟩ (i 2) : S4x64x1024.Idx) = i := by
      rw [emb_10]
      funext a
      apply Fin.ext
      match a with
      | ⟨0, _⟩ => rfl
      | ⟨1, _⟩ =>
        have e3 : (chunk 0 t.val).val = p.val / 64 := by show (p.val / 64) % 64 = _; omega
        show 64 * (chunk 0 t.val).val + p.val % 64 = p.val
        rw [e3]; omega
      | ⟨2, _⟩ => rfl
    rw [← e]
    exact View.emb_mem_set _ _

theorem index_11 : ∀ t : Fin grid0.N, win0_11.index t = ![0, (chunk 1 t.val).val, 0] := by decide +kernel

/-- Where block `t` of direction 1's output lies. -/
theorem emb_11 (t : Fin cfg0.N) (y : S4x64x1024.Idx) : ((cfg0.win 11).blk t).view.emb y
    = (ix3 (y 0) ⟨64 * (chunk 1 t.val).val + (y 1).val, by have := (y 1).isLt; have := (chunk 1 t.val).isLt; show _ < 4096; dsimp at *; omega⟩ (y 2) : S4x4096x1024.Idx) := by
  have hi := index_11 t
  funext a
  apply Fin.ext
  match a with
  | ⟨0, _⟩ => show win0_11.index t 0 * 4 + 1 * (y 0).val = (y 0).val; rw [show win0_11.index t 0 = 0 from congrFun hi 0]; omega
  | ⟨1, _⟩ => show win0_11.index t 1 * 64 + 1 * (y 1).val = 64 * (chunk 1 t.val).val + (y 1).val; rw [show win0_11.index t 1 = (chunk 1 t.val).val from congrFun hi 1]; omega
  | ⟨2, _⟩ => show win0_11.index t 2 * 1024 + 1 * (y 2).val = (y 2).val; rw [show win0_11.index t 2 = 0 from congrFun hi 2]; omega

/-- Direction 1's output array. -/
theorem arr_11 : (dats m 0 c).arrAt 11 cfg0.N = fun y : S4x4096x1024.Idx => outArr (ka m c) 1 (y 0) (y 1) (y 2) := by
  refine (dats m 0 c).arrAt_eq_of_cover 11 _ (fun t _ => ?_) (fun i => ?_)
  · have hN : t.val < 64 := lt_of_lt_of_eq t.isLt N_0
    rw [Value.flushed11]
    funext (y : S4x64x1024.Idx)
    rw [View.read_apply]
    refine Eq.trans ?_ (congrArg (fun y : S4x4096x1024.Idx => outArr (ka m c) 1 (y 0) (y 1) (y 2)) (emb_11 t y)).symm
    idx_vars y
    refine ((left m c t.val t.isLt).o_b y0 y1 y2).trans ?_
    have hc := (chunk 1 t.val).isLt
    have e1 : (64 * (chunk 1 t.val).val + y1.val) / 64 = (chunk 1 t.val).val := by omega
    have e2 : (64 * (chunk 1 t.val).val + y1.val) % 64 = y1.val := by omega
    have e3 : stepOf 1 (chunk 1 t.val) = t.val := by show 63 - (63 - t.val % 64) = t.val; omega
    show _ = out (ka m c) 1 y0 ⟨y2.val / 128, _⟩ (stepOf 1 ⟨(64 * (chunk 1 t.val).val + y1.val) / 64, _⟩) ⟨(64 * (chunk 1 t.val).val + y1.val) % 64, _⟩ ⟨y2.val % 128, _⟩
    simp only [e1, e2, e3, Fin.eta]
  · let p : Fin 4096 := i 1
    have hp := p.isLt
    let t : Fin cfg0.N := ⟨stepOf 1 ⟨p.val / 64, by omega⟩, by rw [show cfg0.N = 64 from N_0]; show 63 - p.val / 64 < 64; omega⟩
    refine ⟨t, flush0_11 t, ?_⟩
    have e : ((cfg0.win 11).blk t).view.emb (ix3 (i 0) ⟨p.val % 64, by omega⟩ (i 2) : S4x64x1024.Idx) = i := by
      rw [emb_11]
      funext a
      apply Fin.ext
      match a with
      | ⟨0, _⟩ => rfl
      | ⟨1, _⟩ =>
        have e3 : (chunk 1 t.val).val = p.val / 64 := by show 63 - (63 - p.val / 64) % 64 = _; omega
        show 64 * (chunk 1 t.val).val + p.val % 64 = p.val
        rw [e3]; omega
      | ⟨2, _⟩ => rfl
    rw [← e]
    exact View.emb_mem_set _ _

theorem index_12 : ∀ t : Fin grid0.N, win0_12.index t = ![0, 0, 0, 0] := by decide +kernel

/-- The one block of direction 0's final state is the array. -/
theorem emb_12 (t : Fin cfg0.N) (y : S4x8x128x128.Idx) : ((cfg0.win 12).blk t).view.emb y = y := by
  have hi := index_12 t
  funext a
  apply Fin.ext
  match a with
  | ⟨0, _⟩ => show win0_12.index t 0 * 4 + 1 * (y 0).val = (y 0).val; rw [show win0_12.index t 0 = 0 from congrFun hi 0]; omega
  | ⟨1, _⟩ => show win0_12.index t 1 * 8 + 1 * (y 1).val = (y 1).val; rw [show win0_12.index t 1 = 0 from congrFun hi 1]; omega
  | ⟨2, _⟩ => show win0_12.index t 2 * 128 + 1 * (y 2).val = (y 2).val; rw [show win0_12.index t 2 = 0 from congrFun hi 2]; omega
  | ⟨3, _⟩ => show win0_12.index t 3 * 128 + 1 * (y 3).val = (y 3).val; rw [show win0_12.index t 3 = 0 from congrFun hi 3]; omega

/-- Direction 0's final state. -/
theorem arr_12 : (dats m 0 c).arrAt 12 cfg0.N = fun y : S4x8x128x128.Idx => state (ka m c) 0 (y 0) (y 1) 64 (y 2) (y 3) := by
  refine (dats m 0 c).arrAt_eq_of_cover 12 _ (fun t hf => ?_) (fun i => ?_)
  · have h1 := (flush0_12 t).mp hf
    rw [Value.flushed12]
    funext (y : S4x8x128x128.Idx)
    rw [View.read_apply]
    refine Eq.trans ?_ (congrArg (fun y : S4x8x128x128.Idx => state (ka m c) 0 (y 0) (y 1) 64 (y 2) (y 3)) (emb_12 t y)).symm
    idx_vars y
    exact last_12 m c t h1 y0 y1 y2 y3
  · have hN : 63 < cfg0.N := by rw [show cfg0.N = 64 from N_0]; omega
    refine ⟨⟨63, hN⟩, (flush0_12 _).mpr rfl, ?_⟩
    rw [← emb_12 ⟨63, hN⟩ i]
    exact View.emb_mem_set _ _

theorem index_13 : ∀ t : Fin grid0.N, win0_13.index t = ![0, 0, 0, 0] := by decide +kernel

/-- The one block of direction 1's final state is the array. -/
theorem emb_13 (t : Fin cfg0.N) (y : S4x8x128x128.Idx) : ((cfg0.win 13).blk t).view.emb y = y := by
  have hi := index_13 t
  funext a
  apply Fin.ext
  match a with
  | ⟨0, _⟩ => show win0_13.index t 0 * 4 + 1 * (y 0).val = (y 0).val; rw [show win0_13.index t 0 = 0 from congrFun hi 0]; omega
  | ⟨1, _⟩ => show win0_13.index t 1 * 8 + 1 * (y 1).val = (y 1).val; rw [show win0_13.index t 1 = 0 from congrFun hi 1]; omega
  | ⟨2, _⟩ => show win0_13.index t 2 * 128 + 1 * (y 2).val = (y 2).val; rw [show win0_13.index t 2 = 0 from congrFun hi 2]; omega
  | ⟨3, _⟩ => show win0_13.index t 3 * 128 + 1 * (y 3).val = (y 3).val; rw [show win0_13.index t 3 = 0 from congrFun hi 3]; omega

/-- Direction 1's final state. -/
theorem arr_13 : (dats m 0 c).arrAt 13 cfg0.N = fun y : S4x8x128x128.Idx => state (ka m c) 1 (y 0) (y 1) 64 (y 2) (y 3) := by
  refine (dats m 0 c).arrAt_eq_of_cover 13 _ (fun t hf => ?_) (fun i => ?_)
  · have h1 := (flush0_13 t).mp hf
    rw [Value.flushed13]
    funext (y : S4x8x128x128.Idx)
    rw [View.read_apply]
    refine Eq.trans ?_ (congrArg (fun y : S4x8x128x128.Idx => state (ka m c) 1 (y 0) (y 1) 64 (y 2) (y 3)) (emb_13 t y)).symm
    idx_vars y
    exact last_13 m c t h1 y0 y1 y2 y3
  · have hN : 63 < cfg0.N := by rw [show cfg0.N = 64 from N_0]; omega
    refine ⟨⟨63, hN⟩, (flush0_13 _).mpr rfl, ?_⟩
    rw [← emb_13 ⟨63, hN⟩ i]
    exact View.emb_mem_set _ _

end Cert.KernelIdeal.DeltaRun

end
-- ==== Proof.RefRun.lean ====
/- The reference's scan, run: at contents that hold a state of the scan (its carried arrays, the arrays it only reads, and the
   number of the trip) one trip of the program's loop leaves the state after it, so the results are read off the state that 64
   steps from the first one lead to. -/
module

public import proofs.«01_k».proof.Proof.Gen.ReferenceIdeal.Run
public import proofs.«01_k».proof.Proof.Gen.ReferenceIdeal.Step

@[expose] public section

noncomputable section

namespace Cert.ReferenceIdeal.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_7 : V0 (Proc.devRef .tc main_v66_7) = s.main_v66_7
  f_8 : V0 (Proc.devRef .tc main_v66_8) = s.main_v66_8
  f_0 : V0 (Proc.devRef .tc main_v66_0) = s.main_v66_0
  f_1 : V0 (Proc.devRef .tc main_v66_1) = s.main_v66_1
  f_2 : V0 (Proc.devRef .tc main_v66_2) = s.main_v66_2
  f_3 : V0 (Proc.devRef .tc main_v66_3) = s.main_v66_3
  f_4 : V0 (Proc.devRef .tc main_v66_4) = s.main_v66_4
  f_5 : V0 (Proc.devRef .tc main_v66_5) = s.main_v66_5
  n_6 : V0 (Proc.devRef .tc main_v66_6) = constantI S_ 32 (BitVec.ofNat 32 j)

variable {V0 s j}

/-! One trip's step of the carried values is `step`, field by field; a counter steps to the next number. -/

set_option maxRecDepth 8192 in
set_option maxHeartbeats 1000000 in
/-- The scan's states after one trip. -/
theorem step_7 (h : Holds V0 s j) : step_main_v66_7 V0 = (step j s).main_v66_7 := by
  unfold step_main_v66_7 res_main_while0b_v89 Cert.ReferenceIdeal.Step.step
  rw [h.f_7, h.f_0, h.f_1, h.f_2, h.f_3, h.n_6]
  rfl

set_option maxRecDepth 8192 in
set_option maxHeartbeats 1000000 in
/-- The scan's outputs after one trip. -/
theorem step_8 (h : Holds V0 s j) : step_main_v66_8 V0 = (step j s).main_v66_8 := by
  unfold step_main_v66_8 res_main_while0b_v89 Cert.ReferenceIdeal.Step.step
  rw [h.f_7, h.f_8, h.f_0, h.f_1, h.f_4, h.f_5, h.n_6]
  rfl

/-- The trip's number after one trip. -/
theorem step_6 (h : Holds V0 s j) : step_main_v66_6 V0 = constantI S_ 32 (BitVec.ofNat 32 (j + 1)) := by
  unfold step_main_v66_6
  rw [h.n_6]
  funext i
  show BitVec.ofNat 32 j + 1#32 = BitVec.ofNat 32 (j + 1)
  simp only [BitVec.ofNat_add]

set_option maxRecDepth 8192 in
theorem out_main_v71_holds (h : Holds V0 s j) : out_main_v71 V0 = Cert.ReferenceIdeal.Step.R_main_v71 s := by
  unfold out_main_v71 Cert.ReferenceIdeal.Step.R_main_v71
  rw [h.f_8]
  try rfl

set_option maxRecDepth 8192 in
theorem out_main_v77_holds (h : Holds V0 s j) : out_main_v77 V0 = Cert.ReferenceIdeal.Step.R_main_v77 s := by
  unfold out_main_v77 Cert.ReferenceIdeal.Step.R_main_v77
  rw [h.f_8]
  try rfl

set_option maxRecDepth 8192 in
theorem out_main_v79_holds (h : Holds V0 s j) : out_main_v79 V0 = Cert.ReferenceIdeal.Step.R_main_v79 s := by
  unfold out_main_v79 Cert.ReferenceIdeal.Step.R_main_v79
  rw [h.f_7]
  try rfl

set_option maxRecDepth 8192 in
theorem out_main_v81_holds (h : Holds V0 s j) : out_main_v81 V0 = Cert.ReferenceIdeal.Step.R_main_v81 s := by
  unfold out_main_v81 Cert.ReferenceIdeal.Step.R_main_v81
  rw [h.f_7]
  try rfl

/-- One trip keeps the valuation holding: `step` of the state, the same set-up values, the next number. -/
theorem holds_step (h : Holds V0 s j) : Holds (STEP V0) (step j s) (j + 1) where
  f_7 := (STEP_main_v66_7 V0).trans (step_7 h)
  f_8 := (STEP_main_v66_8 V0).trans (step_8 h)
  n_6 := (STEP_main_v66_6 V0).trans (step_6 h)
  f_0 := (STEP_main_v66_0 V0).trans h.f_0
  f_1 := (STEP_main_v66_1 V0).trans h.f_1
  f_2 := (STEP_main_v66_2 V0).trans h.f_2
  f_3 := (STEP_main_v66_3 V0).trans h.f_3
  f_4 := (STEP_main_v66_4 V0).trans h.f_4
  f_5 := (STEP_main_v66_5 V0).trans h.f_5

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

variable (m : (ℓ : Loc nD τ sig) → Buf (Elt F) ℓ) (c : Dev nD)

set_option maxRecDepth 65536 in
set_option maxHeartbeats 600000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 64 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v71) = Cert.ReferenceIdeal.Step.R_main_v71 (it c 64)
      ∧ r.2.mem ((c.tc : Thread nD τ).loc main_v77) = Cert.ReferenceIdeal.Step.R_main_v77 (it c 64)
      ∧ r.2.mem ((c.tc : Thread nD τ).loc main_v79) = Cert.ReferenceIdeal.Step.R_main_v79 (it c 64)
      ∧ r.2.mem ((c.tc : Thread nD τ).loc main_v81) = Cert.ReferenceIdeal.Step.R_main_v81 (it c 64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    have hk := holds_iter m c (it c) (h0 c) (hs c) 64
    ⟨(h c).1.trans (out_main_v71_holds hk), (h c).2.1.trans (out_main_v77_holds hk), (h c).2.2.1.trans (out_main_v79_holds hk), (h c).2.2.2.1.trans (out_main_v81_holds hk), (h c).2.2.2.2.1, (h c).2.2.2.2.2.1, (h c).2.2.2.2.2.2.1, (h c).2.2.2.2.2.2.2.1, (h c).2.2.2.2.2.2.2.2.1, (h c).2.2.2.2.2.2.2.2.2⟩) (Value.run m ρ)

end Cert.ReferenceIdeal.RefRun

end
-- ==== Proof.RefValue.lean ====
/- The reference's loop as mathematics: the arrays it scans over, one trip's three equations, by induction the state before
   every trip and the outputs of the trips made, and the four results. -/
module

public import proofs.«01_k».proof.Proof.RefRun
public import proofs.«01_k».proof.Proof.DeltaSpec
public import Idealize.ShloMosaic.Lib.Pointwise
public import Idealize.ShloMosaic.Lib.WordCmp

@[expose] public section

set_option maxRecDepth 16384

noncomputable section

namespace Cert.ReferenceIdeal.RefValue

open Cert.ReferenceIdeal Cert.ReferenceIdeal.Gen Cert.ReferenceIdeal.Step Cert.DeltaSpec
open Idealize.ShloMosaic Idealize.ShloMosaic.TcCoe Idealize.ShloMosaic.Tactic Idealize.SL.Sem

variable (wq : FVec Ideal S4x64x2x8x128x128 .bf16) (u : FVec Ideal S4x64x2x8x64x128 .f32) (ak : FVec Ideal S4x64x2x8x192x64 .bf16)
    (eg : FVec Ideal S4x64x2x8x128 .f32) (sf sb : FVec Ideal S4x8x128x128 .f32)

/-- The scan's arguments, from the six argument arrays. -/
def argsOf : Args where
  wq b n d h r k := wq (ix6 b n d h r k)
  u b n d h r k := u (ix6 b n d h r k)
  ak b n d h r k := ak (ix6 b n d h r k)
  eg b n d h v := eg (ix5 b n d h v)
  s0 d b h k v := if d = 0 then sf (ix4 b h k v) else sb (ix4 b h k v)

/-! ## The arrays the loop scans over -/

/-- Forwards the step reads its own chunk. -/
theorem chunk_zero (n : Fin 64) : chunk 0 n = n := Fin.ext (by show n.val % 64 = n.val; omega)
/-- Backwards it reads the chunk counted from the end. -/
theorem chunk_one (n : Fin 64) : chunk 1 n = n.rev := Fin.ext (by show 63 - n.val % 64 = 64 - (n.val + 1); omega)

/-- The chunks of `u`, by step. -/
theorem scan_u (n : Fin 64) (d : Fin 2) (b : Fin 4) (h : Fin 8) (r : Fin 64) (v : Fin 128) :
    A_main_v16 (F := Ideal) wq u ak eg sf sb (ix6 n d b h r v) = u (ix6 b (chunk d n) d h r v) := by
  unfold A_main_v16 A_main_v15 A_main_v14 A_main_v13 A_main_v12 A_main_v11 A_main_v10 A_main_v9 A_main_v8
  match d with
  | ⟨0, _⟩ => pointwise; exact congrArg (fun n => u (ix6 b n 0 h r v)) (chunk_zero n).symm
  | ⟨1, _⟩ => pointwise; exact congrArg (fun n => u (ix6 b n 1 h r v)) (chunk_one n).symm

/-- The chunks of `w`. -/
theorem scan_w (n : Fin 64) (d : Fin 2) (b : Fin 4) (h : Fin 8) (r : Fin 64) (v : Fin 128) :
    A_main_v25 (F := Ideal) wq u ak eg sf sb (ix6 n d b h r v) = wq (ix6 b (chunk d n) d h ⟨r.val, by omega⟩ v) := by
  unfold A_main_v25 A_main_v24 A_main_v23 A_main_v22 A_main_v21 A_main_v20 A_main_v19 A_main_v18 A_main_v17 A_main_v1 A_main_v0
  match d with
  | ⟨0, _⟩ => pointwise; exact congrArg (fun n => wq (ix6 b n 0 h ⟨r.val, by omega⟩ v)) (chunk_zero n).symm
  | ⟨1, _⟩ => pointwise; exact congrArg (fun n => wq (ix6 b n 1 h ⟨r.val, by omega⟩ v)) (chunk_one n).symm

/-- The chunks of `k_tail`, transposed. -/
theorem scan_k (n : Fin 64) (d : Fin 2) (b : Fin 4) (h : Fin 8) (r : Fin 128) (v : Fin 64) :
    A_main_v34 (F := Ideal) wq u ak eg sf sb (ix6 n d b h r v) = ak (ix6 b (chunk d n) d h (low 64 (by omega) r) v) := by
  unfold A_main_v34 A_main_v33 A_main_v32 A_main_v31 A_main_v30 A_main_v29 A_main_v28 A_main_v27 A_main_v26 A_main_v7 A_main_v6
  match d with
  | ⟨0, _⟩ => pointwise; exact congrArg (fun n => ak (ix6 b n 0 h (low 64 (by omega) r) v)) (chunk_zero n).symm
  | ⟨1, _⟩ => pointwise; exact congrArg (fun n => ak (ix6 b n 1 h (low 64 (by omega) r) v)) (chunk_one n).symm

/-- The chunks of `q_dec`. -/
theorem scan_q (n : Fin 64) (d : Fin 2) (b : Fin 4) (h : Fin 8) (r : Fin 64) (v : Fin 128) :
    A_main_v52 (F := Ideal) wq u ak eg sf sb (ix6 n d b h r v) = wq (ix6 b (chunk d n) d h (low 64 (by omega) r) v) := by
  unfold A_main_v52 A_main_v51 A_main_v50 A_main_v49 A_main_v48 A_main_v47 A_main_v46 A_main_v45 A_main_v44 A_main_v3 A_main_v2
  match d with
  | ⟨0, _⟩ => pointwise; exact congrArg (fun n => wq (ix6 b n 0 h (low 64 (by omega) r) v)) (chunk_zero n).symm
  | ⟨1, _⟩ => pointwise; exact congrArg (fun n => wq (ix6 b n 1 h (low 64 (by omega) r) v)) (chunk_one n).symm

/-- The chunks of `attn`. -/
theorem scan_a (n : Fin 64) (d : Fin 2) (b : Fin 4) (h : Fin 8) (r : Fin 64) (v : Fin 64) :
    A_main_v61 (F := Ideal) wq u ak eg sf sb (ix6 n d b h r v) = ak (ix6 b (chunk d n) d h ⟨r.val, by omega⟩ v) := by
  unfold A_main_v61 A_main_v60 A_main_v59 A_main_v58 A_main_v57 A_main_v56 A_main_v55 A_main_v54 A_main_v53 A_main_v5 A_main_v4
  match d with
  | ⟨0, _⟩ => pointwise; exact congrArg (fun n => ak (ix6 b n 0 h ⟨r.val, by omega⟩ v)) (chunk_zero n).symm
  | ⟨1, _⟩ => pointwise; exact congrArg (fun n => ak (ix6 b n 1 h ⟨r.val, by omega⟩ v)) (chunk_one n).symm

/-- The chunks of the decays. -/
theorem scan_e (n : Fin 64) (d : Fin 2) (b : Fin 4) (h : Fin 8) (v : Fin 128) :
    A_main_v43 (F := Ideal) wq u ak eg sf sb (ix5 n d b h v) = eg (ix5 b (chunk d n) d h v) := by
  unfold A_main_v43 A_main_v42 A_main_v41 A_main_v40 A_main_v39 A_main_v38 A_main_v37 A_main_v36 A_main_v35
  match d with
  | ⟨0, _⟩ => pointwise; exact congrArg (fun n => eg (ix5 b n 0 h v)) (chunk_zero n).symm
  | ⟨1, _⟩ => pointwise; exact congrArg (fun n => eg (ix5 b n 1 h v)) (chunk_one n).symm

/-- The initial states. -/
theorem scan_s (d : Fin 2) (b : Fin 4) (h : Fin 8) (k v : Fin 128) :
    A_main_v64 (F := Ideal) wq u ak eg sf sb (ix5 d b h k v) = if d = 0 then sf (ix4 b h k v) else sb (ix4 b h k v) := by
  unfold A_main_v64 A_main_v63 A_main_v62
  match d with
  | ⟨0, _⟩ => pointwise
  | ⟨1, _⟩ => pointwise

/-! ## One trip -/

/-- A trip's slices start at its number. -/
theorem start6 {j : ℕ} (hj : j < 64) (i : S_.Idx) : ∀ a : Fin 6, ((![constantI S_ 32 (BitVec.ofNat 32 j), constantI S_ 32 0#32, constantI S_ 32 0#32,
    constantI S_ 32 0#32, constantI S_ 32 0#32, constantI S_ 32 0#32] : Fin 6 → (⟨S_, .i32⟩ : BufTy).Contents (Elt Ideal)) a i).toInt = ((![j, 0, 0, 0, 0, 0] : Fin 6 → ℕ) a : ℤ)
  | ⟨0, _⟩ => Idealize.ShloMosaic.WordCmp.toInt_ofNat_of_lt (by omega)
  | ⟨1, _⟩ => rfl
  | ⟨2, _⟩ => rfl
  | ⟨3, _⟩ => rfl
  | ⟨4, _⟩ => rfl
  | ⟨5, _⟩ => rfl

/-- One chunk of an array lies in it. -/
theorem slices6 {j : ℕ} (hj : j < 64) (m n : ℕ) : (⟨6, ![64, 2, 4, 8, m, n]⟩ : Shape).Slices ![j, 0, 0, 0, 0, 0] ⟨6, ![1, 2, 4, 8, m, n]⟩ :=
  ⟨rfl, fun a => by
    match a with
    | ⟨0, _⟩ => show j + 1 ≤ 64; omega
    | ⟨1, _⟩ => exact le_of_eq (Nat.zero_add _)
    | ⟨2, _⟩ => exact le_of_eq (Nat.zero_add _)
    | ⟨3, _⟩ => exact le_of_eq (Nat.zero_add _)
    | ⟨4, _⟩ => exact le_of_eq (Nat.zero_add _)
    | ⟨5, _⟩ => exact le_of_eq (Nat.zero_add _)⟩

/-- A trip's `u`. -/
theorem trip_u {j : ℕ} (hj : j < 64) (s : State Ideal) (d : Fin 2) (b : Fin 4) (h : Fin 8) (r : Fin 64) (v : Fin 128) :
    b6 j s (ix5 d b h r v) = s.main_v66_0 (ix6 ⟨j, hj⟩ d b h r v) := by
  unfold b6 b5 b4 b3 b2 b1 b0
  rw [WordCmp.dynamicSlice_eq_extract _ _ _ _ ![j, 0, 0, 0, 0, 0] (slices6 hj 64 128) (start6 hj _)]
  pointwise

/-- A trip's `w`. -/
theorem trip_w {j : ℕ} (hj : j < 64) (s : State Ideal) (d : Fin 2) (b : Fin 4) (h : Fin 8) (r : Fin 64) (v : Fin 128) :
    b13 j s (ix5 d b h r v) = s.main_v66_1 (ix6 ⟨j, hj⟩ d b h r v) := by
  unfold b13 b12 b11 b10 b9 b8 b7
  rw [WordCmp.dynamicSlice_eq_extract _ _ _ _ ![j, 0, 0, 0, 0, 0] (slices6 hj 64 128) (start6 hj _)]
  pointwise

/-- A trip's `k_tail`. -/
theorem trip_k {j : ℕ} (hj : j < 64) (s : State Ideal) (d : Fin 2) (b : Fin 4) (h : Fin 8) (r : Fin 128) (v : Fin 64) :
    b20 j s (ix5 d b h r v) = s.main_v66_2 (ix6 ⟨j, hj⟩ d b h r v) := by
  unfold b20 b19 b18 b17 b16 b15 b14
  rw [WordCmp.dynamicSlice_eq_extract _ _ _ _ ![j, 0, 0, 0, 0, 0] (slices6 hj 128 64) (start6 hj _)]
  pointwise

/-- A trip's `q_dec`. -/
theorem trip_q {j : ℕ} (hj : j < 64) (s : State Ideal) (d : Fin 2) (b : Fin 4) (h : Fin 8) (r : Fin 64) (v : Fin 128) :
    b33 j s (ix5 d b h r v) = s.main_v66_4 (ix6 ⟨j, hj⟩ d b h r v) := by
  unfold b33 b32 b31 b30 b29 b28 b27
  rw [WordCmp.dynamicSlice_eq_extract _ _ _ _ ![j, 0, 0, 0, 0, 0] (slices6 hj 64 128) (start6 hj _)]
  pointwise

/-- A trip's `attn`. -/
theorem trip_a {j : ℕ} (hj : j < 64) (s : State Ideal) (d : Fin 2) (b : Fin 4) (h : Fin 8) (r : Fin 64) (v : Fin 64) :
    b40 j s (ix5 d b h r v) = s.main_v66_5 (ix6 ⟨j, hj⟩ d b h r v) := by
  unfold b40 b39 b38 b37 b36 b35 b34
  rw [WordCmp.dynamicSlice_eq_extract _ _ _ _ ![j, 0, 0, 0, 0, 0] (slices6 hj 64 64) (start6 hj _)]
  pointwise

/-- The same starts for an array of five axes. -/
theorem start5 {j : ℕ} (hj : j < 64) (i : S_.Idx) : ∀ a : Fin 5, ((![constantI S_ 32 (BitVec.ofNat 32 j), constantI S_ 32 0#32, constantI S_ 32 0#32,
    constantI S_ 32 0#32, constantI S_ 32 0#32] : Fin 5 → (⟨S_, .i32⟩ : BufTy).Contents (Elt Ideal)) a i).toInt = ((![j, 0, 0, 0, 0] : Fin 5 → ℕ) a : ℤ)
  | ⟨0, _⟩ => start6 hj i 0
  | ⟨1, _⟩ => rfl
  | ⟨2, _⟩ => rfl
  | ⟨3, _⟩ => rfl
  | ⟨4, _⟩ => rfl

/-- And one chunk of it. -/
theorem slices5 {j : ℕ} (hj : j < 64) : S64x2x4x8x128.Slices ![j, 0, 0, 0, 0] S1x2x4x8x128 :=
  ⟨rfl, fun a => by
    match a with
    | ⟨0, _⟩ => show j + 1 ≤ 64; omega
    | ⟨1, _⟩ => exact le_of_eq (Nat.zero_add _)
    | ⟨2, _⟩ => exact le_of_eq (Nat.zero_add _)
    | ⟨3, _⟩ => exact le_of_eq (Nat.zero_add _)
    | ⟨4, _⟩ => exact le_of_eq (Nat.zero_add _)⟩

/-- A trip's decays. -/
theorem trip_e {j : ℕ} (hj : j < 64) (s : State Ideal) (d : Fin 2) (b : Fin 4) (h : Fin 8) (v : Fin 128) :
    b26 j s (ix4 d b h v) = s.main_v66_3 (ix5 ⟨j, hj⟩ d b h v) := by
  unfold b26 b25 b24 b23 b22 b21
  rw [WordCmp.dynamicSlice_eq_extract _ _ _ _ ![j, 0, 0, 0, 0] (slices5 hj) (start5 hj _)]
  pointwise

/-- `v_new`. -/
theorem trip_v {j : ℕ} (s : State Ideal) (d : Fin 2) (b : Fin 4) (h : Fin 8) (r : Fin 64) (v : Fin 128) : b42 j s (ix5 d b h r v)
   = b6 j s (ix5 d b h r v) - ∑ k : Fin 128, b13 j s (ix5 d b h r k) * s.main_v66_7 (ix5 d b h k v) := by
  unfold b42 b41
  pointwise

/-- The next states. -/
theorem trip_s {j : ℕ} (s : State Ideal) (d : Fin 2) (b : Fin 4) (h : Fin 8) (k v : Fin 128) : b47 j s (ix5 d b h k v)
   = s.main_v66_7 (ix5 d b h k v) * b26 j s (ix4 d b h v) + ∑ e : Fin 64, b20 j s (ix5 d b h k e) * b42 j s (ix5 d b h e v) := by
  unfold b47 b46 b45 b44 b43
  pointwise

/-- The trip's output. -/
theorem trip_o {j : ℕ} (s : State Ideal) (d : Fin 2) (b : Fin 4) (h : Fin 8) (r : Fin 64) (v : Fin 128) : b50 j s (ix5 d b h r v)
   = (∑ k : Fin 128, b33 j s (ix5 d b h r k) * s.main_v66_7 (ix5 d b h k v)) + ∑ e : Fin 64, b40 j s (ix5 d b h r e) * b42 j s (ix5 d b h e v) := by
  unfold b50 b49 b48
  pointwise

/-- The outputs so far, with the trip's own among them. -/
theorem trip_out {j : ℕ} (hj : j < 64) (s : State Ideal) (n : Fin 64) (d : Fin 2) (b : Fin 4) (h : Fin 8) (r : Fin 64) (v : Fin 128) :
    b57 j s (ix6 n d b h r v) = if n.val = j then b50 j s (ix5 d b h r v) else s.main_v66_8 (ix6 n d b h r v) := by
  unfold b57 b56 b55 b54 b53 b52 b51
  rw [WordCmp.dynamicUpdateSlice_eq_update _ _ _ _ ![j, 0, 0, 0, 0, 0] (slices6 hj 64 128) (start6 hj _)]
  pointwise
  by_cases e : n.val = j
  · rw [dif_pos ⟨by omega, by omega⟩, if_pos e]
  · rw [dif_neg (by omega), if_neg e]

/-! ## The loop -/

/-- What the loop's state holds before trip `n`. -/
structure At (a : Args) (s : State Ideal) (n : ℕ) : Prop where
  u : ∀ (j : Fin 64) (d : Fin 2) (b : Fin 4) (h : Fin 8) (r : Fin 64) (v : Fin 128), s.main_v66_0 (ix6 j d b h r v) = a.u b (chunk d j) d h r v
  w : ∀ (j : Fin 64) (d : Fin 2) (b : Fin 4) (h : Fin 8) (r : Fin 64) (v : Fin 128),
    s.main_v66_1 (ix6 j d b h r v) = a.wq b (chunk d j) d h ⟨r.val, by omega⟩ v
  k : ∀ (j : Fin 64) (d : Fin 2) (b : Fin 4) (h : Fin 8) (r : Fin 128) (v : Fin 64),
    s.main_v66_2 (ix6 j d b h r v) = a.ak b (chunk d j) d h (low 64 (by omega) r) v
  e : ∀ (j : Fin 64) (d : Fin 2) (b : Fin 4) (h : Fin 8) (v : Fin 128), s.main_v66_3 (ix5 j d b h v) = a.eg b (chunk d j) d h v
  q : ∀ (j : Fin 64) (d : Fin 2) (b : Fin 4) (h : Fin 8) (r : Fin 64) (v : Fin 128),
    s.main_v66_4 (ix6 j d b h r v) = a.wq b (chunk d j) d h (low 64 (by omega) r) v
  t : ∀ (j : Fin 64) (d : Fin 2) (b : Fin 4) (h : Fin 8) (r : Fin 64) (v : Fin 64),
    s.main_v66_5 (ix6 j d b h r v) = a.ak b (chunk d j) d h ⟨r.val, by omega⟩ v
  st : ∀ (d : Fin 2) (b : Fin 4) (h : Fin 8) (k v : Fin 128), s.main_v66_7 (ix5 d b h k v) = state a d b h n k v
  out : ∀ (j : Fin 64) (d : Fin 2) (b : Fin 4) (h : Fin 8) (r : Fin 64) (v : Fin 128), j.val < n →
    s.main_v66_8 (ix6 j d b h r v) = out a d b h j.val r v

/-- Before the first trip. -/
theorem at_init : At (argsOf wq u ak eg sf sb) (init wq u ak eg sf sb) 0 where
  u := scan_u wq u ak eg sf sb
  w := scan_w wq u ak eg sf sb
  k := scan_k wq u ak eg sf sb
  e := scan_e wq u ak eg sf sb
  q := scan_q wq u ak eg sf sb
  t := scan_a wq u ak eg sf sb
  st := scan_s wq u ak eg sf sb
  out := fun _ _ _ _ _ _ h => absurd h (Nat.not_lt_zero _)

/-- A trip's `v_new` is its chunk's. -/
theorem At.vNew {a : Args} {s : State Ideal} {n : ℕ} (H : At a s n) (hn : n < 64) (d : Fin 2) (b : Fin 4) (h : Fin 8) (r : Fin 64) (v : Fin 128) :
    b42 n s (ix5 d b h r v) = DeltaSpec.vNew (a.wq b (chunk d n) d h) (a.u b (chunk d n) d h) (state a d b h n) r v := by
  rw [trip_v, trip_u hn, H.u]
  simp only [trip_w hn, H.w, H.st]
  rfl

/-- A trip takes the state before it to the state before the next. -/
theorem At.step {a : Args} {s : State Ideal} {n : ℕ} (H : At a s n) (hn : n < 64) : At a (Step.step n s) (n + 1) where
  u := H.u
  w := H.w
  k := H.k
  e := H.e
  q := H.q
  t := H.t
  st d b h k v := by
    rw [step_main_v66_7, trip_s, trip_e hn, H.e, H.st]
    simp only [trip_k hn, H.k, H.vNew hn]
    rfl
  out j d b h r v hj := by
    rw [step_main_v66_8, trip_out hn]
    split
    next e =>
      subst e
      rw [trip_o]
      simp only [trip_q hn, trip_a hn, H.q, H.t, H.st, H.vNew hn]
      rfl
    next e => exact H.out j d b h r v (by omega)

/-! ## The results -/

/-- The forward outputs. -/
theorem res_of (s : State Ideal) (b : Fin 4) (p : Fin 4096) (q : Fin 1024) :
    R_main_v71 s (ix3 b p q) = s.main_v66_8 (ix6 ⟨p.val / 64, by omega⟩ 0 b ⟨q.val / 128, by omega⟩ ⟨p.val % 64, by omega⟩ ⟨q.val % 128, by omega⟩) := by
  unfold R_main_v71
  pointwise

/-- The backward outputs. -/
theorem res_ob (s : State Ideal) (b : Fin 4) (p : Fin 4096) (q : Fin 1024) :
    R_main_v77 s (ix3 b p q) = s.main_v66_8 (ix6 (Fin.rev ⟨p.val / 64, by omega⟩) 1 b ⟨q.val / 128, by omega⟩ ⟨p.val % 64, by omega⟩ ⟨q.val % 128, by omega⟩) := by
  unfold R_main_v77
  pointwise
  rfl

/-- The final forward state. -/
theorem res_sf (s : State Ideal) (b : Fin 4) (h : Fin 8) (k v : Fin 128) : R_main_v79 s (ix4 b h k v) = s.main_v66_7 (ix5 0 b h k v) := by
  unfold R_main_v79
  pointwise

/-- The final backward state. -/
theorem res_sb (s : State Ideal) (b : Fin 4) (h : Fin 8) (k v : Fin 128) : R_main_v81 s (ix4 b h k v) = s.main_v66_7 (ix5 1 b h k v) := by
  unfold R_main_v81
  pointwise

/-- The iteration of the trips from a first state. -/
def iter (s : State Ideal) : ℕ → State Ideal
  | 0 => s
  | n + 1 => Step.step n (iter s n)

/-- The state before each trip. -/
theorem at_iter (n : ℕ) (hn : n ≤ 64) : At (argsOf wq u ak eg sf sb) (iter (init wq u ak eg sf sb) n) n := by
  induction n with
  | zero => exact at_init wq u ak eg sf sb
  | succ n ih => exact (ih (by omega)).step (by omega)

/-- The four results after the last trip. -/
theorem of_eq : R_main_v71 (iter (init wq u ak eg sf sb) 64) = fun y : S4x4096x1024.Idx => outArr (argsOf wq u ak eg sf sb) 0 (y 0) (y 1) (y 2) := by
  funext (y : S4x4096x1024.Idx)
  idx_vars y
  rw [res_of, (at_iter wq u ak eg sf sb 64 le_rfl).out _ _ _ _ _ _ (Fin.isLt _)]
  rfl
theorem ob_eq : R_main_v77 (iter (init wq u ak eg sf sb) 64) = fun y : S4x4096x1024.Idx => outArr (argsOf wq u ak eg sf sb) 1 (y 0) (y 1) (y 2) := by
  funext (y : S4x4096x1024.Idx)
  idx_vars y
  rw [res_ob, (at_iter wq u ak eg sf sb 64 le_rfl).out _ _ _ _ _ _ (Fin.isLt _)]
  have e : (Fin.rev (⟨y1.val / 64, by omega⟩ : Fin 64)).val = stepOf 1 ⟨y1.val / 64, by omega⟩ := by
    show 64 - (y1.val / 64 + 1) = 63 - y1.val / 64; omega
  rw [e]
  rfl
theorem sf_eq : R_main_v79 (iter (init wq u ak eg sf sb) 64) = fun y : S4x8x128x128.Idx => state (argsOf wq u ak eg sf sb) 0 (y 0) (y 1) 64 (y 2) (y 3) := by
  funext (y : S4x8x128x128.Idx)
  idx_vars y
  rw [res_sf, (at_iter wq u ak eg sf sb 64 le_rfl).st]
theorem sb_eq : R_main_v81 (iter (init wq u ak eg sf sb) 64) = fun y : S4x8x128x128.Idx => state (argsOf wq u ak eg sf sb) 1 (y 0) (y 1) 64 (y 2) (y 3) := by
  funext (y : S4x8x128x128.Idx)
  idx_vars y
  rw [res_sb, (at_iter wq u ak eg sf sb 64 le_rfl).st]

end Cert.ReferenceIdeal.RefValue

end
-- ==== Proof.DeltaClaim.lean ====
/- The claims about the scan: both kernels' and the reference's frames, and that over the extended reals the scan kernel
   and the reference end with the same four arrays. -/
module

public import proofs.«01_k».proof.Defs
public import proofs.«01_k».proof.Proof.Gen.Kernel.Frame
public import proofs.«01_k».proof.Proof.DeltaRun
public import proofs.«01_k».proof.Proof.RefValue
public import Idealize.ShloMosaic.Adequacy
public import Idealize.ShloMosaic.Init

@[expose] public section

set_option maxRecDepth 16384

noncomputable section

namespace Cert.DeltaClaim

open Idealize.ShloMosaic Idealize.SL.Sem

/-- The kernel's frame. -/
theorem frame_P : @Cert.quiescent_Kernel Cert.Kernel.Gen.facts := fun m ρ _ => Cert.Kernel.Gen.frame m ρ

/-- The ideal kernel's frame. -/
theorem frame_PI : @Cert.quiescent_KernelIdeal Cert.KernelIdeal.Gen.facts := fun m ρ _ => Cert.KernelIdeal.Gen.frame m ρ

/-- The reference's frame. -/
theorem frame_RI : @Cert.quiescent_ReferenceIdeal Cert.ReferenceIdeal.Gen.facts := fun m ρ _ =>
  (θ_run Cert.ReferenceIdeal.defs _ _).mono
    (fun r h => ⟨fun c => (h c).2.2.2.2, Idealize.ShloMosaic.sem_eq_zero_of_no_sems (by decide) r.2⟩) (Cert.ReferenceIdeal.RefRun.run_iter (F := Ideal) m ρ
      (fun c => Cert.ReferenceIdeal.RefValue.iter (Cert.ReferenceIdeal.RefRun.initState m c)) (fun _ => rfl) (fun _ _ => rfl))

/-- The kernel's four arrays are the reference's. -/
theorem algebraic : @Cert.algebraic_KernelIdeal_ReferenceIdeal Cert.KernelIdeal.Gen.facts Cert.ReferenceIdeal.Gen.facts := by
  intro m ρ m' ρ' _ hagree
  refine ⟨_, _, _, _, (θ_run Cert.KernelIdeal.defs _ _).mono (fun _ h => h) (Cert.KernelIdeal.Value.run_blocks (F := Ideal) m ρ), ?_⟩
  refine (θ_run Cert.ReferenceIdeal.defs _ _).mono (fun r h c => ?_) (Cert.ReferenceIdeal.RefRun.run_iter (F := Ideal) m' ρ'
      (fun c => Cert.ReferenceIdeal.RefValue.iter (Cert.ReferenceIdeal.RefRun.initState m' c)) (fun _ => rfl) (fun _ _ => rfl))
  obtain ⟨h0, h1, h2, h3, ha⟩ := h c
  have e : Cert.ReferenceIdeal.RefRun.initState m' c = Cert.ReferenceIdeal.Step.init (F := Ideal)
      (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3))
      (m ((c.tc : Thread _ _).loc Cert.KernelIdeal.main_arg4)) (m ((c.tc : Thread _ _).loc Cert.KernelIdeal.main_arg5)) := by
    obtain ⟨g0, g1, g2, g3, g4, g5⟩ := hagree c
    unfold Cert.ReferenceIdeal.RefRun.initState
    rw [g0, g1, g2, g3, g4, g5]
  rw [e] at h0 h1 h2 h3
  rw [Cert.ReferenceIdeal.RefValue.of_eq] at h0
  rw [Cert.ReferenceIdeal.RefValue.ob_eq] at h1
  rw [Cert.ReferenceIdeal.RefValue.sf_eq] at h2
  rw [Cert.ReferenceIdeal.RefValue.sb_eq] at h3
  exact ⟨h0.trans (Cert.KernelIdeal.DeltaRun.arr_10 m c).symm, h1.trans (Cert.KernelIdeal.DeltaRun.arr_11 m c).symm,
    h2.trans (Cert.KernelIdeal.DeltaRun.arr_12 m c).symm, h3.trans (Cert.KernelIdeal.DeltaRun.arr_13 m c).symm, ha⟩

end Cert.DeltaClaim

end
-- ==== Proof.ProjSpec.lean ====
/- The two projections around the mixers as mathematics over the extended reals: RMS normalisation, the modulated row that
   the input projection multiplies by its weights, and the row of the three mixers' outputs that the output projection does. -/
module

public import Idealize.ShloMosaic.PureOps.Ideal
public import Mathlib.Data.EReal.Operations
public import Mathlib.Algebra.BigOperators.Fin

@[expose] public section

noncomputable section

namespace Cert.ProjSpec

open Idealize.ShloMosaic

/-- A row of `n` extended reals. -/
abbrev Row (n : ℕ) : Type := Fin n → EReal

/-- RMS normalisation of a row with gain `g`; `c` is the number of its entries. -/
def rms {n : ℕ} (c : EReal) (x g : Row n) : Row n := fun k =>
  x k * Ideal.rsqrt (Ideal.div (∑ j, x j * x j) c + Ideal.ofBits .f32 0x358637BD#32) * g k

/-- `rms(x) · (1 + scale) + shift`. -/
def modulated (x g shift scale : Row 2048) : Row 2048 := fun k =>
  rms (Ideal.ofBits .f32 0x45000000#32) x g k * (1 + scale k) + shift k

/-- One entry of the input projection, from its row and its column of the weights. -/
def projIn (x g shift scale w : Row 2048) : EReal := ∑ k, modulated x g shift scale k * w k

/-- `z · sigmoid(z)`. -/
def silu (z : EReal) : EReal := z * Ideal.div 1 (1 + Ideal.exp (-z))

/-- Entry `128 h + d` of a row of eight heads. -/
abbrev head (h : Fin 8) (d : Fin 128) : Fin 1024 := ⟨h.val * 128 + d.val, by omega⟩

/-- The delta rule's two directions added, normalised by head and gated. -/
def gated (oF oB z : Row 1024) (dg : Row 128) (h : Fin 8) : Row 128 := fun d =>
  rms (Ideal.ofBits .f32 0x43000000#32) (fun e => oF (head h e) + oB (head h e)) dg d * silu (z (head h d))

/-- One entry of the output projection: the residual and the gate times the product of the three mixers' rows, laid one
    after the other, with its column of the weights. -/
def projOut (yF yH : Row 512) (oF oB z : Row 1024) (dg : Row 128) (w : Row 2048) (res gate : EReal) : EReal :=
  res + gate * ((∑ k : Fin 512, yF k * w ⟨k.val, by omega⟩) + (∑ k : Fin 512, yH k * w ⟨512 + k.val, by omega⟩)
    + ∑ h : Fin 8, ∑ d : Fin 128, gated oF oB z dg h d * w ⟨1024 + (head h d).val, by omega⟩)

/-- Row `r`, column `q` of the input projection: rows 4096 to a sample, each sample with its own shift and scale. -/
def entryIn (x : Fin 16384 → Row 2048) (g : Row 2048) (shift scale : Fin 4 → Row 2048) (w : Fin 2048 → Fin 6400 → EReal)
    (r : Fin 16384) (q : Fin 6400) : EReal :=
  projIn (x r) g (shift ⟨r.val / 4096, by omega⟩) (scale ⟨r.val / 4096, by omega⟩) (fun k => w k q)

/-- Row `r`, column `q` of the output projection; `z` is a column range of the input projection. -/
def entryOut (yF yH : Fin 16384 → Row 512) (oF oB : Fin 16384 → Row 1024) (p : Fin 16384 → Fin 6400 → EReal) (dg : Row 128)
    (w : Fin 2048 → Fin 2048 → EReal) (res : Fin 16384 → Row 2048) (gate : Fin 4 → Row 2048) (r : Fin 16384) (q : Fin 2048) : EReal :=
  projOut (yF r) (yH r) (oF r) (oB r) (fun k => p r ⟨5120 + k.val, by omega⟩) dg (fun k => w k q) (res r q) (gate ⟨r.val / 4096, by omega⟩ q)

end Cert.ProjSpec

end
-- ==== Proof.ProjInPay.lean ====
/- The input projection's payloads over the extended reals: the row block normalised and modulated, and its product with a
   block of the weights. -/
module

public import proofs.«01_k».proof.Proof.Gen.Kernel2Ideal.Skeleton
public import proofs.«01_k».proof.Proof.ProjSpec
public import Idealize.ShloMosaic.Lib.Pointwise

@[expose] public section

set_option maxRecDepth 16384

noncomputable section

namespace Cert.Kernel2Ideal.ProjInPay

open Cert.Kernel2Ideal Cert.Kernel2Ideal.Gen Idealize.ShloMosaic Idealize.ShloMosaic.TcCoe Idealize.SL.Sem
open Cert.ProjSpec

/-- What the kernel stores in its scratch. -/
theorem norm_apply (x : FVec Ideal S1024x2048 .f32) (g : FVec Ideal S1x2048 .f32) (scale shift : FVec Ideal S1x1x2048 .f32)
    (r : Fin 1024) (k : Fin 2048) :
    k0_pay1 (F := Ideal) x g scale shift (ix2 r k)
      = modulated (fun k => x (ix2 r k)) (fun k => g (ix2 0 k)) (fun k => shift (ix3 0 0 k)) (fun k => scale (ix3 0 0 k)) k := by
  pointwise [k0_pay1, modulated, rms]

/-- One block of the product. -/
theorem prod_apply (a : FVec Ideal S1024x2048 .bf16) (w : FVec Ideal S2048x1280 .bf16) (r : Fin 1024) (q : Fin 1280) :
    k0_pay3 (F := Ideal) a w (ix2 r q) = ∑ k : Fin 2048, a (ix2 r k) * w (ix2 k q) := by
  pointwise [k0_pay3, k0_pay2]

/-- The gates' columns of the last block. -/
theorem gates_apply (a : FVec Ideal S1024x2048 .bf16) (w : FVec Ideal S2048x1280 .bf16) (r : Fin 1024) (q : Fin 128) :
    k0_pay4 (F := Ideal) a w (ix2 r q) = ∑ k : Fin 2048, a (ix2 r k) * w (ix2 k ⟨1024 + q.val, by omega⟩) := by
  pointwise [k0_pay4, k0_pay2]

end Cert.Kernel2Ideal.ProjInPay

end
-- ==== Proof.ProjInPoint.lean ====
/- What one point of the input projection leaves: the normalised row block is stored at the first point of a row block and kept
   over the others; every point stores its block of the product, and the last one also stores the gates' columns. -/
module

public import proofs.«01_k».proof.Proof.Gen.Kernel2Ideal.Frame
public import Idealize.ShloMosaic.Lib.Pipeline.Value
public import Idealize.ShloMosaic.PureOps.Ideal

@[expose] public section

set_option maxRecDepth 16384

noncomputable section

namespace Cert.Kernel2Ideal.ProjInPoint

open Cert.Kernel2Ideal Cert.Kernel2Ideal.Gen Idealize.ShloMosaic Idealize.ShloMosaic.TcCoe Idealize.ShloMosaic.Tactic Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (a2 : Memref sig .tc .vmem S1024x2048 .f32) (h2 : a2.IsWhole) (a3 : Memref sig .tc .vmem S1x2048 .f32) (h3 : a3.IsWhole)
    (a4 : Memref sig .tc .vmem S1x1x2048 .f32) (h4 : a4.IsWhole) (a5 : Memref sig .tc .vmem S1x1x2048 .f32) (h5 : a5.IsWhole) (a6 : Memref sig .tc .vmem S2048x1280 .bf16) (h6 : a6.IsWhole)
    (a7 : Memref sig .tc .vmem S1024x1280 .bf16) (h7 : a7.IsWhole) (a8 : Memref sig .tc .vmem S1024x128 .f32) (h8 : a8.IsWhole) (a9 : Memref sig .tc .vmem S1024x2048 .bf16) (h9 : a9.IsWhole)
  (x0 : FVec Ideal S1024x2048 .f32) (x1 : FVec Ideal S1x2048 .f32) (x2 x3 : FVec Ideal S1x1x2048 .f32) (x4 : FVec Ideal S2048x1280 .bf16) (xs : FVec Ideal S1024x2048 .bf16)

/-- The first point of a row block stores the normalised rows. -/
theorem scratch_A (hc0 : cond0_0 i) (hc1 : ¬cond0_1 i) : sout0_A_0 (F := Ideal) c i a2 h2 a3 h3 a4 h4 a5 h5 a6 h6 a7 h7 a8 h8 a9 h9 hc0 hc1 x0 x1 x2 x3 x4 = k0_pay1 (F := Ideal) x0 x1 x3 x2 := by
  unfold sout0_A_0
  rw [View.read_writes_eq_canon _ _ _ (scover0_A_0 (F := Ideal) c i a2 h2 a3 h3 a4 h4 a5 h5 a6 h6 a7 h7 a8 h8 a9 h9 hc0 hc1 x0 x1 x2 x3 x4)]
  unfold kernelRun0_A
  dsimp only
  sl_unfold_words
  rw [View.canon_unit_zero hz2]
  simp only [View.readAt_eq_ld, h2.read_unread, h3.read_unread, h4.read_unread, h5.read_unread, h6.read_unread, h9.read_unread,
    View.ld_unit_zero (S := S1024x2048) hz2, View.ld_unit_zero (S := S1x2048) hz2, View.ld_unit_zero (S := S1x1x2048) hz3, View.ld_unit_zero (S := S2048x1280) hz2]

/-- Its block of the product is of the rows it has just stored. -/
theorem prod_A (hc0 : cond0_0 i) (hc1 : ¬cond0_1 i) : out0_A_5 (F := Ideal) c i a2 h2 a3 h3 a4 h4 a5 h5 a6 h6 a7 h7 a8 h8 a9 h9 hc0 hc1 x0 x1 x2 x3 x4 = k0_pay3 (F := Ideal) (k0_pay1 (F := Ideal) x0 x1 x3 x2) x4 := by
  unfold out0_A_5
  rw [View.read_writes_eq_canon _ _ _ (cover0_A_5 (F := Ideal) c i a2 h2 a3 h3 a4 h4 a5 h5 a6 h6 a7 h7 a8 h8 a9 h9 hc0 hc1 x0 x1 x2 x3 x4)]
  unfold kernelRun0_A
  dsimp only
  sl_unfold_words
  rw [View.canon_unit_zero hz2, View.readCov_unit_zero (S := S1024x2048) _ hz2]
  simp only [View.readAt_eq_ld, h2.read_unread, h3.read_unread, h4.read_unread, h5.read_unread, h6.read_unread, h9.read_unread,
    View.ld_unit_zero (S := S1024x2048) hz2, View.ld_unit_zero (S := S1x2048) hz2, View.ld_unit_zero (S := S1x1x2048) hz3, View.ld_unit_zero (S := S2048x1280) hz2]

/-- A point between: its block of the product. -/
theorem prod_B (hc0 : ¬cond0_0 i) (hc1 : ¬cond0_1 i) : out0_B_5 (F := Ideal) c i a2 h2 a3 h3 a4 h4 a5 h5 a6 h6 a7 h7 a8 h8 a9 h9 hc0 hc1 x0 x1 x2 x3 x4 xs = k0_pay3 (F := Ideal) xs x4 := by
  unfold out0_B_5
  rw [View.read_writes_eq_canon _ _ _ (cover0_B_5 (F := Ideal) c i a2 h2 a3 h3 a4 h4 a5 h5 a6 h6 a7 h7 a8 h8 a9 h9 hc0 hc1 x0 x1 x2 x3 x4 xs)]
  unfold kernelRun0_B
  dsimp only
  sl_unfold_words
  rw [View.canon_unit_zero hz2]
  simp only [View.readAt_eq_ld, h2.read_unread, h3.read_unread, h4.read_unread, h5.read_unread, h6.read_unread, h9.read_unread,
    View.ld_unit_zero (S := S1024x2048) hz2, View.ld_unit_zero (S := S1x2048) hz2, View.ld_unit_zero (S := S1x1x2048) hz3, View.ld_unit_zero (S := S2048x1280) hz2]

/-- The last point: its block of the product. -/
theorem prod_C (hc0 : ¬cond0_0 i) (hc1 : cond0_1 i) : out0_C_5 (F := Ideal) c i a2 h2 a3 h3 a4 h4 a5 h5 a6 h6 a7 h7 a8 h8 a9 h9 hc0 hc1 x0 x1 x2 x3 x4 xs = k0_pay3 (F := Ideal) xs x4 := by
  unfold out0_C_5
  rw [View.read_writes_eq_canon _ _ _ (cover0_C_5 (F := Ideal) c i a2 h2 a3 h3 a4 h4 a5 h5 a6 h6 a7 h7 a8 h8 a9 h9 hc0 hc1 x0 x1 x2 x3 x4 xs)]
  unfold kernelRun0_C
  dsimp only
  sl_unfold_words
  rw [View.canon_unit_zero hz2]
  simp only [View.readAt_eq_ld, h2.read_unread, h3.read_unread, h4.read_unread, h5.read_unread, h6.read_unread, h9.read_unread,
    View.ld_unit_zero (S := S1024x2048) hz2, View.ld_unit_zero (S := S1x2048) hz2, View.ld_unit_zero (S := S1x1x2048) hz3, View.ld_unit_zero (S := S2048x1280) hz2]

/-- The last point: the gates' columns. -/
theorem gates_C (hc0 : ¬cond0_0 i) (hc1 : cond0_1 i) : out0_C_6 (F := Ideal) c i a2 h2 a3 h3 a4 h4 a5 h5 a6 h6 a7 h7 a8 h8 a9 h9 hc0 hc1 x0 x1 x2 x3 x4 xs = k0_pay4 (F := Ideal) xs x4 := by
  unfold out0_C_6
  rw [View.read_writes_eq_canon _ _ _ (cover0_C_6 (F := Ideal) c i a2 h2 a3 h3 a4 h4 a5 h5 a6 h6 a7 h7 a8 h8 a9 h9 hc0 hc1 x0 x1 x2 x3 x4 xs)]
  unfold kernelRun0_C
  dsimp only
  sl_unfold_words
  rw [View.canon_unit_zero hz2]
  simp only [View.readAt_eq_ld, h2.read_unread, h3.read_unread, h4.read_unread, h5.read_unread, h6.read_unread, h9.read_unread,
    View.ld_unit_zero (S := S1024x2048) hz2, View.ld_unit_zero (S := S1x2048) hz2, View.ld_unit_zero (S := S1x1x2048) hz3, View.ld_unit_zero (S := S2048x1280) hz2]

end Cert.Kernel2Ideal.ProjInPoint

end
-- ==== Proof.ProjInRun.lean ====
/- The two output arrays of the input projection: by induction over the grid, the scratch holds the modulated rows of the point's row
   block, so every block written back is its block of the projection. -/
module

public import proofs.«01_k».proof.Proof.Gen.Kernel2Ideal.Value
public import proofs.«01_k».proof.Proof.ProjInPay
public import proofs.«01_k».proof.Proof.ProjInPoint

@[expose] public section

set_option maxRecDepth 16384

noncomputable section

namespace Cert.Kernel2Ideal.ProjInRun

open Cert.Kernel2Ideal Cert.Kernel2Ideal.Gen Idealize.ShloMosaic Idealize.ShloMosaic.TcCoe Idealize.ShloMosaic.Tactic Idealize.SL.Sem
open Idealize.ShloMosaic.Pipeline (Dat)
open Cert.ProjSpec ProjInPay ProjInPoint

variable (m : (ℓ : Loc nD τ sig) → Buf (Elt Ideal) ℓ) (c : Dev nD)

/-! ## The arguments -/

abbrev argX : FVec Ideal S16384x2048 .f32 := m ((c : Thread nD τ).loc main_arg0)
abbrev argG : FVec Ideal S2048 .f32 := m ((c : Thread nD τ).loc main_arg1)
abbrev argShift : FVec Ideal S4x1x2048 .f32 := m ((c : Thread nD τ).loc main_arg2)
abbrev argScale : FVec Ideal S4x1x2048 .f32 := m ((c : Thread nD τ).loc main_arg3)
abbrev argW : FVec Ideal S2048x6400 .bf16 := m ((c : Thread nD τ).loc main_arg4)

/-- Row `r`, column `q` of the projection of the arguments. -/
def entry (r : Fin 16384) (q : Fin 6400) : EReal :=
  entryIn (fun r k => argX m c (ix2 r k)) (fun k => argG m c (ix1 k)) (fun b k => argShift m c (ix3 b 0 k))
    (fun b k => argScale m c (ix3 b 0 k)) (fun k q => argW m c (ix2 k q)) r q

/-- Row `r` of row block `b`, modulated. -/
def rows (b : ℕ) (hb : b < 16) (r : Fin 1024) : Row 2048 :=
  modulated (fun k => argX m c (ix2 ⟨1024 * b + r.val, by omega⟩ k)) (fun k => argG m c (ix1 k))
    (fun k => argShift m c (ix3 ⟨b / 4, by omega⟩ 0 k)) (fun k => argScale m c (ix3 ⟨b / 4, by omega⟩ 0 k))

/-- The gain, laid out as one row. -/
theorem V_gain (k : Fin 2048) : (V m c main_v0 : FVec Ideal S1x2048 .f32) (ix2 0 k) = argG m c (ix1 k) := by
  have e : (V m c main_v0 : FVec Ideal S1x2048 .f32) = shapeCast S1x2048 (argG m c) shapeCasts_S2048_S1x2048 := by
    show StableHlo.after hostOps0 _ (Proc.devRef .tc main_v0) = _
    after_results
    rfl
  rw [e]
  pointwise

/-! ## The blocks a point reads -/

theorem lt80 (t : Fin cfg0.N) : t.val < 80 := lt_of_lt_of_eq t.isLt N_0

theorem index_0 : ∀ t : Fin grid0.N, win0_0.index t = ![t.val / 5, 0] := by decide +kernel
theorem index_1 : ∀ t : Fin grid0.N, win0_1.index t = ![0, 0] := by decide +kernel
theorem index_2 : ∀ t : Fin grid0.N, win0_2.index t = ![t.val / 20, 0, 0] := by decide +kernel
theorem index_3 : ∀ t : Fin grid0.N, win0_3.index t = ![t.val / 20, 0, 0] := by decide +kernel
theorem index_4 : ∀ t : Fin grid0.N, win0_4.index t = ![0, t.val % 5] := by decide +kernel

theorem blk_0 (t : Fin cfg0.N) (r : Fin 1024) (k : Fin 2048) : (iblk m c 0 t : FVec Ideal S1024x2048 .f32) (ix2 r k) = argX m c (ix2 ⟨1024 * (t.val / 5) + r.val, by have := lt80 t; omega⟩ k) := by
  have hi := index_0 t
  rw [← show V m c main_arg0 = argX m c from V_main_arg0 m c]
  unfold iblk
  rw [View.read_apply]
  show V m c main_arg0 _ = V m c main_arg0 _
  congr 1
  funext a
  apply Fin.ext
  match a with
  | ⟨0, _⟩ => show win0_0.index t 0 * 1024 + 1 * r.val = 1024 * (t.val / 5) + r.val; rw [show win0_0.index t 0 = t.val / 5 from congrFun hi 0]; omega
  | ⟨1, _⟩ => show win0_0.index t 1 * 2048 + 1 * k.val = k.val; rw [show win0_0.index t 1 = 0 from congrFun hi 1]; omega

theorem blk_2 (t : Fin cfg0.N) (k : Fin 2048) : (iblk m c 2 t : FVec Ideal S1x1x2048 .f32) (ix3 0 0 k) = argShift m c (ix3 ⟨t.val / 5 / 4, by have := lt80 t; omega⟩ 0 k) := by
  have hi := index_2 t
  rw [← show V m c main_arg2 = argShift m c from V_main_arg2 m c]
  unfold iblk
  rw [View.read_apply]
  show V m c main_arg2 _ = V m c main_arg2 _
  congr 1
  funext a
  apply Fin.ext
  match a with
  | ⟨0, _⟩ => show win0_2.index t 0 * 1 + 1 * 0 = t.val / 5 / 4; rw [show win0_2.index t 0 = t.val / 20 from congrFun hi 0]; omega
  | ⟨1, _⟩ => show win0_2.index t 1 * 1 + 1 * 0 = 0; rw [show win0_2.index t 1 = 0 from congrFun hi 1]
  | ⟨2, _⟩ => show win0_2.index t 2 * 2048 + 1 * k.val = k.val; rw [show win0_2.index t 2 = 0 from congrFun hi 2]; omega

theorem blk_3 (t : Fin cfg0.N) (k : Fin 2048) : (iblk m c 3 t : FVec Ideal S1x1x2048 .f32) (ix3 0 0 k) = argScale m c (ix3 ⟨t.val / 5 / 4, by have := lt80 t; omega⟩ 0 k) := by
  have hi := index_3 t
  rw [← show V m c main_arg3 = argScale m c from V_main_arg3 m c]
  unfold iblk
  rw [View.read_apply]
  show V m c main_arg3 _ = V m c main_arg3 _
  congr 1
  funext a
  apply Fin.ext
  match a with
  | ⟨0, _⟩ => show win0_3.index t 0 * 1 + 1 * 0 = t.val / 5 / 4; rw [show win0_3.index t 0 = t.val / 20 from congrFun hi 0]; omega
  | ⟨1, _⟩ => show win0_3.index t 1 * 1 + 1 * 0 = 0; rw [show win0_3.index t 1 = 0 from congrFun hi 1]
  | ⟨2, _⟩ => show win0_3.index t 2 * 2048 + 1 * k.val = k.val; rw [show win0_3.index t 2 = 0 from congrFun hi 2]; omega

theorem blk_4 (t : Fin cfg0.N) (k : Fin 2048) (q : Fin 1280) : (iblk m c 4 t : FVec Ideal S2048x1280 .bf16) (ix2 k q) = argW m c (ix2 k ⟨1280 * (t.val % 5) + q.val, by omega⟩) := by
  have hi := index_4 t
  rw [← show V m c main_arg4 = argW m c from V_main_arg4 m c]
  unfold iblk
  rw [View.read_apply]
  show V m c main_arg4 _ = V m c main_arg4 _
  congr 1
  funext a
  apply Fin.ext
  match a with
  | ⟨0, _⟩ => show win0_4.index t 0 * 2048 + 1 * k.val = k.val; rw [show win0_4.index t 0 = 0 from congrFun hi 0]; omega
  | ⟨1, _⟩ => show win0_4.index t 1 * 1280 + 1 * q.val = 1280 * (t.val % 5) + q.val; rw [show win0_4.index t 1 = t.val % 5 from congrFun hi 1]; omega

theorem blk_1 (t : Fin cfg0.N) (k : Fin 2048) : (iblk m c 1 t : FVec Ideal S1x2048 .f32) (ix2 0 k) = argG m c (ix1 k) := by
  have hi := index_1 t
  rw [← V_gain m c k]
  unfold iblk
  rw [View.read_apply]
  show V m c main_v0 _ = V m c main_v0 _
  congr 1
  funext a
  apply Fin.ext
  match a with
  | ⟨0, _⟩ => show win0_1.index t 0 * 1 + 1 * 0 = 0; rw [show win0_1.index t 0 = 0 from congrFun hi 0]
  | ⟨1, _⟩ => show win0_1.index t 1 * 2048 + 1 * k.val = k.val; rw [show win0_1.index t 1 = 0 from congrFun hi 1]; omega

/-! ## The induction -/

/-- Normalising the row block a point reads gives its modulated rows. -/
theorem norm_block (t : Fin cfg0.N) (r : Fin 1024) (k : Fin 2048) :
    k0_pay1 (F := Ideal) (iblk m c 0 t) (iblk m c 1 t) (iblk m c 3 t) (iblk m c 2 t) (ix2 r k)
      = rows m c (t.val / 5) (by have := lt80 t; omega) r k := by
  refine (norm_apply _ _ _ _ r k).trans ?_
  simp only [blk_0, blk_1, blk_2, blk_3]
  rfl

/-- After every point the scratch holds the modulated rows of the point's row block. -/
theorem scratch (n : ℕ) (hn : n < cfg0.N) (r : Fin 1024) (k : Fin 2048) :
    ((outsAt0 m c n hn).2.2 : FVec Ideal S1024x2048 .bf16) (ix2 r k) = rows m c (n / 5) (by have := lt80 ⟨n, hn⟩; dsimp only at this; omega) r k := by
  have first : ∀ t : Fin cfg0.N, t.val % 5 = 0 →
      ((outsAt0 m c t.val t.isLt).2.2 : FVec Ideal S1024x2048 .bf16) (ix2 r k) = rows m c (t.val / 5) (by have := lt80 t; omega) r k := by
    intro t h0
    rw [outsAt0_A m c t h0 (by omega)]
    dsimp only
    rw [scratch_A]
    exact norm_block m c t r k
  induction n with
  | zero => exact first ⟨0, hn⟩ rfl
  | succ n ih =>
    by_cases h0 : (n + 1) % 5 = 0
    · exact first ⟨n + 1, hn⟩ h0
    · have hp := ih (Nat.lt_of_succ_lt hn) first
      have e : (n + 1) / 5 = n / 5 := by omega
      by_cases h1 : (n + 1) % 5 = 4
      · refine (congrFun (congrArg (fun o => o.2.2) (outsAt0_C m c ⟨n + 1, hn⟩ h0 h1)) _).trans ?_
        refine hp.trans ?_
        simp only [e]
      · refine (congrFun (congrArg (fun o => o.2.2) (outsAt0_B m c ⟨n + 1, hn⟩ h0 h1)) _).trans ?_
        refine hp.trans ?_
        simp only [e]

/-- The same, of the scratch a later point of the row block finds. -/
theorem scratch_before (t : Fin cfg0.N) (h0 : ¬t.val % 5 = 0) (r : Fin 1024) (k : Fin 2048) :
    ((outsAt0 m c (t.val - 1) (Nat.lt_of_le_of_lt (Nat.sub_le _ _) t.isLt)).2.2 : FVec Ideal S1024x2048 .bf16) (ix2 r k)
      = rows m c (t.val / 5) (by have := lt80 t; omega) r k := by
  refine (scratch m c _ _ r k).trans ?_
  have e : (t.val - 1) / 5 = t.val / 5 := by omega
  simp only [e]

/-- The sum of modulated rows against a weight column is the projection's entry. -/
theorem entry_eq (b : ℕ) (hb : b < 16) (r : Fin 1024) (q : Fin 6400) :
    entry m c ⟨1024 * b + r.val, by omega⟩ q = ∑ k : Fin 2048, rows m c b hb r k * argW m c (ix2 k q) := by
  unfold entry entryIn projIn rows
  have e : (1024 * b + r.val) / 4096 = b / 4 := by omega
  simp only [e]

/-- Every point leaves its block of the projection. -/
theorem prod (t : Fin cfg0.N) (r : Fin 1024) (q : Fin 1280) :
    ((outsAt0 m c t.val t.isLt).1 : FVec Ideal S1024x1280 .bf16) (ix2 r q)
      = entry m c ⟨1024 * (t.val / 5) + r.val, by have := lt80 t; omega⟩ ⟨1280 * (t.val % 5) + q.val, by omega⟩ := by
  rw [entry_eq m c (t.val / 5) (by have := lt80 t; omega)]
  by_cases h0 : t.val % 5 = 0
  · rw [outsAt0_A m c t h0 (by omega)]
    dsimp only
    rw [prod_A]
    refine (prod_apply _ _ r q).trans ?_
    refine Finset.sum_congr rfl fun k _ => ?_
    rw [norm_block, blk_4]
  · by_cases h1 : t.val % 5 = 4
    · rw [outsAt0_C m c t h0 h1]
      dsimp only
      rw [prod_C]
      refine (prod_apply _ _ r q).trans ?_
      refine Finset.sum_congr rfl fun k _ => ?_
      rw [scratch_before m c t h0, blk_4]
    · rw [outsAt0_B m c t h0 h1]
      dsimp only
      rw [prod_B]
      refine (prod_apply _ _ r q).trans ?_
      refine Finset.sum_congr rfl fun k _ => ?_
      rw [scratch_before m c t h0, blk_4]

/-- The last point of a row block leaves its gates' columns. -/
theorem gates (t : Fin cfg0.N) (h1 : t.val % 5 = 4) (r : Fin 1024) (q : Fin 128) :
    ((outsAt0 m c t.val t.isLt).2.1 : FVec Ideal S1024x128 .f32) (ix2 r q)
      = entry m c ⟨1024 * (t.val / 5) + r.val, by have := lt80 t; omega⟩ ⟨6144 + q.val, by omega⟩ := by
  have h0 : ¬t.val % 5 = 0 := by omega
  rw [entry_eq m c (t.val / 5) (by have := lt80 t; omega)]
  rw [outsAt0_C m c t h0 h1]
  dsimp only
  rw [gates_C]
  refine (gates_apply _ _ r q).trans ?_
  refine Finset.sum_congr rfl fun k _ => ?_
  rw [scratch_before m c t h0, blk_4]
  have e : 1280 * (t.val % 5) + (1024 + q.val) = 6144 + q.val := by omega
  simp only [e]

/-! ## The arrays -/

theorem index_5 : ∀ t : Fin grid0.N, win0_5.index t = ![t.val / 5, t.val % 5] := by decide +kernel
theorem index_6 : ∀ t : Fin grid0.N, win0_6.index t = ![t.val / 5, 0] := by decide +kernel

/-- Where a block of the projection lies. -/
theorem emb_5 (t : Fin cfg0.N) (r : Fin 1024) (q : Fin 1280) : ((cfg0.win 5).blk t).view.emb (ix2 r q : S1024x1280.Idx)
    = (ix2 ⟨1024 * (t.val / 5) + r.val, by have := lt80 t; omega⟩ ⟨1280 * (t.val % 5) + q.val, by omega⟩ : S16384x6400.Idx) := by
  have hi := index_5 t
  funext a
  apply Fin.ext
  match a with
  | ⟨0, _⟩ => show win0_5.index t 0 * 1024 + 1 * r.val = 1024 * (t.val / 5) + r.val; rw [show win0_5.index t 0 = t.val / 5 from congrFun hi 0]; omega
  | ⟨1, _⟩ => show win0_5.index t 1 * 1280 + 1 * q.val = 1280 * (t.val % 5) + q.val; rw [show win0_5.index t 1 = t.val % 5 from congrFun hi 1]; omega

/-- Where a block of the gates' columns lies. -/
theorem emb_6 (t : Fin cfg0.N) (r : Fin 1024) (q : Fin 128) : ((cfg0.win 6).blk t).view.emb (ix2 r q : S1024x128.Idx)
    = (ix2 ⟨1024 * (t.val / 5) + r.val, by have := lt80 t; omega⟩ q : S16384x128.Idx) := by
  have hi := index_6 t
  funext a
  apply Fin.ext
  match a with
  | ⟨0, _⟩ => show win0_6.index t 0 * 1024 + 1 * r.val = 1024 * (t.val / 5) + r.val; rw [show win0_6.index t 0 = t.val / 5 from congrFun hi 0]; omega
  | ⟨1, _⟩ => show win0_6.index t 1 * 128 + 1 * q.val = q.val; rw [show win0_6.index t 1 = 0 from congrFun hi 1]; omega

/-- The projection's array. -/
theorem arr_5 : (dats m 0 c).arrAt 5 cfg0.N = fun y : S16384x6400.Idx => entry m c (y 0) (y 1) := by
  refine (dats m 0 c).arrAt_eq_of_cover 5 _ (fun t _ => ?_) (fun i => ?_)
  · rw [Value.flushed5]
    funext (y : S1024x1280.Idx)
    rw [View.read_apply]
    idx_vars y
    refine Eq.trans ?_ (congrArg (fun y : S16384x6400.Idx => entry m c (y 0) (y 1)) (emb_5 t y0 y1)).symm
    exact prod m c t y0 y1
  · let r : Fin 16384 := i 0
    let q : Fin 6400 := i 1
    have hr := r.isLt
    have hq := q.isLt
    let t : Fin cfg0.N := ⟨5 * (r.val / 1024) + q.val / 1280, lt_of_lt_of_eq (by omega) N_0.symm⟩
    refine ⟨t, flush0_5 t, ?_⟩
    have e : ((cfg0.win 5).blk t).view.emb (ix2 ⟨r.val % 1024, by omega⟩ ⟨q.val % 1280, by omega⟩ : S1024x1280.Idx) = i := by
      rw [emb_5]
      funext a
      apply Fin.ext
      match a with
      | ⟨0, _⟩ => show 1024 * ((5 * (r.val / 1024) + q.val / 1280) / 5) + r.val % 1024 = r.val; omega
      | ⟨1, _⟩ => show 1280 * ((5 * (r.val / 1024) + q.val / 1280) % 5) + q.val % 1280 = q.val; omega
    rw [← e]
    exact View.emb_mem_set _ _

/-- The gates' array. -/
theorem arr_6 : (dats m 0 c).arrAt 6 cfg0.N = fun y : S16384x128.Idx => entry m c (y 0) ⟨6144 + (y 1).val, by have h : (y 1).val < 128 := (y 1).isLt; omega⟩ := by
  refine (dats m 0 c).arrAt_eq_of_cover 6 _ (fun t hf => ?_) (fun i => ?_)
  · have h1 : t.val % 5 = 4 := (flush0_6 t).mp hf
    rw [Value.flushed6]
    funext (y : S1024x128.Idx)
    rw [View.read_apply]
    idx_vars y
    refine Eq.trans ?_ (congrArg (fun y : S16384x128.Idx => entry m c (y 0) ⟨6144 + (y 1).val, by have h : (y 1).val < 128 := (y 1).isLt; omega⟩) (emb_6 t y0 y1)).symm
    exact gates m c t h1 y0 y1
  · let r : Fin 16384 := i 0
    have hr := r.isLt
    let t : Fin cfg0.N := ⟨5 * (r.val / 1024) + 4, lt_of_lt_of_eq (by omega) N_0.symm⟩
    refine ⟨t, (flush0_6 t).mpr (by show (5 * (r.val / 1024) + 4) % 5 = 4; omega), ?_⟩
    have e : ((cfg0.win 6).blk t).view.emb (ix2 ⟨r.val % 1024, by omega⟩ (i 1) : S1024x128.Idx) = i := by
      refine (emb_6 t _ _).trans ?_
      funext a
      apply Fin.ext
      match a with
      | ⟨0, _⟩ => show 1024 * ((5 * (r.val / 1024) + 4) / 5) + r.val % 1024 = r.val; omega
      | ⟨1, _⟩ => rfl
    rw [← e]
    exact View.emb_mem_set _ _

end Cert.Kernel2Ideal.ProjInRun

end
-- ==== Proof.ProjInRef.lean ====
/- The input projection's reference, read at an index. -/
module

public import proofs.«01_k».proof.Proof.Gen.Reference2Ideal.Run
public import proofs.«01_k».proof.Proof.ProjSpec
public import Idealize.ShloMosaic.Lib.Pointwise

@[expose] public section

set_option maxRecDepth 16384

noncomputable section

namespace Cert.Reference2Ideal.ProjInRef

open Cert.Reference2Ideal Cert.Reference2Ideal.Gen Idealize.ShloMosaic Idealize.ShloMosaic.TcCoe Idealize.SL.Sem
open Cert.ProjSpec

variable (x : FVec Ideal S16384x2048 .f32) (g : FVec Ideal S2048 .f32) (shift scale : FVec Ideal S4x1x2048 .f32)
  (w : FVec Ideal S2048x6400 .bf16)

/-- Row `r`, column `q` of the projection. -/
def entry (r : Fin 16384) (q : Fin 6400) : EReal :=
  entryIn (fun r k => x (ix2 r k)) (fun k => g (ix1 k)) (fun b k => shift (ix3 b 0 k)) (fun b k => scale (ix3 b 0 k))
    (fun k q => w (ix2 k q)) r q

/-- The reference's projection, unrounded. -/
def proj : FVec Ideal S16384x6400 .f32 :=
  (shapeCast _ (Host.dotGeneral dot_S4x4096x2048_S2048x6400_S4x4096x6400_2_0_01_1_n_n none (addf (mulf (mulf (mulf (shapeCast _ x shapeCasts_S16384x2048_S4x4096x2048) (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf (shapeCast _ x shapeCasts_S16384x2048_S4x4096x2048) (shapeCast _ x shapeCasts_S16384x2048_S4x4096x2048)) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 g))) (broadcastInDim S4x4096x2048 ![0, 1, 2] bcast_S4x1x2048_S4x4096x2048_0_1_2 (addf (broadcastInDim S4x1x2048 ![] bcast_S_S4x1x2048 (constant S_ .f32 0x3F800000#32)) scale))) (broadcastInDim S4x4096x2048 ![0, 1, 2] bcast_S4x1x2048_S4x4096x2048_0_1_2 shift)) (extf .f32 w bitsLt_bf16_f32)) shapeCasts_S4x4096x6400_S16384x6400)

/-- The reference's projection at an index. -/
theorem proj_apply (r : Fin 16384) (q : Fin 6400) : proj x g shift scale w (ix2 r q) = entry x g shift scale w r q := by
  pointwise [proj, entry, entryIn, projIn, modulated, rms]

/-- The projection, rounded to the 16-bit type: no change here. -/
theorem out_eq : truncf .bf16 (proj x g shift scale w) bitsLt_bf16_f32 = fun y : S16384x6400.Idx => entry x g shift scale w (y 0) (y 1) := by
  funext (y : S16384x6400.Idx)
  idx_vars y
  exact proj_apply x g shift scale w y0 y1

/-- The gates' columns. -/
theorem gates_eq : extractStridedSlice S16384x128 ![0, 6144] (proj x g shift scale w) slices_S16384x6400_S16384x128_0_6144
    = fun y : S16384x128.Idx => entry x g shift scale w (y 0) ⟨6144 + (y 1).val, by have h : (y 1).val < 128 := (y 1).isLt; omega⟩ := by
  funext (y : S16384x128.Idx)
  idx_vars y
  refine Eq.trans ?_ (proj_apply x g shift scale w y0 ⟨6144 + y1.val, by omega⟩)
  pointwise

end Cert.Reference2Ideal.ProjInRef

end
-- ==== Proof.ProjInClaim.lean ====
/- The claims about the input projection: both kernels' and the reference's frames, and that over the extended reals the kernel
   and the reference end with the same two arrays. -/
module

public import proofs.«01_k».proof.Defs
public import proofs.«01_k».proof.Proof.Gen.Kernel2.Frame
public import proofs.«01_k».proof.Proof.Gen.Reference2Ideal.Run
public import proofs.«01_k».proof.Proof.ProjInRun
public import proofs.«01_k».proof.Proof.ProjInRef
public import Idealize.ShloMosaic.Adequacy
public import Idealize.ShloMosaic.Init

@[expose] public section

set_option maxRecDepth 16384

noncomputable section

namespace Cert.ProjInClaim

open Idealize.ShloMosaic Idealize.SL.Sem

/-- The kernel's frame. -/
theorem frame_P : @Cert.quiescent_Kernel2 Cert.Kernel2.Gen.facts := fun m ρ _ => Cert.Kernel2.Gen.frame m ρ

/-- The ideal kernel's frame. -/
theorem frame_PI : @Cert.quiescent_Kernel2Ideal Cert.Kernel2Ideal.Gen.facts := fun m ρ _ => Cert.Kernel2Ideal.Gen.frame m ρ

/-- The reference's frame. -/
theorem frame_RI : @Cert.quiescent_Reference2Ideal Cert.Reference2Ideal.Gen.facts := fun m ρ _ =>
  (θ_run Cert.Reference2Ideal.defs _ _).mono
    (fun r h => ⟨fun c => (h c).2.2, Idealize.ShloMosaic.sem_eq_zero_of_no_sems (by decide) r.2⟩) (Cert.Reference2Ideal.Value.run (F := Ideal) m ρ)

/-- The kernel's two arrays are the reference's. -/
theorem algebraic : @Cert.algebraic_Kernel2Ideal_Reference2Ideal Cert.Kernel2Ideal.Gen.facts Cert.Reference2Ideal.Gen.facts := by
  intro m ρ m' ρ' _ hagree
  refine ⟨_, _, (θ_run Cert.Kernel2Ideal.defs _ _).mono (fun _ h => h) (Cert.Kernel2Ideal.Value.run_blocks (F := Ideal) m ρ), ?_⟩
  refine (θ_run Cert.Reference2Ideal.defs _ _).mono (fun r h c => ?_) (Cert.Reference2Ideal.Value.run (F := Ideal) m' ρ')
  obtain ⟨h0, h1, ha⟩ := h c
  obtain ⟨g0, g1, g2, g3, g4⟩ := hagree c
  rw [g0, g1, g2, g3, g4] at h0 h1
  exact ⟨(h0.trans (Cert.Reference2Ideal.ProjInRef.out_eq _ _ _ _ _)).trans (Cert.Kernel2Ideal.ProjInRun.arr_5 m c).symm,
    (h1.trans (Cert.Reference2Ideal.ProjInRef.gates_eq _ _ _ _ _)).trans (Cert.Kernel2Ideal.ProjInRun.arr_6 m c).symm, ha⟩

end Cert.ProjInClaim

end
-- ==== Proof.ProjOutPay.lean ====
/- The output projection's payload over the extended reals: each head normalised and gated, two heads at a time multiplied by
   their rows of the weights, the four products added to the two other mixers', gated and added to the residual. -/
module

public import proofs.«01_k».proof.Proof.Gen.Kernel3Ideal.Skeleton
public import proofs.«01_k».proof.Proof.ProjSpec
public import Idealize.ShloMosaic.Lib.Pointwise

@[expose] public section

set_option maxRecDepth 16384

noncomputable section

namespace Cert.Kernel3Ideal.ProjOutPay

open Cert.Kernel3Ideal Cert.Kernel3Ideal.Gen Idealize.ShloMosaic Idealize.ShloMosaic.TcCoe Idealize.SL.Sem
open Cert.ProjSpec

/-- One head, normalised and gated. -/
abbrev hd (oF oB : FVec Ideal S512x128 .bf16) (dg : FVec Ideal S1x128 .f32) (z : FVec Ideal S512x128 .bf16) : FVec Ideal S512x128 .bf16 :=
  k0_pay3 (F := Ideal) oF oB dg z

/-- Two heads side by side times their rows of the weights, added to what there is. -/
def pair (acc : FVec Ideal S512x2048 .f32) (a b : FVec Ideal S512x128 .bf16) (w : FVec Ideal S256x2048 .bf16) : FVec Ideal S512x2048 .f32 :=
  addf acc (matmul dot_S512x256_S256x2048_S512x2048_1_0_0_1_n_n none
    (concatenate S512x256 1 [⟨S512x128, a⟩, ⟨S512x128, b⟩] concatenates_S512x128_S512x128_S512x256_d1 : FVec Ideal S512x256 .bf16) w
    (constant S512x2048 .f32 0x00000000#32))

/-- The whole block, from its loads. -/
def stored (yF yH : FVec Ideal S512x512 .bf16) (w0 w1 : FVec Ideal S512x2048 .bf16) (oF oB z : Fin 8 → FVec Ideal S512x128 .bf16)
    (dg : FVec Ideal S1x128 .f32) (w : Fin 4 → FVec Ideal S256x2048 .bf16) (res : FVec Ideal S512x2048 .f32) (gate : FVec Ideal S1x1x2048 .f32) :
    FVec Ideal S512x2048 .f32 :=
  k0_pay1 (F := Ideal)
    (k0_pay14 (k0_pay10 (k0_pay5 (k0_pay2 yF w0 yH w1) (k0_pay3 (oF 0) (oB 0) dg (z 0)) (k0_pay4 (oF 1)) (oB 1) dg (z 1) (w 0))
      (k0_pay6 (oF 2) (oB 2)) (k0_pay7 dg) (k0_pay8 (oF 2) (oB 2)) k0_pay9 (z 2) (oF 3) (oB 3) dg (z 3) (w 1))
      (k0_pay11 (oF 4) (oB 4) dg (z 4)) (k0_pay12 (oF 5) (oB 5)) (k0_pay13 dg) (z 5) (w 2))
    (k0_pay15 (oF 6) (oB 6) dg (z 6)) (k0_pay16 (oF 7)) (k0_pay17 (oB 7)) dg (z 7) (w 3) res gate

/-- The block's gate along its columns. -/
def gateOf (gate : FVec Ideal S1x1x2048 .f32) : FVec Ideal S512x2048 .f32 :=
  broadcastTo S512x2048 (shapeCast S1x2048 gate shapeCasts_S1x1x2048_S1x2048) broadcasts_S1x2048_S512x2048

/-- The same, two heads at a time. -/
theorem stored_eq (yF yH : FVec Ideal S512x512 .bf16) (w0 w1 : FVec Ideal S512x2048 .bf16) (oF oB z : Fin 8 → FVec Ideal S512x128 .bf16)
    (dg : FVec Ideal S1x128 .f32) (w : Fin 4 → FVec Ideal S256x2048 .bf16) (res : FVec Ideal S512x2048 .f32) (gate : FVec Ideal S1x1x2048 .f32) :
    stored yF yH w0 w1 oF oB z dg w res gate = addf res (mulf (gateOf gate)
      (pair (pair (pair (pair (k0_pay2 (F := Ideal) yF w0 yH w1) (hd (oF 0) (oB 0) dg (z 0)) (hd (oF 1) (oB 1) dg (z 1)) (w 0))
        (hd (oF 2) (oB 2) dg (z 2)) (hd (oF 3) (oB 3) dg (z 3)) (w 1))
        (hd (oF 4) (oB 4) dg (z 4)) (hd (oF 5) (oB 5) dg (z 5)) (w 2))
        (hd (oF 6) (oB 6) dg (z 6)) (hd (oF 7) (oB 7) dg (z 7)) (w 3))) := rfl

/-- A head at an index. -/
theorem hd_apply (oF oB : FVec Ideal S512x128 .bf16) (dg : FVec Ideal S1x128 .f32) (z : FVec Ideal S512x128 .bf16) (r : Fin 512) (d : Fin 128) :
    hd oF oB dg z (ix2 r d) = rms (Ideal.ofBits .f32 0x43000000#32) (fun e : Fin 128 => oF (ix2 r e) + oB (ix2 r e)) (fun e => dg (ix2 0 e)) d
      * silu (z (ix2 r d)) := by
  pointwise [hd, k0_pay3, rms, silu]
  rfl

/-- Two heads' product at an index. -/
theorem pair_apply (acc : FVec Ideal S512x2048 .f32) (a b : FVec Ideal S512x128 .bf16) (w : FVec Ideal S256x2048 .bf16) (r : Fin 512) (q : Fin 2048) :
    pair acc a b w (ix2 r q) = acc (ix2 r q) + ((∑ d : Fin 128, a (ix2 r d) * w (ix2 ⟨d.val, by omega⟩ q))
      + ∑ d : Fin 128, b (ix2 r d) * w (ix2 ⟨128 + d.val, by omega⟩ q)) := by
  pointwise [pair]

/-- The two other mixers' products at an index. -/
theorem mixers_apply (yF yH : FVec Ideal S512x512 .bf16) (w0 w1 : FVec Ideal S512x2048 .bf16) (r : Fin 512) (q : Fin 2048) :
    k0_pay2 (F := Ideal) yF w0 yH w1 (ix2 r q) = (∑ k : Fin 512, yF (ix2 r k) * w0 (ix2 k q)) + ∑ k : Fin 512, yH (ix2 r k) * w1 (ix2 k q) := by
  pointwise [k0_pay2]

theorem gateOf_apply (gate : FVec Ideal S1x1x2048 .f32) (r : Fin 512) (q : Fin 2048) : gateOf gate (ix2 r q) = gate (ix3 0 0 q) := by
  pointwise [gateOf]

end Cert.Kernel3Ideal.ProjOutPay

end
-- ==== Proof.ProjOutPoint.lean ====
/- What one point of the output projection leaves: its block of the result. -/
module

public import proofs.«01_k».proof.Proof.Gen.Kernel3Ideal.Frame
public import proofs.«01_k».proof.Proof.ProjOutPay
public import Idealize.ShloMosaic.Lib.Pipeline.Value
public import Idealize.ShloMosaic.Lib.ValueIdx

@[expose] public section

set_option maxRecDepth 16384

noncomputable section

namespace Cert.Kernel3Ideal.ProjOutPoint

open Cert.Kernel3Ideal Cert.Kernel3Ideal.Gen Idealize.ShloMosaic Idealize.ShloMosaic.TcCoe Idealize.ShloMosaic.Tactic Idealize.SL.Sem
open Cert.ProjSpec ProjOutPay

theorem hz2 : (![0, 0] : Fin 2 → Nat) = fun _ => 0 := funext fun a => by fin_cases a <;> rfl
theorem hz3 : (![0, 0, 0] : Fin 3 → Nat) = fun _ => 0 := funext fun a => by fin_cases a <;> rfl

/-! ## The parts a point loads -/

/-- The columns of head `h`. -/
theorem inb_head (h : Fin 8) : ∀ a, (![0, 128 * h.val] : Fin 2 → Nat) a + S512x128.size a ≤ S512x1024.size a := fun a => by
  match a with
  | ⟨0, _⟩ => show 0 + 512 ≤ 512; omega
  | ⟨1, _⟩ => show 128 * h.val + 128 ≤ 1024; omega
def headOf (x : FVec Ideal S512x1024 .bf16) (h : Fin 8) : FVec Ideal S512x128 .bf16 :=
  View.ld (Val := Elt Ideal) (e' := .bf16) x (Rect.unit (s := S512x1024) ![0, 128 * h.val] S512x128.size (inb_head h))
theorem headOf_apply (x : FVec Ideal S512x1024 .bf16) (h : Fin 8) (r : Fin 512) (d : Fin 128) : headOf x h (ix2 r d) = x (ix2 r (head h d)) := by
  unfold headOf
  refine congrArg x (funext fun a => Fin.ext ?_)
  match a with
  | ⟨0, _⟩ => show 0 + 1 * r.val = r.val; omega
  | ⟨1, _⟩ => show 128 * h.val + 1 * d.val = h.val * 128 + d.val; omega

/-- The weights' rows of a pair of heads. -/
theorem inb_pair (j : Fin 4) : ∀ a, (![1024 + 256 * j.val, 0] : Fin 2 → Nat) a + S256x2048.size a ≤ S2048x2048.size a := fun a => by
  match a with
  | ⟨0, _⟩ => show 1024 + 256 * j.val + 256 ≤ 2048; omega
  | ⟨1, _⟩ => show 0 + 2048 ≤ 2048; omega
def pairOf (x : FVec Ideal S2048x2048 .bf16) (j : Fin 4) : FVec Ideal S256x2048 .bf16 :=
  View.ld (Val := Elt Ideal) (e' := .bf16) x (Rect.unit (s := S2048x2048) ![1024 + 256 * j.val, 0] S256x2048.size (inb_pair j))
theorem pairOf_apply (x : FVec Ideal S2048x2048 .bf16) (j : Fin 4) (k : Fin 256) (q : Fin 2048) :
    pairOf x j (ix2 k q) = x (ix2 ⟨1024 + 256 * j.val + k.val, by omega⟩ q) := by
  unfold pairOf
  refine congrArg x (funext fun a => Fin.ext ?_)
  match a with
  | ⟨0, _⟩ => show 1024 + 256 * j.val + 1 * k.val = 1024 + 256 * j.val + k.val; omega
  | ⟨1, _⟩ => show 0 + 1 * q.val = q.val; omega

/-- The weights' rows of one of the two other mixers. -/
theorem inb_mixer (j : Fin 2) : ∀ a, (![512 * j.val, 0] : Fin 2 → Nat) a + S512x2048.size a ≤ S2048x2048.size a := fun a => by
  match a with
  | ⟨0, _⟩ => show 512 * j.val + 512 ≤ 2048; omega
  | ⟨1, _⟩ => show 0 + 2048 ≤ 2048; omega
def mixerOf (x : FVec Ideal S2048x2048 .bf16) (j : Fin 2) : FVec Ideal S512x2048 .bf16 :=
  View.ld (Val := Elt Ideal) (e' := .bf16) x (Rect.unit (s := S2048x2048) ![512 * j.val, 0] S512x2048.size (inb_mixer j))
theorem mixerOf_apply (x : FVec Ideal S2048x2048 .bf16) (j : Fin 2) (k : Fin 512) (q : Fin 2048) :
    mixerOf x j (ix2 k q) = x (ix2 ⟨512 * j.val + k.val, by omega⟩ q) := by
  unfold mixerOf
  refine congrArg x (funext fun a => Fin.ext ?_)
  match a with
  | ⟨0, _⟩ => show 512 * j.val + 1 * k.val = 512 * j.val + k.val; omega
  | ⟨1, _⟩ => show 0 + 1 * q.val = q.val; omega

theorem ld_head (x : FVec Ideal S512x1024 .bf16) (h : Fin 8) (o : Nat) (e : o = 128 * h.val)
    (inb : ∀ a, (![0, o] : Fin 2 → Nat) a + S512x128.size a ≤ S512x1024.size a) :
    View.ld (Val := Elt Ideal) (e' := .bf16) x (Rect.unit (s := S512x1024) ![0, o] S512x128.size inb) = headOf x h := by subst e; rfl
theorem ld_pair (x : FVec Ideal S2048x2048 .bf16) (j : Fin 4) (o : Nat) (e : o = 1024 + 256 * j.val)
    (inb : ∀ a, (![o, 0] : Fin 2 → Nat) a + S256x2048.size a ≤ S2048x2048.size a) :
    View.ld (Val := Elt Ideal) (e' := .bf16) x (Rect.unit (s := S2048x2048) ![o, 0] S256x2048.size inb) = pairOf x j := by subst e; rfl
theorem ld_mixer (x : FVec Ideal S2048x2048 .bf16) (j : Fin 2) (o : Nat) (e : o = 512 * j.val)
    (inb : ∀ a, (![o, 0] : Fin 2 → Nat) a + S512x2048.size a ≤ S2048x2048.size a) :
    View.ld (Val := Elt Ideal) (e' := .bf16) x (Rect.unit (s := S2048x2048) ![o, 0] S512x2048.size inb) = mixerOf x j := by subst e; rfl

/-! ## The block -/

variable (x0 x1 : FVec Ideal S512x512 .bf16) (x2 x3 x4 : FVec Ideal S512x1024 .bf16) (x5 : FVec Ideal S1x128 .f32) (x6 : FVec Ideal S2048x2048 .bf16)
  (x7 : FVec Ideal S512x2048 .f32) (x8 : FVec Ideal S1x1x2048 .f32)

/-- A point's block of the result, from its blocks of the arguments. -/
def block : FVec Ideal S512x2048 .f32 :=
  stored x0 x1 (mixerOf x6 0) (mixerOf x6 1) (headOf x2) (headOf x3) (headOf x4) x5 (pairOf x6) x7 x8

/-- Two heads' product in the block. -/
theorem pair_block (acc : FVec Ideal S512x2048 .f32) (h h' : Fin 8) (j : Fin 4) (r : Fin 512) (q : Fin 2048)
    (e : h.val = 2 * j.val) (e' : h'.val = 2 * j.val + 1) :
    pair acc (hd (headOf x2 h) (headOf x3 h) x5 (headOf x4 h)) (hd (headOf x2 h') (headOf x3 h') x5 (headOf x4 h')) (pairOf x6 j) (ix2 r q)
      = acc (ix2 r q)
        + ((∑ d : Fin 128, gated (fun k => x2 (ix2 r k)) (fun k => x3 (ix2 r k)) (fun k => x4 (ix2 r k)) (fun d => x5 (ix2 0 d)) h d * x6 (ix2 ⟨1024 + (head h d).val, by omega⟩ q))
          + ∑ d : Fin 128, gated (fun k => x2 (ix2 r k)) (fun k => x3 (ix2 r k)) (fun k => x4 (ix2 r k)) (fun d => x5 (ix2 0 d)) h' d * x6 (ix2 ⟨1024 + (head h' d).val, by omega⟩ q)) := by
  rw [pair_apply]
  refine congrArg (acc (ix2 r q) + ·) (congrArg₂ (· + ·) ?_ ?_) <;> refine Finset.sum_congr rfl fun d _ => ?_
  · rw [hd_apply, pairOf_apply]
    simp only [headOf_apply]
    have k : 1024 + 256 * j.val + d.val = 1024 + (h.val * 128 + d.val) := by omega
    simp only [k]
    rfl
  · rw [hd_apply, pairOf_apply]
    simp only [headOf_apply]
    have k : 1024 + 256 * j.val + (128 + d.val) = 1024 + (h'.val * 128 + d.val) := by omega
    simp only [k]
    rfl

/-- The block at an index. -/
theorem block_apply (r : Fin 512) (q : Fin 2048) : block x0 x1 x2 x3 x4 x5 x6 x7 x8 (ix2 r q)
    = projOut (fun k => x0 (ix2 r k)) (fun k => x1 (ix2 r k)) (fun k => x2 (ix2 r k)) (fun k => x3 (ix2 r k)) (fun k => x4 (ix2 r k))
      (fun d => x5 (ix2 0 d)) (fun k => x6 (ix2 k q)) (x7 (ix2 r q)) (x8 (ix3 0 0 q)) := by
  unfold block
  rw [stored_eq, addf_apply, mulf_apply, gateOf_apply, pair_block _ _ _ _ _ _ 6 7 3 r q rfl rfl, pair_block _ _ _ _ _ _ 4 5 2 r q rfl rfl, pair_block _ _ _ _ _ _ 2 3 1 r q rfl rfl,
    pair_block _ _ _ _ _ _ 0 1 0 r q rfl rfl, mixers_apply]
  unfold projOut
  rw [Fin.sum_univ_eight]
  simp only [mixerOf_apply, add_assoc]
  rfl

/-- The kernel's run leaves it. -/
theorem out_eq (c : Dev nD) (i : grid0.Coords) (a2 : Memref sig .tc .vmem S512x512 .bf16) (h2 : a2.IsWhole) (a3 : Memref sig .tc .vmem S512x512 .bf16) (h3 : a3.IsWhole)
    (a4 : Memref sig .tc .vmem S512x1024 .bf16) (h4 : a4.IsWhole) (a5 : Memref sig .tc .vmem S512x1024 .bf16) (h5 : a5.IsWhole) (a6 : Memref sig .tc .vmem S512x1024 .bf16) (h6 : a6.IsWhole)
    (a7 : Memref sig .tc .vmem S1x128 .f32) (h7 : a7.IsWhole) (a8 : Memref sig .tc .vmem S2048x2048 .bf16) (h8 : a8.IsWhole) (a9 : Memref sig .tc .vmem S512x2048 .f32) (h9 : a9.IsWhole)
    (a10 : Memref sig .tc .vmem S1x1x2048 .f32) (h10 : a10.IsWhole) (a11 : Memref sig .tc .vmem S512x2048 .f32) (h11 : a11.IsWhole) :
    out0_A_9 (F := Ideal) c i a2 h2 a3 h3 a4 h4 a5 h5 a6 h6 a7 h7 a8 h8 a9 h9 a10 h10 a11 h11 x0 x1 x2 x3 x4 x5 x6 x7 x8 = block x0 x1 x2 x3 x4 x5 x6 x7 x8 := by
  unfold out0_A_9
  rw [View.read_writes_eq_canon _ _ _ (cover0_A_9 (F := Ideal) c i a2 h2 a3 h3 a4 h4 a5 h5 a6 h6 a7 h7 a8 h8 a9 h9 a10 h10 a11 h11 x0 x1 x2 x3 x4 x5 x6 x7 x8)]
  unfold kernelRun0_A
  dsimp only
  sl_unfold_words
  rw [View.canon_unit_zero hz2]
  simp only [View.readAt_eq_ld, h2.read_unread, h3.read_unread, h4.read_unread, h5.read_unread, h6.read_unread, h7.read_unread, h8.read_unread, h9.read_unread, h10.read_unread,
    View.ld_unit_zero (S := S512x512) hz2, View.ld_unit_zero (S := S1x128) hz2, View.ld_unit_zero (S := S512x2048) hz2, View.ld_unit_zero (S := S1x1x2048) hz3]
  rw [ld_head _ 0 0 rfl, ld_head _ 1 128 rfl, ld_head _ 2 256 rfl, ld_head _ 3 384 rfl, ld_head _ 4 512 rfl, ld_head _ 5 640 rfl, ld_head _ 6 768 rfl, ld_head _ 7 896 rfl, ld_pair _ 0 1024 rfl, ld_pair _ 1 1280 rfl, ld_pair _ 2 1536 rfl, ld_pair _ 3 1792 rfl, ld_mixer _ 0 0 rfl, ld_mixer _ 1 512 rfl]
  rfl

end Cert.Kernel3Ideal.ProjOutPoint

end
-- ==== Proof.ProjOutRun.lean ====
/- The output array of the output projection: every point's block of the result, and that the blocks cover it. -/
module

public import proofs.«01_k».proof.Proof.Gen.Kernel3Ideal.Value
public import proofs.«01_k».proof.Proof.ProjOutPoint

@[expose] public section

set_option maxRecDepth 16384

noncomputable section

namespace Cert.Kernel3Ideal.ProjOutRun

open Cert.Kernel3Ideal Cert.Kernel3Ideal.Gen Idealize.ShloMosaic Idealize.ShloMosaic.TcCoe Idealize.ShloMosaic.Tactic Idealize.SL.Sem
open Idealize.ShloMosaic.Pipeline (Dat)
open Cert.ProjSpec ProjOutPay ProjOutPoint

variable (m : (ℓ : Loc nD τ sig) → Buf (Elt Ideal) ℓ) (c : Dev nD)

/-! ## The arguments -/

abbrev argF : FVec Ideal S16384x512 .bf16 := m ((c : Thread nD τ).loc main_arg0)
abbrev argH : FVec Ideal S16384x512 .bf16 := m ((c : Thread nD τ).loc main_arg1)
abbrev argOF : FVec Ideal S16384x1024 .bf16 := m ((c : Thread nD τ).loc main_arg2)
abbrev argOB : FVec Ideal S16384x1024 .bf16 := m ((c : Thread nD τ).loc main_arg3)
abbrev argP : FVec Ideal S16384x6400 .bf16 := m ((c : Thread nD τ).loc main_arg4)
abbrev argG : FVec Ideal S128 .f32 := m ((c : Thread nD τ).loc main_arg5)
abbrev argW : FVec Ideal S2048x2048 .bf16 := m ((c : Thread nD τ).loc main_arg6)
abbrev argRes : FVec Ideal S16384x2048 .f32 := m ((c : Thread nD τ).loc main_arg7)
abbrev argGate : FVec Ideal S4x1x2048 .f32 := m ((c : Thread nD τ).loc main_arg8)

/-- Row `r`, column `q` of the result, of the arguments. -/
def entry (r : Fin 16384) (q : Fin 2048) : EReal :=
  entryOut (fun r k => argF m c (ix2 r k)) (fun r k => argH m c (ix2 r k)) (fun r k => argOF m c (ix2 r k)) (fun r k => argOB m c (ix2 r k)) (fun r k => argP m c (ix2 r k))
    (fun d => argG m c (ix1 d)) (fun k q => argW m c (ix2 k q)) (fun r q => argRes m c (ix2 r q)) (fun b q => argGate m c (ix3 b 0 q)) r q

/-- The gain, laid out as one row. -/
theorem V_gain (d : Fin 128) : (V m c main_v0 : FVec Ideal S1x128 .f32) (ix2 0 d) = argG m c (ix1 d) := by
  have e : (V m c main_v0 : FVec Ideal S1x128 .f32) = shapeCast S1x128 (argG m c) shapeCasts_S128_S1x128 := by
    show StableHlo.after hostOps0 _ (Proc.devRef .tc main_v0) = _
    after_results
    rfl
  rw [e]
  pointwise

/-! ## The blocks a point reads -/

theorem lt32 (t : Fin cfg0.N) : t.val < 32 := lt_of_lt_of_eq t.isLt N_0

theorem index_0 : ∀ t : Fin grid0.N, win0_0.index t = ![t.val, 0] := by decide +kernel
theorem index_1 : ∀ t : Fin grid0.N, win0_1.index t = ![t.val, 0] := by decide +kernel
theorem index_2 : ∀ t : Fin grid0.N, win0_2.index t = ![t.val, 0] := by decide +kernel
theorem index_3 : ∀ t : Fin grid0.N, win0_3.index t = ![t.val, 0] := by decide +kernel
theorem index_4 : ∀ t : Fin grid0.N, win0_4.index t = ![t.val, 5] := by decide +kernel
theorem index_5 : ∀ t : Fin grid0.N, win0_5.index t = ![0, 0] := by decide +kernel
theorem index_6 : ∀ t : Fin grid0.N, win0_6.index t = ![0, 0] := by decide +kernel
theorem index_7 : ∀ t : Fin grid0.N, win0_7.index t = ![t.val, 0] := by decide +kernel
theorem index_8 : ∀ t : Fin grid0.N, win0_8.index t = ![t.val / 8, 0, 0] := by decide +kernel

theorem blk_0 (t : Fin cfg0.N) (r : Fin 512) (k : Fin 512) : (iblk m c 0 t : FVec Ideal S512x512 .bf16) (ix2 r k) = argF m c (ix2 ⟨512 * t.val + r.val, by have := lt32 t; omega⟩ k) := by
  have hi := index_0 t
  rw [← show V m c main_arg0 = argF m c from V_main_arg0 m c]
  unfold iblk
  rw [View.read_apply]
  show V m c main_arg0 _ = V m c main_arg0 _
  congr 1
  funext a
  apply Fin.ext
  match a with
  | ⟨0, _⟩ => show win0_0.index t 0 * 512 + 1 * r.val = 512 * t.val + r.val; rw [show win0_0.index t 0 = t.val from congrFun hi 0]; omega
  | ⟨1, _⟩ => show win0_0.index t 1 * 512 + 1 * k.val = k.val; rw [show win0_0.index t 1 = 0 from congrFun hi 1]; omega

theorem blk_1 (t : Fin cfg0.N) (r : Fin 512) (k : Fin 512) : (iblk m c 1 t : FVec Ideal S512x512 .bf16) (ix2 r k) = argH m c (ix2 ⟨512 * t.val + r.val, by have := lt32 t; omega⟩ k) := by
  have hi := index_1 t
  rw [← show V m c main_arg1 = argH m c from V_main_arg1 m c]
  unfold iblk
  rw [View.read_apply]
  show V m c main_arg1 _ = V m c main_arg1 _
  congr 1
  funext a
  apply Fin.ext
  match a with
  | ⟨0, _⟩ => show win0_1.index t 0 * 512 + 1 * r.val = 512 * t.val + r.val; rw [show win0_1.index t 0 = t.val from congrFun hi 0]; omega
  | ⟨1, _⟩ => show win0_1.index t 1 * 512 + 1 * k.val = k.val; rw [show win0_1.index t 1 = 0 from congrFun hi 1]; omega

theorem blk_2 (t : Fin cfg0.N) (r : Fin 512) (k : Fin 1024) : (iblk m c 2 t : FVec Ideal S512x1024 .bf16) (ix2 r k) = argOF m c (ix2 ⟨512 * t.val + r.val, by have := lt32 t; omega⟩ k) := by
  have hi := index_2 t
  rw [← show V m c main_arg2 = argOF m c from V_main_arg2 m c]
  unfold iblk
  rw [View.read_apply]
  show V m c main_arg2 _ = V m c main_arg2 _
  congr 1
  funext a
  apply Fin.ext
  match a with
  | ⟨0, _⟩ => show win0_2.index t 0 * 512 + 1 * r.val = 512 * t.val + r.val; rw [show win0_2.index t 0 = t.val from congrFun hi 0]; omega
  | ⟨1, _⟩ => show win0_2.index t 1 * 1024 + 1 * k.val = k.val; rw [show win0_2.index t 1 = 0 from congrFun hi 1]; omega

theorem blk_3 (t : Fin cfg0.N) (r : Fin 512) (k : Fin 1024) : (iblk m c 3 t : FVec Ideal S512x1024 .bf16) (ix2 r k) = argOB m c (ix2 ⟨512 * t.val + r.val, by have := lt32 t; omega⟩ k) := by
  have hi := index_3 t
  rw [← show V m c main_arg3 = argOB m c from V_main_arg3 m c]
  unfold iblk
  rw [View.read_apply]
  show V m c main_arg3 _ = V m c main_arg3 _
  congr 1
  funext a
  apply Fin.ext
  match a with
  | ⟨0, _⟩ => show win0_3.index t 0 * 512 + 1 * r.val = 512 * t.val + r.val; rw [show win0_3.index t 0 = t.val from congrFun hi 0]; omega
  | ⟨1, _⟩ => show win0_3.index t 1 * 1024 + 1 * k.val = k.val; rw [show win0_3.index t 1 = 0 from congrFun hi 1]; omega

theorem blk_4 (t : Fin cfg0.N) (r : Fin 512) (k : Fin 1024) : (X0_4 m c t : FVec Ideal S512x1024 .bf16) (ix2 r k) = argP m c (ix2 ⟨512 * t.val + r.val, by have := lt32 t; omega⟩ ⟨5120 + k.val, by omega⟩) := by
  have hi := index_4 t
  rw [← show V m c main_arg4 = argP m c from V_main_arg4 m c]
  unfold X0_4 Pipeline.Window.fill
  rw [dif_pos (moved0_4 t _)]
  unfold iblk
  rw [View.read_apply]
  show V m c main_arg4 _ = V m c main_arg4 _
  congr 1
  funext a
  apply Fin.ext
  match a with
  | ⟨0, _⟩ => show win0_4.index t 0 * 512 + 1 * r.val = 512 * t.val + r.val; rw [show win0_4.index t 0 = t.val from congrFun hi 0]; omega
  | ⟨1, _⟩ => show win0_4.index t 1 * 1024 + 1 * k.val = 5120 + k.val; rw [show win0_4.index t 1 = 5 from congrFun hi 1]; omega

theorem blk_5 (t : Fin cfg0.N) (d : Fin 128) : (iblk m c 5 t : FVec Ideal S1x128 .f32) (ix2 0 d) = argG m c (ix1 d) := by
  have hi := index_5 t
  rw [← V_gain m c d]
  unfold iblk
  rw [View.read_apply]
  show V m c main_v0 _ = V m c main_v0 _
  congr 1
  funext a
  apply Fin.ext
  match a with
  | ⟨0, _⟩ => show win0_5.index t 0 * 1 + 1 * 0 = 0; rw [show win0_5.index t 0 = 0 from congrFun hi 0]
  | ⟨1, _⟩ => show win0_5.index t 1 * 128 + 1 * d.val = d.val; rw [show win0_5.index t 1 = 0 from congrFun hi 1]; omega

theorem blk_6 (t : Fin cfg0.N) (k q : Fin 2048) : (iblk m c 6 t : FVec Ideal S2048x2048 .bf16) (ix2 k q) = argW m c (ix2 k q) := by
  have hi := index_6 t
  rw [← show V m c main_arg6 = argW m c from V_main_arg6 m c]
  unfold iblk
  rw [View.read_apply]
  show V m c main_arg6 _ = V m c main_arg6 _
  congr 1
  funext a
  apply Fin.ext
  match a with
  | ⟨0, _⟩ => show win0_6.index t 0 * 2048 + 1 * k.val = k.val; rw [show win0_6.index t 0 = 0 from congrFun hi 0]; omega
  | ⟨1, _⟩ => show win0_6.index t 1 * 2048 + 1 * q.val = q.val; rw [show win0_6.index t 1 = 0 from congrFun hi 1]; omega

theorem blk_7 (t : Fin cfg0.N) (r : Fin 512) (q : Fin 2048) : (iblk m c 7 t : FVec Ideal S512x2048 .f32) (ix2 r q) = argRes m c (ix2 ⟨512 * t.val + r.val, by have := lt32 t; omega⟩ q) := by
  have hi := index_7 t
  rw [← show V m c main_arg7 = argRes m c from V_main_arg7 m c]
  unfold iblk
  rw [View.read_apply]
  show V m c main_arg7 _ = V m c main_arg7 _
  congr 1
  funext a
  apply Fin.ext
  match a with
  | ⟨0, _⟩ => show win0_7.index t 0 * 512 + 1 * r.val = 512 * t.val + r.val; rw [show win0_7.index t 0 = t.val from congrFun hi 0]; omega
  | ⟨1, _⟩ => show win0_7.index t 1 * 2048 + 1 * q.val = q.val; rw [show win0_7.index t 1 = 0 from congrFun hi 1]; omega

theorem blk_8 (t : Fin cfg0.N) (q : Fin 2048) : (iblk m c 8 t : FVec Ideal S1x1x2048 .f32) (ix3 0 0 q) = argGate m c (ix3 ⟨t.val / 8, by have := lt32 t; omega⟩ 0 q) := by
  have hi := index_8 t
  rw [← show V m c main_arg8 = argGate m c from V_main_arg8 m c]
  unfold iblk
  rw [View.read_apply]
  show V m c main_arg8 _ = V m c main_arg8 _
  congr 1
  funext a
  apply Fin.ext
  match a with
  | ⟨0, _⟩ => show win0_8.index t 0 * 1 + 1 * 0 = t.val / 8; rw [show win0_8.index t 0 = t.val / 8 from congrFun hi 0]; omega
  | ⟨1, _⟩ => show win0_8.index t 1 * 1 + 1 * 0 = 0; rw [show win0_8.index t 1 = 0 from congrFun hi 1]
  | ⟨2, _⟩ => show win0_8.index t 2 * 2048 + 1 * q.val = q.val; rw [show win0_8.index t 2 = 0 from congrFun hi 2]; omega

/-- Every point leaves its block of the result. -/
theorem outs (t : Fin cfg0.N) (r : Fin 512) (q : Fin 2048) :
    (outsAt0 m c t : FVec Ideal S512x2048 .f32) (ix2 r q) = entry m c ⟨512 * t.val + r.val, by have := lt32 t; omega⟩ q := by
  unfold outsAt0
  rw [out_eq]
  refine (block_apply _ _ _ _ _ _ _ _ _ r q).trans ?_
  simp only [blk_0, blk_1, blk_2, blk_3, blk_4, blk_5, blk_6, blk_7, blk_8]
  unfold entry entryOut
  have e : (512 * t.val + r.val) / 4096 = t.val / 8 := by omega
  simp only [e]

/-! ## The array -/

theorem index_9 : ∀ t : Fin grid0.N, win0_9.index t = ![t.val, 0] := by decide +kernel

/-- Where a block of the result lies. -/
theorem emb_9 (t : Fin cfg0.N) (r : Fin 512) (q : Fin 2048) : ((cfg0.win 9).blk t).view.emb (ix2 r q : S512x2048.Idx)
    = (ix2 ⟨512 * t.val + r.val, by have := lt32 t; omega⟩ q : S16384x2048.Idx) := by
  have hi := index_9 t
  funext a
  apply Fin.ext
  match a with
  | ⟨0, _⟩ => show win0_9.index t 0 * 512 + 1 * r.val = 512 * t.val + r.val; rw [show win0_9.index t 0 = t.val from congrFun hi 0]; omega
  | ⟨1, _⟩ => show win0_9.index t 1 * 2048 + 1 * q.val = q.val; rw [show win0_9.index t 1 = 0 from congrFun hi 1]; omega

/-- The result's array. -/
theorem arr_9 : (dats m 0 c).arrAt 9 cfg0.N = fun y : S16384x2048.Idx => entry m c (y 0) (y 1) := by
  refine (dats m 0 c).arrAt_eq_of_cover 9 _ (fun t _ => ?_) (fun i => ?_)
  · rw [Value.flushed9]
    funext (y : S512x2048.Idx)
    rw [View.read_apply]
    idx_vars y
    refine Eq.trans ?_ (congrArg (fun y : S16384x2048.Idx => entry m c (y 0) (y 1)) (emb_9 t y0 y1)).symm
    exact outs m c t y0 y1
  · let r : Fin 16384 := i 0
    have hr := r.isLt
    let t : Fin cfg0.N := ⟨r.val / 512, lt_of_lt_of_eq (by omega) N_0.symm⟩
    refine ⟨t, flush0_9 t, ?_⟩
    have e : ((cfg0.win 9).blk t).view.emb (ix2 ⟨r.val % 512, by omega⟩ (i 1) : S512x2048.Idx) = i := by
      refine (emb_9 t _ _).trans ?_
      funext a
      apply Fin.ext
      match a with
      | ⟨0, _⟩ => show 512 * (r.val / 512) + r.val % 512 = r.val; omega
      | ⟨1, _⟩ => rfl
    rw [← e]
    exact View.emb_mem_set _ _

end Cert.Kernel3Ideal.ProjOutRun

end
-- ==== Proof.ProjOutRef.lean ====
/- The output projection's reference over the extended reals, entry by entry. -/
module

public import proofs.«01_k».proof.Proof.Gen.Reference3Ideal.Run
public import proofs.«01_k».proof.Proof.ProjSpec
public import Idealize.ShloMosaic.Lib.Pointwise

@[expose] public section

set_option maxRecDepth 16384

noncomputable section

namespace Cert.Reference3Ideal.ProjOutRef

open Cert.Reference3Ideal Cert.Reference3Ideal.Gen Idealize.ShloMosaic Idealize.ShloMosaic.TcCoe Idealize.SL.Sem
open Cert.ProjSpec

variable (yF yH : FVec Ideal S16384x512 .bf16) (oF oB : FVec Ideal S16384x1024 .bf16) (p : FVec Ideal S16384x6400 .bf16) (dg : FVec Ideal S128 .f32)
  (w : FVec Ideal S2048x2048 .bf16) (res : FVec Ideal S16384x2048 .f32) (gate : FVec Ideal S4x1x2048 .f32)

/-- The delta rule's heads, normalised and gated. -/
def heads : FVec Ideal S4x4096x1024 .f32 :=
  ((shapeCast _ (mulf (mulf (mulf (addf (shapeCast _ (extf .f32 oF bitsLt_bf16_f32) shapeCasts_S16384x1024_S4x4096x8x128) (shapeCast _ (extf .f32 oB bitsLt_bf16_f32) shapeCasts_S16384x1024_S4x4096x8x128)) (broadcastInDim S4x4096x8x128 ![0, 1, 2, 3] bcast_S4x4096x8x1_S4x4096x8x128_0_1_2_3 (Host.rsqrt (addf (Host.divf (broadcastInDim S4x4096x8x1 ![0, 1, 2] bcast_S4x4096x8_S4x4096x8x1_0_1_2 (Host.reduceAdd (mulf (addf (shapeCast _ (extf .f32 oF bitsLt_bf16_f32) shapeCasts_S16384x1024_S4x4096x8x128) (shapeCast _ (extf .f32 oB bitsLt_bf16_f32) shapeCasts_S16384x1024_S4x4096x8x128)) (addf (shapeCast _ (extf .f32 oF bitsLt_bf16_f32) shapeCasts_S16384x1024_S4x4096x8x128) (shapeCast _ (extf .f32 oB bitsLt_bf16_f32) shapeCasts_S16384x1024_S4x4096x8x128))) (constant S_ .f32 0x00000000#32) reducesTo_S4x4096x8x128_S4x4096x8_d3 h_S_)) (broadcastInDim S4x4096x8x1 ![] bcast_S_S4x4096x8x1 (constant S_ .f32 0x43000000#32))) (broadcastInDim S4x4096x8x1 ![] bcast_S_S4x4096x8x1 (constant S_ .f32 0x358637BD#32)))))) (broadcastInDim S4x4096x8x128 ![0, 1, 2, 3] bcast_S1x1x1x128_S4x4096x8x128_0_1_2_3 (broadcastInDim S1x1x1x128 ![3] bcast_S128_S1x1x1x128_3 dg))) (mulf (shapeCast _ (extf .f32 (extractStridedSlice S16384x1024 ![0, 5120] p slices_S16384x6400_S16384x1024_0_5120) bitsLt_bf16_f32) shapeCasts_S16384x1024_S4x4096x8x128) (Host.divf (broadcastInDim S4x4096x8x128 ![] bcast_S_S4x4096x8x128 (constant S_ .f32 0x3F800000#32)) (addf (broadcastInDim S4x4096x8x128 ![] bcast_S_S4x4096x8x128 (constant S_ .f32 0x3F800000#32)) (Host.exp (Host.negf (shapeCast _ (extf .f32 (extractStridedSlice S16384x1024 ![0, 5120] p slices_S16384x6400_S16384x1024_0_5120) bitsLt_bf16_f32) shapeCasts_S16384x1024_S4x4096x8x128))))))) shapeCasts_S4x4096x8x128_S4x4096x1024) : (⟨S4x4096x1024, .f32⟩ : BufTy).Contents (Elt Ideal))

/-- The three mixers side by side. -/
def mix : FVec Ideal S4x4096x2048 .f32 :=
  ((concatenate S4x4096x2048 2 [⟨S4x4096x512, ((shapeCast _ (extf .f32 yF bitsLt_bf16_f32) shapeCasts_S16384x512_S4x4096x512) : (⟨S4x4096x512, .f32⟩ : BufTy).Contents (Elt Ideal))⟩, ⟨S4x4096x512, ((shapeCast _ (extf .f32 yH bitsLt_bf16_f32) shapeCasts_S16384x512_S4x4096x512) : (⟨S4x4096x512, .f32⟩ : BufTy).Contents (Elt Ideal))⟩, ⟨S4x4096x1024, heads oF oB p dg⟩] concatenates_S4x4096x512_S4x4096x512_S4x4096x1024_S4x4096x2048_d2 : (⟨S4x4096x2048, .f32⟩ : BufTy).Contents (Elt Ideal)))

/-- The reference's result. -/
def result : FVec Ideal S16384x2048 .f32 :=
  shapeCast _ (addf (shapeCast _ res shapeCasts_S16384x2048_S4x4096x2048) (mulf (broadcastInDim S4x4096x2048 ![0, 1, 2] bcast_S4x1x2048_S4x4096x2048_0_1_2 gate) (Host.dotGeneral dot_S4x4096x2048_S2048x2048_S4x4096x2048_2_0_01_1_n_n none (mix yF yH oF oB p dg) (extf .f32 w bitsLt_bf16_f32)))) shapeCasts_S4x4096x2048_S16384x2048

/-- A head's entry. -/
theorem heads_apply (b : Fin 4) (s : Fin 4096) (h : Fin 8) (d : Fin 128) (k : Fin 1024) (hk : k = head h d) : heads oF oB p dg (ix3 b s k)
    = gated (fun k => oF (ix2 ⟨b.val * 4096 + s.val, by omega⟩ k)) (fun k => oB (ix2 ⟨b.val * 4096 + s.val, by omega⟩ k))
      (fun k => p (ix2 ⟨b.val * 4096 + s.val, by omega⟩ ⟨5120 + k.val, by omega⟩)) (fun d => dg (ix1 d)) h d := by
  subst hk
  pointwise [heads, gated, rms, silu, head]

/-- Row `r`, column `q` of the result. -/
def entry (r : Fin 16384) (q : Fin 2048) : EReal :=
  entryOut (fun r k => yF (ix2 r k)) (fun r k => yH (ix2 r k)) (fun r k => oF (ix2 r k)) (fun r k => oB (ix2 r k)) (fun r k => p (ix2 r k))
    (fun d => dg (ix1 d)) (fun k q => w (ix2 k q)) (fun r q => res (ix2 r q)) (fun b q => gate (ix3 b 0 q)) r q

/-- A sum over the three mixers' entries, one sum each. -/
theorem sum_three (f : Fin 2048 → EReal) : ∑ k, f k
    = (∑ k : Fin 512, f ⟨k.val, by omega⟩) + (∑ k : Fin 512, f ⟨512 + k.val, by omega⟩) + ∑ k : Fin 1024, f ⟨1024 + k.val, by omega⟩ := by
  refine (Fin.sum_univ_add (a := 1024) (b := 1024) f).trans ?_
  refine congrArg₂ (· + ·) ((Fin.sum_univ_add (a := 512) (b := 512) fun k => f (Fin.castAdd 1024 k)).trans ?_) ?_ <;> rfl

/-- The result at an index, its product one sum for each mixer. -/
theorem result_sum (r : Fin 16384) (q : Fin 2048) : result yF yH oF oB p dg w res gate (ix2 r q)
    = res (ix2 r q) + gate (ix3 ⟨r.val / 4096, by omega⟩ 0 q)
      * ((∑ k : Fin 512, yF (ix2 r k) * w (ix2 ⟨k.val, by omega⟩ q)) + (∑ k : Fin 512, yH (ix2 r k) * w (ix2 ⟨512 + k.val, by omega⟩ q))
        + ∑ k : Fin 1024, heads oF oB p dg (ix3 ⟨r.val / 4096, by omega⟩ ⟨r.val % 4096, by omega⟩ k) * w (ix2 ⟨1024 + k.val, by omega⟩ q)) := by
  pointwise [result, mix]
  refine congrArg (res (ix2 r q) + ·) (congrArg (gate (ix3 ⟨r.val / 4096, by omega⟩ 0 q) * ·) ((sum_three _).trans ?_))
  refine congrArg₂ (· + ·) (congrArg₂ (· + ·) ?_ ?_) ?_ <;> refine Finset.sum_congr rfl fun k _ => ?_
  · rw [dif_pos k.isLt]
  · rw [dif_neg (by show ¬(512 + k.val < 512); omega), dif_pos (by show 512 + k.val - 512 < 512; omega)]
    simp only [Nat.add_sub_cancel_left]
  · rw [dif_neg (by show ¬(1024 + k.val < 512); omega), dif_neg (by show ¬(1024 + k.val - 512 < 512); omega)]
    have e : 1024 + k.val - 512 - 512 = k.val := by omega
    simp only [e]

/-- The result at an index. -/
theorem result_apply (r : Fin 16384) (q : Fin 2048) : result yF yH oF oB p dg w res gate (ix2 r q) = entry yF yH oF oB p dg w res gate r q := by
  have e : (⟨r.val / 4096 * 4096 + r.val % 4096, by omega⟩ : Fin 16384) = r := Fin.ext (by show r.val / 4096 * 4096 + r.val % 4096 = r.val; omega)
  rw [result_sum, Fin.sum_univ_tiles 8 128 rfl]
  simp only [heads_apply oF oB p dg _ _ _ _ _ rfl, e]
  rfl

/-- The result. -/
theorem result_eq : result yF yH oF oB p dg w res gate = fun y : S16384x2048.Idx => entry yF yH oF oB p dg w res gate (y 0) (y 1) := by
  funext (y : S16384x2048.Idx)
  idx_vars y
  exact result_apply yF yH oF oB p dg w res gate y0 y1

end Cert.Reference3Ideal.ProjOutRef

end
-- ==== Proof.ProjOutClaim.lean ====
/- The claims about the output projection: both kernels' and the reference's frames, and that over the extended reals the kernel
   and the reference end with the same array. -/
module

public import proofs.«01_k».proof.Defs
public import proofs.«01_k».proof.Proof.Gen.Kernel3.Frame
public import proofs.«01_k».proof.Proof.Gen.Reference3Ideal.Run
public import proofs.«01_k».proof.Proof.ProjOutRun
public import proofs.«01_k».proof.Proof.ProjOutRef
public import Idealize.ShloMosaic.Adequacy
public import Idealize.ShloMosaic.Init

@[expose] public section

set_option maxRecDepth 16384

noncomputable section

namespace Cert.ProjOutClaim

open Idealize.ShloMosaic Idealize.SL.Sem

/-- The kernel's frame. -/
theorem frame_P : @Cert.quiescent_Kernel3 Cert.Kernel3.Gen.facts := fun m ρ _ => Cert.Kernel3.Gen.frame m ρ

/-- The ideal kernel's frame. -/
theorem frame_PI : @Cert.quiescent_Kernel3Ideal Cert.Kernel3Ideal.Gen.facts := fun m ρ _ => Cert.Kernel3Ideal.Gen.frame m ρ

/-- The reference's frame. -/
theorem frame_RI : @Cert.quiescent_Reference3Ideal Cert.Reference3Ideal.Gen.facts := fun m ρ _ =>
  (θ_run Cert.Reference3Ideal.defs _ _).mono
    (fun r h => ⟨fun c => (h c).2, Idealize.ShloMosaic.sem_eq_zero_of_no_sems (by decide) r.2⟩) (Cert.Reference3Ideal.Value.run (F := Ideal) m ρ)

/-- The kernel's array is the reference's. -/
theorem algebraic : @Cert.algebraic_Kernel3Ideal_Reference3Ideal Cert.Kernel3Ideal.Gen.facts Cert.Reference3Ideal.Gen.facts := by
  intro m ρ m' ρ' _ hagree
  refine ⟨_, (θ_run Cert.Kernel3Ideal.defs _ _).mono (fun _ h => h) (Cert.Kernel3Ideal.Value.run_blocks (F := Ideal) m ρ), ?_⟩
  refine (θ_run Cert.Reference3Ideal.defs _ _).mono (fun r h c => ?_) (Cert.Reference3Ideal.Value.run (F := Ideal) m' ρ')
  obtain ⟨h0, ha⟩ := h c
  obtain ⟨g0, g1, g2, g3, g4, g5, g6, g7, g8⟩ := hagree c
  rw [g0, g1, g2, g3, g4, g5, g6, g7, g8] at h0
  exact ⟨(h0.trans (Cert.Reference3Ideal.ProjOutRef.result_eq _ _ _ _ _ _ _ _ _)).trans (Cert.Kernel3Ideal.ProjOutRun.arr_9 m c).symm, ha⟩

end Cert.ProjOutClaim

end
-- ==== Proof.ModSpec.lean ====
/- The modulation parameters as mathematics over the extended reals: for each layer the gated conditioning row of every sample, and that
   of the context, times the weights, with the bias added. -/
module

public import proofs.«01_k».proof.Proof.ProjSpec

@[expose] public section

set_option maxRecDepth 16384

noncomputable section

namespace Cert.ModSpec

open Idealize.ShloMosaic Cert.ProjSpec

/-- One entry: the conditioning row gated and multiplied by a column of the weights, with its bias. -/
def modEntry (a w : Row 2048) (b : EReal) : EReal := (∑ k, silu (a k) * w k) + b

/-- Layer `l`, row `r`, column `q`: the samples' rows come first, then the context's; the last three rows hold the bias. -/
def entryMod (a : Fin 4 → Row 2048) (a' : Row 2048) (w : Fin 2 → Fin 2048 → Fin 12288 → EReal) (b : Fin 2 → Fin 12288 → EReal)
    (l : Fin 2) (r : Fin 8) (q : Fin 12288) : EReal :=
  if h : r.val < 4 then modEntry (a ⟨r.val, h⟩) (fun k => w l k q) (b l q)
  else if r.val < 5 then modEntry a' (fun k => w l k q) (b l q) else b l q

/-- The rows the kernel multiplies: the samples', the context's, and three of zeros. -/
def rows (a : Fin 4 → Row 2048) (a' : Row 2048) (r : Fin 8) : Row 2048 :=
  if h : r.val < 4 then a ⟨r.val, h⟩ else if r.val < 5 then a' else fun _ => 0

/-- A row of zeros leaves the bias alone, whatever the weights. -/
theorem modEntry_zero (w : Row 2048) (b : EReal) : modEntry (fun _ => 0) w b = b := by
  have e : silu 0 = 0 := zero_mul _
  unfold modEntry
  simp only [e, zero_mul, Finset.sum_const_zero, zero_add]

/-- Each row's product is the entry. -/
theorem modEntry_rows (a : Fin 4 → Row 2048) (a' : Row 2048) (w : Fin 2 → Fin 2048 → Fin 12288 → EReal) (b : Fin 2 → Fin 12288 → EReal)
    (l : Fin 2) (r : Fin 8) (q : Fin 12288) : modEntry (rows a a' r) (fun k => w l k q) (b l q) = entryMod a a' w b l r q := by
  unfold rows entryMod
  split
  · rfl
  · split
    · rfl
    · exact modEntry_zero _ _

end Cert.ModSpec

end
-- ==== Proof.ModPoint.lean ====
/- What one point of the modulation leaves: its block of the parameters. -/
module

public import proofs.«01_k».proof.Proof.Gen.Kernel4Ideal.Frame
public import proofs.«01_k».proof.Proof.ModSpec
public import Idealize.ShloMosaic.Lib.Pointwise
public import Idealize.ShloMosaic.Lib.Pipeline.Value
public import Idealize.ShloMosaic.Lib.ValueIdx

@[expose] public section

set_option maxRecDepth 16384

noncomputable section

namespace Cert.Kernel4Ideal.ModPoint

open Cert.Kernel4Ideal Cert.Kernel4Ideal.Gen Idealize.ShloMosaic Idealize.ShloMosaic.TcCoe Idealize.ShloMosaic.Tactic Idealize.SL.Sem
open Cert.ProjSpec Cert.ModSpec

variable (x0 : FVec Ideal S8x2048 .f32) (x1 : FVec Ideal S1x2048x1024 .f32) (x2 : FVec Ideal S1x1x1024 .f32)

theorem hz2 : (![0, 0] : Fin 2 → Nat) = fun _ => 0 := funext fun a => by fin_cases a <;> rfl
theorem hz3 : (![0, 0, 0] : Fin 3 → Nat) = fun _ => 0 := funext fun a => by fin_cases a <;> rfl

/-- The block's payload at an index. -/
theorem pay_apply (r : Fin 8) (q : Fin 1024) : k0_pay1 (F := Ideal) x0 x1 x2 (ix3 0 r q)
    = modEntry (fun k => x0 (ix2 r k)) (fun k => x1 (ix3 0 k q)) (x2 (ix3 0 0 q)) := by
  pointwise [k0_pay1, modEntry, silu]
  rfl

/-- A point stores it whole. -/
theorem out_apply (r : Fin 8) (q : Fin 1024) : out0_3 (F := Ideal) x0 x1 x2 (ix3 0 r q)
    = modEntry (fun k => x0 (ix2 r k)) (fun k => x1 (ix3 0 k q)) (x2 (ix3 0 0 q)) := by
  unfold out0_3
  rw [View.canon_unit_zero hz3]
  simp only [View.ld_unit_zero (S := S8x2048) hz2, View.ld_unit_zero (S := S1x2048x1024) hz3, View.ld_unit_zero (S := S1x1x1024) hz3]
  exact pay_apply x0 x1 x2 r q

end Cert.Kernel4Ideal.ModPoint

end
-- ==== Proof.ModRun.lean ====
/- The output array of the modulation: every point's block of the parameters, and that the blocks cover it. -/
module

public import proofs.«01_k».proof.Proof.Gen.Kernel4Ideal.Value
public import proofs.«01_k».proof.Proof.ModPoint

@[expose] public section

set_option maxRecDepth 16384

noncomputable section

namespace Cert.Kernel4Ideal.ModRun

open Cert.Kernel4Ideal Cert.Kernel4Ideal.Gen Idealize.ShloMosaic Idealize.ShloMosaic.TcCoe Idealize.ShloMosaic.Tactic Idealize.SL.Sem
open Idealize.ShloMosaic.Pipeline (Dat)
open Cert.ProjSpec Cert.ModSpec ModPoint

variable (m : (ℓ : Loc nD τ sig) → Buf (Elt Ideal) ℓ) (c : Dev nD)

/-! ## The arguments -/

abbrev argC : FVec Ideal S4x2048 .f32 := m ((c : Thread nD τ).loc main_arg0)
abbrev argX : FVec Ideal S2048 .f32 := m ((c : Thread nD τ).loc main_arg1)
abbrev argW : FVec Ideal S2x2048x12288 .f32 := m ((c : Thread nD τ).loc main_arg2)
abbrev argB : FVec Ideal S2x12288 .f32 := m ((c : Thread nD τ).loc main_arg3)

/-- Layer `l`, row `r`, column `q` of the parameters, of the arguments. -/
def entry (l : Fin 2) (r : Fin 8) (q : Fin 12288) : EReal :=
  entryMod (fun b k => argC m c (ix2 b k)) (fun k => argX m c (ix1 k)) (fun l k q => argW m c (ix3 l k q)) (fun l q => argB m c (ix2 l q)) l r q

/-- The conditioning rows, one under the other. -/
theorem V_rows (r : Fin 8) (k : Fin 2048) : (V m c main_v2 : FVec Ideal S8x2048 .f32) (ix2 r k)
    = rows (fun b k => argC m c (ix2 b k)) (fun k => argX m c (ix1 k)) r k := by
  have e : (V m c main_v2 : FVec Ideal S8x2048 .f32) = concatenate S8x2048 0
      [⟨S4x2048, argC m c⟩, ⟨S1x2048, (broadcastInDim S1x2048 ![1] bcast_S2048_S1x2048_1 (argX m c) : FVec Ideal S1x2048 .f32)⟩,
        ⟨S3x2048, (broadcastInDim S3x2048 ![] bcast_S_S3x2048 (constant (F := Ideal) S_ .f32 0x00000000#32) : FVec Ideal S3x2048 .f32)⟩]
      concatenates_S4x2048_S1x2048_S3x2048_S8x2048_d0 := by
    show StableHlo.after hostOps0 _ (Proc.devRef .tc main_v2) = _
    after_results
    rfl
  rw [e]
  pointwise [rows]
  by_cases h : r.val < 4
  · rw [dif_pos h, dif_pos h]
  · rw [dif_neg h, dif_neg h]
    by_cases h' : r.val < 5
    · rw [dif_pos (show r.val - 4 < 1 by omega), if_pos h']
    · rw [dif_neg (show ¬r.val - 4 < 1 by omega), if_neg h']

/-- The bias, laid out one row a layer. -/
theorem V_bias (l : Fin 2) (q : Fin 12288) : (V m c main_v3 : FVec Ideal S2x1x12288 .f32) (ix3 l 0 q) = argB m c (ix2 l q) := by
  have e : (V m c main_v3 : FVec Ideal S2x1x12288 .f32) = shapeCast S2x1x12288 (argB m c) shapeCasts_S2x12288_S2x1x12288 := by
    show StableHlo.after hostOps0 _ (Proc.devRef .tc main_v3) = _
    after_results
    rfl
  rw [e]
  pointwise

/-! ## The blocks a point reads -/

theorem lt24 (t : Fin cfg0.N) : t.val < 24 := lt_of_lt_of_eq t.isLt N_0

theorem index_0 : ∀ t : Fin grid0.N, win0_0.index t = ![0, 0] := by decide +kernel
theorem index_1 : ∀ t : Fin grid0.N, win0_1.index t = ![t.val / 12, 0, t.val % 12] := by decide +kernel
theorem index_2 : ∀ t : Fin grid0.N, win0_2.index t = ![t.val / 12, 0, t.val % 12] := by decide +kernel
theorem index_3 : ∀ t : Fin grid0.N, win0_3.index t = ![t.val / 12, 0, t.val % 12] := by decide +kernel

/-- The layer of a point, and a column of its block. -/
abbrev layer (t : Fin cfg0.N) : Fin 2 := ⟨t.val / 12, by have := lt24 t; omega⟩
abbrev col (t : Fin cfg0.N) (q : Fin 1024) : Fin 12288 := ⟨1024 * (t.val % 12) + q.val, by omega⟩

theorem blk_0 (t : Fin cfg0.N) (r : Fin 8) (k : Fin 2048) : (iblk m c 0 t : FVec Ideal S8x2048 .f32) (ix2 r k)
    = rows (fun b k => argC m c (ix2 b k)) (fun k => argX m c (ix1 k)) r k := by
  have hi := index_0 t
  rw [← V_rows m c r k]
  unfold iblk
  rw [View.read_apply]
  show V m c main_v2 _ = V m c main_v2 _
  congr 1
  funext a
  apply Fin.ext
  match a with
  | ⟨0, _⟩ => show win0_0.index t 0 * 8 + 1 * r.val = r.val; rw [show win0_0.index t 0 = 0 from congrFun hi 0]; omega
  | ⟨1, _⟩ => show win0_0.index t 1 * 2048 + 1 * k.val = k.val; rw [show win0_0.index t 1 = 0 from congrFun hi 1]; omega

theorem blk_1 (t : Fin cfg0.N) (k : Fin 2048) (q : Fin 1024) : (iblk m c 1 t : FVec Ideal S1x2048x1024 .f32) (ix3 0 k q) = argW m c (ix3 (layer t) k (col t q)) := by
  have hi := index_1 t
  rw [← show V m c main_arg2 = argW m c from V_main_arg2 m c]
  unfold iblk
  rw [View.read_apply]
  show V m c main_arg2 _ = V m c main_arg2 _
  congr 1
  funext a
  apply Fin.ext
  match a with
  | ⟨0, _⟩ => show win0_1.index t 0 * 1 + 1 * 0 = t.val / 12; rw [show win0_1.index t 0 = t.val / 12 from congrFun hi 0]; omega
  | ⟨1, _⟩ => show win0_1.index t 1 * 2048 + 1 * k.val = k.val; rw [show win0_1.index t 1 = 0 from congrFun hi 1]; omega
  | ⟨2, _⟩ => show win0_1.index t 2 * 1024 + 1 * q.val = 1024 * (t.val % 12) + q.val; rw [show win0_1.index t 2 = t.val % 12 from congrFun hi 2]; omega

theorem blk_2 (t : Fin cfg0.N) (q : Fin 1024) : (iblk m c 2 t : FVec Ideal S1x1x1024 .f32) (ix3 0 0 q) = argB m c (ix2 (layer t) (col t q)) := by
  have hi := index_2 t
  rw [← V_bias m c (layer t) (col t q)]
  unfold iblk
  rw [View.read_apply]
  show V m c main_v3 _ = V m c main_v3 _
  congr 1
  funext a
  apply Fin.ext
  match a with
  | ⟨0, _⟩ => show win0_2.index t 0 * 1 + 1 * 0 = t.val / 12; rw [show win0_2.index t 0 = t.val / 12 from congrFun hi 0]; omega
  | ⟨1, _⟩ => show win0_2.index t 1 * 1 + 1 * 0 = 0; rw [show win0_2.index t 1 = 0 from congrFun hi 1]
  | ⟨2, _⟩ => show win0_2.index t 2 * 1024 + 1 * q.val = 1024 * (t.val % 12) + q.val; rw [show win0_2.index t 2 = t.val % 12 from congrFun hi 2]; omega

/-- Every point leaves its block of the parameters. -/
theorem outs (t : Fin cfg0.N) (r : Fin 8) (q : Fin 1024) :
    out0_3 (F := Ideal) (iblk m c 0 t) (iblk m c 1 t) (iblk m c 2 t) (ix3 0 r q) = entry m c (layer t) r (col t q) := by
  refine (out_apply _ _ _ r q).trans ?_
  simp only [blk_0, blk_1, blk_2]
  exact modEntry_rows _ _ (fun l k q => argW m c (ix3 l k q)) (fun l q => argB m c (ix2 l q)) (layer t) r (col t q)

/-! ## The array -/

/-- Where a block of the result lies. -/
theorem emb_3 (t : Fin cfg0.N) (r : Fin 8) (q : Fin 1024) : ((cfg0.win 3).blk t).view.emb (ix3 0 r q : S1x8x1024.Idx)
    = (ix3 (layer t) r (col t q) : S2x8x12288.Idx) := by
  have hi := index_3 t
  funext a
  apply Fin.ext
  match a with
  | ⟨0, _⟩ => show win0_3.index t 0 * 1 + 1 * 0 = t.val / 12; rw [show win0_3.index t 0 = t.val / 12 from congrFun hi 0]; omega
  | ⟨1, _⟩ => show win0_3.index t 1 * 8 + 1 * r.val = r.val; rw [show win0_3.index t 1 = 0 from congrFun hi 1]; omega
  | ⟨2, _⟩ => show win0_3.index t 2 * 1024 + 1 * q.val = 1024 * (t.val % 12) + q.val; rw [show win0_3.index t 2 = t.val % 12 from congrFun hi 2]; omega

/-- The result's array. -/
theorem arr_3 : (dats m 0 c).arrAt 3 cfg0.N = fun y : S2x8x12288.Idx => entry m c (y 0) (y 1) (y 2) := by
  refine (dats m 0 c).arrAt_eq_of_cover 3 _ (fun t _ => ?_) (fun i => ?_)
  · rw [Value.flushed3]
    funext (y : S1x8x1024.Idx)
    rw [View.read_apply]
    idx_vars y
    obtain rfl : y0 = 0 := Subsingleton.elim _ _
    refine Eq.trans ?_ (congrArg (fun y : S2x8x12288.Idx => entry m c (y 0) (y 1) (y 2)) (emb_3 t y1 y2)).symm
    exact outs m c t y1 y2
  · let l : Fin 2 := i 0
    let q : Fin 12288 := i 2
    have hl := l.isLt
    have hq := q.isLt
    let t : Fin cfg0.N := ⟨12 * l.val + q.val / 1024, lt_of_lt_of_eq (by omega) N_0.symm⟩
    refine ⟨t, flush0_3 t, ?_⟩
    have e : ((cfg0.win 3).blk t).view.emb (ix3 0 (i 1) ⟨q.val % 1024, by omega⟩ : S1x8x1024.Idx) = i := by
      refine (emb_3 t _ _).trans ?_
      funext a
      apply Fin.ext
      match a with
      | ⟨0, _⟩ => show (12 * l.val + q.val / 1024) / 12 = l.val; omega
      | ⟨1, _⟩ => rfl
      | ⟨2, _⟩ => show 1024 * ((12 * l.val + q.val / 1024) % 12) + q.val % 1024 = q.val; omega
    rw [← e]
    exact View.emb_mem_set _ _

end Cert.Kernel4Ideal.ModRun

end
-- ==== Proof.ModRef.lean ====
/- The modulation's reference over the extended reals, entry by entry. -/
module

public import proofs.«01_k».proof.Proof.Gen.Reference4Ideal.Run
public import proofs.«01_k».proof.Proof.ModSpec
public import Idealize.ShloMosaic.Lib.Pointwise

@[expose] public section

set_option maxRecDepth 16384

noncomputable section

namespace Cert.Reference4Ideal.ModRef

open Cert.Reference4Ideal Cert.Reference4Ideal.Gen Idealize.ShloMosaic Idealize.ShloMosaic.TcCoe Idealize.SL.Sem
open Cert.ProjSpec Cert.ModSpec

variable (a : FVec Ideal S4x2048 .f32) (a' : FVec Ideal S2048 .f32) (w : FVec Ideal S2x2048x12288 .f32) (b : FVec Ideal S2x12288 .f32)

/-- The samples' rows. -/
def samples : FVec Ideal S2x4x12288 .f32 :=
  (addf (transpose S2x4x12288 [0, 2, 1] (Host.dotGeneral dot_S2x2048x12288_S4x2048_S2x12288x4_1_1_02_0_n_n none w (mulf a (Host.divf (broadcastInDim S4x2048 ![] bcast_S_S4x2048 (constant S_ .f32 0x3F800000#32)) (addf (broadcastInDim S4x2048 ![] bcast_S_S4x2048 (constant S_ .f32 0x3F800000#32)) (Host.exp (Host.negf a)))))) transposes_S2x12288x4_S2x4x12288_0_2_1) (broadcastInDim S2x4x12288 ![0, 1, 2] bcast_S2x1x12288_S2x4x12288_0_1_2 (broadcastInDim S2x1x12288 ![0, 2] bcast_S2x12288_S2x1x12288_0_2 b)) : (⟨S2x4x12288, .f32⟩ : BufTy).Contents (Elt Ideal))

/-- The context's row. -/
def context : FVec Ideal S2x1x12288 .f32 :=
  (broadcastInDim S2x1x12288 ![0, 2] bcast_S2x12288_S2x1x12288_0_2 (addf (Host.dotGeneral dot_S2048_S2x2048x12288_S2x12288_0_1_n_02_n_n none (mulf a' (Host.divf (broadcastInDim S2048 ![] bcast_S_S2048 (constant S_ .f32 0x3F800000#32)) (addf (broadcastInDim S2048 ![] bcast_S_S2048 (constant S_ .f32 0x3F800000#32)) (Host.exp (Host.negf a'))))) w) b) : (⟨S2x1x12288, .f32⟩ : BufTy).Contents (Elt Ideal))

/-- The last rows. -/
def rest : FVec Ideal S2x3x12288 .f32 :=
  (broadcastInDim S2x3x12288 ![0, 1, 2] bcast_S2x1x12288_S2x3x12288_0_1_2 (broadcastInDim S2x1x12288 ![0, 2] bcast_S2x12288_S2x1x12288_0_2 b) : (⟨S2x3x12288, .f32⟩ : BufTy).Contents (Elt Ideal))

/-- The reference's result. -/
def result : FVec Ideal S2x8x12288 .f32 :=
  (concatenate S2x8x12288 1 [⟨S2x4x12288, samples a w b⟩, ⟨S2x1x12288, context a' w b⟩, ⟨S2x3x12288, rest b⟩] concatenates_S2x4x12288_S2x1x12288_S2x3x12288_S2x8x12288_d1 : (⟨S2x8x12288, .f32⟩ : BufTy).Contents (Elt Ideal))

theorem samples_apply (l : Fin 2) (r : Fin 4) (q : Fin 12288) : samples a w b (ix3 l r q) = modEntry (fun k => a (ix2 r k)) (fun k => w (ix3 l k q)) (b (ix2 l q)) := by
  unfold modEntry
  simp only [mul_comm (silu _)]
  pointwise [samples, silu]

theorem context_apply (l : Fin 2) (q : Fin 12288) : context a' w b (ix3 l 0 q) = modEntry (fun k => a' (ix1 k)) (fun k => w (ix3 l k q)) (b (ix2 l q)) := by
  pointwise [context, modEntry, silu]

theorem rest_apply (l : Fin 2) (r : Fin 3) (q : Fin 12288) : rest b (ix3 l r q) = b (ix2 l q) := by
  pointwise [rest]

/-- Layer `l`, row `r`, column `q` of the result. -/
def entry (l : Fin 2) (r : Fin 8) (q : Fin 12288) : EReal :=
  entryMod (fun b k => a (ix2 b k)) (fun k => a' (ix1 k)) (fun l k q => w (ix3 l k q)) (fun l q => b (ix2 l q)) l r q

/-- The result at an index. -/
theorem result_apply (l : Fin 2) (r : Fin 8) (q : Fin 12288) : result a a' w b (ix3 l r q) = entry a a' w b l r q := by
  unfold entry entryMod
  pointwise [result]
  have hr := r.isLt
  by_cases h : r.val < 4
  · rw [dif_pos h, dif_pos h]
    exact samples_apply a w b l ⟨r.val, h⟩ q
  · rw [dif_neg h, dif_neg h]
    by_cases h' : r.val < 5
    · rw [dif_pos (show r.val - 4 < 1 by omega), if_pos h', show (⟨r.val - 4, by omega⟩ : Fin 1) = 0 from Subsingleton.elim _ _]
      exact context_apply a' w b l q
    · rw [dif_neg (show ¬r.val - 4 < 1 by omega), if_neg h']
      exact rest_apply b l _ q

/-- The result. -/
theorem result_eq : result a a' w b = fun y : S2x8x12288.Idx => entry a a' w b (y 0) (y 1) (y 2) := by
  funext (y : S2x8x12288.Idx)
  idx_vars y
  exact result_apply a a' w b y0 y1 y2

end Cert.Reference4Ideal.ModRef

end
-- ==== Proof.ModClaim.lean ====
/- The claims about the modulation: both kernels' and the reference's frames, and that over the extended reals the kernel
   and the reference end with the same array. -/
module

public import proofs.«01_k».proof.Defs
public import proofs.«01_k».proof.Proof.Gen.Kernel4.Frame
public import proofs.«01_k».proof.Proof.Gen.Reference4Ideal.Run
public import proofs.«01_k».proof.Proof.ModRun
public import proofs.«01_k».proof.Proof.ModRef
public import Idealize.ShloMosaic.Adequacy
public import Idealize.ShloMosaic.Init

@[expose] public section

set_option maxRecDepth 16384

noncomputable section

namespace Cert.ModClaim

open Idealize.ShloMosaic Idealize.SL.Sem

/-- The kernel's frame. -/
theorem frame_P : @Cert.quiescent_Kernel4 Cert.Kernel4.Gen.facts := fun m ρ _ => Cert.Kernel4.Gen.frame m ρ

/-- The ideal kernel's frame. -/
theorem frame_PI : @Cert.quiescent_Kernel4Ideal Cert.Kernel4Ideal.Gen.facts := fun m ρ _ => Cert.Kernel4Ideal.Gen.frame m ρ

/-- The reference's frame. -/
theorem frame_RI : @Cert.quiescent_Reference4Ideal Cert.Reference4Ideal.Gen.facts := fun m ρ _ =>
  (θ_run Cert.Reference4Ideal.defs _ _).mono
    (fun r h => ⟨fun c => (h c).2, Idealize.ShloMosaic.sem_eq_zero_of_no_sems (by decide) r.2⟩) (Cert.Reference4Ideal.Value.run (F := Ideal) m ρ)

/-- The kernel's array is the reference's. -/
theorem algebraic : @Cert.algebraic_Kernel4Ideal_Reference4Ideal Cert.Kernel4Ideal.Gen.facts Cert.Reference4Ideal.Gen.facts := by
  intro m ρ m' ρ' _ hagree
  refine ⟨_, (θ_run Cert.Kernel4Ideal.defs _ _).mono (fun _ h => h) (Cert.Kernel4Ideal.Value.run_blocks (F := Ideal) m ρ), ?_⟩
  refine (θ_run Cert.Reference4Ideal.defs _ _).mono (fun r h c => ?_) (Cert.Reference4Ideal.Value.run (F := Ideal) m' ρ')
  obtain ⟨h0, ha⟩ := h c
  obtain ⟨g0, g1, g2, g3⟩ := hagree c
  rw [g0, g1, g2, g3] at h0
  exact ⟨(h0.trans (Cert.Reference4Ideal.ModRef.result_eq _ _ _ _)).trans (Cert.Kernel4Ideal.ModRun.arr_3 m c).symm, ha⟩

end Cert.ModClaim

end
-- ==== Proof.ConvSpec.lean ====
/- The short convolution as mathematics over the extended reals: the centred 3x3 convolution of one channel's 64x64 plane with
   zeros around it, and its bias. -/
module

public import Idealize.ShloMosaic.Lib.ValueIdx

@[expose] public section

noncomputable section

namespace Cert.ConvSpec

abbrev Plane := Fin 64 → Fin 64 → EReal
abbrev Taps := Fin 3 → Fin 3 → EReal

/-- The plane with a border of zeros: its row `i - 1` and column `j - 1`, zero outside. -/
def padded (u : Plane) (i j : ℕ) : EReal :=
  if h : (1 ≤ i ∧ i ≤ 64) ∧ 1 ≤ j ∧ j ≤ 64 then u ⟨i - 1, by omega⟩ ⟨j - 1, by omega⟩ else 0

/-- The convolution at row `r` and column `s`. -/
def conv (u : Plane) (w : Taps) (b : EReal) (r s : Fin 64) : EReal :=
  (∑ i : Fin 3, ∑ j : Fin 3, padded u (r.val + i.val) (s.val + j.val) * w i j) + b

theorem padded_row (u : Plane) {i j : ℕ} (h : ¬(1 ≤ i ∧ i ≤ 64)) : padded u i j = 0 := dif_neg fun e => h e.1
theorem padded_col (u : Plane) {i j : ℕ} (h : ¬(1 ≤ j ∧ j ≤ 64)) : padded u i j = 0 := dif_neg fun e => h e.2
theorem padded_in (u : Plane) {i j : ℕ} (r s : Fin 64) (hi : i = r.val + 1) (hj : j = s.val + 1) : padded u i j = u r s := by
  subst hi hj
  exact dif_pos ⟨⟨by omega, by omega⟩, by omega, by omega⟩

/-- One column of the taps over three rows of the plane, as the loop multiplies them: the rows above and below
    enter with their taps switched off where they lie outside. -/
def column (u : Plane) (w : Taps) (r : Fin 64) (j : Fin 3) (s : Fin 64) : EReal :=
  u ⟨r.val - 1, by omega⟩ s * (w 0 j * (if 0 < r.val then 1 else 0)) + u r s * w 1 j
    + u ⟨min (r.val + 1) 63, by omega⟩ s * (w 2 j * (if r.val < 63 then 1 else 0))

/-- The switched taps are the border of zeros. -/
theorem column_eq (u : Plane) (w : Taps) (r : Fin 64) (j : Fin 3) (s : Fin 64) (n : ℕ) (hn : n = s.val + 1) :
    column u w r j s = ∑ i : Fin 3, padded u (r.val + i.val) n * w i j := by
  rw [Fin.sum_univ_three]
  unfold column
  refine congrArg₂ (· + ·) (congrArg₂ (· + ·) ?_ ?_) ?_
  · by_cases h : 0 < r.val
    · rw [if_pos h, mul_one, padded_in u ⟨r.val - 1, by omega⟩ s (by show r.val + 0 = r.val - 1 + 1; omega) hn]
    · rw [if_neg h, mul_zero, mul_zero, padded_row u (by show ¬(1 ≤ r.val + 0 ∧ _); omega), zero_mul]
  · exact congrArg (· * w 1 j) (padded_in u r s rfl hn).symm
  · by_cases h : r.val < 63
    · rw [if_pos h, mul_one, padded_in u ⟨min (r.val + 1) 63, by omega⟩ s (by show r.val + 2 = min (r.val + 1) 63 + 1; omega) hn]
    · rw [if_neg h, mul_zero, mul_zero, padded_row u (by show ¬(_ ∧ r.val + 2 ≤ 64); omega), zero_mul]

/-- One row of the loop: the three columns of the taps, the outer two moved by one place. -/
def row (u : Plane) (w : Taps) (b : EReal) (r s : Fin 64) : EReal :=
  ((if 0 < s.val then column u w r 0 ⟨(s.val + 64 - 1) % 64, by omega⟩ else 0) + column u w r 1 s
    + (if s.val < 63 then column u w r 2 ⟨(s.val + 64 - 63) % 64, by omega⟩ else 0)) + b

/-- It is the convolution. -/
theorem row_eq (u : Plane) (w : Taps) (b : EReal) (r s : Fin 64) : row u w b r s = conv u w b r s := by
  unfold row conv
  rw [Finset.sum_comm, Fin.sum_univ_three]
  refine congrArg (· + b) (congrArg₂ (· + ·) (congrArg₂ (· + ·) ?_ ?_) ?_)
  · by_cases h : 0 < s.val
    · rw [if_pos h]
      exact column_eq u w r 0 _ _ (by show s.val + 0 = (s.val + 64 - 1) % 64 + 1; omega)
    · rw [if_neg h]
      refine (Finset.sum_eq_zero fun i _ => ?_).symm
      rw [padded_col u (by show ¬(1 ≤ s.val + 0 ∧ _); omega), zero_mul]
  · exact column_eq u w r 1 s _ rfl
  · by_cases h : s.val < 63
    · rw [if_pos h]
      exact column_eq u w r 2 _ _ (by show s.val + 2 = (s.val + 64 - 63) % 64 + 1; omega)
    · rw [if_neg h]
      refine (Finset.sum_eq_zero fun i _ => ?_).symm
      rw [padded_col u (by show ¬(_ ∧ s.val + 2 ≤ 64); omega), zero_mul]

end Cert.ConvSpec

end
-- ==== Proof.ConvPay.lean ====
/- One row of the short convolution's loop. -/
module

public import proofs.«01_k».proof.Proof.Gen.Kernel5Ideal.Frame
public import proofs.«01_k».proof.Proof.ConvSpec
public import Idealize.ShloMosaic.Lib.Pointwise

@[expose] public section

set_option maxRecDepth 16384

noncomputable section

namespace Cert.Kernel5Ideal.ConvPay

open Cert.Kernel5Ideal Cert.Kernel5Ideal.Gen Idealize.ShloMosaic Idealize.ShloMosaic.TcCoe Idealize.ShloMosaic.Tactic Idealize.SL.Sem
open Cert.ConvSpec

variable (w : FVec Ideal S3x3x512 .f32) (b : FVec Ideal S1x512 .f32) (k : Fin k0_t1_loop.trips) (up cen : FVec Ideal S64x512 .f32) (dn : FVec Ideal S1x64x512 .bf16)

theorem pay4_apply (s : Fin 64) (q : Fin 512) : k0_pay4 (F := Ideal) dn (ix2 s q) = dn (ix3 0 s q) := by
  pointwise [k0_pay4]

theorem pay2_apply (s : Fin 64) (q : Fin 512) : k0_pay2 (F := Ideal) dn (ix2 s q) = dn (ix3 0 s q) := by
  pointwise [k0_pay2]

/-! ## The switches -/

theorem first : ∀ k : Fin k0_t1_loop.trips, Scalar.cmpi .sgt (Scf.iv 0#32 1#32 k) 0#32 = if 0 < k.val then 1#1 else 0#1 := by decide +kernel
theorem last : ∀ k : Fin k0_t1_loop.trips, Scalar.cmpi .slt (Scf.iv 0#32 1#32 k) 63#32 = if k.val < 63 then 1#1 else 0#1 := by decide +kernel
theorem left : ∀ s : Fin 64, IntOp.cmpi CmpIPredicate.sgt (BitVec.ofNat 32 s.val) 0#32 = if 0 < s.val then 1#1 else 0#1 := by decide +kernel
theorem right : ∀ s : Fin 64, IntOp.cmpi CmpIPredicate.slt (BitVec.ofNat 32 s.val) 63#32 = if s.val < 63 then 1#1 else 0#1 := by decide +kernel

theorem select_if (p : Prop) [Decidable p] (x y : EReal) : Scalar.select (if p then 1#1 else 0#1) x y = if p then x else y := by
  by_cases h : p
  · rw [if_pos h, if_pos h]; rfl
  · rw [if_neg h, if_neg h]; rfl

theorem switch (p : Prop) [Decidable p] (x : EReal) : (if p then x else 0) = x * (if p then 1 else 0) := by
  by_cases h : p
  · rw [if_pos h, if_pos h, mul_one]
  · rw [if_neg h, if_neg h, mul_zero]

/-! ## The payloads -/

theorem pay5_apply (j : Fin 3) (q : Fin 512) : k0_pay5 (F := Ideal) w 0#32 1#32 k (ix2 j q) = w (ix3 0 j q) * (if 0 < k.val then 1 else 0) := by
  pointwise [k0_pay5]
  rw [first k, select_if, switch]

theorem pay6_apply (j : Fin 3) (q : Fin 512) : k0_pay6 (F := Ideal) w 0#32 1#32 k (ix2 j q) = w (ix3 2 j q) * (if k.val < 63 then 1 else 0) := by
  pointwise [k0_pay6]
  rw [last k, select_if, switch]

theorem pay8_apply (s : Fin 64) (q : Fin 512) : k0_pay8 (F := Ideal) w 0#32 1#32 k up cen (ix2 s q)
    = up (ix2 s q) * k0_pay5 (F := Ideal) w 0#32 1#32 k (ix2 2 q) + cen (ix2 s q) * w (ix3 1 2 q) := by
  pointwise [k0_pay8]

theorem pay7_apply (s : Fin 64) (q : Fin 512) : k0_pay7 (F := Ideal) w k0_pay1 0#32 1#32 k up cen dn (ix2 s q)
    = if 0 < s.val then up (ix2 ⟨(s.val + 64 - 1) % 64, by omega⟩ q) * k0_pay5 (F := Ideal) w 0#32 1#32 k (ix2 0 q)
        + cen (ix2 ⟨(s.val + 64 - 1) % 64, by omega⟩ q) * w (ix3 1 0 q)
        + k0_pay4 (F := Ideal) dn (ix2 ⟨(s.val + 64 - 1) % 64, by omega⟩ q) * k0_pay6 (F := Ideal) w 0#32 1#32 k (ix2 0 q) else 0 := by
  pointwise [k0_pay7, k0_pay1]
  rw [left s, select_if]

variable (v22 : FVec Ideal S64x512 .f32) (v28 v34 : FVec Ideal S3x512 .f32) (v49 v57 : FVec Ideal S64x512 .f32)

theorem pay3_apply (s : Fin 64) (q : Fin 512) : k0_pay3 (F := Ideal) w b up cen v22 v28 v34 v49 v57 (ix3 0 s q)
    = (v49 (ix2 s q) + (up (ix2 s q) * v28 (ix2 1 q) + cen (ix2 s q) * w (ix3 1 1 q) + v22 (ix2 s q) * v34 (ix2 1 q))
      + (if s.val < 63 then v57 (ix2 ⟨(s.val + 64 - 63) % 64, by omega⟩ q) + v22 (ix2 ⟨(s.val + 64 - 63) % 64, by omega⟩ q) * v34 (ix2 2 q) else 0))
      + b (ix2 0 q) := by
  pointwise [k0_pay3]
  rw [right s, select_if]

/-! ## The row -/

/-- The row a trip stores. -/
def rowOf : FVec Ideal S1x64x512 .f32 :=
  k0_pay3 (F := Ideal) w b up cen (k0_pay4 dn) (k0_pay5 w 0#32 1#32 k) (k0_pay6 w 0#32 1#32 k) (k0_pay7 w k0_pay1 0#32 1#32 k up cen dn) (k0_pay8 w 0#32 1#32 k up cen)

/-- It is the convolution's, when the carried rows are the plane's. -/
theorem rowOf_apply (u : Plane) (r : Fin 64) (hr : r.val = k.val) (s : Fin 64) (q : Fin 512)
    (hu : ∀ s, up (ix2 s q) = u ⟨r.val - 1, by omega⟩ s) (hc : ∀ s, cen (ix2 s q) = u r s) (hd : ∀ s, dn (ix3 0 s q) = u ⟨min (r.val + 1) 63, by omega⟩ s) :
    rowOf w b k up cen dn (ix3 0 s q) = conv u (fun i j => w (ix3 i j q)) (b (ix2 0 q)) r s := by
  rw [← row_eq]
  unfold rowOf
  rw [pay3_apply, pay7_apply]
  simp only [pay8_apply, pay4_apply, pay5_apply, pay6_apply, hu, hc, hd, ← hr]
  rfl

end Cert.Kernel5Ideal.ConvPay

end
-- ==== Proof.ConvPoint.lean ====
/- What one point of the short convolution leaves: its block of the result, row of the grid by row. -/
module

public import proofs.«01_k».proof.Proof.ConvPay
public import Idealize.ShloMosaic.Lib.Pipeline.Value

@[expose] public section

set_option maxRecDepth 16384

noncomputable section

namespace Cert.Kernel5Ideal.ConvPoint

open Cert.Kernel5Ideal Cert.Kernel5Ideal.Gen Idealize.ShloMosaic Idealize.ShloMosaic.TcCoe Idealize.ShloMosaic.Tactic Idealize.SL.Sem
open Cert.ConvSpec ConvPay

theorem hz2 : (![0, 0] : Fin 2 → Nat) = fun _ => 0 := funext fun a => by fin_cases a <;> rfl
theorem hz3 : (![0, 0, 0] : Fin 3 → Nat) = fun _ => 0 := funext fun a => by fin_cases a <;> rfl

/-! ## A row of the grid in a block -/

theorem inb_row (r : Fin 64) : ∀ a, (![0, 64 * r.val, 0] : Fin 3 → Nat) a + S1x64x512.size a ≤ S1x4096x512.size a := fun a => by
  match a with
  | ⟨0, _⟩ => show 0 + 1 ≤ 1; omega
  | ⟨1, _⟩ => show 64 * r.val + 64 ≤ 4096; omega
  | ⟨2, _⟩ => show 0 + 512 ≤ 512; omega

/-- Row `r` of a block. -/
def rowAt (x : FVec Ideal S1x4096x512 .bf16) (r : Fin 64) : FVec Ideal S1x64x512 .bf16 :=
  View.ld (Val := Elt Ideal) (e' := .bf16) x (Rect.unit (s := S1x4096x512) ![0, 64 * r.val, 0] S1x64x512.size (inb_row r))

theorem rowAt_apply (x : FVec Ideal S1x4096x512 .bf16) (r s : Fin 64) (q : Fin 512) : rowAt x r (ix3 0 s q) = x (ix3 0 ⟨64 * r.val + s.val, by omega⟩ q) := by
  unfold rowAt
  refine congrArg x (funext fun a => Fin.ext ?_)
  match a with
  | ⟨0, _⟩ => show 0 + 1 * 0 = 0; omega
  | ⟨1, _⟩ => show 64 * r.val + 1 * s.val = 64 * r.val + s.val; omega
  | ⟨2, _⟩ => show 0 + 1 * q.val = q.val; omega

theorem ld_row (x : FVec Ideal S1x4096x512 .bf16) (r : Fin 64) (off : Fin 3 → Nat) (e : off = ![0, 64 * r.val, 0])
    (inb : ∀ a, off a + S1x64x512.size a ≤ S1x4096x512.size a) :
    View.ld (Val := Elt Ideal) (e' := .bf16) x (Rect.unit (s := S1x4096x512) off S1x64x512.size inb) = rowAt x r := by subst e; rfl

/-- A row as the loop carries it. -/
abbrev carried (x : FVec Ideal S1x4096x512 .bf16) (r : Fin 64) : FVec Ideal S64x512 .f32 := k0_pay4 (rowAt x r)

/-! ## The loop -/

theorem trips_eq : k0_t1_loop.trips = 64 := by decide +kernel
theorem trip_lt (k : Fin k0_t1_loop.trips) : k.val < 64 := lt_of_lt_of_eq k.isLt trips_eq

variable (𝒱 : Variants) (c : Dev nD) (bd : Option 𝒱.V) (i : grid0.Coords) (a2 : Memref sig .tc .vmem S1x4096x512 .bf16) (h2 : a2.IsWhole)
  (a3 : Memref sig .tc .vmem S3x3x512 .f32) (h3 : a3.IsWhole) (a4 : Memref sig .tc .vmem S1x512 .f32) (h4 : a4.IsWhole) (a5 : Memref sig .tc .vmem S1x4096x512 .f32) (h5 : a5.IsWhole)
  (x : FVec Ideal S1x4096x512 .bf16) (w : FVec Ideal S3x3x512 .f32) (b : FVec Ideal S1x512 .f32)

/-- The row a trip loads: the next one, at the last row itself. -/
abbrev next (k : Fin k0_t1_loop.trips) : Fin 64 := ⟨min (k.val + 1) 63, by omega⟩

theorem load_eq (k : Fin k0_t1_loop.trips) :
    View.readAt (Elt Ideal) a2.view (Rect.unit (s := S1x4096x512) (k0_off1 k) S1x64x512.size (k0_off1_inb k)).toLoadRect (h2.unread (Val := Elt Ideal) x) = rowAt x (next k) := by
  rw [View.readAt_eq_ld, h2.read_unread]
  exact ld_row x (next k) _ (k0_off1_eq k) _

/-- A trip moves the rows on by one, -/
theorem tripR_eq (k : Fin k0_t1_loop.trips) (acc : FVec Ideal S64x512 .f32 × FVec Ideal S64x512 .f32) :
    tripR_k0_t1 (F := Ideal) 𝒱 c bd i a2 h2 a3 h3 a4 h4 a5 h5 w b (h2.unread x) k acc = (acc.2, carried x (next k)) := by
  unfold carried
  rw [← load_eq a2 h2 x k]
  unfold tripR_k0_t1 trip_k0_t1
  dsimp only
  sl_unfold_words
  rfl

/-- and stores one row. -/
def piece (k : Fin k0_t1_loop.trips) (acc : FVec Ideal S64x512 .f32 × FVec Ideal S64x512 .f32) : View.Piece (Elt Ideal) S1x4096x512 .f32 :=
  ⟨Rect.unit (s := S1x4096x512) (k0_off2 k) S1x64x512.size (k0_off2_inb k), rowOf w b k acc.1 acc.2 (rowAt x (next k))⟩

theorem tripL_eq (k : Fin k0_t1_loop.trips) (acc : FVec Ideal S64x512 .f32 × FVec Ideal S64x512 .f32) :
    tripL_k0_t1 (F := Ideal) 𝒱 c bd i a2 h2 a3 h3 a4 h4 a5 h5 w b (h2.unread x) k acc = [piece x w b k acc] := by
  unfold piece
  rw [← load_eq a2 h2 x k]
  unfold tripL_k0_t1 trip_k0_t1
  dsimp only
  sl_unfold_words
  rfl

/-- The rows carried before trip `k`. -/
abbrev rowsAt (k : ℕ) : FVec Ideal S64x512 .f32 × FVec Ideal S64x512 .f32 := (carried x ⟨min (k - 1) 63, by omega⟩, carried x ⟨min k 63, by omega⟩)

/-- The state before trip `k`: its rows, and pieces each of which is a trip's. -/
theorem st_eq : ∀ k ≤ 64, (st_k0_t1 (F := Ideal) 𝒱 c bd i a2 h2 a3 h3 a4 h4 a5 h5 w b (h2.unread x) (rowsAt x 0) k).1 = rowsAt x k
    ∧ ∀ p ∈ (st_k0_t1 (F := Ideal) 𝒱 c bd i a2 h2 a3 h3 a4 h4 a5 h5 w b (h2.unread x) (rowsAt x 0) k).2, ∃ t : Fin k0_t1_loop.trips, p = piece x w b t (rowsAt x t.val)
  | 0, _ => ⟨rfl, fun p hp => absurd hp (List.not_mem_nil)⟩
  | k + 1, hk => by
    obtain ⟨e, hp⟩ := st_eq k (by omega)
    let t : Fin k0_t1_loop.trips := ⟨k, lt_of_lt_of_eq (by omega) trips_eq.symm⟩
    rw [st_k0_t1_succ 𝒱 c bd i a2 h2 a3 h3 a4 h4 a5 h5 w b (h2.unread x) (rowsAt x 0) t]
    constructor
    · dsimp only
      rw [tripR_eq, e]
      refine Prod.ext ?_ rfl
      show carried x ⟨min k 63, _⟩ = carried x ⟨min (k + 1 - 1) 63, _⟩
      rfl
    · intro p h
      dsimp only at h
      rw [tripL_eq, e] at h
      rcases List.mem_append.mp h with h | h
      · exact ⟨t, List.mem_singleton.mp h⟩
      · exact hp p h

/-! ## The block -/

/-- A point's block of the result, from its blocks of the arguments. -/
def block (y : S1x4096x512.Idx) : EReal :=
  conv (fun r s => x (ix3 0 ⟨64 * r.val + s.val, by omega⟩ (y 2))) (fun i j => w (ix3 i j (y 2))) (b (ix2 0 (y 2)))
    ⟨(y 1).val / 64, by have : (y 1).val < 4096 := (y 1).isLt; omega⟩ ⟨(y 1).val % 64, by omega⟩

/-- Every piece is of the block. -/
theorem piece_eq (t : Fin k0_t1_loop.trips) (z : S1x64x512.Idx) :
    (piece x w b t (rowsAt x t.val)).2 z = block x w b ((piece x w b t (rowsAt x t.val)).1.emb z) := by
  have ht := trip_lt t
  idx_vars z
  obtain rfl : z0 = 0 := Subsingleton.elim _ _
  let r : Fin 64 := ⟨t.val, ht⟩
  have e : (piece x w b t (rowsAt x t.val)).1.emb (ix3 0 z1 z2 : S1x64x512.Idx) = (ix3 0 ⟨64 * r.val + z1.val, by omega⟩ z2 : S1x4096x512.Idx) := by
    have ho := k0_off2_eq t
    funext a
    apply Fin.ext
    match a with
    | ⟨0, _⟩ => show k0_off2 t 0 + 1 * 0 = 0; rw [show k0_off2 t 0 = 0 from congrFun ho 0]
    | ⟨1, _⟩ => show k0_off2 t 1 + 1 * z1.val = 64 * t.val + z1.val; rw [show k0_off2 t 1 = 64 * t.val from congrFun ho 1]; omega
    | ⟨2, _⟩ => show k0_off2 t 2 + 1 * z2.val = z2.val; rw [show k0_off2 t 2 = 0 from congrFun ho 2]; omega
  rw [e]
  refine (rowOf_apply w b t _ _ _ (fun r s => x (ix3 0 ⟨64 * r.val + s.val, by omega⟩ z2)) r rfl z1 z2 (fun s => ?_) (fun s => ?_) (fun s => ?_)).trans ?_
  · refine (pay4_apply _ s z2).trans ((rowAt_apply x _ s z2).trans ?_)
    have k : min (t.val - 1) 63 = t.val - 1 := by omega
    simp only [k]
    rfl
  · refine (pay4_apply _ s z2).trans ((rowAt_apply x _ s z2).trans ?_)
    have k : min t.val 63 = t.val := by omega
    simp only [k]
    rfl
  · exact rowAt_apply x _ s z2
  · unfold block
    refine congrArg₂ (conv _ _ _) (Fin.ext ?_) (Fin.ext ?_)
    · show t.val = (64 * t.val + z1.val) / 64; omega
    · show z1.val = (64 * t.val + z1.val) % 64; omega

/-- The kernel's run leaves it. -/
theorem out_eq : out0_A_3 (F := Ideal) c i a2 h2 a3 h3 a4 h4 a5 h5 x w b = block x w b := by
  have e : (kernelRun0_A (F := Ideal) c i a2 h2 a3 h3 a4 h4 a5 h5 x w b).1
      = (st_k0_t1 (F := Ideal) Variants.none c none i a2 h2 a3 h3 a4 h4 a5 h5 w b (h2.unread x) (rowsAt x 0) 64).2 := by
    unfold kernelRun0_A
    dsimp only
    sl_unfold_words
    simp only [View.readAt_eq_ld, h2.read_unread, h3.read_unread, h4.read_unread]
    rw [View.ld_unit_zero (S := S3x3x512) hz3, View.ld_unit_zero (S := S1x512) hz2, ld_row x 0 ![0, 0, 0] rfl]
    rw [show Scf.trips (0#32) (Scalar.addi 0#32 64#32) 1#32 = 64 from trips_eq]
    rfl
  unfold out0_A_3
  rw [View.read_writes_eq_canon _ _ _ (cover0_A_3 (F := Ideal) c i a2 h2 a3 h3 a4 h4 a5 h5 x w b)]
  funext y
  refine View.canon_apply_of_pieces (block x w b) _ (fun p hp z => ?_) y (cover0_A_3 (F := Ideal) c i a2 h2 a3 h3 a4 h4 a5 h5 x w b y)
  rw [e] at hp
  obtain ⟨t, rfl⟩ := (st_eq Variants.none c none i a2 h2 a3 h3 a4 h4 a5 h5 x w b 64 le_rfl).2 p hp
  exact piece_eq x w b t z

end Cert.Kernel5Ideal.ConvPoint

end
-- ==== Proof.ConvRef.lean ====
/- The short convolution's reference over the extended reals, entry by entry. -/
module

public import proofs.«01_k».proof.Proof.Gen.Reference5Ideal.Run
public import proofs.«01_k».proof.Proof.ConvSpec
public import Idealize.ShloMosaic.Lib.Pointwise
public import Idealize.ShloMosaic.Lib.KernelVsHost

@[expose] public section

set_option maxRecDepth 16384

noncomputable section

namespace Cert.Reference5Ideal.ConvRef

open Cert.Reference5Ideal Cert.Reference5Ideal.Gen Idealize.ShloMosaic Idealize.ShloMosaic.TcCoe Idealize.SL.Sem
open Cert.ConvSpec

variable (p : FVec Ideal S4x4096x6400 .bf16) (w : FVec Ideal S3x3x4608 .f32) (b : FVec Ideal S4608 .f32)

/-- The channels' planes. -/
def planes : FVec Ideal S4x64x64x3072 .f32 :=
  shapeCast _ (extf .f32 (extractStridedSlice S4x4096x3072 ![0, 0, 2048] p slices_S4x4096x6400_S4x4096x3072_0_0_2048) bitsLt_bf16_f32) shapeCasts_S4x4096x3072_S4x64x64x3072

/-- The planes with a border of zeros. -/
def bordered : FVec Ideal S4x66x66x3072 .f32 :=
  pad S4x66x66x3072 ![0, 1, 1, 0] ![0, 1, 1, 0] ![0, 0, 0, 0] (planes p) (sitofp .f32 (constantI S_ 32 0#32)) pads_S4x64x64x3072_S4x66x66x3072_000_110_110_000 h_S_

/-- One shifted product. -/
def shifted (o : Fin 4 → Nat) (h : S4x66x66x3072.Slices o S4x64x64x3072) (o' : Fin 3 → Nat) (h' : S3x3x3072.Slices o' S1x1x3072) : FVec Ideal S4x64x64x3072 .f32 :=
  mulf (extractStridedSlice S4x64x64x3072 o (bordered p) h)
    (broadcastInDim S4x64x64x3072 ![0, 1, 2, 3] bcast_S1x1x1x3072_S4x64x64x3072_0_1_2_3 (broadcastInDim S1x1x1x3072 ![3] bcast_S3072_S1x1x1x3072_3
      (shapeCast _ (extractStridedSlice S1x1x3072 o' (extractStridedSlice S3x3x3072 ![0, 0, 1536] w slices_S3x3x4608_S3x3x3072_0_0_1536) h') shapeCasts_S1x1x3072_S3072)))

/-- The reference's result. -/
def result : FVec Ideal S4x4096x3072 .f32 :=
  addf (shapeCast _ (addf (addf (addf (addf (addf (addf (addf (addf (addf (broadcastInDim S4x64x64x3072 ![] bcast_S_S4x64x64x3072 (constant S_ .f32 0x00000000#32))
    (shifted p w ![0, 0, 0, 0] slices_S4x66x66x3072_S4x64x64x3072_0_0_0_0 ![0, 0, 0] slices_S3x3x3072_S1x1x3072_0_0_0))
    (shifted p w ![0, 0, 1, 0] slices_S4x66x66x3072_S4x64x64x3072_0_0_1_0 ![0, 1, 0] slices_S3x3x3072_S1x1x3072_0_1_0))
    (shifted p w ![0, 0, 2, 0] slices_S4x66x66x3072_S4x64x64x3072_0_0_2_0 ![0, 2, 0] slices_S3x3x3072_S1x1x3072_0_2_0))
    (shifted p w ![0, 1, 0, 0] slices_S4x66x66x3072_S4x64x64x3072_0_1_0_0 ![1, 0, 0] slices_S3x3x3072_S1x1x3072_1_0_0))
    (shifted p w ![0, 1, 1, 0] slices_S4x66x66x3072_S4x64x64x3072_0_1_1_0 ![1, 1, 0] slices_S3x3x3072_S1x1x3072_1_1_0))
    (shifted p w ![0, 1, 2, 0] slices_S4x66x66x3072_S4x64x64x3072_0_1_2_0 ![1, 2, 0] slices_S3x3x3072_S1x1x3072_1_2_0))
    (shifted p w ![0, 2, 0, 0] slices_S4x66x66x3072_S4x64x64x3072_0_2_0_0 ![2, 0, 0] slices_S3x3x3072_S1x1x3072_2_0_0))
    (shifted p w ![0, 2, 1, 0] slices_S4x66x66x3072_S4x64x64x3072_0_2_1_0 ![2, 1, 0] slices_S3x3x3072_S1x1x3072_2_1_0))
    (shifted p w ![0, 2, 2, 0] slices_S4x66x66x3072_S4x64x64x3072_0_2_2_0 ![2, 2, 0] slices_S3x3x3072_S1x1x3072_2_2_0)) shapeCasts_S4x64x64x3072_S4x4096x3072)
    (broadcastInDim S4x4096x3072 ![0, 1, 2] bcast_S1x1x3072_S4x4096x3072_0_1_2 (broadcastInDim S1x1x3072 ![2] bcast_S3072_S1x1x3072_2 (extractStridedSlice S3072 ![1536] b slices_S4608_S3072_1536)))

/-- A sample's plane of one channel. -/
abbrev plane (l : Fin 4) (q : Fin 3072) : Plane := fun r s => p (ix3 l ⟨64 * r.val + s.val, by omega⟩ ⟨2048 + q.val, by omega⟩)
abbrev taps (q : Fin 3072) : Taps := fun i j => w (ix3 i j ⟨1536 + q.val, by omega⟩)

theorem planes_apply (l : Fin 4) (r s : Fin 64) (q : Fin 3072) : planes p (ix4 l r s q) = plane p l q r s := by
  pointwise [planes]
  simp only [plane, Nat.mul_comm r.val 64]

theorem bordered_apply (l : Fin 4) (i j : Fin 66) (q : Fin 3072) : bordered p (ix4 l i j q) = padded (plane p l q) i.val j.val := by
  unfold bordered padded
  by_cases h : (1 ≤ i.val ∧ i.val ≤ 64) ∧ 1 ≤ j.val ∧ j.val ≤ 64
  · rw [dif_pos h]
    refine (pad_apply_of_inside _ _ _ (planes p) _ _ _ (ix4 l i j q) (ix4 l ⟨i.val - 1, by omega⟩ ⟨j.val - 1, by omega⟩ q) fun a => ?_).trans (planes_apply p l _ _ q)
    match a with
    | ⟨0, _⟩ => show l.val = 0 + l.val * (0 + 1); omega
    | ⟨1, _⟩ => show i.val = 1 + (i.val - 1) * (0 + 1); omega
    | ⟨2, _⟩ => show j.val = 1 + (j.val - 1) * (0 + 1); omega
    | ⟨3, _⟩ => show q.val = 0 + q.val * (0 + 1); omega
  · rw [dif_neg h]
    refine Eq.trans (b := sitofp (F := Ideal) (s := S_) .f32 (constantI S_ 32 0#32) (Shape.Idx.first h_S_)) ?_ ?_
    · by_cases hi : 1 ≤ i.val ∧ i.val ≤ 64
      · refine pad_apply_of_not_inside _ _ _ (planes p) _ _ _ (ix4 l i j q) 2 ?_
        show ¬(1 ≤ j.val ∧ (j.val - 1) % (0 + 1) = 0 ∧ (j.val - 1) / (0 + 1) < 64)
        omega
      · refine pad_apply_of_not_inside _ _ _ (planes p) _ _ _ (ix4 l i j q) 1 ?_
        show ¬(1 ≤ i.val ∧ (i.val - 1) % (0 + 1) = 0 ∧ (i.val - 1) / (0 + 1) < 64)
        omega
    · exact sitofp_zero

theorem shifted_apply (i j : Fin 3) (o : Fin 4 → Nat) (e : o = ![0, i.val, j.val, 0]) (h : S4x66x66x3072.Slices o S4x64x64x3072)
    (o' : Fin 3 → Nat) (e' : o' = ![i.val, j.val, 0]) (h' : S3x3x3072.Slices o' S1x1x3072)
    (l : Fin 4) (r s : Fin 64) (q : Fin 3072) : shifted p w o h o' h' (ix4 l r s q) = padded (plane p l q) (r.val + i.val) (s.val + j.val) * taps w q i j := by
  subst e e'
  refine Eq.trans ?_ (congrArg (· * _) (bordered_apply p l ⟨r.val + i.val, by omega⟩ ⟨s.val + j.val, by omega⟩ q))
  pointwise [shifted]
  simp only [Nat.add_comm i.val, Nat.add_comm j.val]

/-- The sum of the shifted products at an index, its bias added. -/
theorem sum_apply (z a0 a1 a2 a3 a4 a5 a6 a7 a8 : FVec Ideal S4x64x64x3072 .f32) (v : FVec Ideal S4x4096x3072 .f32) (l : Fin 4) (r : Fin 4096) (q : Fin 3072) :
    addf (F := Ideal) (shapeCast S4x4096x3072 (addf (addf (addf (addf (addf (addf (addf (addf (addf z a0) a1) a2) a3) a4) a5) a6) a7) a8) shapeCasts_S4x64x64x3072_S4x4096x3072) v (ix3 l r q)
      = (fun y : S4x64x64x3072.Idx => z y + a0 y + a1 y + a2 y + a3 y + a4 y + a5 y + a6 y + a7 y + a8 y) (ix4 l ⟨r.val / 64, by omega⟩ ⟨r.val % 64, by omega⟩ q) + v (ix3 l r q) := by
  pointwise

theorem zeros_apply (y : S4x64x64x3072.Idx) : (broadcastInDim S4x64x64x3072 ![] bcast_S_S4x64x64x3072 (constant (F := Ideal) S_ .f32 0x00000000#32) : FVec Ideal S4x64x64x3072 .f32) y = 0 := by
  pointwise

theorem bias_apply (l : Fin 4) (r : Fin 4096) (q : Fin 3072) :
    (broadcastInDim S4x4096x3072 ![0, 1, 2] bcast_S1x1x3072_S4x4096x3072_0_1_2 (broadcastInDim S1x1x3072 ![2] bcast_S3072_S1x1x3072_2 (extractStridedSlice S3072 ![1536] b slices_S4608_S3072_1536)) : FVec Ideal S4x4096x3072 .f32) (ix3 l r q)
      = b (ix1 ⟨1536 + q.val, by omega⟩) := by
  pointwise

/-- Sample `l`, token `r`, channel `q` of the result. -/
def entry (l : Fin 4) (r : Fin 4096) (q : Fin 3072) : EReal :=
  conv (plane p l q) (taps w q) (b (ix1 ⟨1536 + q.val, by omega⟩)) ⟨r.val / 64, by omega⟩ ⟨r.val % 64, by omega⟩

theorem result_apply (l : Fin 4) (r : Fin 4096) (q : Fin 3072) : result p w b (ix3 l r q) = entry p w b l r q := by
  unfold entry conv result
  rw [sum_apply, bias_apply]
  dsimp only
  rw [zeros_apply, shifted_apply p w 0 0 ![0, 0, 0, 0] rfl _ ![0, 0, 0] rfl, shifted_apply p w 0 1 ![0, 0, 1, 0] rfl _ ![0, 1, 0] rfl, shifted_apply p w 0 2 ![0, 0, 2, 0] rfl _ ![0, 2, 0] rfl,
    shifted_apply p w 1 0 ![0, 1, 0, 0] rfl _ ![1, 0, 0] rfl, shifted_apply p w 1 1 ![0, 1, 1, 0] rfl _ ![1, 1, 0] rfl, shifted_apply p w 1 2 ![0, 1, 2, 0] rfl _ ![1, 2, 0] rfl,
    shifted_apply p w 2 0 ![0, 2, 0, 0] rfl _ ![2, 0, 0] rfl, shifted_apply p w 2 1 ![0, 2, 1, 0] rfl _ ![2, 1, 0] rfl, shifted_apply p w 2 2 ![0, 2, 2, 0] rfl _ ![2, 2, 0] rfl]
  simp only [Fin.sum_univ_three, zero_add, add_assoc]

/-- The result. -/
theorem result_eq : result p w b = fun y : S4x4096x3072.Idx => entry p w b (y 0) (y 1) (y 2) := by
  funext (y : S4x4096x3072.Idx)
  idx_vars y
  exact result_apply p w b y0 y1 y2

end Cert.Reference5Ideal.ConvRef

end
-- ==== Proof.ConvRun.lean ====
/- The output array of the short convolution: every point's block of the convolution, and that the blocks cover it. -/
module

public import proofs.«01_k».proof.Proof.Gen.Kernel5Ideal.Value
public import proofs.«01_k».proof.Proof.ConvPoint
public import proofs.«01_k».proof.Proof.ConvRef

@[expose] public section

set_option maxRecDepth 16384

noncomputable section

namespace Cert.Kernel5Ideal.ConvRun

open Cert.Kernel5Ideal Cert.Kernel5Ideal.Gen Idealize.ShloMosaic Idealize.ShloMosaic.TcCoe Idealize.ShloMosaic.Tactic Idealize.SL.Sem
open Idealize.ShloMosaic.Pipeline (Dat)
open Cert.ConvSpec ConvPoint

variable (m : (ℓ : Loc nD τ sig) → Buf (Elt Ideal) ℓ) (c : Dev nD)

/-! ## The arguments -/

abbrev argP : FVec Ideal S4x4096x6400 .bf16 := m ((c : Thread nD τ).loc main_arg0)
abbrev argW : FVec Ideal S3x3x4608 .f32 := m ((c : Thread nD τ).loc main_arg1)
abbrev argB : FVec Ideal S4608 .f32 := m ((c : Thread nD τ).loc main_arg2)

/-- Sample `l`, row `r`, channel `q` of the convolution of the arguments. -/
abbrev entry (l : Fin 4) (r : Fin 4096) (q : Fin 3072) : EReal := Cert.Reference5Ideal.ConvRef.entry (argP m c) (argW m c) (argB m c) l r q

/-- The bias, laid out as one row. -/
theorem V_bias (q : Fin 4608) : (V m c main_v0 : FVec Ideal S1x4608 .f32) (ix2 0 q) = argB m c (ix1 q) := by
  have e : (V m c main_v0 : FVec Ideal S1x4608 .f32) = shapeCast S1x4608 (argB m c) shapeCasts_S4608_S1x4608 := by
    show StableHlo.after hostOps0 _ (Proc.devRef .tc main_v0) = _
    after_results
    rfl
  rw [e]
  pointwise

/-! ## The blocks a point reads -/

theorem lt24 (t : Fin cfg0.N) : t.val < 24 := lt_of_lt_of_eq t.isLt N_0

theorem index_0 : ∀ t : Fin grid0.N, win0_0.index t = ![t.val / 6, 0, 4 + t.val % 6] := by decide +kernel
theorem index_1 : ∀ t : Fin grid0.N, win0_1.index t = ![0, 0, 3 + t.val % 6] := by decide +kernel
theorem index_2 : ∀ t : Fin grid0.N, win0_2.index t = ![0, 3 + t.val % 6] := by decide +kernel
theorem index_3 : ∀ t : Fin grid0.N, win0_3.index t = ![t.val / 6, 0, t.val % 6] := by decide +kernel

theorem blk_0 (t : Fin cfg0.N) (r : Fin 4096) (q : Fin 512) : (X0_0 m c t : FVec Ideal S1x4096x512 .bf16) (ix3 0 r q)
    = argP m c (ix3 ⟨t.val / 6, by have := lt24 t; omega⟩ r ⟨2048 + (512 * (t.val % 6) + q.val), by omega⟩) := by
  have hi := index_0 t
  rw [← show V m c main_arg0 = argP m c from V_main_arg0 m c]
  unfold X0_0 Pipeline.Window.fill
  refine (dif_pos (moved0_0 t (ix3 0 r q : S1x4096x512.Idx))).trans ?_
  unfold iblk
  rw [View.read_apply]
  show V m c main_arg0 _ = V m c main_arg0 _
  congr 1
  funext a
  apply Fin.ext
  match a with
  | ⟨0, _⟩ => show win0_0.index t 0 * 1 + 1 * 0 = t.val / 6; rw [show win0_0.index t 0 = t.val / 6 from congrFun hi 0]; omega
  | ⟨1, _⟩ => show win0_0.index t 1 * 4096 + 1 * r.val = r.val; rw [show win0_0.index t 1 = 0 from congrFun hi 1]; omega
  | ⟨2, _⟩ => show win0_0.index t 2 * 512 + 1 * q.val = 2048 + (512 * (t.val % 6) + q.val); rw [show win0_0.index t 2 = 4 + t.val % 6 from congrFun hi 2]; omega

theorem blk_1 (t : Fin cfg0.N) (i j : Fin 3) (q : Fin 512) : (iblk m c 1 t : FVec Ideal S3x3x512 .f32) (ix3 i j q)
    = argW m c (ix3 i j ⟨1536 + (512 * (t.val % 6) + q.val), by omega⟩) := by
  have hi := index_1 t
  rw [← show V m c main_arg1 = argW m c from V_main_arg1 m c]
  unfold iblk
  rw [View.read_apply]
  show V m c main_arg1 _ = V m c main_arg1 _
  congr 1
  funext a
  apply Fin.ext
  match a with
  | ⟨0, _⟩ => show win0_1.index t 0 * 3 + 1 * i.val = i.val; rw [show win0_1.index t 0 = 0 from congrFun hi 0]; omega
  | ⟨1, _⟩ => show win0_1.index t 1 * 3 + 1 * j.val = j.val; rw [show win0_1.index t 1 = 0 from congrFun hi 1]; omega
  | ⟨2, _⟩ => show win0_1.index t 2 * 512 + 1 * q.val = 1536 + (512 * (t.val % 6) + q.val); rw [show win0_1.index t 2 = 3 + t.val % 6 from congrFun hi 2]; omega

theorem blk_2 (t : Fin cfg0.N) (q : Fin 512) : (iblk m c 2 t : FVec Ideal S1x512 .f32) (ix2 0 q)
    = argB m c (ix1 ⟨1536 + (512 * (t.val % 6) + q.val), by omega⟩) := by
  have hi := index_2 t
  rw [← V_bias m c]
  unfold iblk
  rw [View.read_apply]
  show V m c main_v0 _ = V m c main_v0 _
  congr 1
  funext a
  apply Fin.ext
  match a with
  | ⟨0, _⟩ => show win0_2.index t 0 * 1 + 1 * 0 = 0; rw [show win0_2.index t 0 = 0 from congrFun hi 0]
  | ⟨1, _⟩ => show win0_2.index t 1 * 512 + 1 * q.val = 1536 + (512 * (t.val % 6) + q.val); rw [show win0_2.index t 1 = 3 + t.val % 6 from congrFun hi 1]; omega

/-! ## The array -/

/-- A point's block is its part of the convolution. -/
theorem block_eq (t : Fin cfg0.N) (r : Fin 4096) (q : Fin 512) :
    block (X0_0 m c t) (iblk m c 1 t) (iblk m c 2 t) (ix3 0 r q) = entry m c ⟨t.val / 6, by have := lt24 t; omega⟩ r ⟨512 * (t.val % 6) + q.val, by omega⟩ := by
  unfold block entry Cert.Reference5Ideal.ConvRef.entry
  have e0 : (fun r s : Fin 64 => (X0_0 m c t : FVec Ideal S1x4096x512 .bf16) (ix3 0 ⟨64 * r.val + s.val, by omega⟩ q))
      = Cert.Reference5Ideal.ConvRef.plane (argP m c) ⟨t.val / 6, by have := lt24 t; omega⟩ ⟨512 * (t.val % 6) + q.val, by omega⟩ :=
    funext fun r => funext fun s => blk_0 m c t _ q
  have e1 : (fun i j : Fin 3 => (iblk m c 1 t : FVec Ideal S3x3x512 .f32) (ix3 i j q))
      = Cert.Reference5Ideal.ConvRef.taps (argW m c) ⟨512 * (t.val % 6) + q.val, by omega⟩ :=
    funext fun i => funext fun j => blk_1 m c t i j q
  refine (congrArg (fun u => conv u _ _ _ _) e0).trans ?_
  refine (congrArg (fun u => conv _ u _ _ _) e1).trans ?_
  exact congrArg (fun u => conv _ _ u _ _) (blk_2 m c t q)

/-- Where a block lies. -/
theorem emb_3 (t : Fin cfg0.N) (l : Fin 1) (r : Fin 4096) (q : Fin 512) : ((cfg0.win 3).blk t).view.emb (ix3 l r q : S1x4096x512.Idx)
    = (ix3 ⟨t.val / 6, by have := lt24 t; omega⟩ r ⟨512 * (t.val % 6) + q.val, by omega⟩ : S4x4096x3072.Idx) := by
  have hi := index_3 t
  funext a
  apply Fin.ext
  match a with
  | ⟨0, _⟩ => show win0_3.index t 0 * 1 + 1 * l.val = t.val / 6; rw [show win0_3.index t 0 = t.val / 6 from congrFun hi 0]; omega
  | ⟨1, _⟩ => show win0_3.index t 1 * 4096 + 1 * r.val = r.val; rw [show win0_3.index t 1 = 0 from congrFun hi 1]; omega
  | ⟨2, _⟩ => show win0_3.index t 2 * 512 + 1 * q.val = 512 * (t.val % 6) + q.val; rw [show win0_3.index t 2 = t.val % 6 from congrFun hi 2]; omega

/-- The convolution's array. -/
theorem arr_3 : (dats m 0 c).arrAt 3 cfg0.N = fun y : S4x4096x3072.Idx => entry m c (y 0) (y 1) (y 2) := by
  refine (dats m 0 c).arrAt_eq_of_cover 3 _ (fun t _ => ?_) (fun i => ?_)
  · rw [Value.flushed3_A, out_eq]
    funext (y : S1x4096x512.Idx)
    rw [View.read_apply]
    idx_vars y
    obtain rfl : y0 = 0 := Subsingleton.elim _ _
    refine Eq.trans ?_ (congrArg (fun y : S4x4096x3072.Idx => entry m c (y 0) (y 1) (y 2)) (emb_3 t 0 y1 y2)).symm
    exact block_eq m c t y1 y2
  · let l : Fin 4 := i 0
    let q : Fin 3072 := i 2
    have hl := l.isLt
    have hq := q.isLt
    let t : Fin cfg0.N := ⟨6 * l.val + q.val / 512, lt_of_lt_of_eq (by omega) N_0.symm⟩
    refine ⟨t, flush0_3 t, ?_⟩
    have e : ((cfg0.win 3).blk t).view.emb (ix3 0 (i 1) ⟨q.val % 512, by omega⟩ : S1x4096x512.Idx) = i := by
      refine (emb_3 t _ _ _).trans ?_
      funext a
      apply Fin.ext
      match a with
      | ⟨0, _⟩ => show (6 * l.val + q.val / 512) / 6 = l.val; omega
      | ⟨1, _⟩ => rfl
      | ⟨2, _⟩ => show 512 * ((6 * l.val + q.val / 512) % 6) + q.val % 512 = q.val; omega
    rw [← e]
    exact View.emb_mem_set _ _

end Cert.Kernel5Ideal.ConvRun

end
-- ==== Proof.ConvClaim.lean ====
/- The claims about the short convolution: both kernels' and the reference's frames, and that over the extended reals the kernel
   and the reference end with the same array. -/
module

public import proofs.«01_k».proof.Defs
public import proofs.«01_k».proof.Proof.Gen.Kernel5.Frame
public import proofs.«01_k».proof.Proof.Gen.Reference5Ideal.Run
public import proofs.«01_k».proof.Proof.ConvRun
public import proofs.«01_k».proof.Proof.ConvRef
public import Idealize.ShloMosaic.Adequacy
public import Idealize.ShloMosaic.Init

@[expose] public section

set_option maxRecDepth 16384

noncomputable section

namespace Cert.ConvClaim

open Idealize.ShloMosaic Idealize.SL.Sem

/-- The kernel's frame. -/
theorem frame_P : @Cert.quiescent_Kernel5 Cert.Kernel5.Gen.facts := fun m ρ _ => Cert.Kernel5.Gen.frame m ρ

/-- The ideal kernel's frame. -/
theorem frame_PI : @Cert.quiescent_Kernel5Ideal Cert.Kernel5Ideal.Gen.facts := fun m ρ _ => Cert.Kernel5Ideal.Gen.frame m ρ

/-- The reference's frame. -/
theorem frame_RI : @Cert.quiescent_Reference5Ideal Cert.Reference5Ideal.Gen.facts := fun m ρ _ =>
  (θ_run Cert.Reference5Ideal.defs _ _).mono
    (fun r h => ⟨fun c => (h c).2, Idealize.ShloMosaic.sem_eq_zero_of_no_sems (by decide) r.2⟩) (Cert.Reference5Ideal.Value.run (F := Ideal) m ρ)

/-- The kernel's array is the reference's. -/
theorem algebraic : @Cert.algebraic_Kernel5Ideal_Reference5Ideal Cert.Kernel5Ideal.Gen.facts Cert.Reference5Ideal.Gen.facts := by
  intro m ρ m' ρ' _ hagree
  refine ⟨_, (θ_run Cert.Kernel5Ideal.defs _ _).mono (fun _ h => h) (Cert.Kernel5Ideal.Value.run_blocks (F := Ideal) m ρ), ?_⟩
  refine (θ_run Cert.Reference5Ideal.defs _ _).mono (fun r h c => ?_) (Cert.Reference5Ideal.Value.run (F := Ideal) m' ρ')
  obtain ⟨h0, ha⟩ := h c
  obtain ⟨g0, g1, g2⟩ := hagree c
  unfold Cert.Reference5Ideal.Value.res_main_v73 at h0
  rw [g0, g1, g2] at h0
  exact ⟨(h0.trans (Cert.Reference5Ideal.ConvRef.result_eq _ _ _)).trans (Cert.Kernel5Ideal.ConvRun.arr_3 m c).symm, ha⟩

end Cert.ConvClaim

end
-- ==== Proof.FiltSpec.lean ====
/- The Hyena filters as mathematics over the extended reals: a small network with sines on every lag's embedding, decaying windows,
   the two directions' filters, their sum and difference, and the sum that normalises them. -/
module

public import Idealize.ShloMosaic.Lib.ValueIdx
public import Idealize.ShloMosaic.PureOps.Ideal

@[expose] public section

noncomputable section

namespace Cert.FiltSpec

open Idealize.ShloMosaic

/-- The network's weights: three layers of 64 with biases, the output layer, and the sines' frequencies. -/
structure Net where
  w1 : Fin 33 → Fin 64 → EReal
  b1 : Fin 64 → EReal
  w2 : Fin 64 → Fin 64 → EReal
  b2 : Fin 64 → EReal
  w3 : Fin 64 → Fin 64 → EReal
  b3 : Fin 64 → EReal
  w4 : Fin 64 → Fin 2048 → EReal
  freq : Fin 64 → EReal

/-- One layer. -/
def layer {n : ℕ} (w : Fin n → Fin 64 → EReal) (b freq : Fin 64 → EReal) (h : Fin n → EReal) (k : Fin 64) : EReal :=
  Ideal.sin (freq k * ((∑ i, h i * w i k) + b k))

/-- The network's output on one embedding. -/
def out (N : Net) (z : Fin 33 → EReal) (q : Fin 2048) : EReal :=
  ∑ k, layer N.w3 N.b3 N.freq (layer N.w2 N.b2 N.freq (layer N.w1 N.b1 N.freq z)) k * N.w4 k q

/-- The window at the lag `t`. -/
def window (t δ : EReal) : EReal := Ideal.exp (-t * max δ (-δ))

/-- The forward filters: order and channel `q`, at the lag embedded by `z`. -/
def fwd (N : Net) (δ : Fin 512 → EReal) (z : Fin 33 → EReal) (q : Fin 1024) : EReal :=
  out N z ⟨q.val, by omega⟩ * window (z 0) (δ ⟨q.val % 512, by omega⟩)

/-- The backward filters at lag `r`, without the lag zero. -/
def bwd (N : Net) (δ : Fin 512 → EReal) (r : ℕ) (z : Fin 33 → EReal) (q : Fin 1024) : EReal :=
  if 0 < r then out N z ⟨1024 + q.val, by omega⟩ * window (z 0) (δ ⟨q.val % 512, by omega⟩) else 0

/-- The taps at lag `r`: both orders' sums, then both orders' differences. -/
def taps (N : Net) (δ : Fin 512 → EReal) (r : ℕ) (z : Fin 33 → EReal) (a : Fin 4) (q : Fin 512) : EReal :=
  if a.val < 2 then fwd N δ z ⟨512 * (a.val % 2) + q.val, by omega⟩ + bwd N δ r z ⟨512 * (a.val % 2) + q.val, by omega⟩
  else fwd N δ z ⟨512 * (a.val % 2) + q.val, by omega⟩ - bwd N δ r z ⟨512 * (a.val % 2) + q.val, by omega⟩

/-- A lag's part of the normalising sum. -/
def mass (N : Net) (δ : Fin 512 → EReal) (r : ℕ) (z : Fin 33 → EReal) (q : Fin 1024) : EReal :=
  max (fwd N δ z q) (-fwd N δ z q) + max (bwd N δ r z q) (-bwd N δ r z q)

end Cert.FiltSpec

end
-- ==== Proof.FiltPay.lean ====
/- What one point of the Hyena filters computes from its blocks, entry by entry. -/
module

public import proofs.«01_k».proof.Proof.Gen.Kernel6Ideal.Frame
public import proofs.«01_k».proof.Proof.FiltSpec
public import Idealize.ShloMosaic.Lib.Pointwise

@[expose] public section

set_option maxRecDepth 16384

noncomputable section

namespace Cert.Kernel6Ideal.FiltPay

open Cert.Kernel6Ideal Cert.Kernel6Ideal.Gen Idealize.ShloMosaic Idealize.ShloMosaic.TcCoe Idealize.ShloMosaic.Tactic Idealize.SL.Sem
open Cert.FiltSpec

variable (z : FVec Ideal S512x33 .f32) (w1 : FVec Ideal S33x64 .f32) (b1 : FVec Ideal S1x64 .f32) (w2 : FVec Ideal S64x64 .f32) (b2 : FVec Ideal S1x64 .f32)
  (w3 : FVec Ideal S64x64 .f32) (b3 : FVec Ideal S1x64 .f32) (w4 : FVec Ideal S64x2048 .f32) (fr : FVec Ideal S1x64 .f32) (δ : FVec Ideal S1x512 .f32)

/-- The blocks' network. -/
def net : Net where
  w1 := fun i k => w1 (ix2 i k)
  b1 := fun k => b1 (ix2 0 k)
  w2 := fun i k => w2 (ix2 i k)
  b2 := fun k => b2 (ix2 0 k)
  w3 := fun i k => w3 (ix2 i k)
  b3 := fun k => b3 (ix2 0 k)
  w4 := fun k q => w4 (ix2 k q)
  freq := fun k => fr (ix2 0 k)

abbrev lag (r : Fin 512) : Fin 33 → EReal := fun i => z (ix2 r i)
abbrev rate : Fin 512 → EReal := fun q => δ (ix2 0 q)

theorem pay5_apply (r : Fin 512) (q : Fin 2048) : k0_pay5 (F := Ideal) z fr w1 b1 w2 b2 w3 b3 w4 (ix2 r q) = out (net w1 b1 w2 b2 w3 b3 w4 fr) (lag z r) q := by
  pointwise [k0_pay5, k0_pay4, out, layer, net]

theorem pay6_apply (r : Fin 512) : k0_pay6 (F := Ideal) z (ix2 r 0) = -z (ix2 r 0) := by
  pointwise [k0_pay6, k0_pay4]
  exact zero_sub _

variable (h : FVec Ideal S512x2048 .f32) (t : FVec Ideal S512x1 .f32)

theorem pay7_apply (r : Fin 512) (q : Fin 1024) : k0_pay7 (F := Ideal) t δ (ix2 r q)
    = Ideal.exp (t (ix2 r 0) * max (δ (ix2 0 ⟨q.val % 512, by omega⟩)) (-δ (ix2 0 ⟨q.val % 512, by omega⟩))) := by
  pointwise [k0_pay7]
  by_cases hq : q.val < 512
  · rw [dif_pos hq]
    have e : q.val % 512 = q.val := by omega
    simp only [e]
    rfl
  · rw [dif_neg hq]
    have e : q.val % 512 = q.val - 512 := by omega
    simp only [e]
    rfl

theorem pay8_apply (r : Fin 512) (q : Fin 1024) : k0_pay8 (F := Ideal) h t δ (ix2 r q) = h (ix2 r ⟨q.val, by omega⟩) * k0_pay7 (F := Ideal) t δ (ix2 r q) := by
  pointwise [k0_pay8]

/-- The first lag's switch. -/
theorem switch (i : Fin 8) (r : Fin 512) : IntOp.cmpi CmpIPredicate.sgt (BitVec.ofNat 32 r.val + BitVec.ofNat 32 i.val * 512#32) 0#32
    = if 0 < 512 * i.val + r.val then 1#1 else 0#1 := by
  revert r
  revert i
  decide +kernel

theorem pay9_apply (i : Fin 8) (r : Fin 512) (q : Fin 1024) : k0_pay9 (F := Ideal) (BitVec.ofNat 32 i.val) h t δ (ix2 r q)
    = if 0 < 512 * i.val + r.val then h (ix2 r ⟨1024 + q.val, by omega⟩) * k0_pay7 (F := Ideal) t δ (ix2 r q) else 0 := by
  pointwise [k0_pay9]
  refine (congrArg (fun p => Scalar.select p _ _) (switch i r)).trans ?_
  by_cases hr : 0 < 512 * i.val + r.val
  · rw [if_pos hr, if_pos hr]
    rfl
  · rw [if_neg hr, if_neg hr]
    rfl

theorem pay2_apply (f b : FVec Ideal S512x1024 .f32) (q : Fin 1024) : k0_pay2 (F := Ideal) f b (ix2 0 q)
    = ∑ r : Fin 512, (max (f (ix2 r q)) (-f (ix2 r q)) + max (b (ix2 r q)) (-b (ix2 r q))) := by
  pointwise [k0_pay2]
  rfl

theorem pay3_apply (f b : FVec Ideal S512x1024 .f32) (s : FVec Ideal S1x1024 .f32) (q : Fin 1024) : k0_pay3 (F := Ideal) f b s (ix2 0 q)
    = s (ix2 0 q) + k0_pay2 (F := Ideal) f b (ix2 0 q) := by
  pointwise [k0_pay3]

variable (i : BitVec 32) (r q : Fin 512)

theorem pay12_apply : k0_pay12 (F := Ideal) i h t δ (ix3 0 r q)
    = k0_pay8 (F := Ideal) h t δ (ix2 r ⟨q.val, by omega⟩) + k0_pay9 (F := Ideal) i h t δ (ix2 r ⟨q.val, by omega⟩) := by
  pointwise [k0_pay12, k0_pay10]

theorem pay13_apply : k0_pay13 (F := Ideal) i h t δ (ix3 0 r q)
    = k0_pay8 (F := Ideal) h t δ (ix2 r ⟨q.val, by omega⟩) - k0_pay9 (F := Ideal) i h t δ (ix2 r ⟨q.val, by omega⟩) := by
  pointwise [k0_pay13, k0_pay11]

theorem pay14_apply : k0_pay14 (F := Ideal) i h t δ (ix3 0 r q)
    = k0_pay8 (F := Ideal) h t δ (ix2 r ⟨512 + q.val, by omega⟩) + k0_pay9 (F := Ideal) i h t δ (ix2 r ⟨512 + q.val, by omega⟩) := by
  pointwise [k0_pay14, k0_pay10]

theorem pay15_apply : k0_pay1 (F := Ideal) (k0_pay15 (F := Ideal) i h t δ) (ix3 0 r q)
    = k0_pay8 (F := Ideal) h t δ (ix2 r ⟨512 + q.val, by omega⟩) - k0_pay9 (F := Ideal) i h t δ (ix2 r ⟨512 + q.val, by omega⟩) := by
  pointwise [k0_pay1, k0_pay15, k0_pay11]

end Cert.Kernel6Ideal.FiltPay

end
-- ==== Proof.FiltPoint.lean ====
/- What one point of the Hyena filters leaves: its block of the taps, and the normalising sum with its lags added. -/
module

public import proofs.«01_k».proof.Proof.FiltPay
public import Idealize.ShloMosaic.Lib.Pipeline.Value

@[expose] public section

set_option maxRecDepth 16384

noncomputable section

namespace Cert.Kernel6Ideal.FiltPoint

open Cert.Kernel6Ideal Cert.Kernel6Ideal.Gen Idealize.ShloMosaic Idealize.ShloMosaic.TcCoe Idealize.ShloMosaic.Tactic Idealize.SL.Sem
open Cert.FiltSpec FiltPay

theorem hz2 : (![0, 0] : Fin 2 → Nat) = fun _ => 0 := funext fun a => by fin_cases a <;> rfl

variable (z : FVec Ideal S512x33 .f32) (w1 : FVec Ideal S33x64 .f32) (b1 : FVec Ideal S1x64 .f32) (w2 : FVec Ideal S64x64 .f32) (b2 : FVec Ideal S1x64 .f32)
  (w3 : FVec Ideal S64x64 .f32) (b3 : FVec Ideal S1x64 .f32) (w4 : FVec Ideal S64x2048 .f32) (fr : FVec Ideal S1x64 .f32) (δ : FVec Ideal S1x512 .f32)

/-! ## The filters of a block of lags -/

/-- The taps of block `n` of the lags. -/
def tapsBlock (n : Fin 8) (y : S4x512x512.Idx) : EReal :=
  taps (net w1 b1 w2 b2 w3 b3 w4 fr) (rate δ) (512 * n.val + (y 1).val) (lag z (y 1)) (y 0) (y 2)

/-- Its part of the normalising sum. -/
def massRow (n : Fin 8) (q : Fin 1024) : EReal := ∑ r : Fin 512, mass (net w1 b1 w2 b2 w3 b3 w4 fr) (rate δ) (512 * n.val + r.val) (lag z r) q

/-- The point's forward filters. -/
abbrev forward : FVec Ideal S512x1024 .f32 := k0_pay8 (F := Ideal) (k0_pay5 (F := Ideal) z fr w1 b1 w2 b2 w3 b3 w4) (k0_pay6 (F := Ideal) z) δ
/-- The point's backward filters. -/
abbrev backward (n : BitVec 32) : FVec Ideal S512x1024 .f32 := k0_pay9 (F := Ideal) n (k0_pay5 (F := Ideal) z fr w1 b1 w2 b2 w3 b3 w4) (k0_pay6 (F := Ideal) z) δ

theorem forward_apply (r : Fin 512) (q : Fin 1024) : forward z w1 b1 w2 b2 w3 b3 w4 fr δ (ix2 r q) = fwd (net w1 b1 w2 b2 w3 b3 w4 fr) (rate δ) (lag z r) q := by
  unfold forward
  rw [pay8_apply, pay5_apply, pay7_apply, pay6_apply]
  rfl

theorem backward_apply (n : Fin 8) (r : Fin 512) (q : Fin 1024) : backward z w1 b1 w2 b2 w3 b3 w4 fr δ (BitVec.ofNat 32 n.val) (ix2 r q)
    = bwd (net w1 b1 w2 b2 w3 b3 w4 fr) (rate δ) (512 * n.val + r.val) (lag z r) q := by
  unfold backward
  rw [pay9_apply, pay5_apply, pay7_apply, pay6_apply]
  rfl

theorem taps_sum (n : Fin 8) (a : Fin 4) (ha : a.val < 2) (r q : Fin 512) (k : Fin 1024) (hk : k.val = 512 * (a.val % 2) + q.val) :
    forward z w1 b1 w2 b2 w3 b3 w4 fr δ (ix2 r k) + backward z w1 b1 w2 b2 w3 b3 w4 fr δ (BitVec.ofNat 32 n.val) (ix2 r k) = tapsBlock z w1 b1 w2 b2 w3 b3 w4 fr δ n (ix3 a r q) := by
  rw [forward_apply, backward_apply]
  have hb : 512 * (a.val % 2) + q.val < 1024 := by omega
  obtain rfl : k = ⟨512 * (a.val % 2) + q.val, hb⟩ := Fin.ext hk
  exact (if_pos ha).symm

theorem taps_diff (n : Fin 8) (a : Fin 4) (ha : ¬a.val < 2) (r q : Fin 512) (k : Fin 1024) (hk : k.val = 512 * (a.val % 2) + q.val) :
    forward z w1 b1 w2 b2 w3 b3 w4 fr δ (ix2 r k) - backward z w1 b1 w2 b2 w3 b3 w4 fr δ (BitVec.ofNat 32 n.val) (ix2 r k) = tapsBlock z w1 b1 w2 b2 w3 b3 w4 fr δ n (ix3 a r q) := by
  rw [forward_apply, backward_apply]
  have hb : 512 * (a.val % 2) + q.val < 1024 := by omega
  obtain rfl : k = ⟨512 * (a.val % 2) + q.val, hb⟩ := Fin.ext hk
  exact (if_neg ha).symm

theorem mass_apply (n : Fin 8) (q : Fin 1024) : k0_pay2 (F := Ideal) (forward z w1 b1 w2 b2 w3 b3 w4 fr δ) (backward z w1 b1 w2 b2 w3 b3 w4 fr δ (BitVec.ofNat 32 n.val)) (ix2 0 q)
    = massRow z w1 b1 w2 b2 w3 b3 w4 fr δ n q := by
  rw [pay2_apply]
  refine Finset.sum_congr rfl fun r _ => ?_
  rw [forward_apply, backward_apply]
  rfl

/-! ## The stores -/

theorem inb (a : Fin 4) : ∀ d, (![a.val, 0, 0] : Fin 3 → Nat) d + S1x512x512.size d ≤ S4x512x512.size d := fun d => by
  match d with
  | ⟨0, _⟩ => show a.val + 1 ≤ 4; omega
  | ⟨1, _⟩ => show 0 + 512 ≤ 512; omega
  | ⟨2, _⟩ => show 0 + 512 ≤ 512; omega

/-- A store of one order's taps. -/
def piece (a : Fin 4) (v : FVec Ideal S1x512x512 .bf16) : View.Piece (Elt Ideal) S4x512x512 .bf16 :=
  ⟨Rect.unit (s := S4x512x512) ![a.val, 0, 0] S1x512x512.size (inb a), v⟩

theorem piece_eq (a : Fin 4) (v : FVec Ideal S1x512x512 .bf16) (G : S4x512x512.Idx → EReal) (hv : ∀ r q : Fin 512, v (ix3 0 r q) = G (ix3 a r q))
    (y : S1x512x512.Idx) : (piece a v).2 y = G ((piece a v).1.emb y) := by
  idx_vars y
  obtain rfl : y0 = 0 := Subsingleton.elim _ _
  refine (hv y1 y2).trans (congrArg G (funext fun d => Fin.ext ?_))
  match d with
  | ⟨0, _⟩ => show a.val = a.val + 1 * 0; omega
  | ⟨1, _⟩ => show y1.val = 0 + 1 * y1.val; omega
  | ⟨2, _⟩ => show y2.val = 0 + 1 * y2.val; omega

/-- A point's four stores, the latest first. -/
def pieces (n : BitVec 32) (h : FVec Ideal S512x2048 .f32) (t : FVec Ideal S512x1 .f32) : List (View.Piece (Elt Ideal) S4x512x512 .bf16) :=
  [piece 3 (k0_pay1 (F := Ideal) (k0_pay15 (F := Ideal) n h t δ)), piece 1 (k0_pay14 (F := Ideal) n h t δ),
    piece 2 (k0_pay13 (F := Ideal) n h t δ), piece 0 (k0_pay12 (F := Ideal) n h t δ)]

theorem pieces_eq (n : Fin 8) (p : View.Piece (Elt Ideal) S4x512x512 .bf16)
    (hp : p ∈ pieces δ (BitVec.ofNat 32 n.val) (k0_pay5 (F := Ideal) z fr w1 b1 w2 b2 w3 b3 w4) (k0_pay6 (F := Ideal) z)) (y : p.1.shape.Idx) :
    p.2 y = tapsBlock z w1 b1 w2 b2 w3 b3 w4 fr δ n (p.1.emb y) := by
  unfold pieces at hp
  simp only [List.mem_cons, List.not_mem_nil, or_false] at hp
  rcases hp with rfl | rfl | rfl | rfl
  · exact piece_eq _ _ _ (fun r q => (pay15_apply _ _ _ _ r q).trans (taps_diff z w1 b1 w2 b2 w3 b3 w4 fr δ n 3 (by decide) r q _ rfl)) y
  · exact piece_eq _ _ _ (fun r q => (pay14_apply _ _ _ _ r q).trans (taps_sum z w1 b1 w2 b2 w3 b3 w4 fr δ n 1 (by decide) r q _ rfl)) y
  · exact piece_eq _ _ _ (fun r q => (pay13_apply _ _ _ _ r q).trans (taps_diff z w1 b1 w2 b2 w3 b3 w4 fr δ n 2 (by decide) r q _ (by show q.val = 0 + q.val; omega))) y
  · exact piece_eq _ _ _ (fun r q => (pay12_apply _ _ _ _ r q).trans (taps_sum z w1 b1 w2 b2 w3 b3 w4 fr δ n 0 (by decide) r q _ (by show q.val = 0 + q.val; omega))) y

/-! ## The points -/

variable (c : Dev nD) (i : grid0.Coords) (a1 : Memref sig .tc .vmem S512x33 .f32) (h1 : a1.IsWhole)
  (a2 : Memref sig .tc .vmem S33x64 .f32) (h2 : a2.IsWhole)
  (a3 : Memref sig .tc .vmem S1x64 .f32) (h3 : a3.IsWhole)
  (a4 : Memref sig .tc .vmem S64x64 .f32) (h4 : a4.IsWhole)
  (a5 : Memref sig .tc .vmem S1x64 .f32) (h5 : a5.IsWhole)
  (a6 : Memref sig .tc .vmem S64x64 .f32) (h6 : a6.IsWhole)
  (a7 : Memref sig .tc .vmem S1x64 .f32) (h7 : a7.IsWhole)
  (a8 : Memref sig .tc .vmem S64x2048 .f32) (h8 : a8.IsWhole)
  (a9 : Memref sig .tc .vmem S1x64 .f32) (h9 : a9.IsWhole)
  (a10 : Memref sig .tc .vmem S1x512 .f32) (h10 : a10.IsWhole)
  (a11 : Memref sig .tc .vmem S4x512x512 .bf16) (h11 : a11.IsWhole)
  (a12 : Memref sig .tc .vmem S1x1024 .f32) (h12 : a12.IsWhole) (xo : FVec Ideal S1x1024 .f32)

abbrev num (i : grid0.Coords) : Fin 8 := i 0

/-- The first point: its taps. -/
theorem taps_A (hc0 : cond0_0 i) (hc1 : ¬cond0_1 i) : out0_A_10 (F := Ideal) c i a1 h1 a2 h2 a3 h3 a4 h4 a5 h5 a6 h6 a7 h7 a8 h8 a9 h9 a10 h10 a11 h11 a12 h12 hc0 hc1 z w1 b1 w2 b2 w3 b3 w4 fr δ = tapsBlock z w1 b1 w2 b2 w3 b3 w4 fr δ (num i) := by
  have e : (kernelRun0_A (F := Ideal) c i a1 h1 a2 h2 a3 h3 a4 h4 a5 h5 a6 h6 a7 h7 a8 h8 a9 h9 a10 h10 a11 h11 a12 h12 hc0 hc1 z w1 b1 w2 b2 w3 b3 w4 fr δ).1
      = pieces δ (BitVec.ofNat 32 (num i).val) (k0_pay5 (F := Ideal) z fr w1 b1 w2 b2 w3 b3 w4) (k0_pay6 (F := Ideal) z) := by
    unfold kernelRun0_A
    dsimp only
    sl_unfold_words
    simp only [View.readAt_eq_ld, h1.read_unread, h2.read_unread, h3.read_unread, h4.read_unread, h5.read_unread, h6.read_unread, h7.read_unread, h8.read_unread, h9.read_unread, h10.read_unread,
    View.ld_unit_zero (S := S512x33) hz2, View.ld_unit_zero (S := S33x64) hz2, View.ld_unit_zero (S := S1x64) hz2, View.ld_unit_zero (S := S64x64) hz2, View.ld_unit_zero (S := S64x2048) hz2, View.ld_unit_zero (S := S1x512) hz2]
    rfl
  unfold out0_A_10
  rw [View.read_writes_eq_canon _ _ _ (cover0_A_10 (F := Ideal) c i a1 h1 a2 h2 a3 h3 a4 h4 a5 h5 a6 h6 a7 h7 a8 h8 a9 h9 a10 h10 a11 h11 a12 h12 hc0 hc1 z w1 b1 w2 b2 w3 b3 w4 fr δ)]
  funext y
  refine View.canon_apply_of_pieces (tapsBlock z w1 b1 w2 b2 w3 b3 w4 fr δ (num i)) _ (fun p hp y => ?_) y (cover0_A_10 (F := Ideal) c i a1 h1 a2 h2 a3 h3 a4 h4 a5 h5 a6 h6 a7 h7 a8 h8 a9 h9 a10 h10 a11 h11 a12 h12 hc0 hc1 z w1 b1 w2 b2 w3 b3 w4 fr δ y)
  rw [e] at hp
  exact pieces_eq z w1 b1 w2 b2 w3 b3 w4 fr δ (num i) p hp y

/-- The first point: the normalising sum. -/
theorem norm_A (hc0 : cond0_0 i) (hc1 : ¬cond0_1 i) (q : Fin 1024) : out0_A_11 (F := Ideal) c i a1 h1 a2 h2 a3 h3 a4 h4 a5 h5 a6 h6 a7 h7 a8 h8 a9 h9 a10 h10 a11 h11 a12 h12 hc0 hc1 z w1 b1 w2 b2 w3 b3 w4 fr δ (ix2 0 q) = massRow z w1 b1 w2 b2 w3 b3 w4 fr δ (num i) q := by
  refine Eq.trans (congrFun (?_ : _ = k0_pay2 (F := Ideal) (forward z w1 b1 w2 b2 w3 b3 w4 fr δ) (backward z w1 b1 w2 b2 w3 b3 w4 fr δ (BitVec.ofNat 32 (num i).val))) (ix2 0 q)) ?_
  · unfold out0_A_11
    rw [View.read_writes_eq_canon _ _ _ (cover0_A_11 (F := Ideal) c i a1 h1 a2 h2 a3 h3 a4 h4 a5 h5 a6 h6 a7 h7 a8 h8 a9 h9 a10 h10 a11 h11 a12 h12 hc0 hc1 z w1 b1 w2 b2 w3 b3 w4 fr δ)]
    unfold kernelRun0_A
    dsimp only
    sl_unfold_words
    rw [View.canon_unit_zero hz2]
    simp only [View.readAt_eq_ld, h1.read_unread, h2.read_unread, h3.read_unread, h4.read_unread, h5.read_unread, h6.read_unread, h7.read_unread, h8.read_unread, h9.read_unread, h10.read_unread,
    View.ld_unit_zero (S := S512x33) hz2, View.ld_unit_zero (S := S33x64) hz2, View.ld_unit_zero (S := S1x64) hz2, View.ld_unit_zero (S := S64x64) hz2, View.ld_unit_zero (S := S64x2048) hz2, View.ld_unit_zero (S := S1x512) hz2]
  · exact mass_apply z w1 b1 w2 b2 w3 b3 w4 fr δ (num i) q

/-- A later point: its taps. -/
theorem taps_B (hc0 : ¬cond0_0 i) (hc1 : cond0_1 i) : out0_B_10 (F := Ideal) c i a1 h1 a2 h2 a3 h3 a4 h4 a5 h5 a6 h6 a7 h7 a8 h8 a9 h9 a10 h10 a11 h11 a12 h12 hc0 hc1 z w1 b1 w2 b2 w3 b3 w4 fr δ xo = tapsBlock z w1 b1 w2 b2 w3 b3 w4 fr δ (num i) := by
  have e : (kernelRun0_B (F := Ideal) c i a1 h1 a2 h2 a3 h3 a4 h4 a5 h5 a6 h6 a7 h7 a8 h8 a9 h9 a10 h10 a11 h11 a12 h12 hc0 hc1 z w1 b1 w2 b2 w3 b3 w4 fr δ xo).1
      = pieces δ (BitVec.ofNat 32 (num i).val) (k0_pay5 (F := Ideal) z fr w1 b1 w2 b2 w3 b3 w4) (k0_pay6 (F := Ideal) z) := by
    unfold kernelRun0_B
    dsimp only
    sl_unfold_words
    simp only [View.readAt_eq_ld, h1.read_unread, h2.read_unread, h3.read_unread, h4.read_unread, h5.read_unread, h6.read_unread, h7.read_unread, h8.read_unread, h9.read_unread, h10.read_unread, h12.read_unread,
    View.ld_unit_zero (S := S512x33) hz2, View.ld_unit_zero (S := S33x64) hz2, View.ld_unit_zero (S := S1x64) hz2, View.ld_unit_zero (S := S64x64) hz2, View.ld_unit_zero (S := S64x2048) hz2, View.ld_unit_zero (S := S1x512) hz2, View.ld_unit_zero (S := S1x1024) hz2]
    rfl
  unfold out0_B_10
  rw [View.read_writes_eq_canon _ _ _ (cover0_B_10 (F := Ideal) c i a1 h1 a2 h2 a3 h3 a4 h4 a5 h5 a6 h6 a7 h7 a8 h8 a9 h9 a10 h10 a11 h11 a12 h12 hc0 hc1 z w1 b1 w2 b2 w3 b3 w4 fr δ xo)]
  funext y
  refine View.canon_apply_of_pieces (tapsBlock z w1 b1 w2 b2 w3 b3 w4 fr δ (num i)) _ (fun p hp y => ?_) y (cover0_B_10 (F := Ideal) c i a1 h1 a2 h2 a3 h3 a4 h4 a5 h5 a6 h6 a7 h7 a8 h8 a9 h9 a10 h10 a11 h11 a12 h12 hc0 hc1 z w1 b1 w2 b2 w3 b3 w4 fr δ xo y)
  rw [e] at hp
  exact pieces_eq z w1 b1 w2 b2 w3 b3 w4 fr δ (num i) p hp y

/-- A later point: the normalising sum, its lags added to it. -/
theorem norm_B (hc0 : ¬cond0_0 i) (hc1 : cond0_1 i) (q : Fin 1024) : out0_B_11 (F := Ideal) c i a1 h1 a2 h2 a3 h3 a4 h4 a5 h5 a6 h6 a7 h7 a8 h8 a9 h9 a10 h10 a11 h11 a12 h12 hc0 hc1 z w1 b1 w2 b2 w3 b3 w4 fr δ xo (ix2 0 q) = xo (ix2 0 q) + massRow z w1 b1 w2 b2 w3 b3 w4 fr δ (num i) q := by
  refine Eq.trans (congrFun (?_ : _ = k0_pay3 (F := Ideal) (forward z w1 b1 w2 b2 w3 b3 w4 fr δ) (backward z w1 b1 w2 b2 w3 b3 w4 fr δ (BitVec.ofNat 32 (num i).val)) xo) (ix2 0 q)) ?_
  · unfold out0_B_11
    rw [View.read_writes_eq_canon _ _ _ (cover0_B_11 (F := Ideal) c i a1 h1 a2 h2 a3 h3 a4 h4 a5 h5 a6 h6 a7 h7 a8 h8 a9 h9 a10 h10 a11 h11 a12 h12 hc0 hc1 z w1 b1 w2 b2 w3 b3 w4 fr δ xo)]
    unfold kernelRun0_B
    dsimp only
    sl_unfold_words
    rw [View.canon_unit_zero hz2]
    simp only [View.readAt_eq_ld, h1.read_unread, h2.read_unread, h3.read_unread, h4.read_unread, h5.read_unread, h6.read_unread, h7.read_unread, h8.read_unread, h9.read_unread, h10.read_unread, h12.read_unread,
    View.ld_unit_zero (S := S512x33) hz2, View.ld_unit_zero (S := S33x64) hz2, View.ld_unit_zero (S := S1x64) hz2, View.ld_unit_zero (S := S64x64) hz2, View.ld_unit_zero (S := S64x2048) hz2, View.ld_unit_zero (S := S1x512) hz2, View.ld_unit_zero (S := S1x1024) hz2]
  · rw [pay3_apply, mass_apply]

end Cert.Kernel6Ideal.FiltPoint

end
-- ==== Proof.FiltRef.lean ====
/- The Hyena filters' reference over the extended reals, entry by entry. -/
module

public import proofs.«01_k».proof.Proof.Gen.Reference6Ideal.Run
public import proofs.«01_k».proof.Proof.FiltSpec
public import Idealize.ShloMosaic.Lib.Pointwise

@[expose] public section

set_option maxRecDepth 16384

noncomputable section

namespace Cert.Reference6Ideal.FiltRef

open Cert.Reference6Ideal Cert.Reference6Ideal.Gen Idealize.ShloMosaic Idealize.ShloMosaic.TcCoe Idealize.SL.Sem
open Cert.FiltSpec

variable (w1 : FVec Ideal S33x64 .f32) (b1 : FVec Ideal S64 .f32) (w2 : FVec Ideal S64x64 .f32) (b2 : FVec Ideal S64 .f32)
  (w3 : FVec Ideal S64x64 .f32) (b3 : FVec Ideal S64 .f32) (w4 : FVec Ideal S64x2048 .f32) (fr : FVec Ideal S64 .f32)

/-! ## The reference's terms -/

/-- The lags, from zero to one. -/
def times : FVec Ideal S4096x1 .f32 :=
  (broadcastInDim S4096x1 ![0] bcast_S4096_S4096x1_0 (concatenate S4096 0 [⟨S4095, (addf (mulf (broadcastInDim S4095 ![0] bcast_S1_S4095_0 (shapeCast _ (id (constant S_ .f32 0x00000000#32)) shapeCasts_S_S1)) (subf (broadcastInDim S4095 ![] bcast_S_S4095 (constant S_ .f32 0x3F800000#32)) (Host.divf (sitofp .f32 (iotaInDim S4095 32 0)) (broadcastInDim S4095 ![] bcast_S_S4095 (constant S_ .f32 0x457FF000#32))))) (mulf (broadcastInDim S4095 ![0] bcast_S1_S4095_0 (shapeCast _ (id (constant S_ .f32 0x3F800000#32)) shapeCasts_S_S1)) (Host.divf (sitofp .f32 (iotaInDim S4095 32 0)) (broadcastInDim S4095 ![] bcast_S_S4095 (constant S_ .f32 0x457FF000#32)))))⟩, ⟨S1, (broadcastInDim S1 ![] bcast_S_S1 (id (constant S_ .f32 0x3F800000#32)))⟩] concatenates_S4095_S1_S4096_d0))

/-- The frequencies of the embedding. -/
def freqs : FVec Ideal S16 .f32 :=
  (concatenate S16 0 [⟨S15, (addf (mulf (broadcastInDim S15 ![0] bcast_S1_S15_0 (shapeCast _ (id (constant S_ .f32 0x38D1B717#32)) shapeCasts_S_S1)) (subf (broadcastInDim S15 ![] bcast_S_S15 (constant S_ .f32 0x3F800000#32)) (Host.divf (sitofp .f32 (iotaInDim S15 32 0)) (broadcastInDim S15 ![] bcast_S_S15 (constant S_ .f32 0x41700000#32))))) (mulf (broadcastInDim S15 ![0] bcast_S1_S15_0 (shapeCast _ (sitofp .f32 (constantI S_ 32 15#32)) shapeCasts_S_S1)) (Host.divf (sitofp .f32 (iotaInDim S15 32 0)) (broadcastInDim S15 ![] bcast_S_S15 (constant S_ .f32 0x41700000#32)))))⟩, ⟨S1, (broadcastInDim S1 ![] bcast_S_S1 (sitofp .f32 (constantI S_ 32 15#32)))⟩] concatenates_S15_S1_S16_d0)

/-- The angles of the embedding. -/
def angles : FVec Ideal S4096x16 .f32 :=
  (mulf (broadcastInDim S4096x16 ![0, 1] bcast_S1x16_S4096x16_0_1 (broadcastInDim S1x16 ![1] bcast_S16_S1x16_1 freqs)) (broadcastInDim S4096x16 ![0, 1] bcast_S4096x1_S4096x16_0_1 (mulf (broadcastInDim S4096x1 ![] bcast_S_S4096x1 (constant S_ .f32 0x3AC90FDB#32)) (broadcastInDim S4096x1 ![0] bcast_S4096_S4096x1_0 (sitofp .f32 (iotaInDim S4096 32 0))))))

/-- The embedding of the lags. -/
def embedding : FVec Ideal S4096x33 .f32 :=
  ((concatenate S4096x33 1 [⟨S4096x1, (times : (⟨S4096x1, .f32⟩ : BufTy).Contents (Elt Ideal))⟩, ⟨S4096x16, ((Host.cos angles) : (⟨S4096x16, .f32⟩ : BufTy).Contents (Elt Ideal))⟩, ⟨S4096x16, ((Host.negf (Host.sin angles)) : (⟨S4096x16, .f32⟩ : BufTy).Contents (Elt Ideal))⟩] concatenates_S4096x1_S4096x16_S4096x16_S4096x33_d1 : (⟨S4096x33, .f32⟩ : BufTy).Contents (Elt Ideal)))

/-- The windows' rates. -/
def rates : FVec Ideal S512 .f32 :=
  (concatenate S512 0 [⟨S511, (addf (mulf (broadcastInDim S511 ![0] bcast_S1_S511_0 (shapeCast _ (id (constant S_ .f32 0xC0447CBD#32)) shapeCasts_S_S1)) (subf (broadcastInDim S511 ![] bcast_S_S511 (constant S_ .f32 0x3F800000#32)) (Host.divf (sitofp .f32 (iotaInDim S511 32 0)) (broadcastInDim S511 ![] bcast_S_S511 (constant S_ .f32 0x43FF8000#32))))) (mulf (broadcastInDim S511 ![0] bcast_S1_S511_0 (shapeCast _ (id (constant S_ .f32 0xC1759BEC#32)) shapeCasts_S_S1)) (Host.divf (sitofp .f32 (iotaInDim S511 32 0)) (broadcastInDim S511 ![] bcast_S_S511 (constant S_ .f32 0x43FF8000#32)))))⟩, ⟨S1, (broadcastInDim S1 ![] bcast_S_S1 (id (constant S_ .f32 0xC1759BEC#32)))⟩] concatenates_S511_S1_S512_d0)

/-- The first layer. -/
def hid1 : FVec Ideal S4096x64 .f32 :=
  (Host.sin (mulf (broadcastInDim S4096x64 ![0, 1] bcast_S1x64_S4096x64_0_1 (broadcastInDim S1x64 ![1] bcast_S64_S1x64_1 fr)) (addf (Host.dotGeneral dot_S4096x33_S33x64_S4096x64_1_0_0_1_n_n none embedding w1) (broadcastInDim S4096x64 ![0, 1] bcast_S1x64_S4096x64_0_1 (broadcastInDim S1x64 ![1] bcast_S64_S1x64_1 b1)))))

/-- The second layer. -/
def hid2 : FVec Ideal S4096x64 .f32 :=
  (Host.sin (mulf (broadcastInDim S4096x64 ![0, 1] bcast_S1x64_S4096x64_0_1 (broadcastInDim S1x64 ![1] bcast_S64_S1x64_1 fr)) (addf (Host.dotGeneral dot_S4096x64_S64x64_S4096x64_1_0_0_1_n_n none (hid1 w1 b1 fr) w2) (broadcastInDim S4096x64 ![0, 1] bcast_S1x64_S4096x64_0_1 (broadcastInDim S1x64 ![1] bcast_S64_S1x64_1 b2)))))

/-- The third layer. -/
def hid3 : FVec Ideal S4096x64 .f32 :=
  (Host.sin (mulf (broadcastInDim S4096x64 ![0, 1] bcast_S1x64_S4096x64_0_1 (broadcastInDim S1x64 ![1] bcast_S64_S1x64_1 fr)) (addf (Host.dotGeneral dot_S4096x64_S64x64_S4096x64_1_0_0_1_n_n none (hid2 w1 b1 w2 b2 fr) w3) (broadcastInDim S4096x64 ![0, 1] bcast_S1x64_S4096x64_0_1 (broadcastInDim S1x64 ![1] bcast_S64_S1x64_1 b3)))))

/-- The windows. -/
def decay : FVec Ideal S4096x512 .f32 :=
  (Host.exp (mulf (broadcastInDim S4096x512 ![0, 1] bcast_S4096x1_S4096x512_0_1 (Host.negf times)) (broadcastInDim S4096x512 ![0, 1] bcast_S1x512_S4096x512_0_1 (broadcastInDim S1x512 ![1] bcast_S512_S1x512_1 (Host.absf rates)))))

/-- Both directions' filters. -/
def filters : FVec Ideal S4096x2x2x512 .f32 :=
  (mulf (shapeCast _ (Host.dotGeneral dot_S4096x64_S64x2048_S4096x2048_1_0_0_1_n_n none (hid3 w1 b1 w2 b2 w3 b3 fr) w4) shapeCasts_S4096x2048_S4096x2x2x512) (broadcastInDim S4096x2x2x512 ![0, 1, 2, 3] bcast_S4096x1x1x512_S4096x2x2x512_0_1_2_3 (broadcastInDim S4096x1x1x512 ![0, 3] bcast_S4096x512_S4096x1x1x512_0_3 decay)))

/-- The forward filters. -/
def fwdAll : FVec Ideal S4096x2x512 .f32 :=
  (shapeCast _ (extractStridedSlice S4096x1x2x512 ![0, 0, 0, 0] (filters w1 b1 w2 b2 w3 b3 w4 fr) slices_S4096x2x2x512_S4096x1x2x512_0_0_0_0) shapeCasts_S4096x1x2x512_S4096x2x512)

/-- The backward filters without the lag zero. -/
def bwdAll : FVec Ideal S4096x2x512 .f32 :=
  (concatenate S4096x2x512 0 [⟨S1x2x512, (broadcastInDim S1x2x512 ![] bcast_S_S1x2x512 (constant S_ .f32 0x00000000#32))⟩, ⟨S4095x2x512, (shapeCast _ (extractStridedSlice S4095x1x2x512 ![1, 1, 0, 0] (filters w1 b1 w2 b2 w3 b3 w4 fr) slices_S4096x2x2x512_S4095x1x2x512_1_1_0_0) shapeCasts_S4095x1x2x512_S4095x2x512)⟩] concatenates_S1x2x512_S4095x2x512_S4096x2x512_d0)

/-- The taps. -/
def result0 : FVec Ideal S4x4096x512 .bf16 :=
  truncf .bf16 (transpose S4x4096x512 [1, 0, 2] (concatenate S4096x4x512 1 [⟨S4096x2x512, (addf (fwdAll w1 b1 w2 b2 w3 b3 w4 fr) (bwdAll w1 b1 w2 b2 w3 b3 w4 fr))⟩, ⟨S4096x2x512, (subf (fwdAll w1 b1 w2 b2 w3 b3 w4 fr) (bwdAll w1 b1 w2 b2 w3 b3 w4 fr))⟩] concatenates_S4096x2x512_S4096x2x512_S4096x4x512_d1) transposes_S4096x4x512_S4x4096x512_1_0_2) bitsLt_bf16_f32

/-- The normalising sums. -/
def result1 : FVec Ideal S1x1024 .f32 :=
  shapeCast _ (Host.reduceAdd (addf (Host.absf (fwdAll w1 b1 w2 b2 w3 b3 w4 fr)) (Host.absf (bwdAll w1 b1 w2 b2 w3 b3 w4 fr))) (constant S_ .f32 0x00000000#32) reducesTo_S4096x2x512_S2x512_d0 h_S_) shapeCasts_S2x512_S1x1024

/-! ## At an index -/

/-- The arguments' network. -/
def net : Net where
  w1 := fun i k => w1 (ix2 i k)
  b1 := fun k => b1 (ix1 k)
  w2 := fun i k => w2 (ix2 i k)
  b2 := fun k => b2 (ix1 k)
  w3 := fun i k => w3 (ix2 i k)
  b3 := fun k => b3 (ix1 k)
  w4 := fun k q => w4 (ix2 k q)
  freq := fun k => fr (ix1 k)

abbrev lag (r : Fin 4096) : Fin 33 → EReal := fun i => embedding (ix2 r i)
abbrev rate : Fin 512 → EReal := fun q => rates (ix1 q)

/-- The embedding's first entry is the lag. -/
theorem embedding_first (r : Fin 4096) : embedding (ix2 r 0) = times (ix2 r 0) := by
  pointwise [embedding]

theorem hid1_apply (r : Fin 4096) (k : Fin 64) : hid1 w1 b1 fr (ix2 r k)
    = layer (fun i k => w1 (ix2 i k)) (fun k => b1 (ix1 k)) (fun k => fr (ix1 k)) (lag r) k := by
  pointwise [hid1, layer]

theorem hid2_apply (r : Fin 4096) (k : Fin 64) : hid2 w1 b1 w2 b2 fr (ix2 r k)
    = layer (fun i k => w2 (ix2 i k)) (fun k => b2 (ix1 k)) (fun k => fr (ix1 k)) (fun i => hid1 w1 b1 fr (ix2 r i)) k := by
  pointwise [hid2, layer]

theorem hid3_apply (r : Fin 4096) (k : Fin 64) : hid3 w1 b1 w2 b2 w3 b3 fr (ix2 r k)
    = layer (fun i k => w3 (ix2 i k)) (fun k => b3 (ix1 k)) (fun k => fr (ix1 k)) (fun i => hid2 w1 b1 w2 b2 fr (ix2 r i)) k := by
  pointwise [hid3, layer]

theorem decay_apply (r : Fin 4096) (q : Fin 512) : decay (ix2 r q) = window (lag r 0) (rate q) := by
  unfold lag rate
  rw [embedding_first]
  pointwise [decay, window]
  rfl

theorem filters_apply (r : Fin 4096) (d o : Fin 2) (q : Fin 512) (k : Fin 2048) (hk : k.val = (d.val * 2 + o.val) * 512 + q.val) :
    filters w1 b1 w2 b2 w3 b3 w4 fr (ix4 r d o q) = out (net w1 b1 w2 b2 w3 b3 w4 fr) (lag r) k * window (lag r 0) (rate q) := by
  rw [← decay_apply]
  have hb : (d.val * 2 + o.val) * 512 + q.val < 2048 := by omega
  obtain rfl : k = ⟨(d.val * 2 + o.val) * 512 + q.val, hb⟩ := Fin.ext hk
  pointwise [filters, out]
  have e : d.val * 1024 + o.val * 512 + q.val = (d.val * 2 + o.val) * 512 + q.val := by omega
  simp only [hid3_apply, hid2_apply, hid1_apply, e]
  rfl

theorem fwdAll_apply (r : Fin 4096) (o : Fin 2) (q : Fin 512) (k : Fin 1024) (hk : k.val = 512 * o.val + q.val) :
    fwdAll w1 b1 w2 b2 w3 b3 w4 fr (ix3 r o q) = fwd (net w1 b1 w2 b2 w3 b3 w4 fr) rate (lag r) k := by
  have e : fwdAll w1 b1 w2 b2 w3 b3 w4 fr (ix3 r o q) = filters w1 b1 w2 b2 w3 b3 w4 fr (ix4 r 0 o q) := by
    pointwise [fwdAll]
  rw [e, filters_apply w1 b1 w2 b2 w3 b3 w4 fr r 0 o q ⟨k.val, by omega⟩ (by show k.val = (0 * 2 + o.val) * 512 + q.val; omega)]
  unfold fwd
  have e' : q = ⟨k.val % 512, by omega⟩ := Fin.ext (by show q.val = k.val % 512; omega)
  rw [← e']

theorem bwdAll_apply (r : Fin 4096) (o : Fin 2) (q : Fin 512) (k : Fin 1024) (hk : k.val = 512 * o.val + q.val) :
    bwdAll w1 b1 w2 b2 w3 b3 w4 fr (ix3 r o q) = bwd (net w1 b1 w2 b2 w3 b3 w4 fr) rate r.val (lag r) k := by
  have e : bwdAll w1 b1 w2 b2 w3 b3 w4 fr (ix3 r o q) = if 0 < r.val then filters w1 b1 w2 b2 w3 b3 w4 fr (ix4 r 1 o q) else 0 := by
    pointwise [bwdAll]
    by_cases hr : r.val < 1
    · have h0 : ¬0 < r.val := by omega
      exact (dif_pos hr).trans (if_neg h0).symm
    · have h0 : 0 < r.val := by omega
      have e : 1 + (r.val - 1) = r.val := by omega
      refine (dif_neg hr).trans (Eq.trans ?_ (if_pos h0).symm)
      exact congrArg (fun r => filters w1 b1 w2 b2 w3 b3 w4 fr (ix4 r 1 o q)) (Fin.ext e)
  rw [e, filters_apply w1 b1 w2 b2 w3 b3 w4 fr r 1 o q ⟨1024 + k.val, by omega⟩ (by show 1024 + k.val = (1 * 2 + o.val) * 512 + q.val; omega)]
  unfold bwd
  have e' : q = ⟨k.val % 512, by omega⟩ := Fin.ext (by show q.val = k.val % 512; omega)
  rw [← e']

/-- The taps' entry. -/
def entry0 (a : Fin 4) (r : Fin 4096) (q : Fin 512) : EReal := taps (net w1 b1 w2 b2 w3 b3 w4 fr) rate r.val (lag r) a q
/-- The normalising sum's entry. -/
def entry1 (q : Fin 1024) : EReal := ∑ r : Fin 4096, mass (net w1 b1 w2 b2 w3 b3 w4 fr) rate r.val (lag r) q

theorem result0_apply (a : Fin 4) (r : Fin 4096) (q : Fin 512) : result0 w1 b1 w2 b2 w3 b3 w4 fr (ix3 a r q) = entry0 w1 b1 w2 b2 w3 b3 w4 fr a r q := by
  unfold entry0 taps
  rw [← fwdAll_apply w1 b1 w2 b2 w3 b3 w4 fr r ⟨a.val % 2, by omega⟩ q _ rfl, ← bwdAll_apply w1 b1 w2 b2 w3 b3 w4 fr r ⟨a.val % 2, by omega⟩ q _ rfl]
  pointwise [result0]
  by_cases ha : a.val < 2
  · have e : a.val % 2 = a.val := by omega
    refine (dif_pos ha).trans (Eq.trans ?_ (if_pos ha).symm)
    simp only [e]
  · have e : a.val % 2 = a.val - 2 := by omega
    refine (dif_neg ha).trans (Eq.trans ?_ (if_neg ha).symm)
    simp only [e]

theorem result1_apply (q : Fin 1024) : result1 w1 b1 w2 b2 w3 b3 w4 fr (ix2 0 q) = entry1 w1 b1 w2 b2 w3 b3 w4 fr q := by
  unfold entry1
  have e (r : Fin 4096) : mass (net w1 b1 w2 b2 w3 b3 w4 fr) rate r.val (lag r) q
      = max (fwdAll w1 b1 w2 b2 w3 b3 w4 fr (ix3 r ⟨q.val / 512, by omega⟩ ⟨q.val % 512, by omega⟩)) (-fwdAll w1 b1 w2 b2 w3 b3 w4 fr (ix3 r ⟨q.val / 512, by omega⟩ ⟨q.val % 512, by omega⟩))
        + max (bwdAll w1 b1 w2 b2 w3 b3 w4 fr (ix3 r ⟨q.val / 512, by omega⟩ ⟨q.val % 512, by omega⟩)) (-bwdAll w1 b1 w2 b2 w3 b3 w4 fr (ix3 r ⟨q.val / 512, by omega⟩ ⟨q.val % 512, by omega⟩)) := by
    have hq : q.val = 512 * (q.val / 512) + q.val % 512 := by omega
    rw [fwdAll_apply w1 b1 w2 b2 w3 b3 w4 fr r _ _ q hq, bwdAll_apply w1 b1 w2 b2 w3 b3 w4 fr r _ _ q hq]
    rfl
  simp only [e]
  pointwise [result1]
  rfl

theorem result0_eq : result0 w1 b1 w2 b2 w3 b3 w4 fr = fun y : S4x4096x512.Idx => entry0 w1 b1 w2 b2 w3 b3 w4 fr (y 0) (y 1) (y 2) := by
  funext (y : S4x4096x512.Idx)
  idx_vars y
  exact result0_apply w1 b1 w2 b2 w3 b3 w4 fr y0 y1 y2

theorem result1_eq : result1 w1 b1 w2 b2 w3 b3 w4 fr = fun y : S1x1024.Idx => entry1 w1 b1 w2 b2 w3 b3 w4 fr (y 1) := by
  funext (y : S1x1024.Idx)
  idx_vars y
  obtain rfl : y0 = 0 := Subsingleton.elim _ _
  exact result1_apply w1 b1 w2 b2 w3 b3 w4 fr y1

end Cert.Reference6Ideal.FiltRef

end
-- ==== Proof.Whole.lean ====
/- A block of an array's own size. -/
module

public import Idealize.ShloMosaic.PureOps.Ideal

@[expose] public section

namespace Cert.Whole

open Idealize.ShloMosaic

/-- A block placed at the origin of an array of its size is the array. -/
theorem emb_whole {S : Shape} (f : S.Idx → S.Idx) (i : Fin S.rank → ℕ) (hi : ∀ a, i a = 0) (hf : ∀ y a, (f y a).val = i a * S.size a + 1 * (y a).val) (y : S.Idx) : f y = y :=
  funext fun a => Fin.ext (by rw [hf, hi]; omega)

end Cert.Whole
-- ==== Proof.FiltRun.lean ====
/- The two output arrays of the Hyena filters: every point leaves its block of the taps, and by induction over the grid the normalising sum of the lags so far. -/
module

public import proofs.«01_k».proof.Proof.Gen.Kernel6Ideal.Value
public import proofs.«01_k».proof.Proof.FiltPoint
public import proofs.«01_k».proof.Proof.FiltRef
public import proofs.«01_k».proof.Proof.Whole

@[expose] public section

set_option maxRecDepth 16384

noncomputable section

namespace Cert.Kernel6Ideal.FiltRun

open Cert.Kernel6Ideal Cert.Kernel6Ideal.Gen Idealize.ShloMosaic Idealize.ShloMosaic.TcCoe Idealize.ShloMosaic.Tactic Idealize.SL.Sem
open Idealize.ShloMosaic.Pipeline (Dat)
open Cert.Whole
open Cert.FiltSpec FiltPoint

variable (m : (ℓ : Loc nD τ sig) → Buf (Elt Ideal) ℓ) (c : Dev nD)

/-! ## The arguments -/

abbrev argW1 : FVec Ideal S33x64 .f32 := m ((c : Thread nD τ).loc main_arg0)
abbrev argB1 : FVec Ideal S64 .f32 := m ((c : Thread nD τ).loc main_arg1)
abbrev argW2 : FVec Ideal S64x64 .f32 := m ((c : Thread nD τ).loc main_arg2)
abbrev argB2 : FVec Ideal S64 .f32 := m ((c : Thread nD τ).loc main_arg3)
abbrev argW3 : FVec Ideal S64x64 .f32 := m ((c : Thread nD τ).loc main_arg4)
abbrev argB3 : FVec Ideal S64 .f32 := m ((c : Thread nD τ).loc main_arg5)
abbrev argW4 : FVec Ideal S64x2048 .f32 := m ((c : Thread nD τ).loc main_arg6)
abbrev argFr : FVec Ideal S64 .f32 := m ((c : Thread nD τ).loc main_arg7)

/-- The arguments' network. -/
abbrev theNet : Net := Cert.Reference6Ideal.FiltRef.net (argW1 m c) (argB1 m c) (argW2 m c) (argB2 m c) (argW3 m c) (argB3 m c) (argW4 m c) (argFr m c)
/-- A lag's embedding. -/
abbrev emb (r : Fin 4096) : Fin 33 → EReal := Cert.Reference6Ideal.FiltRef.lag r
/-- The windows' rates. -/
abbrev rates : Fin 512 → EReal := Cert.Reference6Ideal.FiltRef.rate

/-- The taps. -/
abbrev entry0 (a : Fin 4) (r : Fin 4096) (q : Fin 512) : EReal := taps (theNet m c) rates r.val (emb r) a q
/-- The normalising sums. -/
abbrev entry1 (q : Fin 1024) : EReal := ∑ r : Fin 4096, mass (theNet m c) rates r.val (emb r) q

/-! ## What the host lays out -/

set_option maxHeartbeats 4000000 in
/-- The arrays the host computes for the region: the embedding, the rates and the four vectors as rows. -/
theorem V_host : (V m c main_v18 : FVec Ideal S4096x33 .f32) = Cert.Reference6Ideal.FiltRef.embedding
    ∧ (V m c main_v20 : FVec Ideal S1x512 .f32) = broadcastInDim S1x512 ![1] bcast_S512_S1x512_1 (Cert.Reference6Ideal.FiltRef.rates : FVec Ideal S512 .f32)
    ∧ (V m c main_v21 : FVec Ideal S1x64 .f32) = shapeCast S1x64 (argB1 m c) shapeCasts_S64_S1x64
    ∧ (V m c main_v22 : FVec Ideal S1x64 .f32) = shapeCast S1x64 (argB2 m c) shapeCasts_S64_S1x64
    ∧ (V m c main_v23 : FVec Ideal S1x64 .f32) = shapeCast S1x64 (argB3 m c) shapeCasts_S64_S1x64
    ∧ (V m c main_v24 : FVec Ideal S1x64 .f32) = shapeCast S1x64 (argFr m c) shapeCasts_S64_S1x64 := by
  unfold V
  simp only [hostOps0, hostOps0_1, hostOps0_2, hostOps0_3, hostOps0_4, hostOps0_5, hostOps0_6, List.flatten_cons, List.flatten_nil, List.append_nil,
    List.cons_append, List.nil_append, StableHlo.TRef.binary, StableHlo.TRef.nullary, StableHlo.TRef.reshape, StableHlo.TRef.unary, StableHlo.TRef.toBuf, StableHlo.TRef.ofBuf, cast_eq]
  refine ⟨?_, ?_, ?_, ?_, ?_, ?_⟩ <;> after_results_simp <;> (try dsimp only [Matrix.cons_val]) <;> (try after_results_simp) <;> rfl

theorem V_emb : (V m c main_v18 : FVec Ideal S4096x33 .f32) = Cert.Reference6Ideal.FiltRef.embedding := (V_host m c).1

theorem V_rates (q : Fin 512) : (V m c main_v20 : FVec Ideal S1x512 .f32) (ix2 0 q) = rates q := by
  rw [(V_host m c).2.1]
  generalize hx : (Cert.Reference6Ideal.FiltRef.rates : FVec Ideal S512 .f32) = x
  refine Eq.trans ?_ (congrFun hx.symm (ix1 q))
  pointwise

/-- A vector laid out as one row. -/
theorem row_apply (x : FVec Ideal S64 .f32) (k : Fin 64) : shapeCast S1x64 x shapeCasts_S64_S1x64 (ix2 0 k) = x (ix1 k) := by
  pointwise

theorem V_2 : (V m c main_v21 : FVec Ideal S1x64 .f32) = shapeCast S1x64 (argB1 m c) shapeCasts_S64_S1x64 := (V_host m c).2.2.1
theorem V_4 : (V m c main_v22 : FVec Ideal S1x64 .f32) = shapeCast S1x64 (argB2 m c) shapeCasts_S64_S1x64 := (V_host m c).2.2.2.1
theorem V_6 : (V m c main_v23 : FVec Ideal S1x64 .f32) = shapeCast S1x64 (argB3 m c) shapeCasts_S64_S1x64 := (V_host m c).2.2.2.2.1
theorem V_8 : (V m c main_v24 : FVec Ideal S1x64 .f32) = shapeCast S1x64 (argFr m c) shapeCasts_S64_S1x64 := (V_host m c).2.2.2.2.2

/-! ## The blocks a point reads -/

theorem lt8 (t : Fin cfg0.N) : t.val < 8 := lt_of_lt_of_eq t.isLt N_0
theorem num_eq : ∀ t : Fin grid0.N, (num (grid0.coords t)).val = t.val := by decide +kernel

theorem index_0 : ∀ t : Fin grid0.N, win0_0.index t = ![t.val, 0] := by decide +kernel
theorem index_1 : ∀ t : Fin grid0.N, ∀ a, win0_1.index t a = 0 := by decide +kernel
theorem index_2 : ∀ t : Fin grid0.N, ∀ a, win0_2.index t a = 0 := by decide +kernel
theorem index_3 : ∀ t : Fin grid0.N, ∀ a, win0_3.index t a = 0 := by decide +kernel
theorem index_4 : ∀ t : Fin grid0.N, ∀ a, win0_4.index t a = 0 := by decide +kernel
theorem index_5 : ∀ t : Fin grid0.N, ∀ a, win0_5.index t a = 0 := by decide +kernel
theorem index_6 : ∀ t : Fin grid0.N, ∀ a, win0_6.index t a = 0 := by decide +kernel
theorem index_7 : ∀ t : Fin grid0.N, ∀ a, win0_7.index t a = 0 := by decide +kernel
theorem index_8 : ∀ t : Fin grid0.N, ∀ a, win0_8.index t a = 0 := by decide +kernel
theorem index_9 : ∀ t : Fin grid0.N, ∀ a, win0_9.index t a = 0 := by decide +kernel

theorem blk_0 (t : Fin cfg0.N) (r : Fin 512) (k : Fin 33) : (iblk m c 0 t : FVec Ideal S512x33 .f32) (ix2 r k) = emb ⟨512 * t.val + r.val, by have := lt8 t; omega⟩ k := by
  have hi := index_0 t
  refine Eq.trans ?_ (congrFun (V_emb m c) (ix2 ⟨512 * t.val + r.val, by have := lt8 t; omega⟩ k))
  unfold iblk
  rw [View.read_apply]
  show V m c main_v18 _ = V m c main_v18 _
  congr 1
  funext a
  apply Fin.ext
  match a with
  | ⟨0, _⟩ => show win0_0.index t 0 * 512 + 1 * r.val = 512 * t.val + r.val; rw [show win0_0.index t 0 = t.val from congrFun hi 0]; omega
  | ⟨1, _⟩ => show win0_0.index t 1 * 33 + 1 * k.val = k.val; rw [show win0_0.index t 1 = 0 from congrFun hi 1]; omega

theorem blk_1 (t : Fin cfg0.N) : (iblk m c 1 t : FVec Ideal S33x64 .f32) = argW1 m c := by
  refine Eq.trans ?_ (V_main_arg0 m c)
  unfold iblk
  funext (y : S33x64.Idx)
  rw [View.read_apply]
  exact congrArg (V m c main_arg0) (emb_whole (S := S33x64) _ (win0_1.index t) (index_1 t) (fun _ _ => rfl) y)

theorem blk_2 (t : Fin cfg0.N) : (iblk m c 2 t : FVec Ideal S1x64 .f32) = shapeCast S1x64 (argB1 m c) shapeCasts_S64_S1x64 := by
  refine Eq.trans ?_ (V_2 m c)
  unfold iblk
  funext (y : S1x64.Idx)
  rw [View.read_apply]
  exact congrArg (V m c main_v21) (emb_whole (S := S1x64) _ (win0_2.index t) (index_2 t) (fun _ _ => rfl) y)

theorem blk_3 (t : Fin cfg0.N) : (iblk m c 3 t : FVec Ideal S64x64 .f32) = argW2 m c := by
  refine Eq.trans ?_ (V_main_arg2 m c)
  unfold iblk
  funext (y : S64x64.Idx)
  rw [View.read_apply]
  exact congrArg (V m c main_arg2) (emb_whole (S := S64x64) _ (win0_3.index t) (index_3 t) (fun _ _ => rfl) y)

theorem blk_4 (t : Fin cfg0.N) : (iblk m c 4 t : FVec Ideal S1x64 .f32) = shapeCast S1x64 (argB2 m c) shapeCasts_S64_S1x64 := by
  refine Eq.trans ?_ (V_4 m c)
  unfold iblk
  funext (y : S1x64.Idx)
  rw [View.read_apply]
  exact congrArg (V m c main_v22) (emb_whole (S := S1x64) _ (win0_4.index t) (index_4 t) (fun _ _ => rfl) y)

theorem blk_5 (t : Fin cfg0.N) : (iblk m c 5 t : FVec Ideal S64x64 .f32) = argW3 m c := by
  refine Eq.trans ?_ (V_main_arg4 m c)
  unfold iblk
  funext (y : S64x64.Idx)
  rw [View.read_apply]
  exact congrArg (V m c main_arg4) (emb_whole (S := S64x64) _ (win0_5.index t) (index_5 t) (fun _ _ => rfl) y)

theorem blk_6 (t : Fin cfg0.N) : (iblk m c 6 t : FVec Ideal S1x64 .f32) = shapeCast S1x64 (argB3 m c) shapeCasts_S64_S1x64 := by
  refine Eq.trans ?_ (V_6 m c)
  unfold iblk
  funext (y : S1x64.Idx)
  rw [View.read_apply]
  exact congrArg (V m c main_v23) (emb_whole (S := S1x64) _ (win0_6.index t) (index_6 t) (fun _ _ => rfl) y)

theorem blk_7 (t : Fin cfg0.N) : (iblk m c 7 t : FVec Ideal S64x2048 .f32) = argW4 m c := by
  refine Eq.trans ?_ (V_main_arg6 m c)
  unfold iblk
  funext (y : S64x2048.Idx)
  rw [View.read_apply]
  exact congrArg (V m c main_arg6) (emb_whole (S := S64x2048) _ (win0_7.index t) (index_7 t) (fun _ _ => rfl) y)

theorem blk_8 (t : Fin cfg0.N) : (iblk m c 8 t : FVec Ideal S1x64 .f32) = shapeCast S1x64 (argFr m c) shapeCasts_S64_S1x64 := by
  refine Eq.trans ?_ (V_8 m c)
  unfold iblk
  funext (y : S1x64.Idx)
  rw [View.read_apply]
  exact congrArg (V m c main_v24) (emb_whole (S := S1x64) _ (win0_8.index t) (index_8 t) (fun _ _ => rfl) y)

theorem blk_9 (t : Fin cfg0.N) : (iblk m c 9 t : FVec Ideal S1x512 .f32) = V m c main_v20 := by
  refine Eq.trans ?_ (rfl)
  unfold iblk
  funext (y : S1x512.Idx)
  rw [View.read_apply]
  exact congrArg (V m c main_v20) (emb_whole (S := S1x512) _ (win0_9.index t) (index_9 t) (fun _ _ => rfl) y)

/-- The blocks' network is the arguments'. -/
theorem net_eq (t : Fin cfg0.N) : FiltPay.net (iblk m c 1 t) (iblk m c 2 t) (iblk m c 3 t) (iblk m c 4 t) (iblk m c 5 t) (iblk m c 6 t) (iblk m c 7 t) (iblk m c 8 t) = theNet m c := by
  unfold FiltPay.net theNet Cert.Reference6Ideal.FiltRef.net
  simp only [blk_1, blk_2, blk_3, blk_4, blk_5, blk_6, blk_7, blk_8, row_apply]

theorem lag_eq (t : Fin cfg0.N) (r : Fin 512) : FiltPay.lag (iblk m c 0 t) r = emb ⟨512 * t.val + r.val, by have := lt8 t; omega⟩ := funext fun k => blk_0 m c t r k

theorem rate_eq (t : Fin cfg0.N) : FiltPay.rate (iblk m c 9 t) = rates := funext fun k => (congrFun (blk_9 m c t) (ix2 0 k)).trans (V_rates m c k)

/-! ## The points -/

/-- Every point leaves its block of the taps. -/
theorem block_0 (t : Fin cfg0.N) (a : Fin 4) (r q : Fin 512) : ((outsAt0 m c t.val t.isLt).1 : FVec Ideal S4x512x512 .bf16) (ix3 a r q)
    = entry0 m c a ⟨512 * t.val + r.val, by have := lt8 t; omega⟩ q := by
  have e : tapsBlock (iblk m c 0 t) (iblk m c 1 t) (iblk m c 2 t) (iblk m c 3 t) (iblk m c 4 t) (iblk m c 5 t) (iblk m c 6 t) (iblk m c 7 t) (iblk m c 8 t) (iblk m c 9 t) (num (grid0.coords t)) (ix3 a r q) = entry0 m c a ⟨512 * t.val + r.val, by have := lt8 t; omega⟩ q := by
    unfold tapsBlock
    rw [net_eq, rate_eq, num_eq t]
    exact congrArg (fun z => taps (theNet m c) rates (512 * t.val + r.val) z a q) (lag_eq m c t r)
  by_cases h0 : t.val % 8 = 0
  · have h1 : ¬1 ≤ t.val := by have := lt8 t; omega
    rw [outsAt0_A m c t h0 h1]
    dsimp only
    rw [taps_A]
    exact e
  · have h1 : 1 ≤ t.val := by omega
    rw [outsAt0_B m c t h0 h1]
    dsimp only
    rw [taps_B]
    exact e

/-- A block of lags' part of the normalising sum. -/
def tile (n : Fin 8) (q : Fin 1024) : EReal := ∑ r : Fin 512, mass (theNet m c) rates (512 * n.val + r.val) (emb ⟨512 * n.val + r.val, by omega⟩) q

theorem tile_eq (t : Fin cfg0.N) (q : Fin 1024) : massRow (iblk m c 0 t) (iblk m c 1 t) (iblk m c 2 t) (iblk m c 3 t) (iblk m c 4 t) (iblk m c 5 t) (iblk m c 6 t) (iblk m c 7 t) (iblk m c 8 t) (iblk m c 9 t) (num (grid0.coords t)) q = tile m c ⟨t.val, lt8 t⟩ q := by
  unfold massRow tile
  rw [net_eq, rate_eq, num_eq t]
  refine Finset.sum_congr rfl fun r _ => ?_
  rw [lag_eq]

/-- The first point writes its lags' part. -/
theorem first (t : Fin cfg0.N) (h0 : t.val % 8 = 0) (h1 : ¬1 ≤ t.val) (q : Fin 1024) :
    ((outsAt0 m c t.val t.isLt).2 : FVec Ideal S1x1024 .f32) (ix2 0 q) = tile m c ⟨t.val, lt8 t⟩ q := by
  rw [outsAt0_A m c t h0 h1]
  dsimp only
  rw [norm_A]
  exact tile_eq m c t q

/-- A later point adds its lags' part to what the point before it left. -/
theorem later (t : Fin cfg0.N) (h0 : ¬t.val % 8 = 0) (h1 : 1 ≤ t.val) (q : Fin 1024) :
    ((outsAt0 m c t.val t.isLt).2 : FVec Ideal S1x1024 .f32) (ix2 0 q)
      = ((outsAt0 m c (t.val - 1) (lt_of_le_of_lt (Nat.sub_le _ _) t.isLt)).2 : FVec Ideal S1x1024 .f32) (ix2 0 q) + tile m c ⟨t.val, lt8 t⟩ q := by
  rw [outsAt0_B m c t h0 h1]
  dsimp only
  rw [norm_B, tile_eq m c t q]

/-- After point `n` the second output holds the sums of the lags of the points up to it. -/
theorem block_1 (n : ℕ) (hn : n < cfg0.N) (q : Fin 1024) : ((outsAt0 m c n hn).2 : FVec Ideal S1x1024 .f32) (ix2 0 q)
    = ∑ j : Fin (n + 1), tile m c ⟨j.val, by have := lt8 ⟨n, hn⟩; dsimp only at this; omega⟩ q := by
  induction n with
  | zero =>
    rw [Fin.sum_univ_one]
    exact first m c ⟨0, hn⟩ rfl (by show ¬1 ≤ 0; omega) q
  | succ n ih =>
    have h8 := lt8 ⟨n + 1, hn⟩
    dsimp only at h8
    rw [Fin.sum_univ_castSucc]
    refine (later m c ⟨n + 1, hn⟩ (by show ¬(n + 1) % 8 = 0; omega) (by show 1 ≤ n + 1; omega) q).trans ?_
    exact congrArg (· + tile m c ⟨n + 1, h8⟩ q) (ih (Nat.lt_of_succ_lt hn))

theorem tiles (q : Fin 1024) : entry1 m c q = ∑ j : Fin 8, tile m c j q := by
  unfold entry1
  rw [Fin.sum_univ_tiles 8 512 rfl]
  refine Finset.sum_congr rfl fun j _ => Finset.sum_congr rfl fun r _ => ?_
  have e : j.val * 512 + r.val = 512 * j.val + r.val := by omega
  simp only [e]

/-! ## The arrays -/

theorem index_10 : ∀ t : Fin grid0.N, win0_10.index t = ![0, t.val, 0] := by decide +kernel
theorem index_11 : ∀ t : Fin grid0.N, win0_11.index t = ![0, 0] := by decide +kernel

theorem emb_10 (t : Fin cfg0.N) (a : Fin 4) (r q : Fin 512) : ((cfg0.win 10).blk t).view.emb (ix3 a r q : S4x512x512.Idx)
    = (ix3 a ⟨512 * t.val + r.val, by have := lt8 t; omega⟩ q : S4x4096x512.Idx) := by
  have hi := index_10 t
  funext d
  apply Fin.ext
  match d with
  | ⟨0, _⟩ => show win0_10.index t 0 * 4 + 1 * a.val = a.val; rw [show win0_10.index t 0 = 0 from congrFun hi 0]; omega
  | ⟨1, _⟩ => show win0_10.index t 1 * 512 + 1 * r.val = 512 * t.val + r.val; rw [show win0_10.index t 1 = t.val from congrFun hi 1]; omega
  | ⟨2, _⟩ => show win0_10.index t 2 * 512 + 1 * q.val = q.val; rw [show win0_10.index t 2 = 0 from congrFun hi 2]; omega

theorem emb_11 (t : Fin cfg0.N) (p : Fin 1) (q : Fin 1024) : ((cfg0.win 11).blk t).view.emb (ix2 p q : S1x1024.Idx) = (ix2 p q : S1x1024.Idx) := by
  have hi := index_11 t
  funext d
  apply Fin.ext
  match d with
  | ⟨0, _⟩ => show win0_11.index t 0 * 1 + 1 * p.val = p.val; rw [show win0_11.index t 0 = 0 from congrFun hi 0]; omega
  | ⟨1, _⟩ => show win0_11.index t 1 * 1024 + 1 * q.val = q.val; rw [show win0_11.index t 1 = 0 from congrFun hi 1]; omega

/-- The taps' array. -/
theorem arr_10 : (dats m 0 c).arrAt 10 cfg0.N = fun y : S4x4096x512.Idx => entry0 m c (y 0) (y 1) (y 2) := by
  refine (dats m 0 c).arrAt_eq_of_cover 10 _ (fun t _ => ?_) (fun i => ?_)
  · rw [Value.flushed10]
    funext (y : S4x512x512.Idx)
    rw [View.read_apply]
    idx_vars y
    refine Eq.trans ?_ (congrArg (fun y : S4x4096x512.Idx => entry0 m c (y 0) (y 1) (y 2)) (emb_10 t y0 y1 y2)).symm
    exact block_0 m c t y0 y1 y2
  · let r : Fin 4096 := i 1
    have hr := r.isLt
    let t : Fin cfg0.N := ⟨r.val / 512, lt_of_lt_of_eq (by omega) N_0.symm⟩
    refine ⟨t, flush0_10 t, ?_⟩
    have e : ((cfg0.win 10).blk t).view.emb (ix3 (i 0) ⟨r.val % 512, by omega⟩ (i 2) : S4x512x512.Idx) = i := by
      refine (emb_10 t _ _ _).trans ?_
      funext a
      apply Fin.ext
      match a with
      | ⟨0, _⟩ => rfl
      | ⟨1, _⟩ => show 512 * (r.val / 512) + r.val % 512 = r.val; omega
      | ⟨2, _⟩ => rfl
    rw [← e]
    exact View.emb_mem_set _ _

/-- The normalising sums' array. -/
theorem arr_11 : (dats m 0 c).arrAt 11 cfg0.N = fun y : S1x1024.Idx => entry1 m c (y 1) := by
  refine (dats m 0 c).arrAt_eq_of_cover 11 _ (fun t hf => ?_) (fun i => ?_)
  · have h7 : t.val % 8 = 7 := (flush0_11 t).mp hf
    obtain rfl : t = ⟨7, lt_of_lt_of_eq (by decide) N_0.symm⟩ := Fin.ext (by have := lt8 t; show t.val = 7; omega)
    rw [Value.flushed11]
    funext (y : S1x1024.Idx)
    rw [View.read_apply]
    idx_vars y
    obtain rfl : y0 = 0 := Subsingleton.elim _ _
    refine Eq.trans ?_ (congrArg (fun y : S1x1024.Idx => entry1 m c (y 1)) (emb_11 _ 0 y1)).symm
    exact (block_1 m c 7 _ y1).trans (tiles m c y1).symm
  · let t : Fin cfg0.N := ⟨7, lt_of_lt_of_eq (by decide) N_0.symm⟩
    refine ⟨t, (flush0_11 t).mpr rfl, ?_⟩
    have e : ((cfg0.win 11).blk t).view.emb (ix2 (i 0) (i 1) : S1x1024.Idx) = i := by
      refine (emb_11 t _ _).trans ?_
      funext a
      match a with
      | ⟨0, _⟩ => rfl
      | ⟨1, _⟩ => rfl
    rw [← e]
    exact View.emb_mem_set _ _

end Cert.Kernel6Ideal.FiltRun

end
-- ==== Proof.FiltClaim.lean ====
/- The claims about the Hyena filters: both kernels' and the reference's frames, and that over the extended reals the kernel
   and the reference end with the same two arrays. -/
module

public import proofs.«01_k».proof.Defs
public import proofs.«01_k».proof.Proof.Gen.Kernel6.Frame
public import proofs.«01_k».proof.Proof.Gen.Reference6Ideal.Run
public import proofs.«01_k».proof.Proof.FiltRun
public import proofs.«01_k».proof.Proof.FiltRef
public import Idealize.ShloMosaic.Adequacy
public import Idealize.ShloMosaic.Init

@[expose] public section

set_option maxRecDepth 16384

noncomputable section

namespace Cert.FiltClaim

open Idealize.ShloMosaic Idealize.SL.Sem

/-- The kernel's frame. -/
theorem frame_P : @Cert.quiescent_Kernel6 Cert.Kernel6.Gen.facts := fun m ρ _ => Cert.Kernel6.Gen.frame m ρ

/-- The ideal kernel's frame. -/
theorem frame_PI : @Cert.quiescent_Kernel6Ideal Cert.Kernel6Ideal.Gen.facts := fun m ρ _ => Cert.Kernel6Ideal.Gen.frame m ρ

/-- The reference's frame. -/
theorem frame_RI : @Cert.quiescent_Reference6Ideal Cert.Reference6Ideal.Gen.facts := fun m ρ _ =>
  (θ_run Cert.Reference6Ideal.defs _ _).mono
    (fun r h => ⟨fun c => (h c).2.2, Idealize.ShloMosaic.sem_eq_zero_of_no_sems (by decide) r.2⟩) (Cert.Reference6Ideal.Value.run (F := Ideal) m ρ)

section
variable (m : (ℓ : Loc Cert.Reference6Ideal.nD Cert.Reference6Ideal.τ Cert.Reference6Ideal.sig) → Buf (Elt Ideal) ℓ) (c : Dev Cert.Reference6Ideal.nD)

/-- The reference's run ends with the taps. -/
theorem taps_run : Cert.Reference6Ideal.Value.res_out0 m c = Cert.Reference6Ideal.FiltRef.result0 (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) := by
  unfold Cert.Reference6Ideal.Value.res_out0 Cert.Reference6Ideal.Value.res_main_v66
  rfl

/-- The reference's run ends with the normalising sums. -/
theorem sums_run : Cert.Reference6Ideal.Value.res_out1 m c = Cert.Reference6Ideal.FiltRef.result1 (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) := by
  unfold Cert.Reference6Ideal.Value.res_out1 Cert.Reference6Ideal.Value.res_main_v71
  rfl

end

/-- The kernel's two arrays are the reference's. -/
theorem algebraic : @Cert.algebraic_Kernel6Ideal_Reference6Ideal Cert.Kernel6Ideal.Gen.facts Cert.Reference6Ideal.Gen.facts := by
  intro m ρ m' ρ' _ hagree
  refine ⟨_, _, (θ_run Cert.Kernel6Ideal.defs _ _).mono (fun _ h => h) (Cert.Kernel6Ideal.Value.run_blocks (F := Ideal) m ρ), ?_⟩
  refine (θ_run Cert.Reference6Ideal.defs _ _).mono (fun r h c => ?_) (Cert.Reference6Ideal.Value.run (F := Ideal) m' ρ')
  obtain ⟨h0, h1, ha⟩ := h c
  obtain ⟨g0, g1, g2, g3, g4, g5, g6, g7⟩ := hagree c
  replace h0 := h0.trans (taps_run m' c)
  replace h1 := h1.trans (sums_run m' c)
  rw [g0, g1, g2, g3, g4, g5, g6, g7] at h0 h1
  exact ⟨(h0.trans (Cert.Reference6Ideal.FiltRef.result0_eq _ _ _ _ _ _ _ _)).trans (Cert.Kernel6Ideal.FiltRun.arr_10 m c).symm,
    (h1.trans (Cert.Reference6Ideal.FiltRef.result1_eq _ _ _ _ _ _ _ _)).trans (Cert.Kernel6Ideal.FiltRun.arr_11 m c).symm, ha⟩

end Cert.FiltClaim

end
-- ==== Proof.CtxInPoint.lean ====
/- What one point of the context's input projection leaves: its bodies and blocks are those of the latent tokens' call, so the payloads
   are too; only the run that stores them is another. -/
module

public import proofs.«01_k».proof.Proof.Gen.Kernel7Ideal.Frame
public import proofs.«01_k».proof.Proof.ProjInPoint
public import proofs.«01_k».proof.Proof.ProjInPay

@[expose] public section

set_option maxRecDepth 16384

noncomputable section

namespace Cert.Kernel7Ideal.CtxInPoint

open Cert.Kernel7Ideal Cert.Kernel7Ideal.Gen Idealize.ShloMosaic Idealize.ShloMosaic.TcCoe Idealize.ShloMosaic.Tactic Idealize.SL.Sem
open Cert.Kernel2Ideal.ProjInPoint (hz2 hz3)

/-! ## The payloads are those of the latent tokens' call -/

theorem pay1_eq : @k0_pay1 = @Cert.Kernel2Ideal.Gen.k0_pay1 := rfl
theorem pay3_eq : @k0_pay3 = @Cert.Kernel2Ideal.Gen.k0_pay3 := rfl
theorem pay4_eq : @k0_pay4 = @Cert.Kernel2Ideal.Gen.k0_pay4 := rfl

/-! ## The points -/

variable (c : Dev nD) (i : grid0.Coords) (a2 : Memref sig .tc .vmem S1024x2048 .f32) (h2 : a2.IsWhole) (a3 : Memref sig .tc .vmem S1x2048 .f32) (h3 : a3.IsWhole)
    (a4 : Memref sig .tc .vmem S1x1x2048 .f32) (h4 : a4.IsWhole) (a5 : Memref sig .tc .vmem S1x1x2048 .f32) (h5 : a5.IsWhole) (a6 : Memref sig .tc .vmem S2048x1280 .bf16) (h6 : a6.IsWhole)
    (a7 : Memref sig .tc .vmem S1024x1280 .bf16) (h7 : a7.IsWhole) (a8 : Memref sig .tc .vmem S1024x128 .f32) (h8 : a8.IsWhole) (a9 : Memref sig .tc .vmem S1024x2048 .bf16) (h9 : a9.IsWhole)
  (x0 : FVec Ideal S1024x2048 .f32) (x1 : FVec Ideal S1x2048 .f32) (x2 x3 : FVec Ideal S1x1x2048 .f32) (x4 : FVec Ideal S2048x1280 .bf16) (xs : FVec Ideal S1024x2048 .bf16)

/-- The first point of a row block stores the normalised rows. -/
theorem scratch_A (hc0 : cond0_0 i) (hc1 : ¬cond0_1 i) : sout0_A_0 (F := Ideal) c i a2 h2 a3 h3 a4 h4 a5 h5 a6 h6 a7 h7 a8 h8 a9 h9 hc0 hc1 x0 x1 x2 x3 x4 = k0_pay1 (F := Ideal) x0 x1 x3 x2 := by
  unfold sout0_A_0
  rw [View.read_writes_eq_canon _ _ _ (scover0_A_0 (F := Ideal) c i a2 h2 a3 h3 a4 h4 a5 h5 a6 h6 a7 h7 a8 h8 a9 h9 hc0 hc1 x0 x1 x2 x3 x4)]
  unfold kernelRun0_A
  dsimp only
  sl_unfold_words
  rw [View.canon_unit_zero hz2]
  simp only [View.readAt_eq_ld, h2.read_unread, h3.read_unread, h4.read_unread, h5.read_unread, h6.read_unread, h9.read_unread,
    View.ld_unit_zero (S := S1024x2048) hz2, View.ld_unit_zero (S := S1x2048) hz2, View.ld_unit_zero (S := S1x1x2048) hz3, View.ld_unit_zero (S := S2048x1280) hz2]

/-- Its block of the product is of the rows it has just stored. -/
theorem prod_A (hc0 : cond0_0 i) (hc1 : ¬cond0_1 i) : out0_A_5 (F := Ideal) c i a2 h2 a3 h3 a4 h4 a5 h5 a6 h6 a7 h7 a8 h8 a9 h9 hc0 hc1 x0 x1 x2 x3 x4 = k0_pay3 (F := Ideal) (k0_pay1 (F := Ideal) x0 x1 x3 x2) x4 := by
  unfold out0_A_5
  rw [View.read_writes_eq_canon _ _ _ (cover0_A_5 (F := Ideal) c i a2 h2 a3 h3 a4 h4 a5 h5 a6 h6 a7 h7 a8 h8 a9 h9 hc0 hc1 x0 x1 x2 x3 x4)]
  unfold kernelRun0_A
  dsimp only
  sl_unfold_words
  rw [View.canon_unit_zero hz2, View.readCov_unit_zero (S := S1024x2048) _ hz2]
  simp only [View.readAt_eq_ld, h2.read_unread, h3.read_unread, h4.read_unread, h5.read_unread, h6.read_unread, h9.read_unread,
    View.ld_unit_zero (S := S1024x2048) hz2, View.ld_unit_zero (S := S1x2048) hz2, View.ld_unit_zero (S := S1x1x2048) hz3, View.ld_unit_zero (S := S2048x1280) hz2]

/-- A point between: its block of the product. -/
theorem prod_B (hc0 : ¬cond0_0 i) (hc1 : ¬cond0_1 i) : out0_B_5 (F := Ideal) c i a2 h2 a3 h3 a4 h4 a5 h5 a6 h6 a7 h7 a8 h8 a9 h9 hc0 hc1 x0 x1 x2 x3 x4 xs = k0_pay3 (F := Ideal) xs x4 := by
  unfold out0_B_5
  rw [View.read_writes_eq_canon _ _ _ (cover0_B_5 (F := Ideal) c i a2 h2 a3 h3 a4 h4 a5 h5 a6 h6 a7 h7 a8 h8 a9 h9 hc0 hc1 x0 x1 x2 x3 x4 xs)]
  unfold kernelRun0_B
  dsimp only
  sl_unfold_words
  rw [View.canon_unit_zero hz2]
  simp only [View.readAt_eq_ld, h2.read_unread, h3.read_unread, h4.read_unread, h5.read_unread, h6.read_unread, h9.read_unread,
    View.ld_unit_zero (S := S1024x2048) hz2, View.ld_unit_zero (S := S1x2048) hz2, View.ld_unit_zero (S := S1x1x2048) hz3, View.ld_unit_zero (S := S2048x1280) hz2]

/-- The last point: its block of the product. -/
theorem prod_C (hc0 : ¬cond0_0 i) (hc1 : cond0_1 i) : out0_C_5 (F := Ideal) c i a2 h2 a3 h3 a4 h4 a5 h5 a6 h6 a7 h7 a8 h8 a9 h9 hc0 hc1 x0 x1 x2 x3 x4 xs = k0_pay3 (F := Ideal) xs x4 := by
  unfold out0_C_5
  rw [View.read_writes_eq_canon _ _ _ (cover0_C_5 (F := Ideal) c i a2 h2 a3 h3 a4 h4 a5 h5 a6 h6 a7 h7 a8 h8 a9 h9 hc0 hc1 x0 x1 x2 x3 x4 xs)]
  unfold kernelRun0_C
  dsimp only
  sl_unfold_words
  rw [View.canon_unit_zero hz2]
  simp only [View.readAt_eq_ld, h2.read_unread, h3.read_unread, h4.read_unread, h5.read_unread, h6.read_unread, h9.read_unread,
    View.ld_unit_zero (S := S1024x2048) hz2, View.ld_unit_zero (S := S1x2048) hz2, View.ld_unit_zero (S := S1x1x2048) hz3, View.ld_unit_zero (S := S2048x1280) hz2]

/-- The last point: the gates' columns. -/
theorem gates_C (hc0 : ¬cond0_0 i) (hc1 : cond0_1 i) : out0_C_6 (F := Ideal) c i a2 h2 a3 h3 a4 h4 a5 h5 a6 h6 a7 h7 a8 h8 a9 h9 hc0 hc1 x0 x1 x2 x3 x4 xs = k0_pay4 (F := Ideal) xs x4 := by
  unfold out0_C_6
  rw [View.read_writes_eq_canon _ _ _ (cover0_C_6 (F := Ideal) c i a2 h2 a3 h3 a4 h4 a5 h5 a6 h6 a7 h7 a8 h8 a9 h9 hc0 hc1 x0 x1 x2 x3 x4 xs)]
  unfold kernelRun0_C
  dsimp only
  sl_unfold_words
  rw [View.canon_unit_zero hz2]
  simp only [View.readAt_eq_ld, h2.read_unread, h3.read_unread, h4.read_unread, h5.read_unread, h6.read_unread, h9.read_unread,
    View.ld_unit_zero (S := S1024x2048) hz2, View.ld_unit_zero (S := S1x2048) hz2, View.ld_unit_zero (S := S1x1x2048) hz3, View.ld_unit_zero (S := S2048x1280) hz2]

end Cert.Kernel7Ideal.CtxInPoint

end
-- ==== Proof.CtxInRun.lean ====
/- The two output arrays of the context's input projection: the scratch holds the modulated rows after every point, so every
   block written back is its block of columns. -/
module

public import proofs.«01_k».proof.Proof.Gen.Kernel7Ideal.Value
public import proofs.«01_k».proof.Proof.CtxInPoint
public import proofs.«01_k».proof.Proof.Whole

@[expose] public section

set_option maxRecDepth 16384

noncomputable section

namespace Cert.Kernel7Ideal.CtxInRun

open Cert.Kernel7Ideal Cert.Kernel7Ideal.Gen Idealize.ShloMosaic Idealize.ShloMosaic.TcCoe Idealize.ShloMosaic.Tactic Idealize.SL.Sem
open Idealize.ShloMosaic.Pipeline (Dat)
open Cert.ProjSpec Cert.Whole CtxInPoint

variable (m : (ℓ : Loc nD τ sig) → Buf (Elt Ideal) ℓ) (c : Dev nD)

/-! ## The arguments -/

abbrev argX : FVec Ideal S1024x2048 .f32 := m ((c : Thread nD τ).loc main_arg0)
abbrev argG : FVec Ideal S2048 .f32 := m ((c : Thread nD τ).loc main_arg1)
abbrev argShift : FVec Ideal S1x1x2048 .f32 := m ((c : Thread nD τ).loc main_arg2)
abbrev argScale : FVec Ideal S1x1x2048 .f32 := m ((c : Thread nD τ).loc main_arg3)
abbrev argW : FVec Ideal S2048x6400 .bf16 := m ((c : Thread nD τ).loc main_arg4)

/-- Row `r` of the context, modulated. -/
def row (r : Fin 1024) : Row 2048 :=
  modulated (fun k => argX m c (ix2 r k)) (fun k => argG m c (ix1 k)) (fun k => argShift m c (ix3 0 0 k)) (fun k => argScale m c (ix3 0 0 k))

/-- Row `r`, column `q` of the projection. -/
def entry (r : Fin 1024) (q : Fin 6400) : EReal := ∑ k : Fin 2048, row m c r k * argW m c (ix2 k q)

/-- The gain, laid out as one row. -/
theorem V_gain : (V m c main_v0 : FVec Ideal S1x2048 .f32) = shapeCast S1x2048 (argG m c) shapeCasts_S2048_S1x2048 := by
  show StableHlo.after hostOps0 _ (Proc.devRef .tc main_v0) = _
  after_results
  rfl

theorem gain_apply (x : FVec Ideal S2048 .f32) (k : Fin 2048) : shapeCast S1x2048 x shapeCasts_S2048_S1x2048 (ix2 0 k) = x (ix1 k) := by
  pointwise

/-! ## The blocks a point reads -/

theorem lt5 (t : Fin cfg0.N) : t.val < 5 := lt_of_lt_of_eq t.isLt N_0

theorem index_0 : ∀ t : Fin grid0.N, ∀ a, win0_0.index t a = 0 := by decide +kernel
theorem index_1 : ∀ t : Fin grid0.N, ∀ a, win0_1.index t a = 0 := by decide +kernel
theorem index_2 : ∀ t : Fin grid0.N, ∀ a, win0_2.index t a = 0 := by decide +kernel
theorem index_3 : ∀ t : Fin grid0.N, ∀ a, win0_3.index t a = 0 := by decide +kernel
theorem index_4 : ∀ t : Fin grid0.N, win0_4.index t = ![0, t.val] := by decide +kernel

theorem blk_0 (t : Fin cfg0.N) : (iblk m c 0 t : FVec Ideal S1024x2048 .f32) = argX m c := by
  refine Eq.trans ?_ (V_main_arg0 m c)
  unfold iblk
  funext (y : S1024x2048.Idx)
  rw [View.read_apply]
  exact congrArg (V m c main_arg0) (emb_whole (S := S1024x2048) _ (win0_0.index t) (index_0 t) (fun _ _ => rfl) y)

theorem blk_1 (t : Fin cfg0.N) : (iblk m c 1 t : FVec Ideal S1x2048 .f32) = shapeCast S1x2048 (argG m c) shapeCasts_S2048_S1x2048 := by
  refine Eq.trans ?_ (V_gain m c)
  unfold iblk
  funext (y : S1x2048.Idx)
  rw [View.read_apply]
  exact congrArg (V m c main_v0) (emb_whole (S := S1x2048) _ (win0_1.index t) (index_1 t) (fun _ _ => rfl) y)

theorem blk_2 (t : Fin cfg0.N) : (iblk m c 2 t : FVec Ideal S1x1x2048 .f32) = argShift m c := by
  refine Eq.trans ?_ (V_main_arg2 m c)
  unfold iblk
  funext (y : S1x1x2048.Idx)
  rw [View.read_apply]
  exact congrArg (V m c main_arg2) (emb_whole (S := S1x1x2048) _ (win0_2.index t) (index_2 t) (fun _ _ => rfl) y)

theorem blk_3 (t : Fin cfg0.N) : (iblk m c 3 t : FVec Ideal S1x1x2048 .f32) = argScale m c := by
  refine Eq.trans ?_ (V_main_arg3 m c)
  unfold iblk
  funext (y : S1x1x2048.Idx)
  rw [View.read_apply]
  exact congrArg (V m c main_arg3) (emb_whole (S := S1x1x2048) _ (win0_3.index t) (index_3 t) (fun _ _ => rfl) y)

theorem blk_4 (t : Fin cfg0.N) (k : Fin 2048) (q : Fin 1280) : (iblk m c 4 t : FVec Ideal S2048x1280 .bf16) (ix2 k q) = argW m c (ix2 k ⟨1280 * t.val + q.val, by have := lt5 t; omega⟩) := by
  have hi := index_4 t
  rw [← show V m c main_arg4 = argW m c from V_main_arg4 m c]
  unfold iblk
  rw [View.read_apply]
  show V m c main_arg4 _ = V m c main_arg4 _
  congr 1
  funext a
  apply Fin.ext
  match a with
  | ⟨0, _⟩ => show win0_4.index t 0 * 2048 + 1 * k.val = k.val; rw [show win0_4.index t 0 = 0 from congrFun hi 0]; omega
  | ⟨1, _⟩ => show win0_4.index t 1 * 1280 + 1 * q.val = 1280 * t.val + q.val; rw [show win0_4.index t 1 = t.val from congrFun hi 1]; omega

/-! ## The points -/

/-- The normalised block is the modulated rows. -/
theorem norm_block (t : Fin cfg0.N) (r : Fin 1024) (k : Fin 2048) :
    k0_pay1 (F := Ideal) (iblk m c 0 t) (iblk m c 1 t) (iblk m c 3 t) (iblk m c 2 t) (ix2 r k) = row m c r k := by
  rw [pay1_eq]
  refine (Cert.Kernel2Ideal.ProjInPay.norm_apply _ _ _ _ r k).trans ?_
  rw [blk_0, blk_1, blk_2, blk_3]
  simp only [gain_apply]
  rfl

/-- After every point the scratch holds the modulated rows. -/
theorem scratch (n : ℕ) (hn : n < cfg0.N) (r : Fin 1024) (k : Fin 2048) : ((outsAt0 m c n hn).2.2 : FVec Ideal S1024x2048 .bf16) (ix2 r k) = row m c r k := by
  have first : ∀ t : Fin cfg0.N, t.val % 5 = 0 → ((outsAt0 m c t.val t.isLt).2.2 : FVec Ideal S1024x2048 .bf16) (ix2 r k) = row m c r k := by
    intro t h0
    rw [outsAt0_A m c t h0 (by omega)]
    dsimp only
    rw [scratch_A]
    exact norm_block m c t r k
  induction n with
  | zero => exact first ⟨0, hn⟩ rfl
  | succ n ih =>
    have h5 := lt5 ⟨n + 1, hn⟩
    have h0 : ¬(n + 1) % 5 = 0 := by dsimp only at h5; omega
    have hp := ih (Nat.lt_of_succ_lt hn)
    by_cases h1 : (n + 1) % 5 = 4
    · exact (congrFun (congrArg (fun o => o.2.2) (outsAt0_C m c ⟨n + 1, hn⟩ h0 h1)) _).trans hp
    · exact (congrFun (congrArg (fun o => o.2.2) (outsAt0_B m c ⟨n + 1, hn⟩ h0 h1)) _).trans hp

/-- A block of the product, of rows that are the modulated ones. -/
theorem prod_block (t : Fin cfg0.N) (a : FVec Ideal S1024x2048 .bf16) (ha : ∀ r k, a (ix2 r k) = row m c r k) (r : Fin 1024) (q : Fin 1280) :
    k0_pay3 (F := Ideal) a (iblk m c 4 t) (ix2 r q) = entry m c r ⟨1280 * t.val + q.val, by have := lt5 t; omega⟩ := by
  rw [pay3_eq]
  refine (Cert.Kernel2Ideal.ProjInPay.prod_apply _ _ r q).trans ?_
  refine Finset.sum_congr rfl fun k _ => ?_
  rw [ha, blk_4]

/-- Every point leaves its block of the projection. -/
theorem prod (t : Fin cfg0.N) (r : Fin 1024) (q : Fin 1280) :
    ((outsAt0 m c t.val t.isLt).1 : FVec Ideal S1024x1280 .bf16) (ix2 r q) = entry m c r ⟨1280 * t.val + q.val, by have := lt5 t; omega⟩ := by
  by_cases h0 : t.val % 5 = 0
  · rw [outsAt0_A m c t h0 (by omega)]
    dsimp only
    rw [prod_A]
    exact prod_block m c t _ (norm_block m c t) r q
  · by_cases h1 : t.val % 5 = 4
    · rw [outsAt0_C m c t h0 h1]
      dsimp only
      rw [prod_C]
      exact prod_block m c t _ (scratch m c _ _) r q
    · rw [outsAt0_B m c t h0 h1]
      dsimp only
      rw [prod_B]
      exact prod_block m c t _ (scratch m c _ _) r q

/-- The last point leaves the gates' columns. -/
theorem gates (t : Fin cfg0.N) (h1 : t.val % 5 = 4) (r : Fin 1024) (q : Fin 128) :
    ((outsAt0 m c t.val t.isLt).2.1 : FVec Ideal S1024x128 .f32) (ix2 r q) = entry m c r ⟨6144 + q.val, by omega⟩ := by
  rw [outsAt0_C m c t (by omega) h1]
  dsimp only
  rw [gates_C, pay4_eq]
  refine (Cert.Kernel2Ideal.ProjInPay.gates_apply _ _ r q).trans ?_
  refine Finset.sum_congr rfl fun k _ => ?_
  refine congrArg₂ (· * ·) (scratch m c _ _ r k) ((blk_4 m c t k _).trans ?_)
  have e : 1280 * t.val + (1024 + q.val) = 6144 + q.val := by have := lt5 t; omega
  simp only [e]

/-! ## The arrays -/

theorem index_5 : ∀ t : Fin grid0.N, win0_5.index t = ![0, t.val] := by decide +kernel
theorem index_6 : ∀ t : Fin grid0.N, ∀ a, win0_6.index t a = 0 := by decide +kernel

/-- Where a block of the projection lies. -/
theorem emb_5 (t : Fin cfg0.N) (r : Fin 1024) (q : Fin 1280) : ((cfg0.win 5).blk t).view.emb (ix2 r q : S1024x1280.Idx)
    = (ix2 r ⟨1280 * t.val + q.val, by have := lt5 t; omega⟩ : S1024x6400.Idx) := by
  have hi := index_5 t
  funext a
  apply Fin.ext
  match a with
  | ⟨0, _⟩ => show win0_5.index t 0 * 1024 + 1 * r.val = r.val; rw [show win0_5.index t 0 = 0 from congrFun hi 0]; omega
  | ⟨1, _⟩ => show win0_5.index t 1 * 1280 + 1 * q.val = 1280 * t.val + q.val; rw [show win0_5.index t 1 = t.val from congrFun hi 1]; omega

/-- The gates' block is the whole array. -/
theorem emb_6 (t : Fin cfg0.N) (y : S1024x128.Idx) : ((cfg0.win 6).blk t).view.emb y = y :=
  emb_whole (S := S1024x128) _ (win0_6.index t) (index_6 t) (fun _ _ => rfl) y

/-- The projection's array. -/
theorem arr_5 : (dats m 0 c).arrAt 5 cfg0.N = fun y : S1024x6400.Idx => entry m c (y 0) (y 1) := by
  refine (dats m 0 c).arrAt_eq_of_cover 5 _ (fun t _ => ?_) (fun i => ?_)
  · rw [Value.flushed5]
    funext (y : S1024x1280.Idx)
    rw [View.read_apply]
    idx_vars y
    refine Eq.trans ?_ (congrArg (fun y : S1024x6400.Idx => entry m c (y 0) (y 1)) (emb_5 t y0 y1)).symm
    exact prod m c t y0 y1
  · let q : Fin 6400 := i 1
    have hq := q.isLt
    let t : Fin cfg0.N := ⟨q.val / 1280, lt_of_lt_of_eq (by omega) N_0.symm⟩
    refine ⟨t, flush0_5 t, ?_⟩
    have e : ((cfg0.win 5).blk t).view.emb (ix2 (i 0) ⟨q.val % 1280, by omega⟩ : S1024x1280.Idx) = i := by
      refine (emb_5 t _ _).trans ?_
      funext a
      apply Fin.ext
      match a with
      | ⟨0, _⟩ => rfl
      | ⟨1, _⟩ => show 1280 * (q.val / 1280) + q.val % 1280 = q.val; omega
    rw [← e]
    exact View.emb_mem_set _ _

/-- The gates' array. -/
theorem arr_6 : (dats m 0 c).arrAt 6 cfg0.N = fun y : S1024x128.Idx => entry m c (y 0) ⟨6144 + (y 1).val, by have h : (y 1).val < 128 := (y 1).isLt; omega⟩ := by
  refine (dats m 0 c).arrAt_eq_of_cover 6 _ (fun t hf => ?_) (fun i => ?_)
  · rw [Value.flushed6]
    funext (y : S1024x128.Idx)
    rw [View.read_apply]
    idx_vars y
    refine Eq.trans ?_ (congrArg (fun y : S1024x128.Idx => entry m c (y 0) ⟨6144 + (y 1).val, by have h : (y 1).val < 128 := (y 1).isLt; omega⟩) (emb_6 t (ix2 y0 y1))).symm
    exact gates m c t ((flush0_6 t).mp hf) y0 y1
  · let t : Fin cfg0.N := ⟨4, lt_of_lt_of_eq (by decide) N_0.symm⟩
    refine ⟨t, (flush0_6 t).mpr rfl, ?_⟩
    have e : ((cfg0.win 6).blk t).view.emb i = i := emb_6 t i
    rw [← e]
    exact View.emb_mem_set _ _

end Cert.Kernel7Ideal.CtxInRun

end
-- ==== Proof.CtxInRef.lean ====
/- The context's input projection's reference, read at an index. -/
module

public import proofs.«01_k».proof.Proof.Gen.Reference7Ideal.Run
public import proofs.«01_k».proof.Proof.ProjSpec
public import Idealize.ShloMosaic.Lib.Pointwise

@[expose] public section

set_option maxRecDepth 16384

noncomputable section

namespace Cert.Reference7Ideal.CtxInRef

open Cert.Reference7Ideal Cert.Reference7Ideal.Gen Idealize.ShloMosaic Idealize.ShloMosaic.TcCoe Idealize.SL.Sem
open Cert.ProjSpec

variable (x : FVec Ideal S1024x2048 .f32) (g : FVec Ideal S2048 .f32) (shift scale : FVec Ideal S1x1x2048 .f32)
  (w : FVec Ideal S2048x6400 .bf16)

/-- Row `r`, column `q` of the projection. -/
def entry (r : Fin 1024) (q : Fin 6400) : EReal :=
  projIn (fun k => x (ix2 r k)) (fun k => g (ix1 k)) (fun k => shift (ix3 0 0 k)) (fun k => scale (ix3 0 0 k)) (fun k => w (ix2 k q))

/-- The reference's projection, unrounded. -/
def proj : FVec Ideal S1024x6400 .f32 :=
  (Host.dotGeneral dot_S1024x2048_S2048x6400_S1024x6400_1_0_0_1_n_n none (addf (mulf (mulf (mulf x (broadcastInDim S1024x2048 ![0, 1] bcast_S1024x1_S1024x2048_0_1 (Host.rsqrt (addf (Host.divf (broadcastInDim S1024x1 ![0] bcast_S1024_S1024x1_0 (Host.reduceAdd (mulf x x) (constant S_ .f32 0x00000000#32) reducesTo_S1024x2048_S1024_d1 h_S_)) (broadcastInDim S1024x1 ![] bcast_S_S1024x1 (constant S_ .f32 0x45000000#32))) (broadcastInDim S1024x1 ![] bcast_S_S1024x1 (constant S_ .f32 0x358637BD#32)))))) (broadcastInDim S1024x2048 ![0, 1] bcast_S1x2048_S1024x2048_0_1 (broadcastInDim S1x2048 ![1] bcast_S2048_S1x2048_1 g))) (broadcastInDim S1024x2048 ![0, 1] bcast_S1x2048_S1024x2048_0_1 (broadcastInDim S1x2048 ![1] bcast_S2048_S1x2048_1 (addf (broadcastInDim S2048 ![] bcast_S_S2048 (constant S_ .f32 0x3F800000#32)) (shapeCast _ scale shapeCasts_S1x1x2048_S2048))))) (broadcastInDim S1024x2048 ![0, 1] bcast_S1x2048_S1024x2048_0_1 (broadcastInDim S1x2048 ![1] bcast_S2048_S1x2048_1 (shapeCast _ shift shapeCasts_S1x1x2048_S2048)))) (extf .f32 w bitsLt_bf16_f32))

/-- The reference's projection at an index. -/
theorem proj_apply (r : Fin 1024) (q : Fin 6400) : proj x g shift scale w (ix2 r q) = entry x g shift scale w r q := by
  pointwise [proj, entry, projIn, modulated, rms]

/-- The projection, rounded to the 16-bit type: no change here. -/
theorem out_eq : truncf .bf16 (proj x g shift scale w) bitsLt_bf16_f32 = fun y : S1024x6400.Idx => entry x g shift scale w (y 0) (y 1) := by
  funext (y : S1024x6400.Idx)
  idx_vars y
  exact proj_apply x g shift scale w y0 y1

/-- The gates' columns. -/
theorem gates_eq : extractStridedSlice S1024x128 ![0, 6144] (proj x g shift scale w) slices_S1024x6400_S1024x128_0_6144
    = fun y : S1024x128.Idx => entry x g shift scale w (y 0) ⟨6144 + (y 1).val, by have h : (y 1).val < 128 := (y 1).isLt; omega⟩ := by
  funext (y : S1024x128.Idx)
  idx_vars y
  refine Eq.trans ?_ (proj_apply x g shift scale w y0 ⟨6144 + y1.val, by omega⟩)
  pointwise

end Cert.Reference7Ideal.CtxInRef

end
-- ==== Proof.CtxInClaim.lean ====
/- The claims about the context's input projection: both kernels' and the reference's frames, and that over the extended reals the kernel and
   the reference end with the same arrays. -/
module

public import proofs.«01_k».proof.Defs
public import proofs.«01_k».proof.Proof.Gen.Kernel7.Frame
public import proofs.«01_k».proof.Proof.CtxInRun
public import proofs.«01_k».proof.Proof.CtxInRef
public import Idealize.ShloMosaic.Adequacy
public import Idealize.ShloMosaic.Init

@[expose] public section

set_option maxRecDepth 16384

noncomputable section

namespace Cert.CtxInClaim

open Idealize.ShloMosaic Idealize.SL.Sem

/-- The kernel's frame. -/
theorem frame_P : @Cert.quiescent_Kernel7 Cert.Kernel7.Gen.facts := fun m ρ _ => Cert.Kernel7.Gen.frame m ρ

/-- The ideal kernel's frame. -/
theorem frame_PI : @Cert.quiescent_Kernel7Ideal Cert.Kernel7Ideal.Gen.facts := fun m ρ _ => Cert.Kernel7Ideal.Gen.frame m ρ

/-- The reference's frame. -/
theorem frame_RI : @Cert.quiescent_Reference7Ideal Cert.Reference7Ideal.Gen.facts := fun m ρ _ =>
  (θ_run Cert.Reference7Ideal.defs _ _).mono
    (fun r h => ⟨fun c => (h c).2.2, Idealize.ShloMosaic.sem_eq_zero_of_no_sems (by decide) r.2⟩) (Cert.Reference7Ideal.Value.run (F := Ideal) m ρ)

/-- The kernel's arrays are the reference's. -/
theorem algebraic : @Cert.algebraic_Kernel7Ideal_Reference7Ideal Cert.Kernel7Ideal.Gen.facts Cert.Reference7Ideal.Gen.facts := by
  intro m ρ m' ρ' _ hagree
  refine ⟨_, _, (θ_run Cert.Kernel7Ideal.defs _ _).mono (fun _ h => h) (Cert.Kernel7Ideal.Value.run_blocks (F := Ideal) m ρ), ?_⟩
  refine (θ_run Cert.Reference7Ideal.defs _ _).mono (fun r h c => ?_) (Cert.Reference7Ideal.Value.run (F := Ideal) m' ρ')
  obtain ⟨h0, h1, ha⟩ := h c
  obtain ⟨g0, g1, g2, g3, g4⟩ := hagree c
  rw [g0, g1, g2, g3, g4] at h0 h1
  exact ⟨(h0.trans (Cert.Reference7Ideal.CtxInRef.out_eq _ _ _ _ _)).trans (Cert.Kernel7Ideal.CtxInRun.arr_5 m c).symm,
    (h1.trans (Cert.Reference7Ideal.CtxInRef.gates_eq _ _ _ _ _)).trans (Cert.Kernel7Ideal.CtxInRun.arr_6 m c).symm, ha⟩

end Cert.CtxInClaim

end
-- ==== Proof.CtxOutRun.lean ====
/- The output array of the context's output projection: its bodies and blocks are those of the latent tokens' call, so every point's
   block is too; the blocks cover the array. -/
module

public import proofs.«01_k».proof.Proof.Gen.Kernel8Ideal.Value
public import proofs.«01_k».proof.Proof.ProjOutPoint
public import proofs.«01_k».proof.Proof.Whole

@[expose] public section

set_option maxRecDepth 16384

noncomputable section

namespace Cert.Kernel8Ideal.CtxOutRun

open Cert.Kernel8Ideal Cert.Kernel8Ideal.Gen Idealize.ShloMosaic Idealize.ShloMosaic.TcCoe Idealize.ShloMosaic.Tactic Idealize.SL.Sem
open Idealize.ShloMosaic.Pipeline (Dat)
open Cert.ProjSpec Cert.Whole
open Cert.Kernel3Ideal.ProjOutPoint (hz2 hz3 ld_head ld_pair ld_mixer block block_apply)

section
variable (x0 x1 : FVec Ideal S512x512 .bf16) (x2 x3 x4 : FVec Ideal S512x1024 .bf16) (x5 : FVec Ideal S1x128 .f32) (x6 : FVec Ideal S2048x2048 .bf16)
  (x7 : FVec Ideal S512x2048 .f32) (x8 : FVec Ideal S1x1x2048 .f32)

/-- The kernel's run leaves the block of the latent tokens' call. -/
theorem out_eq (c : Dev nD) (i : grid0.Coords) (a2 : Memref sig .tc .vmem S512x512 .bf16) (h2 : a2.IsWhole) (a3 : Memref sig .tc .vmem S512x512 .bf16) (h3 : a3.IsWhole)
    (a4 : Memref sig .tc .vmem S512x1024 .bf16) (h4 : a4.IsWhole) (a5 : Memref sig .tc .vmem S512x1024 .bf16) (h5 : a5.IsWhole) (a6 : Memref sig .tc .vmem S512x1024 .bf16) (h6 : a6.IsWhole)
    (a7 : Memref sig .tc .vmem S1x128 .f32) (h7 : a7.IsWhole) (a8 : Memref sig .tc .vmem S2048x2048 .bf16) (h8 : a8.IsWhole) (a9 : Memref sig .tc .vmem S512x2048 .f32) (h9 : a9.IsWhole)
    (a10 : Memref sig .tc .vmem S1x1x2048 .f32) (h10 : a10.IsWhole) (a11 : Memref sig .tc .vmem S512x2048 .f32) (h11 : a11.IsWhole) :
    out0_A_9 (F := Ideal) c i a2 h2 a3 h3 a4 h4 a5 h5 a6 h6 a7 h7 a8 h8 a9 h9 a10 h10 a11 h11 x0 x1 x2 x3 x4 x5 x6 x7 x8 = block x0 x1 x2 x3 x4 x5 x6 x7 x8 := by
  unfold out0_A_9
  rw [View.read_writes_eq_canon _ _ _ (cover0_A_9 (F := Ideal) c i a2 h2 a3 h3 a4 h4 a5 h5 a6 h6 a7 h7 a8 h8 a9 h9 a10 h10 a11 h11 x0 x1 x2 x3 x4 x5 x6 x7 x8)]
  unfold kernelRun0_A
  dsimp only
  sl_unfold_words
  rw [View.canon_unit_zero hz2]
  simp only [View.readAt_eq_ld, h2.read_unread, h3.read_unread, h4.read_unread, h5.read_unread, h6.read_unread, h7.read_unread, h8.read_unread, h9.read_unread, h10.read_unread,
    View.ld_unit_zero (S := S512x512) hz2, View.ld_unit_zero (S := S1x128) hz2, View.ld_unit_zero (S := S512x2048) hz2, View.ld_unit_zero (S := S1x1x2048) hz3]
  rw [ld_head _ 0 0 rfl, ld_head _ 1 128 rfl, ld_head _ 2 256 rfl, ld_head _ 3 384 rfl, ld_head _ 4 512 rfl, ld_head _ 5 640 rfl, ld_head _ 6 768 rfl, ld_head _ 7 896 rfl, ld_pair _ 0 1024 rfl, ld_pair _ 1 1280 rfl, ld_pair _ 2 1536 rfl, ld_pair _ 3 1792 rfl, ld_mixer _ 0 0 rfl, ld_mixer _ 1 512 rfl]
  rfl

end

variable (m : (ℓ : Loc nD τ sig) → Buf (Elt Ideal) ℓ) (c : Dev nD)

/-! ## The arguments -/

abbrev argF : FVec Ideal S1024x512 .bf16 := m ((c : Thread nD τ).loc main_arg0)
abbrev argH : FVec Ideal S1024x512 .bf16 := m ((c : Thread nD τ).loc main_arg1)
abbrev argOF : FVec Ideal S1024x1024 .bf16 := m ((c : Thread nD τ).loc main_arg2)
abbrev argOB : FVec Ideal S1024x1024 .bf16 := m ((c : Thread nD τ).loc main_arg3)
abbrev argP : FVec Ideal S1024x6400 .bf16 := m ((c : Thread nD τ).loc main_arg4)
abbrev argG : FVec Ideal S128 .f32 := m ((c : Thread nD τ).loc main_arg5)
abbrev argW : FVec Ideal S2048x2048 .bf16 := m ((c : Thread nD τ).loc main_arg6)
abbrev argRes : FVec Ideal S1024x2048 .f32 := m ((c : Thread nD τ).loc main_arg7)
abbrev argGate : FVec Ideal S1x1x2048 .f32 := m ((c : Thread nD τ).loc main_arg8)

/-- Row `r`, column `q` of the result, of the arguments. -/
def entry (r : Fin 1024) (q : Fin 2048) : EReal :=
  projOut (fun k => argF m c (ix2 r k)) (fun k => argH m c (ix2 r k)) (fun k => argOF m c (ix2 r k)) (fun k => argOB m c (ix2 r k))
    (fun k => argP m c (ix2 r ⟨5120 + k.val, by omega⟩)) (fun d => argG m c (ix1 d)) (fun k => argW m c (ix2 k q)) (argRes m c (ix2 r q)) (argGate m c (ix3 0 0 q))

/-- The gain, laid out as one row. -/
theorem V_gain : (V m c main_v0 : FVec Ideal S1x128 .f32) = shapeCast S1x128 (argG m c) shapeCasts_S128_S1x128 := by
  show StableHlo.after hostOps0 _ (Proc.devRef .tc main_v0) = _
  after_results
  rfl

theorem gain_apply (x : FVec Ideal S128 .f32) (d : Fin 128) : shapeCast S1x128 x shapeCasts_S128_S1x128 (ix2 0 d) = x (ix1 d) := by
  pointwise

/-! ## The blocks a point reads -/

theorem lt2 (t : Fin cfg0.N) : t.val < 2 := lt_of_lt_of_eq t.isLt N_0

theorem index_0 : ∀ t : Fin grid0.N, win0_0.index t = ![t.val, 0] := by decide +kernel
theorem index_1 : ∀ t : Fin grid0.N, win0_1.index t = ![t.val, 0] := by decide +kernel
theorem index_2 : ∀ t : Fin grid0.N, win0_2.index t = ![t.val, 0] := by decide +kernel
theorem index_3 : ∀ t : Fin grid0.N, win0_3.index t = ![t.val, 0] := by decide +kernel
theorem index_4 : ∀ t : Fin grid0.N, win0_4.index t = ![t.val, 5] := by decide +kernel
theorem index_5 : ∀ t : Fin grid0.N, ∀ a, win0_5.index t a = 0 := by decide +kernel
theorem index_6 : ∀ t : Fin grid0.N, ∀ a, win0_6.index t a = 0 := by decide +kernel
theorem index_7 : ∀ t : Fin grid0.N, win0_7.index t = ![t.val, 0] := by decide +kernel
theorem index_8 : ∀ t : Fin grid0.N, ∀ a, win0_8.index t a = 0 := by decide +kernel

theorem blk_0 (t : Fin cfg0.N) (r : Fin 512) (k : Fin 512) : (iblk m c 0 t : FVec Ideal S512x512 .bf16) (ix2 r k) = argF m c (ix2 ⟨512 * t.val + r.val, by have := lt2 t; omega⟩ k) := by
  have hi := index_0 t
  rw [← show V m c main_arg0 = argF m c from V_main_arg0 m c]
  unfold iblk
  rw [View.read_apply]
  show V m c main_arg0 _ = V m c main_arg0 _
  congr 1
  funext a
  apply Fin.ext
  match a with
  | ⟨0, _⟩ => show win0_0.index t 0 * 512 + 1 * r.val = 512 * t.val + r.val; rw [show win0_0.index t 0 = t.val from congrFun hi 0]; omega
  | ⟨1, _⟩ => show win0_0.index t 1 * 512 + 1 * k.val = k.val; rw [show win0_0.index t 1 = 0 from congrFun hi 1]; omega

theorem blk_1 (t : Fin cfg0.N) (r : Fin 512) (k : Fin 512) : (iblk m c 1 t : FVec Ideal S512x512 .bf16) (ix2 r k) = argH m c (ix2 ⟨512 * t.val + r.val, by have := lt2 t; omega⟩ k) := by
  have hi := index_1 t
  rw [← show V m c main_arg1 = argH m c from V_main_arg1 m c]
  unfold iblk
  rw [View.read_apply]
  show V m c main_arg1 _ = V m c main_arg1 _
  congr 1
  funext a
  apply Fin.ext
  match a with
  | ⟨0, _⟩ => show win0_1.index t 0 * 512 + 1 * r.val = 512 * t.val + r.val; rw [show win0_1.index t 0 = t.val from congrFun hi 0]; omega
  | ⟨1, _⟩ => show win0_1.index t 1 * 512 + 1 * k.val = k.val; rw [show win0_1.index t 1 = 0 from congrFun hi 1]; omega

theorem blk_2 (t : Fin cfg0.N) (r : Fin 512) (k : Fin 1024) : (iblk m c 2 t : FVec Ideal S512x1024 .bf16) (ix2 r k) = argOF m c (ix2 ⟨512 * t.val + r.val, by have := lt2 t; omega⟩ k) := by
  have hi := index_2 t
  rw [← show V m c main_arg2 = argOF m c from V_main_arg2 m c]
  unfold iblk
  rw [View.read_apply]
  show V m c main_arg2 _ = V m c main_arg2 _
  congr 1
  funext a
  apply Fin.ext
  match a with
  | ⟨0, _⟩ => show win0_2.index t 0 * 512 + 1 * r.val = 512 * t.val + r.val; rw [show win0_2.index t 0 = t.val from congrFun hi 0]; omega
  | ⟨1, _⟩ => show win0_2.index t 1 * 1024 + 1 * k.val = k.val; rw [show win0_2.index t 1 = 0 from congrFun hi 1]; omega

theorem blk_3 (t : Fin cfg0.N) (r : Fin 512) (k : Fin 1024) : (iblk m c 3 t : FVec Ideal S512x1024 .bf16) (ix2 r k) = argOB m c (ix2 ⟨512 * t.val + r.val, by have := lt2 t; omega⟩ k) := by
  have hi := index_3 t
  rw [← show V m c main_arg3 = argOB m c from V_main_arg3 m c]
  unfold iblk
  rw [View.read_apply]
  show V m c main_arg3 _ = V m c main_arg3 _
  congr 1
  funext a
  apply Fin.ext
  match a with
  | ⟨0, _⟩ => show win0_3.index t 0 * 512 + 1 * r.val = 512 * t.val + r.val; rw [show win0_3.index t 0 = t.val from congrFun hi 0]; omega
  | ⟨1, _⟩ => show win0_3.index t 1 * 1024 + 1 * k.val = k.val; rw [show win0_3.index t 1 = 0 from congrFun hi 1]; omega

theorem blk_4 (t : Fin cfg0.N) (r : Fin 512) (k : Fin 1024) : (X0_4 m c t : FVec Ideal S512x1024 .bf16) (ix2 r k) = argP m c (ix2 ⟨512 * t.val + r.val, by have := lt2 t; omega⟩ ⟨5120 + k.val, by omega⟩) := by
  have hi := index_4 t
  rw [← show V m c main_arg4 = argP m c from V_main_arg4 m c]
  unfold X0_4 Pipeline.Window.fill
  rw [dif_pos (moved0_4 t _)]
  unfold iblk
  rw [View.read_apply]
  show V m c main_arg4 _ = V m c main_arg4 _
  congr 1
  funext a
  apply Fin.ext
  match a with
  | ⟨0, _⟩ => show win0_4.index t 0 * 512 + 1 * r.val = 512 * t.val + r.val; rw [show win0_4.index t 0 = t.val from congrFun hi 0]; omega
  | ⟨1, _⟩ => show win0_4.index t 1 * 1024 + 1 * k.val = 5120 + k.val; rw [show win0_4.index t 1 = 5 from congrFun hi 1]; omega

theorem blk_5 (t : Fin cfg0.N) : (iblk m c 5 t : FVec Ideal S1x128 .f32) = shapeCast S1x128 (argG m c) shapeCasts_S128_S1x128 := by
  refine Eq.trans ?_ (V_gain m c)
  unfold iblk
  funext (y : S1x128.Idx)
  rw [View.read_apply]
  exact congrArg (V m c main_v0) (emb_whole (S := S1x128) _ (win0_5.index t) (index_5 t) (fun _ _ => rfl) y)

theorem blk_6 (t : Fin cfg0.N) : (iblk m c 6 t : FVec Ideal S2048x2048 .bf16) = argW m c := by
  refine Eq.trans ?_ (V_main_arg6 m c)
  unfold iblk
  funext (y : S2048x2048.Idx)
  rw [View.read_apply]
  exact congrArg (V m c main_arg6) (emb_whole (S := S2048x2048) _ (win0_6.index t) (index_6 t) (fun _ _ => rfl) y)

theorem blk_7 (t : Fin cfg0.N) (r : Fin 512) (q : Fin 2048) : (iblk m c 7 t : FVec Ideal S512x2048 .f32) (ix2 r q) = argRes m c (ix2 ⟨512 * t.val + r.val, by have := lt2 t; omega⟩ q) := by
  have hi := index_7 t
  rw [← show V m c main_arg7 = argRes m c from V_main_arg7 m c]
  unfold iblk
  rw [View.read_apply]
  show V m c main_arg7 _ = V m c main_arg7 _
  congr 1
  funext a
  apply Fin.ext
  match a with
  | ⟨0, _⟩ => show win0_7.index t 0 * 512 + 1 * r.val = 512 * t.val + r.val; rw [show win0_7.index t 0 = t.val from congrFun hi 0]; omega
  | ⟨1, _⟩ => show win0_7.index t 1 * 2048 + 1 * q.val = q.val; rw [show win0_7.index t 1 = 0 from congrFun hi 1]; omega

theorem blk_8 (t : Fin cfg0.N) : (iblk m c 8 t : FVec Ideal S1x1x2048 .f32) = argGate m c := by
  refine Eq.trans ?_ (V_main_arg8 m c)
  unfold iblk
  funext (y : S1x1x2048.Idx)
  rw [View.read_apply]
  exact congrArg (V m c main_arg8) (emb_whole (S := S1x1x2048) _ (win0_8.index t) (index_8 t) (fun _ _ => rfl) y)

/-- Every point leaves its block of the result. -/
theorem outs (t : Fin cfg0.N) (r : Fin 512) (q : Fin 2048) :
    (outsAt0 m c t : FVec Ideal S512x2048 .f32) (ix2 r q) = entry m c ⟨512 * t.val + r.val, by have := lt2 t; omega⟩ q := by
  unfold outsAt0
  rw [out_eq]
  refine (block_apply _ _ _ _ _ _ _ _ _ r q).trans ?_
  rw [blk_5, blk_6, blk_8]
  simp only [blk_0, blk_1, blk_2, blk_3, blk_4, blk_7, gain_apply]
  rfl

/-! ## The array -/

theorem index_9 : ∀ t : Fin grid0.N, win0_9.index t = ![t.val, 0] := by decide +kernel

/-- Where a block of the result lies. -/
theorem emb_9 (t : Fin cfg0.N) (r : Fin 512) (q : Fin 2048) : ((cfg0.win 9).blk t).view.emb (ix2 r q : S512x2048.Idx)
    = (ix2 ⟨512 * t.val + r.val, by have := lt2 t; omega⟩ q : S1024x2048.Idx) := by
  have hi := index_9 t
  funext a
  apply Fin.ext
  match a with
  | ⟨0, _⟩ => show win0_9.index t 0 * 512 + 1 * r.val = 512 * t.val + r.val; rw [show win0_9.index t 0 = t.val from congrFun hi 0]; omega
  | ⟨1, _⟩ => show win0_9.index t 1 * 2048 + 1 * q.val = q.val; rw [show win0_9.index t 1 = 0 from congrFun hi 1]; omega

/-- The result's array. -/
theorem arr_9 : (dats m 0 c).arrAt 9 cfg0.N = fun y : S1024x2048.Idx => entry m c (y 0) (y 1) := by
  refine (dats m 0 c).arrAt_eq_of_cover 9 _ (fun t _ => ?_) (fun i => ?_)
  · rw [Value.flushed9]
    funext (y : S512x2048.Idx)
    rw [View.read_apply]
    idx_vars y
    refine Eq.trans ?_ (congrArg (fun y : S1024x2048.Idx => entry m c (y 0) (y 1)) (emb_9 t y0 y1)).symm
    exact outs m c t y0 y1
  · let r : Fin 1024 := i 0
    have hr := r.isLt
    let t : Fin cfg0.N := ⟨r.val / 512, lt_of_lt_of_eq (by omega) N_0.symm⟩
    refine ⟨t, flush0_9 t, ?_⟩
    have e : ((cfg0.win 9).blk t).view.emb (ix2 ⟨r.val % 512, by omega⟩ (i 1) : S512x2048.Idx) = i := by
      refine (emb_9 t _ _).trans ?_
      funext a
      apply Fin.ext
      match a with
      | ⟨0, _⟩ => show 512 * (r.val / 512) + r.val % 512 = r.val; omega
      | ⟨1, _⟩ => rfl
    rw [← e]
    exact View.emb_mem_set _ _

end Cert.Kernel8Ideal.CtxOutRun

end
-- ==== Proof.CtxOutRef.lean ====
/- The context's output projection's reference, read at an index. -/
module

public import proofs.«01_k».proof.Proof.Gen.Reference8Ideal.Run
public import proofs.«01_k».proof.Proof.ProjOutRef

@[expose] public section

set_option maxRecDepth 16384

noncomputable section

namespace Cert.Reference8Ideal.CtxOutRef

open Cert.Reference8Ideal Cert.Reference8Ideal.Gen Idealize.ShloMosaic Idealize.ShloMosaic.TcCoe Idealize.SL.Sem
open Cert.ProjSpec

variable (yF yH : FVec Ideal S1024x512 .bf16) (oF oB : FVec Ideal S1024x1024 .bf16) (p : FVec Ideal S1024x6400 .bf16) (dg : FVec Ideal S128 .f32)
  (w : FVec Ideal S2048x2048 .bf16) (res : FVec Ideal S1024x2048 .f32) (gate : FVec Ideal S1x1x2048 .f32)

/-- The delta rule's heads, normalised and gated. -/
def heads : FVec Ideal S1024x1024 .f32 :=
  ((shapeCast _ (mulf (mulf (mulf (addf (shapeCast _ (extf .f32 oF bitsLt_bf16_f32) shapeCasts_S1024x1024_S1024x8x128) (shapeCast _ (extf .f32 oB bitsLt_bf16_f32) shapeCasts_S1024x1024_S1024x8x128)) (broadcastInDim S1024x8x128 ![0, 1, 2] bcast_S1024x8x1_S1024x8x128_0_1_2 (Host.rsqrt (addf (Host.divf (broadcastInDim S1024x8x1 ![0, 1] bcast_S1024x8_S1024x8x1_0_1 (Host.reduceAdd (mulf (addf (shapeCast _ (extf .f32 oF bitsLt_bf16_f32) shapeCasts_S1024x1024_S1024x8x128) (shapeCast _ (extf .f32 oB bitsLt_bf16_f32) shapeCasts_S1024x1024_S1024x8x128)) (addf (shapeCast _ (extf .f32 oF bitsLt_bf16_f32) shapeCasts_S1024x1024_S1024x8x128) (shapeCast _ (extf .f32 oB bitsLt_bf16_f32) shapeCasts_S1024x1024_S1024x8x128))) (constant S_ .f32 0x00000000#32) reducesTo_S1024x8x128_S1024x8_d2 h_S_)) (broadcastInDim S1024x8x1 ![] bcast_S_S1024x8x1 (constant S_ .f32 0x43000000#32))) (broadcastInDim S1024x8x1 ![] bcast_S_S1024x8x1 (constant S_ .f32 0x358637BD#32)))))) (broadcastInDim S1024x8x128 ![0, 1, 2] bcast_S1x1x128_S1024x8x128_0_1_2 (broadcastInDim S1x1x128 ![2] bcast_S128_S1x1x128_2 dg))) (mulf (shapeCast _ (extf .f32 (extractStridedSlice S1024x1024 ![0, 5120] p slices_S1024x6400_S1024x1024_0_5120) bitsLt_bf16_f32) shapeCasts_S1024x1024_S1024x8x128) (Host.divf (broadcastInDim S1024x8x128 ![] bcast_S_S1024x8x128 (constant S_ .f32 0x3F800000#32)) (addf (broadcastInDim S1024x8x128 ![] bcast_S_S1024x8x128 (constant S_ .f32 0x3F800000#32)) (Host.exp (Host.negf (shapeCast _ (extf .f32 (extractStridedSlice S1024x1024 ![0, 5120] p slices_S1024x6400_S1024x1024_0_5120) bitsLt_bf16_f32) shapeCasts_S1024x1024_S1024x8x128))))))) shapeCasts_S1024x8x128_S1024x1024) : (⟨S1024x1024, .f32⟩ : BufTy).Contents (Elt Ideal))

/-- The three mixers side by side. -/
def mix : FVec Ideal S1024x2048 .f32 :=
  ((concatenate S1024x2048 1 [⟨S1024x512, ((extf .f32 yF bitsLt_bf16_f32) : (⟨S1024x512, .f32⟩ : BufTy).Contents (Elt Ideal))⟩, ⟨S1024x512, ((extf .f32 yH bitsLt_bf16_f32) : (⟨S1024x512, .f32⟩ : BufTy).Contents (Elt Ideal))⟩, ⟨S1024x1024, heads oF oB p dg⟩] concatenates_S1024x512_S1024x512_S1024x1024_S1024x2048_d1 : (⟨S1024x2048, .f32⟩ : BufTy).Contents (Elt Ideal)))

/-- The reference's result. -/
def result : FVec Ideal S1024x2048 .f32 :=
  addf res (mulf (broadcastInDim S1024x2048 ![0, 1] bcast_S1x2048_S1024x2048_0_1 (broadcastInDim S1x2048 ![1] bcast_S2048_S1x2048_1 (shapeCast _ gate shapeCasts_S1x1x2048_S2048))) (Host.dotGeneral dot_S1024x2048_S2048x2048_S1024x2048_1_0_0_1_n_n none (mix yF yH oF oB p dg) (extf .f32 w bitsLt_bf16_f32)))

/-- A head's entry. -/
theorem heads_apply (r : Fin 1024) (h : Fin 8) (d : Fin 128) (k : Fin 1024) (hk : k = head h d) : heads oF oB p dg (ix2 r k)
    = gated (fun k => oF (ix2 r k)) (fun k => oB (ix2 r k)) (fun k => p (ix2 r ⟨5120 + k.val, by omega⟩)) (fun d => dg (ix1 d)) h d := by
  subst hk
  pointwise [heads, gated, rms, silu, head]

/-- Row `r`, column `q` of the result. -/
def entry (r : Fin 1024) (q : Fin 2048) : EReal :=
  projOut (fun k => yF (ix2 r k)) (fun k => yH (ix2 r k)) (fun k => oF (ix2 r k)) (fun k => oB (ix2 r k)) (fun k => p (ix2 r ⟨5120 + k.val, by omega⟩))
    (fun d => dg (ix1 d)) (fun k => w (ix2 k q)) (res (ix2 r q)) (gate (ix3 0 0 q))

/-- The result at an index, its product one sum for each mixer. -/
theorem result_sum (r : Fin 1024) (q : Fin 2048) : result yF yH oF oB p dg w res gate (ix2 r q)
    = res (ix2 r q) + gate (ix3 0 0 q)
      * ((∑ k : Fin 512, yF (ix2 r k) * w (ix2 ⟨k.val, by omega⟩ q)) + (∑ k : Fin 512, yH (ix2 r k) * w (ix2 ⟨512 + k.val, by omega⟩ q))
        + ∑ k : Fin 1024, heads oF oB p dg (ix2 r k) * w (ix2 ⟨1024 + k.val, by omega⟩ q)) := by
  pointwise [result, mix]
  refine congrArg (res (ix2 r q) + ·) (congrArg (gate (ix3 0 0 q) * ·) ((Cert.Reference3Ideal.ProjOutRef.sum_three _).trans ?_))
  refine congrArg₂ (· + ·) (congrArg₂ (· + ·) ?_ ?_) ?_ <;> refine Finset.sum_congr rfl fun k _ => ?_
  · rw [dif_pos k.isLt]
  · rw [dif_neg (by show ¬(512 + k.val < 512); omega), dif_pos (by show 512 + k.val - 512 < 512; omega)]
    simp only [Nat.add_sub_cancel_left]
  · rw [dif_neg (by show ¬(1024 + k.val < 512); omega), dif_neg (by show ¬(1024 + k.val - 512 < 512); omega)]
    have e : 1024 + k.val - 512 - 512 = k.val := by omega
    simp only [e]

/-- The result at an index. -/
theorem result_apply (r : Fin 1024) (q : Fin 2048) : result yF yH oF oB p dg w res gate (ix2 r q) = entry yF yH oF oB p dg w res gate r q := by
  rw [result_sum, Fin.sum_univ_tiles 8 128 rfl]
  simp only [heads_apply oF oB p dg _ _ _ _ rfl]
  rfl

/-- The result. -/
theorem result_eq : result yF yH oF oB p dg w res gate = fun y : S1024x2048.Idx => entry yF yH oF oB p dg w res gate (y 0) (y 1) := by
  funext (y : S1024x2048.Idx)
  idx_vars y
  exact result_apply yF yH oF oB p dg w res gate y0 y1

end Cert.Reference8Ideal.CtxOutRef

end
-- ==== Proof.CtxOutClaim.lean ====
/- The claims about the context's output projection: both kernels' and the reference's frames, and that over the extended reals the kernel and
   the reference end with the same arrays. -/
module

public import proofs.«01_k».proof.Defs
public import proofs.«01_k».proof.Proof.Gen.Kernel8.Frame
public import proofs.«01_k».proof.Proof.CtxOutRun
public import proofs.«01_k».proof.Proof.CtxOutRef
public import Idealize.ShloMosaic.Adequacy
public import Idealize.ShloMosaic.Init

@[expose] public section

set_option maxRecDepth 16384

noncomputable section

namespace Cert.CtxOutClaim

open Idealize.ShloMosaic Idealize.SL.Sem

/-- The kernel's frame. -/
theorem frame_P : @Cert.quiescent_Kernel8 Cert.Kernel8.Gen.facts := fun m ρ _ => Cert.Kernel8.Gen.frame m ρ

/-- The ideal kernel's frame. -/
theorem frame_PI : @Cert.quiescent_Kernel8Ideal Cert.Kernel8Ideal.Gen.facts := fun m ρ _ => Cert.Kernel8Ideal.Gen.frame m ρ

/-- The reference's frame. -/
theorem frame_RI : @Cert.quiescent_Reference8Ideal Cert.Reference8Ideal.Gen.facts := fun m ρ _ =>
  (θ_run Cert.Reference8Ideal.defs _ _).mono
    (fun r h => ⟨fun c => (h c).2, Idealize.ShloMosaic.sem_eq_zero_of_no_sems (by decide) r.2⟩) (Cert.Reference8Ideal.Value.run (F := Ideal) m ρ)

/-- The kernel's arrays are the reference's. -/
theorem algebraic : @Cert.algebraic_Kernel8Ideal_Reference8Ideal Cert.Kernel8Ideal.Gen.facts Cert.Reference8Ideal.Gen.facts := by
  intro m ρ m' ρ' _ hagree
  refine ⟨_, (θ_run Cert.Kernel8Ideal.defs _ _).mono (fun _ h => h) (Cert.Kernel8Ideal.Value.run_blocks (F := Ideal) m ρ), ?_⟩
  refine (θ_run Cert.Reference8Ideal.defs _ _).mono (fun r h c => ?_) (Cert.Reference8Ideal.Value.run (F := Ideal) m' ρ')
  obtain ⟨h0, ha⟩ := h c
  obtain ⟨g0, g1, g2, g3, g4, g5, g6, g7, g8⟩ := hagree c
  rw [g0, g1, g2, g3, g4, g5, g6, g7, g8] at h0
  exact ⟨(h0.trans (Cert.Reference8Ideal.CtxOutRef.result_eq _ _ _ _ _ _ _ _ _)).trans (Cert.Kernel8Ideal.CtxOutRun.arr_9 m c).symm, ha⟩

end Cert.CtxOutClaim

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Step
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.DeltaClaim
public import proofs.«01_k».proof.Proof.ProjInClaim
public import proofs.«01_k».proof.Proof.ProjOutClaim
public import proofs.«01_k».proof.Proof.ModClaim
public import proofs.«01_k».proof.Proof.ConvClaim
public import proofs.«01_k».proof.Proof.FiltClaim
public import proofs.«01_k».proof.Proof.CtxInClaim
public import proofs.«01_k».proof.Proof.CtxOutClaim
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.DeltaClaim.frame_P, Cert.DeltaClaim.frame_PI, Cert.DeltaClaim.frame_RI,
  Cert.ProjInClaim.frame_P, Cert.ProjInClaim.frame_PI, Cert.ProjInClaim.frame_RI,
  Cert.ProjOutClaim.frame_P, Cert.ProjOutClaim.frame_PI, Cert.ProjOutClaim.frame_RI,
  Cert.ModClaim.frame_P, Cert.ModClaim.frame_PI, Cert.ModClaim.frame_RI,
  Cert.ConvClaim.frame_P, Cert.ConvClaim.frame_PI, Cert.ConvClaim.frame_RI,
  Cert.FiltClaim.frame_P, Cert.FiltClaim.frame_PI, Cert.FiltClaim.frame_RI,
  Cert.CtxInClaim.frame_P, Cert.CtxInClaim.frame_PI, Cert.CtxInClaim.frame_RI,
  Cert.CtxOutClaim.frame_P, Cert.CtxOutClaim.frame_PI, Cert.CtxOutClaim.frame_RI,
  trivial, Cert.DeltaClaim.algebraic, trivial, Cert.ProjInClaim.algebraic, trivial, Cert.ProjOutClaim.algebraic,
  trivial, Cert.ModClaim.algebraic, trivial, Cert.ConvClaim.algebraic, trivial, Cert.FiltClaim.algebraic,
  trivial, Cert.CtxInClaim.algebraic, trivial, Cert.CtxOutClaim.algebraic⟩

end Cert.Proof

end
